-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8)
      ∧ r.2.mem ((c.tc : Thread Cert.KernelMix.nD Cert.KernelMix.τ).loc Cert.KernelMix.main_arg9) = m ((c.tc : Thread Cert.KernelMix.nD Cert.KernelMix.τ).loc Cert.KernelMix.main_arg9)
      ∧ r.2.mem ((c.tc : Thread Cert.KernelMix.nD Cert.KernelMix.τ).loc Cert.KernelMix.main_arg10) = m ((c.tc : Thread Cert.KernelMix.nD Cert.KernelMix.τ).loc Cert.KernelMix.main_arg10)
      ∧ r.2.mem ((c.tc : Thread Cert.KernelMix.nD Cert.KernelMix.τ).loc Cert.KernelMix.main_arg11) = m ((c.tc : Thread Cert.KernelMix.nD Cert.KernelMix.τ).loc Cert.KernelMix.main_arg11)
      ∧ r.2.mem ((c.tc : Thread Cert.KernelMix.nD Cert.KernelMix.τ).loc Cert.KernelMix.main_arg12) = m ((c.tc : Thread Cert.KernelMix.nD Cert.KernelMix.τ).loc Cert.KernelMix.main_arg12)
      ∧ r.2.mem ((c.tc : Thread Cert.KernelMix.nD Cert.KernelMix.τ).loc Cert.KernelMix.main_arg13) = m ((c.tc : Thread Cert.KernelMix.nD Cert.KernelMix.τ).loc Cert.KernelMix.main_arg13)
      ∧ r.2.mem ((c.tc : Thread Cert.KernelMix.nD Cert.KernelMix.τ).loc Cert.KernelMix.main_arg14) = m ((c.tc : Thread Cert.KernelMix.nD Cert.KernelMix.τ).loc Cert.KernelMix.main_arg14)
      ∧ r.2.mem ((c.tc : Thread Cert.KernelMix.nD Cert.KernelMix.τ).loc Cert.KernelMix.main_arg15) = m ((c.tc : Thread Cert.KernelMix.nD Cert.KernelMix.τ).loc Cert.KernelMix.main_arg15)
      ∧ r.2.mem ((c.tc : Thread Cert.KernelMix.nD Cert.KernelMix.τ).loc Cert.KernelMix.main_arg16) = m ((c.tc : Thread Cert.KernelMix.nD Cert.KernelMix.τ).loc Cert.KernelMix.main_arg16))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
      ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
      ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
      ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12)
      ∧ r.2.mem ((c.tc : Thread Cert.KernelMixIdeal.nD Cert.KernelMixIdeal.τ).loc Cert.KernelMixIdeal.main_arg13) = m ((c.tc : Thread Cert.KernelMixIdeal.nD Cert.KernelMixIdeal.τ).loc Cert.KernelMixIdeal.main_arg13)
      ∧ r.2.mem ((c.tc : Thread Cert.KernelMixIdeal.nD Cert.KernelMixIdeal.τ).loc Cert.KernelMixIdeal.main_arg14) = m ((c.tc : Thread Cert.KernelMixIdeal.nD Cert.KernelMixIdeal.τ).loc Cert.KernelMixIdeal.main_arg14)
      ∧ r.2.mem ((c.tc : Thread Cert.KernelMixIdeal.nD Cert.KernelMixIdeal.τ).loc Cert.KernelMixIdeal.main_arg15) = m ((c.tc : Thread Cert.KernelMixIdeal.nD Cert.KernelMixIdeal.τ).loc Cert.KernelMixIdeal.main_arg15)
      ∧ r.2.mem ((c.tc : Thread Cert.KernelMixIdeal.nD Cert.KernelMixIdeal.τ).loc Cert.KernelMixIdeal.main_arg16) = m ((c.tc : Thread Cert.KernelMixIdeal.nD Cert.KernelMixIdeal.τ).loc Cert.KernelMixIdeal.main_arg16))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9)
      ∧ r.2.mem ((c.tc : Thread Cert.ReferenceMixIdeal.nD Cert.ReferenceMixIdeal.τ).loc Cert.ReferenceMixIdeal.main_arg10) = m ((c.tc : Thread Cert.ReferenceMixIdeal.nD Cert.ReferenceMixIdeal.τ).loc Cert.ReferenceMixIdeal.main_arg10)
      ∧ r.2.mem ((c.tc : Thread Cert.ReferenceMixIdeal.nD Cert.ReferenceMixIdeal.τ).loc Cert.ReferenceMixIdeal.main_arg11) = m ((c.tc : Thread Cert.ReferenceMixIdeal.nD Cert.ReferenceMixIdeal.τ).loc Cert.ReferenceMixIdeal.main_arg11)
      ∧ r.2.mem ((c.tc : Thread Cert.ReferenceMixIdeal.nD Cert.ReferenceMixIdeal.τ).loc Cert.ReferenceMixIdeal.main_arg12) = m ((c.tc : Thread Cert.ReferenceMixIdeal.nD Cert.ReferenceMixIdeal.τ).loc Cert.ReferenceMixIdeal.main_arg12)
      ∧ r.2.mem ((c.tc : Thread Cert.ReferenceMixIdeal.nD Cert.ReferenceMixIdeal.τ).loc Cert.ReferenceMixIdeal.main_arg13) = m ((c.tc : Thread Cert.ReferenceMixIdeal.nD Cert.ReferenceMixIdeal.τ).loc Cert.ReferenceMixIdeal.main_arg13)
      ∧ r.2.mem ((c.tc : Thread Cert.ReferenceMixIdeal.nD Cert.ReferenceMixIdeal.τ).loc Cert.ReferenceMixIdeal.main_arg14) = m ((c.tc : Thread Cert.ReferenceMixIdeal.nD Cert.ReferenceMixIdeal.τ).loc Cert.ReferenceMixIdeal.main_arg14)
      ∧ r.2.mem ((c.tc : Thread Cert.ReferenceMixIdeal.nD Cert.ReferenceMixIdeal.τ).loc Cert.ReferenceMixIdeal.main_arg15) = m ((c.tc : Thread Cert.ReferenceMixIdeal.nD Cert.ReferenceMixIdeal.τ).loc Cert.ReferenceMixIdeal.main_arg15)
      ∧ r.2.mem ((c.tc : Thread Cert.ReferenceMixIdeal.nD Cert.ReferenceMixIdeal.τ).loc Cert.ReferenceMixIdeal.main_arg16) = m ((c.tc : Thread Cert.ReferenceMixIdeal.nD Cert.ReferenceMixIdeal.τ).loc Cert.ReferenceMixIdeal.main_arg16))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)) (v5 : (c : Dev Cert.KernelIdeal.nD) → Buf (Elt Ideal) ((c.tc : Thread Cert.KernelIdeal.nD Cert.KernelIdeal.τ).loc Cert.KernelIdeal.main_v23_5)) (v6 : (c : Dev Cert.KernelIdeal.nD) → Buf (Elt Ideal) ((c.tc : Thread Cert.KernelIdeal.nD Cert.KernelIdeal.τ).loc Cert.KernelIdeal.main_v23_6)) (v7 : (c : Dev Cert.KernelIdeal.nD) → Buf (Elt Ideal) ((c.tc : Thread Cert.KernelIdeal.nD Cert.KernelIdeal.τ).loc Cert.KernelIdeal.main_v23_7)) (v8 : (c : Dev Cert.KernelIdeal.nD) → Buf (Elt Ideal) ((c.tc : Thread Cert.KernelIdeal.nD Cert.KernelIdeal.τ).loc Cert.KernelIdeal.main_v23_8)) (v9 : (c : Dev Cert.KernelIdeal.nD) → Buf (Elt Ideal) ((c.tc : Thread Cert.KernelIdeal.nD Cert.KernelIdeal.τ).loc Cert.KernelIdeal.main_v23_9)) (v10 : (c : Dev Cert.KernelIdeal.nD) → Buf (Elt Ideal) ((c.tc : Thread Cert.KernelIdeal.nD Cert.KernelIdeal.τ).loc Cert.KernelIdeal.main_v23_10)) (v11 : (c : Dev Cert.KernelIdeal.nD) → Buf (Elt Ideal) ((c.tc : Thread Cert.KernelIdeal.nD Cert.KernelIdeal.τ).loc Cert.KernelIdeal.main_v23_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_v23_5) = v5 c
          ∧ r.2.mem ((c.tc : Thread Cert.KernelIdeal.nD Cert.KernelIdeal.τ).loc Cert.KernelIdeal.main_v23_6) = v6 c
          ∧ r.2.mem ((c.tc : Thread Cert.KernelIdeal.nD Cert.KernelIdeal.τ).loc Cert.KernelIdeal.main_v23_7) = v7 c
          ∧ r.2.mem ((c.tc : Thread Cert.KernelIdeal.nD Cert.KernelIdeal.τ).loc Cert.KernelIdeal.main_v23_8) = v8 c
          ∧ r.2.mem ((c.tc : Thread Cert.KernelIdeal.nD Cert.KernelIdeal.τ).loc Cert.KernelIdeal.main_v23_9) = v9 c
          ∧ r.2.mem ((c.tc : Thread Cert.KernelIdeal.nD Cert.KernelIdeal.τ).loc Cert.KernelIdeal.main_v23_10) = v10 c
          ∧ r.2.mem ((c.tc : Thread Cert.KernelIdeal.nD Cert.KernelIdeal.τ).loc Cert.KernelIdeal.main_v23_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_v215) = v2 c
          ∧ r.2.mem ((c.tc : Thread Cert.ReferenceIdeal.nD Cert.ReferenceIdeal.τ).loc Cert.ReferenceIdeal.main_v172) = v3 c
          ∧ r.2.mem ((c.tc : Thread Cert.ReferenceIdeal.nD Cert.ReferenceIdeal.τ).loc Cert.ReferenceIdeal.main_v216) = v4 c
          ∧ r.2.mem ((c.tc : Thread Cert.ReferenceIdeal.nD Cert.ReferenceIdeal.τ).loc Cert.ReferenceIdeal.main_v134) = v5 c
          ∧ r.2.mem ((c.tc : Thread Cert.ReferenceIdeal.nD Cert.ReferenceIdeal.τ).loc Cert.ReferenceIdeal.main_v211) = v6 c
          ∧ r.2.mem ((c.tc : Thread Cert.ReferenceIdeal.nD Cert.ReferenceIdeal.τ).loc Cert.ReferenceIdeal.main_v188) = v7 c
          ∧ r.2.mem ((c.tc : Thread Cert.ReferenceIdeal.nD Cert.ReferenceIdeal.τ).loc Cert.ReferenceIdeal.main_v181) = v8 c
          ∧ r.2.mem ((c.tc : Thread Cert.ReferenceIdeal.nD Cert.ReferenceIdeal.τ).loc Cert.ReferenceIdeal.main_v217) = v9 c
          ∧ r.2.mem ((c.tc : Thread Cert.ReferenceIdeal.nD Cert.ReferenceIdeal.τ).loc Cert.ReferenceIdeal.main_v218) = v10 c
          ∧ r.2.mem ((c.tc : Thread Cert.ReferenceIdeal.nD Cert.ReferenceIdeal.τ).loc Cert.ReferenceIdeal.main_v220) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_KernelMix_KernelMixIdeal : Prop :=
  True

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v3_0)) (v1 : (c : Dev Cert.KernelUpIdeal.nD) → Buf (Elt Ideal) ((c.tc : Thread Cert.KernelUpIdeal.nD Cert.KernelUpIdeal.τ).loc Cert.KernelUpIdeal.main_v3_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3_0) = v0 c
          ∧ r.2.mem ((c.tc : Thread Cert.KernelUpIdeal.nD Cert.KernelUpIdeal.τ).loc Cert.KernelUpIdeal.main_v3_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v30) = v0 c
          ∧ r.2.mem ((c.tc : Thread Cert.ReferenceUpIdeal.nD Cert.ReferenceUpIdeal.τ).loc Cert.ReferenceUpIdeal.main_v31) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def Claim : Prop :=
  ∃ (hKernel : Cert.Kernel.Facts) (hKernelIdeal : Cert.KernelIdeal.Facts) (hReferenceIdeal : Cert.ReferenceIdeal.Facts) (hKernelMix : Cert.KernelMix.Facts) (hKernelMixIdeal : Cert.KernelMixIdeal.Facts) (hReferenceMixIdeal : Cert.ReferenceMixIdeal.Facts) (hKernelUp : Cert.KernelUp.Facts) (hKernelUpIdeal : Cert.KernelUpIdeal.Facts) (hReferenceUpIdeal : Cert.ReferenceUpIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelMix_KernelMixIdeal
    ∧ preserves_KernelUp_KernelUpIdeal
    ∧ algebraic_KernelUpIdeal_ReferenceUpIdeal (hKernelUpIdeal := hKernelUpIdeal) (hReferenceUpIdeal := hReferenceUpIdeal)
-- ==== Pre_finite.lean ====
abbrev S1x8192x1024 : Shape := ⟨3, ![1, 8192, 1024]⟩
abbrev S1x1024 : Shape := ⟨2, ![1, 1024]⟩
abbrev S1x3x5632 : Shape := ⟨3, ![1, 3, 5632]⟩
abbrev S1x5632 : Shape := ⟨2, ![1, 5632]⟩
abbrev S1024 : Shape := ⟨1, ![1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1024 : S_.BroadcastsInDim S1024 (![] : Fin 0 → Fin S1024.rank)
  reducesTo_S1024_S_d0 : S1024.ReducesTo [0] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part3 {F : FTy → Type} [FloatOps F] (main_v48 : IVec S_ 1) (main_v49 : FVec F S1x2816x1024 .f32) (main_v50 : FVec F S1x2816x1024 .f32) : IVec S_ 1 :=
  let main_v51 : IVec S1x2816x1024 1 := cmpf .olt main_v49 main_v50
  let main_c_19 : IVec S_ 1 := constantI S_ 1 1#1
  let main_v52 : IVec S_ 1 := (fun x v => Host.reduce IntOp.andi x v reducesTo_S1x2816x1024_S_d0_1_2 h_S_) main_v51 main_c_19
  let main_v53 : IVec S_ 1 := andi main_v48 main_v52
  main_v53

def fn_part2 {F : FTy → Type} [FloatOps F] (main_arg7 : FVec F S1x1024 .f32) (main_arg8 : FVec F S1024 .f32) (main_arg9 : FVec F S1x1024x5632 .f32) (main_arg10 : FVec F S1x2816x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1x1024x5632 .f32 := Host.absf main_arg9
  let main_cst_16 : FVec F S_ .f32 := constant S_ .f32 0x7F800000#32
  let main_v45 : FVec F S1x1024x5632 .f32 := broadcastInDim S1x1024x5632 ![] bcast_S_S1x1024x5632 main_cst_16
  let main_v46 : IVec S1x1024x5632 1 := cmpf .olt main_v44 main_v45
  let main_c_17 : IVec S_ 1 := constantI S_ 1 1#1
  let main_v47 : IVec S_ 1 := (fun x v => Host.reduce IntOp.andi x v reducesTo_S1x1024x5632_S_d0_1_2 h_S_) main_v46 main_c_17
  let main_v48 : IVec S_ 1 := andi main_v43 main_v47
  let main_v49 : FVec F S1x2816x1024 .f32 := Host.absf main_arg10
  let main_cst_18 : FVec F S_ .f32 := constant S_ .f32 0x7F800000#32
  let main_v50 : FVec F S1x2816x1024 .f32 := broadcastInDim S1x2816x1024 ![] bcast_S_S1x2816x1024 main_cst_18
  fn_part3 (F := F) main_v48 main_v49 main_v50

def fn_part1 {F : FTy → Type} [FloatOps F] (main_arg4 : FVec F S1x1024 .f32) (main_arg5 : FVec F S1x3x5632 .f32) (main_arg6 : FVec F S1x5632 .f32) (main_arg7 : FVec F S1x1024 .f32) (main_arg8 : FVec F S1024 .f32) (main_arg9 : FVec F S1x1024x5632 .f32) (main_arg10 : FVec F S1x2816x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x3x5632 .f32 := Host.absf main_arg5
  let main_cst_8 : FVec F S_ .f32 := constant S_ .f32 0x7F800000#32
  let main_v25 : FVec F S1x3x5632 .f32 := broadcastInDim S1x3x5632 ![] bcast_S_S1x3x5632 main_cst_8
  let main_v26 : IVec S1x3x5632 1 := cmpf .olt main_v24 main_v25
  let main_c_9 : IVec S_ 1 := constantI S_ 1 1#1
  let main_v27 : IVec S_ 1 := (fun x v => Host.reduce IntOp.andi x v reducesTo_S1x3x5632_S_d0_1_2 h_S_) main_v26 main_c_9
  let main_v28 : IVec S_ 1 := andi main_v23 main_v27
  let main_v29 : FVec F S1x5632 .f32 := Host.absf main_arg6
  let main_cst_10 : FVec F S_ .f32 := constant S_ .f32 0x7F800000#32
  let main_v30 : FVec F S1x5632 .f32 := broadcastInDim S1x5632 ![] bcast_S_S1x5632 main_cst_10
  let main_v31 : IVec S1x5632 1 := cmpf .olt main_v29 main_v30
  let main_c_11 : IVec S_ 1 := constantI S_ 1 1#1
  let main_v32 : IVec S_ 1 := (fun x v => Host.reduce IntOp.andi x v reducesTo_S1x5632_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1x8192x1024 .f32) (main_arg1 : FVec F S1x8192x1024 .f32) (main_arg2 : FVec F S1x1024 .f32) (main_arg3 : FVec F S1x1024 .f32) (main_arg4 : FVec F S1x1024 .f32) (main_arg5 : FVec F S1x3x5632 .f32) (main_arg6 : FVec F S1x5632 .f32) (main_arg7 : FVec F S1x1024 .f32) (main_arg8 : FVec F S1024 .f32) (main_arg9 : FVec F S1x1024x5632 .f32) (main_arg10 : FVec F S1x2816x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_arg9 main_arg10 main_v13 main_v16
-- ==== Kernel.lean ====
abbrev S1x8192x1024 : Shape := ⟨3, ![1, 8192, 1024]⟩
abbrev S1x1024 : Shape := ⟨2, ![1, 1024]⟩
abbrev S1x3x5632 : Shape := ⟨3, ![1, 3, 5632]⟩
abbrev S1x5632 : Shape := ⟨2, ![1, 5632]⟩
abbrev S1024 : Shape := ⟨1, ![1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S8192x1024 : Shape := ⟨2, ![8192, 1024]⟩
abbrev S3x5632 : Shape := ⟨2, ![3, 5632]⟩
abbrev S8192x5632 : Shape := ⟨2, ![8192, 5632]⟩
abbrev S1x128 : Shape := ⟨2, ![1, 128]⟩
abbrev S256x1024 : Shape := ⟨2, ![256, 1024]⟩
abbrev S8x1024 : Shape := ⟨2, ![8, 1024]⟩
abbrev S256x5632 : Shape := ⟨2, ![256, 5632]⟩
abbrev S16x5632 : Shape := ⟨2, ![16, 5632]⟩
abbrev S256x2816 : Shape := ⟨2, ![256, 2816]⟩
abbrev S7 : Shape := ⟨1, ![7]⟩
abbrev S8x256 : Shape := ⟨2, ![8, 256]⟩
abbrev S1 : Shape := ⟨1, ![1]⟩
abbrev S1024x1408 : Shape := ⟨2, ![1024, 1408]⟩
abbrev S1x1024x1408 : Shape := ⟨3, ![1, 1024, 1408]⟩
abbrev S8 : Shape := ⟨1, ![8]⟩
abbrev S8x1 : Shape := ⟨2, ![8, 1]⟩
abbrev S264x1024 : Shape := ⟨2, ![264, 1024]⟩
abbrev S1024x256 : Shape := ⟨2, ![1024, 256]⟩
abbrev S264x256 : Shape := ⟨2, ![264, 256]⟩
abbrev S248x256 : Shape := ⟨2, ![248, 256]⟩
abbrev S240x256 : Shape := ⟨2, ![240, 256]⟩
abbrev S256x768 : Shape := ⟨2, ![256, 768]⟩
abbrev S768x1024 : Shape := ⟨2, ![768, 1024]⟩
abbrev S1x256x1024 : Shape := ⟨3, ![1, 256, 1024]⟩
abbrev S1x1x1 : Shape := ⟨3, ![1, 1, 1]⟩
abbrev S16x256 : Shape := ⟨2, ![16, 256]⟩

abbrev nBuf : Space → Nat
  | .hbm => 85
  | .vmem => 36
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x3x5632, .f32⟩
  | .hbm, ⟨6, _⟩ => ⟨S1x5632, .f32⟩
  | .hbm, ⟨7, _⟩ => ⟨S1x1024, .f32⟩
  | .hbm, ⟨8, _⟩ => ⟨S1024, .f32⟩
  | .hbm, ⟨9, _⟩ => ⟨S1x1024x5632, .f32⟩
  | .hbm, ⟨10, _⟩ => ⟨S1x2816x1024, .f32⟩
  | .hbm, ⟨11, _⟩ => ⟨S1024x5632, .f32⟩
  | .hbm, ⟨12, _⟩ => ⟨S1024x4x1408, .f32⟩
  | .hbm, ⟨13, _⟩ => ⟨S4x1024x1408, .f32⟩
  | .hbm, ⟨14, _⟩ => ⟨S4x1024x1408, .bf16⟩
  | .hbm, ⟨15, _⟩ => ⟨S2816x1024, .f32⟩
  | .hbm, ⟨16, _⟩ => ⟨S2816x1024, .bf16⟩
  | .hbm, ⟨17, _⟩ => ⟨S256, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i1⟩
  | .hbm, ⟨32, _⟩ => ⟨S_, .i32⟩
  | .hbm, ⟨33, _⟩ => ⟨S_, .i1⟩
  | .hbm, ⟨34, _⟩ => ⟨S256, .i1⟩
  | .hbm, ⟨35, _⟩ => ⟨S256, .i1⟩
  | .hbm, ⟨36, _⟩ => ⟨S256, .i1⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S256, .i32⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S256, .i1⟩
  | .hbm, ⟨57, _⟩ => ⟨S_, .i32⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S256x1, .i32⟩
  | .hbm, ⟨63, _⟩ => ⟨S1x256, .i32⟩
  | .hbm, ⟨64, _⟩ => ⟨S256x256, .i32⟩
  | .hbm, ⟨65, _⟩ => ⟨S256x256, .i32⟩
  | .hbm, ⟨66, _⟩ => ⟨S256x256, .i1⟩
  | .hbm, ⟨67, _⟩ => ⟨S256x256, .bf16⟩
  | .hbm, ⟨68, _⟩ => ⟨S256x256, .bf16⟩
  | .hbm, ⟨69, _⟩ => ⟨S8192x1024, .f32⟩
  | .hbm, ⟨70, _⟩ => ⟨S8192x1024, .f32⟩
  | .hbm, ⟨71, _⟩ => ⟨S3x5632, .f32⟩
  | .hbm, ⟨72, _⟩ => ⟨S1x1024, .f32⟩
  | .hbm, ⟨73, _⟩ => ⟨S8192x5632, .bf16⟩
  | .hbm, ⟨74, _⟩ => ⟨S8192x1024, .f32⟩
  | .hbm, ⟨75, _⟩ => ⟨S3x5632, .f32⟩
  | .hbm, ⟨76, _⟩ => ⟨S1x5632, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x128, .f32⟩
  | .hbm, ⟨83, _⟩ => ⟨S2816x1024, .f32⟩
  | .hbm, ⟨84, _⟩ => ⟨S2816x1024, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S3x5632, .f32⟩
  | .local _ .vmem, ⟨10, _⟩ => ⟨S1x5632, .f32⟩
  | .local _ .vmem, ⟨11, _⟩ => ⟨S1x1024, .f32⟩
  | .local _ .vmem, ⟨12, _⟩ => ⟨S1x1024, .f32⟩
  | .local _ .vmem, ⟨13, _⟩ => ⟨S256x256, .bf16⟩
  | .local _ .vmem, ⟨14, _⟩ => ⟨S256x256, .bf16⟩
  | .local _ .vmem, ⟨15, _⟩ => ⟨S256x5632, .bf16⟩
  | .local _ .vmem, ⟨16, _⟩ => ⟨S256x5632, .bf16⟩
  | .local _ .vmem, ⟨17, _⟩ => ⟨S256x1024, .f32⟩
  | .local _ .vmem, ⟨18, _⟩ => ⟨S256x1024, .f32⟩
  | .local _ .vmem, ⟨19, _⟩ => ⟨S3x5632, .f32⟩
  | .local _ .vmem, ⟨20, _⟩ => ⟨S1x5632, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x128, .f32⟩
  | .local _ .vmem, ⟨27, _⟩ => ⟨S1024x5632, .bf16⟩
  | .local _ .vmem, ⟨28, _⟩ => ⟨S2816x1024, .bf16⟩
  | .local _ .vmem, ⟨29, _⟩ => ⟨S2816x1024, .f32⟩
  | .local _ .vmem, ⟨30, _⟩ => ⟨S16x5632, .f32⟩
  | .local _ .vmem, ⟨31, _⟩ => ⟨S256x5632, .bf16⟩
  | .local _ .vmem, ⟨32, _⟩ => ⟨S256x2816, .f32⟩
  | .local _ .vmem, ⟨33, _⟩ => ⟨S256x2816, .f32⟩
  | .local _ .vmem, ⟨34, _⟩ => ⟨S256x2816, .bf16⟩
  | .local _ .vmem, ⟨35, _⟩ => ⟨S256x5632, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v7 : Ref sig .tc := ⟨.hbm, 39, rfl⟩
abbrev main_c_0 : Ref sig .tc := ⟨.hbm, 40, rfl⟩
abbrev main_v8 : Ref sig .tc := ⟨.hbm, 41, rfl⟩
abbrev main_v9 : Ref sig .tc := ⟨.hbm, 42, rfl⟩
abbrev main_c_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23_0 : Ref sig .tc := ⟨.hbm, 73, rfl⟩
abbrev main_v23_1 : Ref sig .tc := ⟨.hbm, 74, rfl⟩
abbrev main_v23_2 : Ref sig .tc := ⟨.hbm, 75, rfl⟩
abbrev main_v23_3 : Ref sig .tc := ⟨.hbm, 76, rfl⟩
abbrev main_v23_4 : Ref sig .tc := ⟨.hbm, 77, rfl⟩
abbrev main_v23_5 : Ref sig .tc := ⟨.hbm, 78, rfl⟩
abbrev main_v23_6 : Ref sig .tc := ⟨.hbm, 79, rfl⟩
abbrev main_v23_7 : Ref sig .tc := ⟨.hbm, 80, rfl⟩
abbrev main_v23_8 : Ref sig .tc := ⟨.hbm, 81, rfl⟩
abbrev main_v23_9 : Ref sig .tc := ⟨.hbm, 82, rfl⟩
abbrev main_v23_10 : Ref sig .tc := ⟨.hbm, 83, rfl⟩
abbrev main_v23_11 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x5632 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S1x8192x1024 : Shape := ⟨3, ![1, 8192, 1024]⟩
abbrev S1x1024 : Shape := ⟨2, ![1, 1024]⟩
abbrev S1x3x5632 : Shape := ⟨3, ![1, 3, 5632]⟩
abbrev S1x5632 : Shape := ⟨2, ![1, 5632]⟩
abbrev S1024 : Shape := ⟨1, ![1024]⟩
abbrev S1x1024x5632 : Shape := ⟨3, ![1, 1024, 5632]⟩
abbrev S1x2816x1024 : Shape := ⟨3, ![1, 2816, 1024]⟩
abbrev S_ : Shape := ⟨0, ![]⟩
abbrev S1x8192x5632 : Shape := ⟨3, ![1, 8192, 5632]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S3x5632 : Shape := ⟨2, ![3, 5632]⟩
abbrev S5632 : Shape := ⟨1, ![5632]⟩
abbrev S1x2x5632 : Shape := ⟨3, ![1, 2, 5632]⟩
abbrev S1x8194x5632 : Shape := ⟨3, ![1, 8194, 5632]⟩
abbrev S1x1x5632 : Shape := ⟨3, ![1, 1, 5632]⟩
abbrev S1x8192x2816 : Shape := ⟨3, ![1, 8192, 2816]⟩
abbrev S2816x1024 : Shape := ⟨2, ![2816, 1024]⟩
abbrev S8192 : Shape := ⟨1, ![8192]⟩
abbrev S1024x2816 : Shape := ⟨2, ![1024, 2816]⟩
abbrev S5632x1024 : Shape := ⟨2, ![5632, 1024]⟩
abbrev S8192x5632 : Shape := ⟨2, ![8192, 5632]⟩
abbrev S8192x1024 : Shape := ⟨2, ![8192, 1024]⟩
abbrev S1x128 : Shape := ⟨2, ![1, 128]⟩

abbrev nBuf : Space → Nat
  | .hbm => 298
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x1024, .f32⟩
  | 3 => ⟨S1x1024, .f32⟩
  | 4 => ⟨S1x1024, .f32⟩
  | 5 => ⟨S1x3x5632, .f32⟩
  | 6 => ⟨S1x5632, .f32⟩
  | 7 => ⟨S1x1024, .f32⟩
  | 8 => ⟨S1024, .f32⟩
  | 9 => ⟨S1x1024x5632, .f32⟩
  | 10 => ⟨S1x2816x1024, .f32⟩
  | 11 => ⟨S_, .f32⟩
  | 12 => ⟨S1x8192x5632, .f32⟩
  | 13 => ⟨S1024, .f32⟩
  | 14 => ⟨S1x8192x1024, .f32⟩
  | 15 => ⟨S_, .f32⟩
  | 16 => ⟨S1x8192, .f32⟩
  | 17 => ⟨S1x8192x1, .f32⟩
  | 18 => ⟨S_, .f32⟩
  | 19 => ⟨S1x8192x1, .f32⟩
  | 20 => ⟨S1x8192x1, .f32⟩
  | 21 => ⟨S_, .f32⟩
  | 22 => ⟨S1x8192x1, .f32⟩
  | 23 => ⟨S1x8192x1, .f32⟩
  | 24 => ⟨S1x8192x1, .f32⟩
  | 25 => ⟨S1x8192x1, .f32⟩
  | 26 => ⟨S_, .f32⟩
  | 27 => ⟨S1x8192x1, .f32⟩
  | 28 => ⟨S1x8192x1, .f32⟩
  | 29 => ⟨S1x8192x1024, .f32⟩
  | 30 => ⟨S1x8192x1024, .f32⟩
  | 31 => ⟨S1x1x1024, .f32⟩
  | 32 => ⟨S1x8192x1024, .f32⟩
  | 33 => ⟨S1x8192x1024, .f32⟩
  | 34 => ⟨S1x1x1024, .f32⟩
  | 35 => ⟨S_, .f32⟩
  | 36 => ⟨S1x1x1024, .f32⟩
  | 37 => ⟨S1x1x1024, .f32⟩
  | 38 => ⟨S1x8192x1024, .f32⟩
  | 39 => ⟨S1x8192x1024, .f32⟩
  | 40 => ⟨S1x1x1024, .f32⟩
  | 41 => ⟨S1x8192x1024, .f32⟩
  | 42 => ⟨S1x8192x1024, .f32⟩
  | 43 => ⟨S1024x5632, .f32⟩
  | 44 => ⟨S1x8192x5632, .f32⟩
  | 45 => ⟨S1x8192x5632, .f32⟩
  | 46 => ⟨S3x5632, .f32⟩
  | 47 => ⟨S5632, .f32⟩
  | 48 => ⟨S_, .f32⟩
  | 49 => ⟨S1x2x5632, .f32⟩
  | 50 => ⟨S1x8194x5632, .f32⟩
  | 51 => ⟨S_, .f32⟩
  | 52 => ⟨S1x2x5632, .f32⟩
  | 53 => ⟨S1x8192x5632, .f32⟩
  | 54 => ⟨S1x5632, .f32⟩
  | 55 => ⟨S5632, .f32⟩
  | 56 => ⟨S1x1x5632, .f32⟩
  | 57 => ⟨S1x8192x5632, .f32⟩
  | 58 => ⟨S1x8192x5632, .f32⟩
  | 59 => ⟨S_, .f32⟩
  | 60 => ⟨S1x8192x5632, .f32⟩
  | 61 => ⟨S1x8192x5632, .f32⟩
  | 62 => ⟨S1x8192x5632, .f32⟩
  | 63 => ⟨S1x5632, .f32⟩
  | 64 => ⟨S5632, .f32⟩
  | 65 => ⟨S1x1x5632, .f32⟩
  | 66 => ⟨S1x8192x5632, .f32⟩
  | 67 => ⟨S1x8192x5632, .f32⟩
  | 68 => ⟨S1x8192x5632, .f32⟩
  | 69 => ⟨S1x8192x5632, .f32⟩
  | 70 => ⟨S1x5632, .f32⟩
  | 71 => ⟨S5632, .f32⟩
  | 72 => ⟨S1x1x5632, .f32⟩
  | 73 => ⟨S1x8192x5632, .f32⟩
  | 74 => ⟨S1x8192x5632, .f32⟩
  | 75 => ⟨S1x8192x5632, .f32⟩
  | 76 => ⟨S1x1x5632, .f32⟩
  | 77 => ⟨S1x8192x5632, .f32⟩
  | 78 => ⟨S1x8192x5632, .f32⟩
  | 79 => ⟨S1x8192x2816, .f32⟩
  | 80 => ⟨S1x8192x2816, .f32⟩
  | 81 => ⟨S1x1x1024, .f32⟩
  | 82 => ⟨S1x8192x2816, .f32⟩
  | 83 => ⟨S1x8192x2816, .f32⟩
  | 84 => ⟨S_, .f32⟩
  | 85 => ⟨S1x8192x2816, .f32⟩
  | 86 => ⟨S1x8192x2816, .f32⟩
  | 87 => ⟨S_, .f32⟩
  | 88 => ⟨S1x8192x2816, .f32⟩
  | 89 => ⟨S1x8192x2816, .f32⟩
  | 90 => ⟨S_, .f32⟩
  | 91 => ⟨S1x8192x2816, .f32⟩
  | 92 => ⟨S1x8192x2816, .f32⟩
  | 93 => ⟨S1x8192x2816, .f32⟩
  | 94 => ⟨S1x8192x2816, .f32⟩
  | 95 => ⟨S1x8192x2816, .f32⟩
  | 96 => ⟨S2816x1024, .f32⟩
  | 97 => ⟨S1x8192x1024, .f32⟩
  | 98 => ⟨S1x8192x1024, .f32⟩
  | 99 => ⟨S1x8192x1024, .f32⟩
  | 100 => ⟨S1x8192x1024, .f32⟩
  | 101 => ⟨S1x8192x1024, .f32⟩
  | 102 => ⟨S_, .f32⟩
  | 103 => ⟨S1x8192, .f32⟩
  | 104 => ⟨S1x8192x1, .f32⟩
  | 105 => ⟨S_, .f32⟩
  | 106 => ⟨S1x8192x1, .f32⟩
  | 107 => ⟨S1x8192x1, .f32⟩
  | 108 => ⟨S_, .f32⟩
  | 109 => ⟨S1x8192x1, .f32⟩
  | 110 => ⟨S1x8192x1, .f32⟩
  | 111 => ⟨S1x8192x1, .f32⟩
  | 112 => ⟨S1x8192x1, .f32⟩
  | 113 => ⟨S_, .f32⟩
  | 114 => ⟨S1x8192x1, .f32⟩
  | 115 => ⟨S1x8192x1, .f32⟩
  | 116 => ⟨S1x8192x1024, .f32⟩
  | 117 => ⟨S1x8192x1024, .f32⟩
  | 118 => ⟨S1x1x1024, .f32⟩
  | 119 => ⟨S1x8192x1024, .f32⟩
  | 120 => ⟨S1x8192x1024, .f32⟩
  | 121 => ⟨S1x8192x1024, .f32⟩
  | 122 => ⟨S1x8192x1024, .f32⟩
  | 123 => ⟨S_, .f32⟩
  | 124 => ⟨S1x8192x1024, .f32⟩
  | 125 => ⟨S1x8192x1024, .f32⟩
  | 126 => ⟨S_, .f32⟩
  | 127 => ⟨S1x8192, .f32⟩
  | _ => ⟨S1x8192x1024, .f32⟩

abbrev hbmTy0_1 (i : Nat) : BufTy := match i % 128 with
  | 0 => ⟨S_, .f32⟩
  | 1 => ⟨S1x8192, .f32⟩
  | 2 => ⟨S1x8192, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S1x8192, .f32⟩
  | 11 => ⟨S_, .f32⟩
  | 12 => ⟨S1x8192, .f32⟩
  | 13 => ⟨S1x8192, .f32⟩
  | 14 => ⟨S1x8192x1024, .f32⟩
  | 15 => ⟨S1x8192x1024, .f32⟩
  | 16 => ⟨S1x8192x1024, .f32⟩
  | 17 => ⟨S_, .f32⟩
  | 18 => ⟨S1x1024, .f32⟩
  | 19 => ⟨S1x1x1024, .f32⟩
  | 20 => ⟨S1x8192x1024, .f32⟩
  | 21 => ⟨S1x8192x1024, .f32⟩
  | 22 => ⟨S_, .f32⟩
  | 23 => ⟨S1024, .f32⟩
  | 24 => ⟨S1x8192x1024, .f32⟩
  | 25 => ⟨S_, .f32⟩
  | 26 => ⟨S1x8192, .f32⟩
  | 27 => ⟨S1x8192x1, .f32⟩
  | 28 => ⟨S1x8192x1024, .f32⟩
  | 29 => ⟨S1x8192x1024, .f32⟩
  | 30 => ⟨S1x8192x1, .f32⟩
  | 31 => ⟨S_, .f32⟩
  | 32 => ⟨S1x8192x1, .f32⟩
  | 33 => ⟨S1x8192x1, .f32⟩
  | 34 => ⟨S_, .f32⟩
  | 35 => ⟨S8192, .f32⟩
  | 36 => ⟨S1x8192, .f32⟩
  | 37 => ⟨S1x8192x1024, .f32⟩
  | 38 => ⟨S1x8192x1024, .f32⟩
  | 39 => ⟨S1x8192x1024, .f32⟩
  | 40 => ⟨S1x8192x1024, .f32⟩
  | 41 => ⟨S1x8192x1024, .f32⟩
  | 42 => ⟨S1x8192x1024, .f32⟩
  | 43 => ⟨S1x8192x1024, .f32⟩
  | 44 => ⟨S1x8192x1024, .f32⟩
  | 45 => ⟨S_, .f32⟩
  | 46 => ⟨S1x1024, .f32⟩
  | 47 => ⟨S1x1x1024, .f32⟩
  | 48 => ⟨S1024x2816, .f32⟩
  | 49 => ⟨S2816x1024, .f32⟩
  | 50 => ⟨S1x8192x2816, .f32⟩
  | 51 => ⟨S1x2816x1024, .f32⟩
  | 52 => ⟨S1x8192x2816, .f32⟩
  | 53 => ⟨S1x8192x2816, .f32⟩
  | 54 => ⟨S1x8192x2816, .f32⟩
  | 55 => ⟨S1x8192x2816, .f32⟩
  | 56 => ⟨S1x8192x2816, .f32⟩
  | 57 => ⟨S1x8192x2816, .f32⟩
  | 58 => ⟨S_, .f32⟩
  | 59 => ⟨S1024, .f32⟩
  | 60 => ⟨S1x1024, .f32⟩
  | 61 => ⟨S1x8192x5632, .f32⟩
  | 62 => ⟨S_, .f32⟩
  | 63 => ⟨S1x5632, .f32⟩
  | 64 => ⟨S1x1x5632, .f32⟩
  | 65 => ⟨S_, .f32⟩
  | 66 => ⟨S5632, .f32⟩
  | 67 => ⟨S1x8192x5632, .f32⟩
  | 68 => ⟨S_, .f32⟩
  | 69 => ⟨S1x5632, .f32⟩
  | 70 => ⟨S1x1x5632, .f32⟩
  | 71 => ⟨S1x8192x5632, .f32⟩
  | 72 => ⟨S1x8192x5632, .f32⟩
  | 73 => ⟨S_, .f32⟩
  | 74 => ⟨S5632, .f32⟩
  | 75 => ⟨S1x5632, .f32⟩
  | 76 => ⟨S_, .f32⟩
  | 77 => ⟨S3x5632, .f32⟩
  | 78 => ⟨S_, .f32⟩
  | 79 => ⟨S1x8194x5632, .f32⟩
  | 80 => ⟨S1x8192x5632, .f32⟩
  | 81 => ⟨S_, .f32⟩
  | 82 => ⟨S1x5632, .f32⟩
  | 83 => ⟨S1x1x5632, .f32⟩
  | 84 => ⟨S1x8192x5632, .f32⟩
  | 85 => ⟨S1x8192x5632, .f32⟩
  | 86 => ⟨S_, .f32⟩
  | 87 => ⟨S5632, .f32⟩
  | 88 => ⟨S1x5632, .f32⟩
  | 89 => ⟨S_, .f32⟩
  | 90 => ⟨S3x5632, .f32⟩
  | 91 => ⟨S3x5632, .f32⟩
  | 92 => ⟨S_, .f32⟩
  | 93 => ⟨S1x8194x5632, .f32⟩
  | 94 => ⟨S1x8194x5632, .f32⟩
  | 95 => ⟨S1x8192x5632, .f32⟩
  | 96 => ⟨S_, .f32⟩
  | 97 => ⟨S1x5632, .f32⟩
  | 98 => ⟨S1x1x5632, .f32⟩
  | 99 => ⟨S1x8192x5632, .f32⟩
  | 100 => ⟨S1x8192x5632, .f32⟩
  | 101 => ⟨S_, .f32⟩
  | 102 => ⟨S5632, .f32⟩
  | 103 => ⟨S1x5632, .f32⟩
  | 104 => ⟨S_, .f32⟩
  | 105 => ⟨S3x5632, .f32⟩
  | 106 => ⟨S3x5632, .f32⟩
  | 107 => ⟨S_, .f32⟩
  | 108 => ⟨S1x8194x5632, .f32⟩
  | 109 => ⟨S1x8194x5632, .f32⟩
  | 110 => ⟨S1x2x5632, .f32⟩
  | 111 => ⟨S1x8192x5632, .f32⟩
  | 112 => ⟨S1x5632, .f32⟩
  | 113 => ⟨S1x3x5632, .f32⟩
  | 114 => ⟨S5632x1024, .f32⟩
  | 115 => ⟨S1024x5632, .f32⟩
  | 116 => ⟨S1x8192x1024, .f32⟩
  | 117 => ⟨S1x1024x5632, .f32⟩
  | 118 => ⟨S_, .f32⟩
  | 119 => ⟨S1x1024, .f32⟩
  | 120 => ⟨S1x1x1024, .f32⟩
  | 121 => ⟨S_, .f32⟩
  | 122 => ⟨S1024, .f32⟩
  | 123 => ⟨S1x1024, .f32⟩
  | 124 => ⟨S1x8192x1024, .f32⟩
  | 125 => ⟨S_, .f32⟩
  | 126 => ⟨S1x1024, .f32⟩
  | 127 => ⟨S1x1x1024, .f32⟩
  | _ => ⟨S1x8192x1024, .f32⟩

abbrev hbmTy0_2 (i : Nat) : BufTy := match i % 128 with
  | 0 => ⟨S1x8192x1024, .f32⟩
  | 1 => ⟨S1x8192x1024, .f32⟩
  | 2 => ⟨S_, .f32⟩
  | 3 => ⟨S1024, .f32⟩
  | 4 => ⟨S1x1024, .f32⟩
  | 5 => ⟨S1x8192x1024, .f32⟩
  | 6 => ⟨S_, .f32⟩
  | 7 => ⟨S1x1024, .f32⟩
  | 8 => ⟨S1x1x1024, .f32⟩
  | 9 => ⟨S1x8192x1024, .f32⟩
  | 10 => ⟨S1x8192x1024, .f32⟩
  | 11 => ⟨S_, .f32⟩
  | 12 => ⟨S1024, .f32⟩
  | 13 => ⟨S1x8192x1024, .f32⟩
  | 14 => ⟨S_, .f32⟩
  | 15 => ⟨S1x8192, .f32⟩
  | 16 => ⟨S1x8192x1, .f32⟩
  | 17 => ⟨S1x8192x1024, .f32⟩
  | 18 => ⟨S1x8192x1024, .f32⟩
  | 19 => ⟨S1x8192x1024, .f32⟩
  | 20 => ⟨S1x8192x1, .f32⟩
  | 21 => ⟨S_, .f32⟩
  | 22 => ⟨S1x8192x1, .f32⟩
  | 23 => ⟨S1x8192x1, .f32⟩
  | 24 => ⟨S_, .f32⟩
  | 25 => ⟨S8192, .f32⟩
  | 26 => ⟨S1x8192, .f32⟩
  | 27 => ⟨S1x8192x1024, .f32⟩
  | 28 => ⟨S1x8192x1024, .f32⟩
  | 29 => ⟨S1x8192x1024, .f32⟩
  | 30 => ⟨S1x8192x1024, .f32⟩
  | 31 => ⟨S1x8192x1024, .f32⟩
  | 32 => ⟨S1x1024, .f32⟩
  | 33 => ⟨S8192x5632, .f32⟩
  | 34 => ⟨S8192x5632, .bf16⟩
  | 35 => ⟨S8192x1024, .f32⟩
  | 36 => ⟨S3x5632, .f32⟩
  | 37 => ⟨S1x1024, .f32⟩
  | 38 => ⟨S1x128, .f32⟩
  | 39 => ⟨S2816x1024, .f32⟩
  | 40 => ⟨S2816x1024, .f32⟩
  | 41 => ⟨S2816x1024, .bf16⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_v62_2 : Ref sig .tc := ⟨.hbm, 89, rfl⟩
abbrev main_call0_cst_1 : Ref sig .tc := ⟨.hbm, 90, rfl⟩
abbrev main_call0_v6 : Ref sig .tc := ⟨.hbm, 91, rfl⟩
abbrev main_call0_v7 : Ref sig .tc := ⟨.hbm, 92, rfl⟩
abbrev main_v62_1 : Ref sig .tc := ⟨.hbm, 93, rfl⟩
abbrev main_v62_0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_cst_9 : Ref sig .tc := ⟨.hbm, 105, rfl⟩
abbrev main_v72 : Ref sig .tc := ⟨.hbm, 106, rfl⟩
abbrev main_v73 : Ref sig .tc := ⟨.hbm, 107, rfl⟩
abbrev main_cst_10 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_11 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_12 : Ref sig .tc := ⟨.hbm, 123, rfl⟩
abbrev main_v87 : Ref sig .tc := ⟨.hbm, 124, rfl⟩
abbrev main_v88 : Ref sig .tc := ⟨.hbm, 125, rfl⟩
abbrev main_cst_13 : Ref sig .tc := ⟨.hbm, 126, rfl⟩
abbrev main_v89 : Ref sig .tc := ⟨.hbm, 127, rfl⟩
abbrev main_cst_14 : Ref sig .tc := ⟨.hbm, 128, rfl⟩
abbrev main_v90 : Ref sig .tc := ⟨.hbm, 129, rfl⟩
abbrev main_v91 : Ref sig .tc := ⟨.hbm, 130, rfl⟩
abbrev main_cst_15 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_cst_17 : Ref sig .tc := ⟨.hbm, 135, rfl⟩
abbrev main_cst_18 : Ref sig .tc := ⟨.hbm, 136, rfl⟩
abbrev main_v94 : Ref sig .tc := ⟨.hbm, 137, rfl⟩
abbrev main_v95 : Ref sig .tc := ⟨.hbm, 138, rfl⟩
abbrev main_cst_19 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_20 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_21 : Ref sig .tc := ⟨.hbm, 150, rfl⟩
abbrev main_v105 : Ref sig .tc := ⟨.hbm, 151, rfl⟩
abbrev main_v106 : Ref sig .tc := ⟨.hbm, 152, rfl⟩
abbrev main_cst_22 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_23 : Ref sig .tc := ⟨.hbm, 159, rfl⟩
abbrev main_v112 : Ref sig .tc := ⟨.hbm, 160, rfl⟩
abbrev main_v113 : Ref sig .tc := ⟨.hbm, 161, rfl⟩
abbrev main_cst_24 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_25 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_call1_v0 : Ref sig .tc := ⟨.hbm, 182, rfl⟩
abbrev main_call1_v1 : Ref sig .tc := ⟨.hbm, 183, rfl⟩
abbrev main_call1_v2 : Ref sig .tc := ⟨.hbm, 184, rfl⟩
abbrev main_v132 : Ref sig .tc := ⟨.hbm, 185, rfl⟩
abbrev main_cst_26 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_27 : Ref sig .tc := ⟨.hbm, 190, rfl⟩
abbrev main_v136 : Ref sig .tc := ⟨.hbm, 191, rfl⟩
abbrev main_v137 : Ref sig .tc := ⟨.hbm, 192, rfl⟩
abbrev main_cst_28 : Ref sig .tc := ⟨.hbm, 193, rfl⟩
abbrev main_v138 : Ref sig .tc := ⟨.hbm, 194, rfl⟩
abbrev main_v139 : Ref sig .tc := ⟨.hbm, 195, rfl⟩
abbrev main_cst_29 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_30 : Ref sig .tc := ⟨.hbm, 201, rfl⟩
abbrev main_v144 : Ref sig .tc := ⟨.hbm, 202, rfl⟩
abbrev main_v145 : Ref sig .tc := ⟨.hbm, 203, rfl⟩
abbrev main_cst_31 : Ref sig .tc := ⟨.hbm, 204, rfl⟩
abbrev main_v146 : Ref sig .tc := ⟨.hbm, 205, rfl⟩
abbrev main_cst_32 : Ref sig .tc := ⟨.hbm, 206, rfl⟩
abbrev main_v147 : Ref sig .tc := ⟨.hbm, 207, rfl⟩
abbrev main_v148 : Ref sig .tc := ⟨.hbm, 208, rfl⟩
abbrev main_cst_33 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_34 : Ref sig .tc := ⟨.hbm, 214, rfl⟩
abbrev main_v153 : Ref sig .tc := ⟨.hbm, 215, rfl⟩
abbrev main_v154 : Ref sig .tc := ⟨.hbm, 216, rfl⟩
abbrev main_cst_35 : Ref sig .tc := ⟨.hbm, 217, rfl⟩
abbrev main_v155 : Ref sig .tc := ⟨.hbm, 218, rfl⟩
abbrev main_v156 : Ref sig .tc := ⟨.hbm, 219, rfl⟩
abbrev main_cst_36 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_cst_37 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_cst_38 : Ref sig .tc := ⟨.hbm, 229, rfl⟩
abbrev main_v164 : Ref sig .tc := ⟨.hbm, 230, rfl⟩
abbrev main_v165 : Ref sig .tc := ⟨.hbm, 231, rfl⟩
abbrev main_cst_39 : Ref sig .tc := ⟨.hbm, 232, rfl⟩
abbrev main_v166 : Ref sig .tc := ⟨.hbm, 233, rfl⟩
abbrev main_v167 : Ref sig .tc := ⟨.hbm, 234, rfl⟩
abbrev main_cst_40 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_cst_41 : Ref sig .tc := ⟨.hbm, 246, rfl⟩
abbrev main_v178 : Ref sig .tc := ⟨.hbm, 247, rfl⟩
abbrev main_v179 : Ref sig .tc := ⟨.hbm, 248, rfl⟩
abbrev main_cst_42 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_cst_43 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_cst_44 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_cst_45 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_cst_46 : Ref sig .tc := ⟨.hbm, 267, rfl⟩
abbrev main_v194 : Ref sig .tc := ⟨.hbm, 268, rfl⟩
abbrev main_v195 : Ref sig .tc := ⟨.hbm, 269, rfl⟩
abbrev main_cst_47 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_cst_48 : Ref sig .tc := ⟨.hbm, 277, rfl⟩
abbrev main_v202 : Ref sig .tc := ⟨.hbm, 278, rfl⟩
abbrev main_v203 : Ref sig .tc := ⟨.hbm, 279, rfl⟩
abbrev main_cst_49 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩

abbrev nD : Nat := 1
abbrev τ : Topo := Topo.v7x

variable {F : FTy → Type} [FloatOps F]
-- ==== KernelMix.lean ====
abbrev S1x8192x1024 : Shape := ⟨3, ![1, 8192, 1024]⟩
abbrev S1x1024 : Shape := ⟨2, ![1, 1024]⟩
abbrev S1x1024x2048 : Shape := ⟨3, ![1, 1024, 2048]⟩
abbrev S1x31x512 : Shape := ⟨3, ![1, 31, 512]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S_ : Shape := ⟨0, ![]⟩
abbrev S128x128 : Shape := ⟨2, ![128, 128]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x2048 : Shape := ⟨2, ![1024, 2048]⟩
abbrev S1x8192x2048 : Shape := ⟨3, ![1, 8192, 2048]⟩
abbrev S1x8192x512 : Shape := ⟨3, ![1, 8192, 512]⟩
abbrev S31x512 : Shape := ⟨2, ![31, 512]⟩
abbrev S512 : Shape := ⟨1, ![512]⟩
abbrev S1x30x512 : Shape := ⟨3, ![1, 30, 512]⟩
abbrev S1x8222x512 : Shape := ⟨3, ![1, 8222, 512]⟩
abbrev S8192 : Shape := ⟨1, ![8192]⟩
abbrev S8192x1 : Shape := ⟨2, ![8192, 1]⟩
abbrev S31 : Shape := ⟨1, ![31]⟩
abbrev S1x31 : Shape := ⟨2, ![1, 31]⟩
abbrev S8192x31 : Shape := ⟨2, ![8192, 31]⟩
abbrev S8192x31x1 : Shape := ⟨3, ![8192, 31, 1]⟩
abbrev S1x8192x31x512 : Shape := ⟨4, ![1, 8192, 31, 512]⟩
abbrev S1x1x31x512 : Shape := ⟨4, ![1, 1, 31, 512]⟩
abbrev S1x1x512 : Shape := ⟨3, ![1, 1, 512]⟩
abbrev S8x128x128 : Shape := ⟨3, ![8, 128, 128]⟩
abbrev S1x128x128 : Shape := ⟨3, ![1, 128, 128]⟩
abbrev S1x64x128x8x64 : Shape := ⟨5, ![1, 64, 128, 8, 64]⟩
abbrev S128x128x8 : Shape := ⟨3, ![128, 128, 8]⟩
abbrev S1x1x128x128x8x1 : Shape := ⟨6, ![1, 1, 128, 128, 8, 1]⟩
abbrev S1x64x1x128x8x64 : Shape := ⟨6, ![1, 64, 1, 128, 8, 64]⟩
abbrev S1x64x128x128x8x64 : Shape := ⟨6, ![1, 64, 128, 128, 8, 64]⟩
abbrev S8x128 : Shape := ⟨2, ![8, 128]⟩
abbrev S128x8 : Shape := ⟨2, ![128, 8]⟩
abbrev S1x1x128x8x1 : Shape := ⟨5, ![1, 1, 128, 8, 1]⟩
abbrev S1024x1024 : Shape := ⟨2, ![1024, 1024]⟩
abbrev S4x256x128 : Shape := ⟨3, ![4, 256, 128]⟩
abbrev S128x8x64 : Shape := ⟨3, ![128, 8, 64]⟩
abbrev S128x512 : Shape := ⟨2, ![128, 512]⟩
abbrev S1024x4x512 : Shape := ⟨3, ![1024, 4, 512]⟩
abbrev S4x1024x512 : Shape := ⟨3, ![4, 1024, 512]⟩
abbrev S8192x1024 : Shape := ⟨2, ![8192, 1024]⟩
abbrev S8192x2048 : Shape := ⟨2, ![8192, 2048]⟩
abbrev S8192x512 : Shape := ⟨2, ![8192, 512]⟩
abbrev S256x1024 : Shape := ⟨2, ![256, 1024]⟩
abbrev S256x2048 : Shape := ⟨2, ![256, 2048]⟩
abbrev S256x512 : Shape := ⟨2, ![256, 512]⟩
abbrev S32x512 : Shape := ⟨2, ![32, 512]⟩
abbrev S8x288x512 : Shape := ⟨3, ![8, 288, 512]⟩
abbrev S6 : Shape := ⟨1, ![6]⟩
abbrev S1 : Shape := ⟨1, ![1]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S1x1024x512 : Shape := ⟨3, ![1, 1024, 512]⟩
abbrev S1024x512 : Shape := ⟨2, ![1024, 512]⟩
abbrev S288x512 : Shape := ⟨2, ![288, 512]⟩
abbrev S1x288x512 : Shape := ⟨3, ![1, 288, 512]⟩
abbrev S1x256x512 : Shape := ⟨3, ![1, 256, 512]⟩
abbrev S8x512 : Shape := ⟨2, ![8, 512]⟩

abbrev nBuf : Space → Nat
  | .hbm => 323
  | .vmem => 49
  | .smem => 0
  | _ => 0

abbrev hbmTy0_0 (i : Nat) : BufTy := match i % 128 with
  | 0 => ⟨S1x8192x1024, .f32⟩
  | 1 => ⟨S1x8192x1024, .f32⟩
  | 2 => ⟨S1x1024, .f32⟩
  | 3 => ⟨S1x1024, .f32⟩
  | 4 => ⟨S1x1024, .f32⟩
  | 5 => ⟨S1x1024, .f32⟩
  | 6 => ⟨S1x1024x2048, .f32⟩
  | 7 => ⟨S1x31x512, .f32⟩
  | 8 => ⟨S1x512, .f32⟩
  | 9 => ⟨S1x512, .f32⟩
  | 10 => ⟨S1x512, .f32⟩
  | 11 => ⟨S1x512, .f32⟩
  | 12 => ⟨S1x512, .f32⟩
  | 13 => ⟨S1x8x128x128, .f32⟩
  | 14 => ⟨S1x8x128, .f32⟩
  | 15 => ⟨S1x1024, .f32⟩
  | 16 => ⟨S1x1024x1024, .f32⟩
  | 17 => ⟨S_, .f32⟩
  | 18 => ⟨S128x128, .f32⟩
  | 19 => ⟨S128x128, .i32⟩
  | 20 => ⟨S_, .i32⟩
  | 21 => ⟨S128x128, .i32⟩
  | 22 => ⟨S128x128, .i32⟩
  | 23 => ⟨S128x128, .i32⟩
  | 24 => ⟨S128x128, .i1⟩
  | 25 => ⟨S_, .f32⟩
  | 26 => ⟨S128x128, .f32⟩
  | 27 => ⟨S128x128, .f32⟩
  | 28 => ⟨S1024, .f32⟩
  | 29 => ⟨S1x8192x1024, .f32⟩
  | 30 => ⟨S_, .f32⟩
  | 31 => ⟨S1x8192, .f32⟩
  | 32 => ⟨S1x8192x1, .f32⟩
  | 33 => ⟨S_, .f32⟩
  | 34 => ⟨S1x8192x1, .f32⟩
  | 35 => ⟨S1x8192x1, .f32⟩
  | 36 => ⟨S_, .f32⟩
  | 37 => ⟨S1x8192x1, .f32⟩
  | 38 => ⟨S1x8192x1, .f32⟩
  | 39 => ⟨S1x8192x1, .f32⟩
  | 40 => ⟨S1x8192x1024, .f32⟩
  | 41 => ⟨S1x8192x1024, .f32⟩
  | 42 => ⟨S1x1x1024, .f32⟩
  | 43 => ⟨S1x8192x1024, .f32⟩
  | 44 => ⟨S1x8192x1024, .f32⟩
  | 45 => ⟨S1x1x1024, .f32⟩
  | 46 => ⟨S_, .f32⟩
  | 47 => ⟨S1x1x1024, .f32⟩
  | 48 => ⟨S1x1x1024, .f32⟩
  | 49 => ⟨S1x8192x1024, .f32⟩
  | 50 => ⟨S1x8192x1024, .f32⟩
  | 51 => ⟨S1x1x1024, .f32⟩
  | 52 => ⟨S1x8192x1024, .f32⟩
  | 53 => ⟨S1x8192x1024, .f32⟩
  | 54 => ⟨S1024x2048, .f32⟩
  | 55 => ⟨S1x8192x2048, .f32⟩
  | 56 => ⟨S1x8192x512, .f32⟩
  | 57 => ⟨S1x8192x512, .f32⟩
  | 58 => ⟨S1x8192x512, .f32⟩
  | 59 => ⟨S1x8192x512, .f32⟩
  | 60 => ⟨S1x8192x512, .f32⟩
  | 61 => ⟨S1x8192x512, .f32⟩
  | 62 => ⟨S_, .f32⟩
  | 63 => ⟨S1x8192x512, .f32⟩
  | 64 => ⟨S1x8192x512, .f32⟩
  | 65 => ⟨S_, .f32⟩
  | 66 => ⟨S1x8192x512, .f32⟩
  | 67 => ⟨S1x8192x512, .f32⟩
  | 68 => ⟨S1x8192x512, .f32⟩
  | 69 => ⟨S31x512, .f32⟩
  | 70 => ⟨S512, .f32⟩
  | 71 => ⟨S_, .f32⟩
  | 72 => ⟨S1x30x512, .f32⟩
  | 73 => ⟨S1x8222x512, .f32⟩
  | 74 => ⟨S8192, .i32⟩
  | 75 => ⟨S8192x1, .i32⟩
  | 76 => ⟨S31, .i32⟩
  | 77 => ⟨S1x31, .i32⟩
  | 78 => ⟨S8192x31, .i32⟩
  | 79 => ⟨S8192x31, .i32⟩
  | 80 => ⟨S8192x31, .i32⟩
  | 81 => ⟨S_, .i32⟩
  | 82 => ⟨S8192x31, .i32⟩
  | 83 => ⟨S8192x31, .i1⟩
  | 84 => ⟨S_, .i32⟩
  | 85 => ⟨S8192x31, .i32⟩
  | 86 => ⟨S8192x31, .i32⟩
  | 87 => ⟨S8192x31, .i32⟩
  | 88 => ⟨S8192x31x1, .i32⟩
  | 89 => ⟨S1x8192x31x512, .f32⟩
  | 90 => ⟨S1x1x31x512, .f32⟩
  | 91 => ⟨S1x8192x31x512, .f32⟩
  | 92 => ⟨S1x8192x31x512, .f32⟩
  | 93 => ⟨S_, .f32⟩
  | 94 => ⟨S1x8192x512, .f32⟩
  | 95 => ⟨S1x1x512, .f32⟩
  | 96 => ⟨S1x8192x512, .f32⟩
  | 97 => ⟨S1x8192x512, .f32⟩
  | 98 => ⟨S512, .f32⟩
  | 99 => ⟨S512, .f32⟩
  | 100 => ⟨S_, .f32⟩
  | 101 => ⟨S1x8192, .f32⟩
  | 102 => ⟨S1x8192x1, .f32⟩
  | 103 => ⟨S_, .f32⟩
  | 104 => ⟨S1x8192x1, .f32⟩
  | 105 => ⟨S1x8192x1, .f32⟩
  | 106 => ⟨S1x8192x512, .f32⟩
  | 107 => ⟨S1x8192x512, .f32⟩
  | 108 => ⟨S1x8192x512, .f32⟩
  | 109 => ⟨S_, .f32⟩
  | 110 => ⟨S1x8192, .f32⟩
  | 111 => ⟨S1x8192x1, .f32⟩
  | 112 => ⟨S_, .f32⟩
  | 113 => ⟨S1x8192x1, .f32⟩
  | 114 => ⟨S1x8192x1, .f32⟩
  | 115 => ⟨S1x8192x512, .f32⟩
  | 116 => ⟨S1x8192x512, .f32⟩
  | 117 => ⟨S_, .f32⟩
  | 118 => ⟨S1x8192x1, .f32⟩
  | 119 => ⟨S1x8192x1, .f32⟩
  | 120 => ⟨S1x8192x1, .f32⟩
  | 121 => ⟨S1x8192x512, .f32⟩
  | 122 => ⟨S1x8192x512, .f32⟩
  | 123 => ⟨S1x1x512, .f32⟩
  | 124 => ⟨S1x8192x512, .f32⟩
  | 125 => ⟨S1x8192x512, .f32⟩
  | 126 => ⟨S1x1x512, .f32⟩
  | 127 => ⟨S1x8192x512, .f32⟩
  | _ => ⟨S1x8192x1024, .f32⟩

abbrev hbmTy0_1 (i : Nat) : BufTy := match i % 128 with
  | 0 => ⟨S1x8192x512, .f32⟩
  | 1 => ⟨S1x8192x512, .f32⟩
  | 2 => ⟨S1x8192x512, .f32⟩
  | 3 => ⟨S_, .f32⟩
  | 4 => ⟨S1x8192x512, .f32⟩
  | 5 => ⟨S1x8192x512, .f32⟩
  | 6 => ⟨S_, .f32⟩
  | 7 => ⟨S1x8192x512, .f32⟩
  | 8 => ⟨S1x8192x512, .f32⟩
  | 9 => ⟨S1x8192x512, .f32⟩
  | 10 => ⟨S1x8192x512, .f32⟩
  | 11 => ⟨S1x8192x512, .f32⟩
  | 12 => ⟨S_, .f32⟩
  | 13 => ⟨S1x8192x512, .f32⟩
  | 14 => ⟨S1x8192x512, .f32⟩
  | 15 => ⟨S1x8192x512, .f32⟩
  | 16 => ⟨S_, .f32⟩
  | 17 => ⟨S1x8192x512, .f32⟩
  | 18 => ⟨S1x8192x512, .f32⟩
  | 19 => ⟨S1x8192x512, .f32⟩
  | 20 => ⟨S_, .f32⟩
  | 21 => ⟨S1x8192x512, .f32⟩
  | 22 => ⟨S1x8192x512, .f32⟩
  | 23 => ⟨S_, .f32⟩
  | 24 => ⟨S1x8192x512, .f32⟩
  | 25 => ⟨S1x8192x512, .f32⟩
  | 26 => ⟨S1x8192x512, .f32⟩
  | 27 => ⟨S1x8192x512, .f32⟩
  | 28 => ⟨S1x8192x512, .f32⟩
  | 29 => ⟨S_, .f32⟩
  | 30 => ⟨S1x8192x512, .f32⟩
  | 31 => ⟨S1x8192x512, .f32⟩
  | 32 => ⟨S1x8192x512, .f32⟩
  | 33 => ⟨S_, .f32⟩
  | 34 => ⟨S1x8192x512, .f32⟩
  | 35 => ⟨S1x8192x512, .f32⟩
  | 36 => ⟨S1x8192x512, .f32⟩
  | 37 => ⟨S_, .f32⟩
  | 38 => ⟨S1x8192x512, .f32⟩
  | 39 => ⟨S1x8192x512, .f32⟩
  | 40 => ⟨S_, .f32⟩
  | 41 => ⟨S1x8192x512, .f32⟩
  | 42 => ⟨S1x8192x512, .f32⟩
  | 43 => ⟨S1x8192x512, .f32⟩
  | 44 => ⟨S512, .f32⟩
  | 45 => ⟨S512, .f32⟩
  | 46 => ⟨S_, .f32⟩
  | 47 => ⟨S1x8192, .f32⟩
  | 48 => ⟨S1x8192x1, .f32⟩
  | 49 => ⟨S_, .f32⟩
  | 50 => ⟨S1x8192x1, .f32⟩
  | 51 => ⟨S1x8192x1, .f32⟩
  | 52 => ⟨S1x8192x512, .f32⟩
  | 53 => ⟨S1x8192x512, .f32⟩
  | 54 => ⟨S1x8192x512, .f32⟩
  | 55 => ⟨S_, .f32⟩
  | 56 => ⟨S1x8192, .f32⟩
  | 57 => ⟨S1x8192x1, .f32⟩
  | 58 => ⟨S_, .f32⟩
  | 59 => ⟨S1x8192x1, .f32⟩
  | 60 => ⟨S1x8192x1, .f32⟩
  | 61 => ⟨S1x8192x512, .f32⟩
  | 62 => ⟨S1x8192x512, .f32⟩
  | 63 => ⟨S_, .f32⟩
  | 64 => ⟨S1x8192x1, .f32⟩
  | 65 => ⟨S1x8192x1, .f32⟩
  | 66 => ⟨S1x8192x1, .f32⟩
  | 67 => ⟨S1x8192x512, .f32⟩
  | 68 => ⟨S1x8192x512, .f32⟩
  | 69 => ⟨S1x1x512, .f32⟩
  | 70 => ⟨S1x8192x512, .f32⟩
  | 71 => ⟨S1x8192x512, .f32⟩
  | 72 => ⟨S1x1x512, .f32⟩
  | 73 => ⟨S1x8192x512, .f32⟩
  | 74 => ⟨S1x8192x512, .f32⟩
  | 75 => ⟨S8x128x128, .f32⟩
  | 76 => ⟨S1x128x128, .f32⟩
  | 77 => ⟨S8x128x128, .f32⟩
  | 78 => ⟨S8x128x128, .f32⟩
  | 79 => ⟨S1x64x128x8x64, .f32⟩
  | 80 => ⟨S128x128x8, .f32⟩
  | 81 => ⟨S1x1x128x128x8x1, .f32⟩
  | 82 => ⟨S1x64x1x128x8x64, .f32⟩
  | 83 => ⟨S1x64x128x128x8x64, .f32⟩
  | 84 => ⟨S1x64x128x128x8x64, .f32⟩
  | 85 => ⟨S1x64x128x128x8x64, .f32⟩
  | 86 => ⟨S_, .f32⟩
  | 87 => ⟨S1x64x128x8x64, .f32⟩
  | 88 => ⟨S8x128, .f32⟩
  | 89 => ⟨S128x8, .f32⟩
  | 90 => ⟨S1x1x128x8x1, .f32⟩
  | 91 => ⟨S1x64x128x8x64, .f32⟩
  | 92 => ⟨S1x64x128x8x64, .f32⟩
  | 93 => ⟨S1x8192x512, .f32⟩
  | 94 => ⟨S1x512, .f32⟩
  | 95 => ⟨S512, .f32⟩
  | 96 => ⟨S1x8192x512, .f32⟩
  | 97 => ⟨S_, .f32⟩
  | 98 => ⟨S1x8192, .f32⟩
  | 99 => ⟨S1x8192x1, .f32⟩
  | 100 => ⟨S_, .f32⟩
  | 101 => ⟨S1x8192x1, .f32⟩
  | 102 => ⟨S1x8192x1, .f32⟩
  | 103 => ⟨S_, .f32⟩
  | 104 => ⟨S1x8192x1, .f32⟩
  | 105 => ⟨S1x8192x1, .f32⟩
  | 106 => ⟨S1x8192x1, .f32⟩
  | 107 => ⟨S1x8192x512, .f32⟩
  | 108 => ⟨S1x8192x512, .f32⟩
  | 109 => ⟨S1x1x512, .f32⟩
  | 110 => ⟨S1x8192x512, .f32⟩
  | 111 => ⟨S1x8192x512, .f32⟩
  | 112 => ⟨S1x8192x512, .f32⟩
  | 113 => ⟨S1x512, .f32⟩
  | 114 => ⟨S512, .f32⟩
  | 115 => ⟨S1x8192x512, .f32⟩
  | 116 => ⟨S_, .f32⟩
  | 117 => ⟨S1x8192, .f32⟩
  | 118 => ⟨S1x8192x1, .f32⟩
  | 119 => ⟨S_, .f32⟩
  | 120 => ⟨S1x8192x1, .f32⟩
  | 121 => ⟨S1x8192x1, .f32⟩
  | 122 => ⟨S_, .f32⟩
  | 123 => ⟨S1x8192x1, .f32⟩
  | 124 => ⟨S1x8192x1, .f32⟩
  | 125 => ⟨S1x8192x1, .f32⟩
  | 126 => ⟨S1x8192x512, .f32⟩
  | 127 => ⟨S1x8192x512, .f32⟩
  | _ => ⟨S1x8192x1024, .f32⟩

abbrev hbmTy0_2 (i : Nat) : BufTy := match i % 128 with
  | 0 => ⟨S1x1x512, .f32⟩
  | 1 => ⟨S1x8192x512, .f32⟩
  | 2 => ⟨S1x8192x512, .f32⟩
  | 3 => ⟨S1x8192x1024, .f32⟩
  | 4 => ⟨S1024x1024, .f32⟩
  | 5 => ⟨S1x8192x1024, .f32⟩
  | 6 => ⟨S1x1x1024, .f32⟩
  | 7 => ⟨S1x8192x1024, .f32⟩
  | 8 => ⟨S1x8192x1024, .f32⟩
  | 9 => ⟨S1x8192x1024, .f32⟩
  | 10 => ⟨S8x128x128, .f32⟩
  | 11 => ⟨S8x128, .f32⟩
  | 12 => ⟨S_, .f32⟩
  | 13 => ⟨S128x128, .f32⟩
  | 14 => ⟨S128x128, .i32⟩
  | 15 => ⟨S_, .i32⟩
  | 16 => ⟨S128x128, .i32⟩
  | 17 => ⟨S128x128, .i32⟩
  | 18 => ⟨S128x128, .i32⟩
  | 19 => ⟨S128x128, .i1⟩
  | 20 => ⟨S_, .f32⟩
  | 21 => ⟨S128x128, .f32⟩
  | 22 => ⟨S128x128, .f32⟩
  | 23 => ⟨S1x128x128, .f32⟩
  | 24 => ⟨S8x128x128, .f32⟩
  | 25 => ⟨S8x128x128, .f32⟩
  | 26 => ⟨S4x256x128, .f32⟩
  | 27 => ⟨S4x256x128, .bf16⟩
  | 28 => ⟨S8x128x128, .f32⟩
  | 29 => ⟨S4x256x128, .f32⟩
  | 30 => ⟨S4x256x128, .bf16⟩
  | 31 => ⟨S128x8, .f32⟩
  | 32 => ⟨S128x8x64, .f32⟩
  | 33 => ⟨S128x512, .f32⟩
  | 34 => ⟨S1024x2048, .f32⟩
  | 35 => ⟨S1024x4x512, .f32⟩
  | 36 => ⟨S4x1024x512, .f32⟩
  | 37 => ⟨S4x1024x512, .bf16⟩
  | 38 => ⟨S8192x1024, .f32⟩
  | 39 => ⟨S8192x1024, .f32⟩
  | 40 => ⟨S8192x2048, .f32⟩
  | 41 => ⟨S8192x512, .f32⟩
  | 42 => ⟨S8192x512, .f32⟩
  | 43 => ⟨S8192x1024, .f32⟩
  | 44 => ⟨S8192x1024, .bf16⟩
  | 45 => ⟨S8192x1024, .f32⟩
  | 46 => ⟨S31x512, .f32⟩
  | 47 => ⟨S1024x1024, .f32⟩
  | 48 => ⟨S1024x1024, .bf16⟩
  | 49 => ⟨S8192x1024, .f32⟩
  | 50 => ⟨S1x1024, .f32⟩
  | 51 => ⟨S1x1024, .f32⟩
  | 52 => ⟨S1x1024, .f32⟩
  | 53 => ⟨S1x1024, .f32⟩
  | 54 => ⟨S31x512, .f32⟩
  | 55 => ⟨S1x512, .f32⟩
  | 56 => ⟨S1x512, .f32⟩
  | 57 => ⟨S1x512, .f32⟩
  | 58 => ⟨S1x512, .f32⟩
  | 59 => ⟨S1x512, .f32⟩
  | 60 => ⟨S1x1024, .f32⟩
  | 61 => ⟨S8x128x128, .f32⟩
  | 62 => ⟨S8x128, .f32⟩
  | 63 => ⟨S4x1024x512, .f32⟩
  | 64 => ⟨S1024x1024, .f32⟩
  | 65 => ⟨S4x1024x512, .bf16⟩
  | 66 => ⟨S1024x1024, .bf16⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x1024, .f32⟩
  | .local _ .vmem, ⟨23, _⟩ => ⟨S31x512, .f32⟩
  | .local _ .vmem, ⟨24, _⟩ => ⟨S4x256x128, .bf16⟩
  | .local _ .vmem, ⟨25, _⟩ => ⟨S4x256x128, .bf16⟩
  | .local _ .vmem, ⟨26, _⟩ => ⟨S128x128, .f32⟩
  | .local _ .vmem, ⟨27, _⟩ => ⟨S256x1024, .f32⟩
  | .local _ .vmem, ⟨28, _⟩ => ⟨S256x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S31x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x1024, .f32⟩
  | .local _ .vmem, ⟨40, _⟩ => ⟨S8x128x128, .f32⟩
  | .local _ .vmem, ⟨41, _⟩ => ⟨S8x128, .f32⟩
  | .local _ .vmem, ⟨42, _⟩ => ⟨S4x1024x512, .bf16⟩
  | .local _ .vmem, ⟨43, _⟩ => ⟨S1024x1024, .bf16⟩
  | .local _ .vmem, ⟨44, _⟩ => ⟨S4x1024x512, .f32⟩
  | .local _ .vmem, ⟨45, _⟩ => ⟨S1024x1024, .f32⟩
  | .local _ .vmem, ⟨46, _⟩ => ⟨S32x512, .f32⟩
  | .local _ .vmem, ⟨47, _⟩ => ⟨S8x288x512, .f32⟩
  | .local _ .vmem, ⟨48, _⟩ => ⟨S128x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_cst_1 : Ref sig .tc := ⟨.hbm, 33, rfl⟩
abbrev main_v6 : Ref sig .tc := ⟨.hbm, 34, rfl⟩
abbrev main_v7 : Ref sig .tc := ⟨.hbm, 35, rfl⟩
abbrev main_cst_2 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c : Ref sig .tc := ⟨.hbm, 81, rfl⟩
abbrev main_v48 : Ref sig .tc := ⟨.hbm, 82, rfl⟩
abbrev main_v49 : Ref sig .tc := ⟨.hbm, 83, rfl⟩
abbrev main_c_7 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_8 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_9 : Ref sig .tc := ⟨.hbm, 100, rfl⟩
abbrev main_v64 : Ref sig .tc := ⟨.hbm, 101, rfl⟩
abbrev main_v65 : Ref sig .tc := ⟨.hbm, 102, rfl⟩
abbrev main_cst_10 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_11 : Ref sig .tc := ⟨.hbm, 109, rfl⟩
abbrev main_v71 : Ref sig .tc := ⟨.hbm, 110, rfl⟩
abbrev main_v72 : Ref sig .tc := ⟨.hbm, 111, rfl⟩
abbrev main_cst_12 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_13 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call1_v0 : Ref sig .tc := ⟨.hbm, 129, rfl⟩
abbrev main_call1_v1 : Ref sig .tc := ⟨.hbm, 130, rfl⟩
abbrev main_call1_cst : Ref sig .tc := ⟨.hbm, 131, rfl⟩
abbrev main_call1_v2 : Ref sig .tc := ⟨.hbm, 132, rfl⟩
abbrev main_call1_v3 : Ref sig .tc := ⟨.hbm, 133, rfl⟩
abbrev main_call1_cst_0 : Ref sig .tc := ⟨.hbm, 134, rfl⟩
abbrev main_call1_v4 : Ref sig .tc := ⟨.hbm, 135, rfl⟩
abbrev main_call1_v5 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_14 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_15 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_16 : Ref sig .tc := ⟨.hbm, 148, rfl⟩
abbrev main_v97 : Ref sig .tc := ⟨.hbm, 149, rfl⟩
abbrev main_v98 : Ref sig .tc := ⟨.hbm, 150, rfl⟩
abbrev main_cst_17 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_18 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_19 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_20 : Ref sig .tc := ⟨.hbm, 165, rfl⟩
abbrev main_v110 : Ref sig .tc := ⟨.hbm, 166, rfl⟩
abbrev main_v111 : Ref sig .tc := ⟨.hbm, 167, rfl⟩
abbrev main_cst_21 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_22 : Ref sig .tc := ⟨.hbm, 174, rfl⟩
abbrev main_v117 : Ref sig .tc := ⟨.hbm, 175, rfl⟩
abbrev main_v118 : Ref sig .tc := ⟨.hbm, 176, rfl⟩
abbrev main_cst_23 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_24 : Ref sig .tc := ⟨.hbm, 183, rfl⟩
abbrev main_v124 : Ref sig .tc := ⟨.hbm, 184, rfl⟩
abbrev main_v125 : Ref sig .tc := ⟨.hbm, 185, rfl⟩
abbrev main_cst_25 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_26 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_27 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_28 : Ref sig .tc := ⟨.hbm, 225, rfl⟩
abbrev main_v162 : Ref sig .tc := ⟨.hbm, 226, rfl⟩
abbrev main_v163 : Ref sig .tc := ⟨.hbm, 227, rfl⟩
abbrev main_cst_29 : Ref sig .tc := ⟨.hbm, 228, rfl⟩
abbrev main_v164 : Ref sig .tc := ⟨.hbm, 229, rfl⟩
abbrev main_v165 : Ref sig .tc := ⟨.hbm, 230, rfl⟩
abbrev main_cst_30 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_31 : Ref sig .tc := ⟨.hbm, 244, rfl⟩
abbrev main_v178 : Ref sig .tc := ⟨.hbm, 245, rfl⟩
abbrev main_v179 : Ref sig .tc := ⟨.hbm, 246, rfl⟩
abbrev main_cst_32 : Ref sig .tc := ⟨.hbm, 247, rfl⟩
abbrev main_v180 : Ref sig .tc := ⟨.hbm, 248, rfl⟩
abbrev main_v181 : Ref sig .tc := ⟨.hbm, 249, rfl⟩
abbrev main_cst_33 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_cst_34 : Ref sig .tc := ⟨.hbm, 268, rfl⟩
abbrev main_v199 : Ref sig .tc := ⟨.hbm, 269, rfl⟩
abbrev main_call2_v0 : Ref sig .tc := ⟨.hbm, 270, rfl⟩
abbrev main_call2_c : Ref sig .tc := ⟨.hbm, 271, rfl⟩
abbrev main_call2_v1 : Ref sig .tc := ⟨.hbm, 272, rfl⟩
abbrev main_call2_v2 : Ref sig .tc := ⟨.hbm, 273, rfl⟩
abbrev main_call2_v3 : Ref sig .tc := ⟨.hbm, 274, rfl⟩
abbrev main_call2_v4 : Ref sig .tc := ⟨.hbm, 275, rfl⟩
abbrev main_call2_cst : Ref sig .tc := ⟨.hbm, 276, rfl⟩
abbrev main_call2_v5 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227_0 : Ref sig .tc := ⟨.hbm, 305, rfl⟩
abbrev main_v227_1 : Ref sig .tc := ⟨.hbm, 306, rfl⟩
abbrev main_v227_2 : Ref sig .tc := ⟨.hbm, 307, rfl⟩
abbrev main_v227_3 : Ref sig .tc := ⟨.hbm, 308, rfl⟩
abbrev main_v227_4 : Ref sig .tc := ⟨.hbm, 309, rfl⟩
abbrev main_v227_5 : Ref sig .tc := ⟨.hbm, 310, rfl⟩
abbrev main_v227_6 : Ref sig .tc := ⟨.hbm, 311, rfl⟩
abbrev main_v227_7 : Ref sig .tc := ⟨.hbm, 312, rfl⟩
abbrev main_v227_8 : Ref sig .tc := ⟨.hbm, 313, rfl⟩
abbrev main_v227_9 : Ref sig .tc := ⟨.hbm, 314, rfl⟩
abbrev main_v227_10 : Ref sig .tc := ⟨.hbm, 315, rfl⟩
abbrev main_v227_11 : Ref sig .tc := ⟨.hbm, 316, rfl⟩
abbrev main_v227_12 : Ref sig .tc := ⟨.hbm, 317, rfl⟩
abbrev main_v227_13 : Ref sig .tc := ⟨.hbm, 318, rfl⟩
abbrev main_v227_14 : Ref sig .tc := ⟨.hbm, 319, rfl⟩
abbrev main_v227_15 : Ref sig .tc := ⟨.hbm, 320, rfl⟩
abbrev main_v227_16 : Ref sig .tc := ⟨.hbm, 321, rfl⟩
abbrev main_v227_17 : Ref sig .tc := ⟨.hbm, 322, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg27_0 : Ref sig .tc := ⟨.vmem, 35, rfl⟩
abbrev cc0_stg28_0 : Ref sig .tc := ⟨.vmem, 36, rfl⟩
abbrev cc0_stg29_0 : Ref sig .tc := ⟨.vmem, 37, rfl⟩
abbrev cc0_stg30_0 : Ref sig .tc := ⟨.vmem, 38, rfl⟩
abbrev cc0_stg31_0 : Ref sig .tc := ⟨.vmem, 39, rfl⟩
abbrev cc0_stg32_0 : Ref sig .tc := ⟨.vmem, 40, rfl⟩
abbrev cc0_stg33_0 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_scratch4 : Ref sig .tc := ⟨.vmem, 46, rfl⟩
abbrev cc0_scratch5 : Ref sig .tc := ⟨.vmem, 47, rfl⟩
abbrev cc0_scratch6 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem20_1 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34
abbrev cc0_sem27_0 : DmaSem sig := 35
abbrev cc0_sem28_0 : DmaSem sig := 36
abbrev cc0_sem29_0 : DmaSem sig := 37
abbrev cc0_sem30_0 : DmaSem sig := 38
abbrev cc0_sem31_0 : DmaSem sig := 39
abbrev cc0_sem32_0 : DmaSem sig := 40
abbrev cc0_sem33_0 : DmaSem sig := 41

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v1142 : BitVec 1 := Scalar.cmpi .eq arg0 c31_i32
  let v1143 : BitVec 32 := Scalar.extui v1142
  let c0_i32_682 : BitVec 32 := 0#32
  let v1144 : BitVec 1 := Scalar.cmpi .ne v1143 c0_i32_682
  v1144

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S31x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x256x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S31x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S8x128x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S8x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]
-- ==== ReferenceMixIdeal.lean ====
abbrev S1x8192x1024 : Shape := ⟨3, ![1, 8192, 1024]⟩
abbrev S1x1024 : Shape := ⟨2, ![1, 1024]⟩
abbrev S1x1024x2048 : Shape := ⟨3, ![1, 1024, 2048]⟩
abbrev S1x31x512 : Shape := ⟨3, ![1, 31, 512]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S_ : Shape := ⟨0, ![]⟩
abbrev S128x128 : Shape := ⟨2, ![128, 128]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x2048 : Shape := ⟨2, ![1024, 2048]⟩
abbrev S1x8192x2048 : Shape := ⟨3, ![1, 8192, 2048]⟩
abbrev S1x8192x512 : Shape := ⟨3, ![1, 8192, 512]⟩
abbrev S31x512 : Shape := ⟨2, ![31, 512]⟩
abbrev S512 : Shape := ⟨1, ![512]⟩
abbrev S1x30x512 : Shape := ⟨3, ![1, 30, 512]⟩
abbrev S1x8222x512 : Shape := ⟨3, ![1, 8222, 512]⟩
abbrev S8192 : Shape := ⟨1, ![8192]⟩
abbrev S8192x1 : Shape := ⟨2, ![8192, 1]⟩
abbrev S31 : Shape := ⟨1, ![31]⟩
abbrev S1x31 : Shape := ⟨2, ![1, 31]⟩
abbrev S8192x31 : Shape := ⟨2, ![8192, 31]⟩
abbrev S8192x31x1 : Shape := ⟨3, ![8192, 31, 1]⟩
abbrev S1x8192x31x512 : Shape := ⟨4, ![1, 8192, 31, 512]⟩
abbrev S1x1x31x512 : Shape := ⟨4, ![1, 1, 31, 512]⟩
abbrev S1x1x512 : Shape := ⟨3, ![1, 1, 512]⟩
abbrev S8x128x128 : Shape := ⟨3, ![8, 128, 128]⟩
abbrev S1x128x128 : Shape := ⟨3, ![1, 128, 128]⟩
abbrev S1x64x128x8x64 : Shape := ⟨5, ![1, 64, 128, 8, 64]⟩
abbrev S8x1x64x64x128 : Shape := ⟨5, ![8, 1, 64, 64, 128]⟩
abbrev S8x128 : Shape := ⟨2, ![8, 128]⟩
abbrev S128x8 : Shape := ⟨2, ![128, 8]⟩
abbrev S1x1x128x8x1 : Shape := ⟨5, ![1, 1, 128, 8, 1]⟩
abbrev S1024x1024 : Shape := ⟨2, ![1024, 1024]⟩
abbrev S1x128x8 : Shape := ⟨3, ![1, 128, 8]⟩

abbrev nBuf : Space → Nat
  | .hbm => 318
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x1024, .f32⟩
  | 3 => ⟨S1x1024, .f32⟩
  | 4 => ⟨S1x1024, .f32⟩
  | 5 => ⟨S1x1024, .f32⟩
  | 6 => ⟨S1x1024x2048, .f32⟩
  | 7 => ⟨S1x31x512, .f32⟩
  | 8 => ⟨S1x512, .f32⟩
  | 9 => ⟨S1x512, .f32⟩
  | 10 => ⟨S1x512, .f32⟩
  | 11 => ⟨S1x512, .f32⟩
  | 12 => ⟨S1x512, .f32⟩
  | 13 => ⟨S1x8x128x128, .f32⟩
  | 14 => ⟨S1x8x128, .f32⟩
  | 15 => ⟨S1x1024, .f32⟩
  | 16 => ⟨S1x1024x1024, .f32⟩
  | 17 => ⟨S_, .f32⟩
  | 18 => ⟨S128x128, .f32⟩
  | 19 => ⟨S128x128, .i32⟩
  | 20 => ⟨S_, .i32⟩
  | 21 => ⟨S128x128, .i32⟩
  | 22 => ⟨S128x128, .i32⟩
  | 23 => ⟨S128x128, .i32⟩
  | 24 => ⟨S128x128, .i1⟩
  | 25 => ⟨S_, .f32⟩
  | 26 => ⟨S128x128, .f32⟩
  | 27 => ⟨S128x128, .f32⟩
  | 28 => ⟨S1024, .f32⟩
  | 29 => ⟨S1x8192x1024, .f32⟩
  | 30 => ⟨S_, .f32⟩
  | 31 => ⟨S1x8192, .f32⟩
  | 32 => ⟨S1x8192x1, .f32⟩
  | 33 => ⟨S_, .f32⟩
  | 34 => ⟨S1x8192x1, .f32⟩
  | 35 => ⟨S1x8192x1, .f32⟩
  | 36 => ⟨S_, .f32⟩
  | 37 => ⟨S1x8192x1, .f32⟩
  | 38 => ⟨S1x8192x1, .f32⟩
  | 39 => ⟨S1x8192x1, .f32⟩
  | 40 => ⟨S1x8192x1024, .f32⟩
  | 41 => ⟨S1x8192x1024, .f32⟩
  | 42 => ⟨S1x1x1024, .f32⟩
  | 43 => ⟨S1x8192x1024, .f32⟩
  | 44 => ⟨S1x8192x1024, .f32⟩
  | 45 => ⟨S1x1x1024, .f32⟩
  | 46 => ⟨S_, .f32⟩
  | 47 => ⟨S1x1x1024, .f32⟩
  | 48 => ⟨S1x1x1024, .f32⟩
  | 49 => ⟨S1x8192x1024, .f32⟩
  | 50 => ⟨S1x8192x1024, .f32⟩
  | 51 => ⟨S1x1x1024, .f32⟩
  | 52 => ⟨S1x8192x1024, .f32⟩
  | 53 => ⟨S1x8192x1024, .f32⟩
  | 54 => ⟨S1024x2048, .f32⟩
  | 55 => ⟨S1x8192x2048, .f32⟩
  | 56 => ⟨S1x8192x512, .f32⟩
  | 57 => ⟨S1x8192x512, .f32⟩
  | 58 => ⟨S1x8192x512, .f32⟩
  | 59 => ⟨S1x8192x512, .f32⟩
  | 60 => ⟨S1x8192x512, .f32⟩
  | 61 => ⟨S1x8192x512, .f32⟩
  | 62 => ⟨S_, .f32⟩
  | 63 => ⟨S1x8192x512, .f32⟩
  | 64 => ⟨S1x8192x512, .f32⟩
  | 65 => ⟨S_, .f32⟩
  | 66 => ⟨S1x8192x512, .f32⟩
  | 67 => ⟨S1x8192x512, .f32⟩
  | 68 => ⟨S1x8192x512, .f32⟩
  | 69 => ⟨S31x512, .f32⟩
  | 70 => ⟨S512, .f32⟩
  | 71 => ⟨S_, .f32⟩
  | 72 => ⟨S1x30x512, .f32⟩
  | 73 => ⟨S1x8222x512, .f32⟩
  | 74 => ⟨S8192, .i32⟩
  | 75 => ⟨S8192x1, .i32⟩
  | 76 => ⟨S31, .i32⟩
  | 77 => ⟨S1x31, .i32⟩
  | 78 => ⟨S8192x31, .i32⟩
  | 79 => ⟨S8192x31, .i32⟩
  | 80 => ⟨S8192x31, .i32⟩
  | 81 => ⟨S_, .i32⟩
  | 82 => ⟨S8192x31, .i32⟩
  | 83 => ⟨S8192x31, .i1⟩
  | 84 => ⟨S_, .i32⟩
  | 85 => ⟨S8192x31, .i32⟩
  | 86 => ⟨S8192x31, .i32⟩
  | 87 => ⟨S8192x31, .i32⟩
  | 88 => ⟨S8192x31x1, .i32⟩
  | 89 => ⟨S1x8192x31x512, .f32⟩
  | 90 => ⟨S1x1x31x512, .f32⟩
  | 91 => ⟨S1x8192x31x512, .f32⟩
  | 92 => ⟨S1x8192x31x512, .f32⟩
  | 93 => ⟨S_, .f32⟩
  | 94 => ⟨S1x8192x512, .f32⟩
  | 95 => ⟨S1x1x512, .f32⟩
  | 96 => ⟨S1x8192x512, .f32⟩
  | 97 => ⟨S1x8192x512, .f32⟩
  | 98 => ⟨S512, .f32⟩
  | 99 => ⟨S512, .f32⟩
  | 100 => ⟨S_, .f32⟩
  | 101 => ⟨S1x8192, .f32⟩
  | 102 => ⟨S1x8192x1, .f32⟩
  | 103 => ⟨S_, .f32⟩
  | 104 => ⟨S1x8192x1, .f32⟩
  | 105 => ⟨S1x8192x1, .f32⟩
  | 106 => ⟨S1x8192x512, .f32⟩
  | 107 => ⟨S1x8192x512, .f32⟩
  | 108 => ⟨S1x8192x512, .f32⟩
  | 109 => ⟨S_, .f32⟩
  | 110 => ⟨S1x8192, .f32⟩
  | 111 => ⟨S1x8192x1, .f32⟩
  | 112 => ⟨S_, .f32⟩
  | 113 => ⟨S1x8192x1, .f32⟩
  | 114 => ⟨S1x8192x1, .f32⟩
  | 115 => ⟨S1x8192x512, .f32⟩
  | 116 => ⟨S1x8192x512, .f32⟩
  | 117 => ⟨S_, .f32⟩
  | 118 => ⟨S1x8192x1, .f32⟩
  | 119 => ⟨S1x8192x1, .f32⟩
  | 120 => ⟨S1x8192x1, .f32⟩
  | 121 => ⟨S1x8192x512, .f32⟩
  | 122 => ⟨S1x8192x512, .f32⟩
  | 123 => ⟨S1x1x512, .f32⟩
  | 124 => ⟨S1x8192x512, .f32⟩
  | 125 => ⟨S1x8192x512, .f32⟩
  | 126 => ⟨S1x1x512, .f32⟩
  | 127 => ⟨S1x8192x512, .f32⟩
  | _ => ⟨S1x8192x1024, .f32⟩

abbrev hbmTy0_1 (i : Nat) : BufTy := match i % 128 with
  | 0 => ⟨S1x8192x512, .f32⟩
  | 1 => ⟨S1x8192x512, .f32⟩
  | 2 => ⟨S1x8192x512, .f32⟩
  | 3 => ⟨S_, .f32⟩
  | 4 => ⟨S1x8192x512, .f32⟩
  | 5 => ⟨S1x8192x512, .f32⟩
  | 6 => ⟨S_, .f32⟩
  | 7 => ⟨S1x8192x512, .f32⟩
  | 8 => ⟨S1x8192x512, .f32⟩
  | 9 => ⟨S1x8192x512, .f32⟩
  | 10 => ⟨S1x8192x512, .f32⟩
  | 11 => ⟨S1x8192x512, .f32⟩
  | 12 => ⟨S_, .f32⟩
  | 13 => ⟨S1x8192x512, .f32⟩
  | 14 => ⟨S1x8192x512, .f32⟩
  | 15 => ⟨S1x8192x512, .f32⟩
  | 16 => ⟨S_, .f32⟩
  | 17 => ⟨S1x8192x512, .f32⟩
  | 18 => ⟨S1x8192x512, .f32⟩
  | 19 => ⟨S1x8192x512, .f32⟩
  | 20 => ⟨S_, .f32⟩
  | 21 => ⟨S1x8192x512, .f32⟩
  | 22 => ⟨S1x8192x512, .f32⟩
  | 23 => ⟨S_, .f32⟩
  | 24 => ⟨S1x8192x512, .f32⟩
  | 25 => ⟨S1x8192x512, .f32⟩
  | 26 => ⟨S1x8192x512, .f32⟩
  | 27 => ⟨S1x8192x512, .f32⟩
  | 28 => ⟨S1x8192x512, .f32⟩
  | 29 => ⟨S_, .f32⟩
  | 30 => ⟨S1x8192x512, .f32⟩
  | 31 => ⟨S1x8192x512, .f32⟩
  | 32 => ⟨S1x8192x512, .f32⟩
  | 33 => ⟨S_, .f32⟩
  | 34 => ⟨S1x8192x512, .f32⟩
  | 35 => ⟨S1x8192x512, .f32⟩
  | 36 => ⟨S1x8192x512, .f32⟩
  | 37 => ⟨S_, .f32⟩
  | 38 => ⟨S1x8192x512, .f32⟩
  | 39 => ⟨S1x8192x512, .f32⟩
  | 40 => ⟨S_, .f32⟩
  | 41 => ⟨S1x8192x512, .f32⟩
  | 42 => ⟨S1x8192x512, .f32⟩
  | 43 => ⟨S1x8192x512, .f32⟩
  | 44 => ⟨S512, .f32⟩
  | 45 => ⟨S512, .f32⟩
  | 46 => ⟨S_, .f32⟩
  | 47 => ⟨S1x8192, .f32⟩
  | 48 => ⟨S1x8192x1, .f32⟩
  | 49 => ⟨S_, .f32⟩
  | 50 => ⟨S1x8192x1, .f32⟩
  | 51 => ⟨S1x8192x1, .f32⟩
  | 52 => ⟨S1x8192x512, .f32⟩
  | 53 => ⟨S1x8192x512, .f32⟩
  | 54 => ⟨S1x8192x512, .f32⟩
  | 55 => ⟨S_, .f32⟩
  | 56 => ⟨S1x8192, .f32⟩
  | 57 => ⟨S1x8192x1, .f32⟩
  | 58 => ⟨S_, .f32⟩
  | 59 => ⟨S1x8192x1, .f32⟩
  | 60 => ⟨S1x8192x1, .f32⟩
  | 61 => ⟨S1x8192x512, .f32⟩
  | 62 => ⟨S1x8192x512, .f32⟩
  | 63 => ⟨S_, .f32⟩
  | 64 => ⟨S1x8192x1, .f32⟩
  | 65 => ⟨S1x8192x1, .f32⟩
  | 66 => ⟨S1x8192x1, .f32⟩
  | 67 => ⟨S1x8192x512, .f32⟩
  | 68 => ⟨S1x8192x512, .f32⟩
  | 69 => ⟨S1x1x512, .f32⟩
  | 70 => ⟨S1x8192x512, .f32⟩
  | 71 => ⟨S1x8192x512, .f32⟩
  | 72 => ⟨S1x1x512, .f32⟩
  | 73 => ⟨S1x8192x512, .f32⟩
  | 74 => ⟨S1x8192x512, .f32⟩
  | 75 => ⟨S8x128x128, .f32⟩
  | 76 => ⟨S1x128x128, .f32⟩
  | 77 => ⟨S8x128x128, .f32⟩
  | 78 => ⟨S8x128x128, .f32⟩
  | 79 => ⟨S1x64x128x8x64, .f32⟩
  | 80 => ⟨S8x1x64x64x128, .f32⟩
  | 81 => ⟨S1x64x128x8x64, .f32⟩
  | 82 => ⟨S8x128, .f32⟩
  | 83 => ⟨S128x8, .f32⟩
  | 84 => ⟨S1x1x128x8x1, .f32⟩
  | 85 => ⟨S1x64x128x8x64, .f32⟩
  | 86 => ⟨S1x64x128x8x64, .f32⟩
  | 87 => ⟨S1x8192x512, .f32⟩
  | 88 => ⟨S1x512, .f32⟩
  | 89 => ⟨S512, .f32⟩
  | 90 => ⟨S1x8192x512, .f32⟩
  | 91 => ⟨S_, .f32⟩
  | 92 => ⟨S1x8192, .f32⟩
  | 93 => ⟨S1x8192x1, .f32⟩
  | 94 => ⟨S_, .f32⟩
  | 95 => ⟨S1x8192x1, .f32⟩
  | 96 => ⟨S1x8192x1, .f32⟩
  | 97 => ⟨S_, .f32⟩
  | 98 => ⟨S1x8192x1, .f32⟩
  | 99 => ⟨S1x8192x1, .f32⟩
  | 100 => ⟨S1x8192x1, .f32⟩
  | 101 => ⟨S1x8192x512, .f32⟩
  | 102 => ⟨S1x8192x512, .f32⟩
  | 103 => ⟨S1x1x512, .f32⟩
  | 104 => ⟨S1x8192x512, .f32⟩
  | 105 => ⟨S1x8192x512, .f32⟩
  | 106 => ⟨S1x8192x512, .f32⟩
  | 107 => ⟨S1x512, .f32⟩
  | 108 => ⟨S512, .f32⟩
  | 109 => ⟨S1x8192x512, .f32⟩
  | 110 => ⟨S_, .f32⟩
  | 111 => ⟨S1x8192, .f32⟩
  | 112 => ⟨S1x8192x1, .f32⟩
  | 113 => ⟨S_, .f32⟩
  | 114 => ⟨S1x8192x1, .f32⟩
  | 115 => ⟨S1x8192x1, .f32⟩
  | 116 => ⟨S_, .f32⟩
  | 117 => ⟨S1x8192x1, .f32⟩
  | 118 => ⟨S1x8192x1, .f32⟩
  | 119 => ⟨S1x8192x1, .f32⟩
  | 120 => ⟨S1x8192x1, .f32⟩
  | 121 => ⟨S_, .f32⟩
  | 122 => ⟨S1x8192x1, .f32⟩
  | 123 => ⟨S1x8192x1, .f32⟩
  | 124 => ⟨S1x8192x512, .f32⟩
  | 125 => ⟨S1x8192x512, .f32⟩
  | 126 => ⟨S1x1x512, .f32⟩
  | 127 => ⟨S1x8192x512, .f32⟩
  | _ => ⟨S1x8192x1024, .f32⟩

abbrev hbmTy0_2 (i : Nat) : BufTy := match i % 128 with
  | 0 => ⟨S1x8192x512, .f32⟩
  | 1 => ⟨S1x8192x1024, .f32⟩
  | 2 => ⟨S_, .f32⟩
  | 3 => ⟨S1x8192x512, .f32⟩
  | 4 => ⟨S1024x1024, .f32⟩
  | 5 => ⟨S1x8192x1024, .f32⟩
  | 6 => ⟨S1x1x1024, .f32⟩
  | 7 => ⟨S1x8192x1024, .f32⟩
  | 8 => ⟨S1x8192x1024, .f32⟩
  | 9 => ⟨S1x8192x1024, .f32⟩
  | 10 => ⟨S1x8192x1024, .f32⟩
  | 11 => ⟨S1x8192x1024, .f32⟩
  | 12 => ⟨S1x8192x1024, .f32⟩
  | 13 => ⟨S1x8192x512, .f32⟩
  | 14 => ⟨S1x8192x512, .f32⟩
  | 15 => ⟨S1x8192x512, .f32⟩
  | 16 => ⟨S1x8192x512, .f32⟩
  | 17 => ⟨S1x8192x512, .f32⟩
  | 18 => ⟨S_, .f32⟩
  | 19 => ⟨S1x8192, .f32⟩
  | 20 => ⟨S1x8192x1, .f32⟩
  | 21 => ⟨S1x8192x512, .f32⟩
  | 22 => ⟨S1x8192x512, .f32⟩
  | 23 => ⟨S1x8192x1, .f32⟩
  | 24 => ⟨S_, .f32⟩
  | 25 => ⟨S1x8192x1, .f32⟩
  | 26 => ⟨S1x8192x1, .f32⟩
  | 27 => ⟨S_, .f32⟩
  | 28 => ⟨S8192, .f32⟩
  | 29 => ⟨S1x8192, .f32⟩
  | 30 => ⟨S1x8192x512, .f32⟩
  | 31 => ⟨S1x8192x512, .f32⟩
  | 32 => ⟨S1x8192x512, .f32⟩
  | 33 => ⟨S1x8192x512, .f32⟩
  | 34 => ⟨S1x8192x512, .f32⟩
  | 35 => ⟨S1x8192x512, .f32⟩
  | 36 => ⟨S1x64x128x8x64, .f32⟩
  | 37 => ⟨S_, .f32⟩
  | 38 => ⟨S1x128x8, .f32⟩
  | 39 => ⟨S1x1x128x8x1, .f32⟩
  | 40 => ⟨S_, .f32⟩
  | 41 => ⟨S128x8, .f32⟩
  | 42 => ⟨S8x128, .f32⟩
  | 43 => ⟨S1x8x128, .f32⟩
  | 44 => ⟨S8x1x64x64x128, .f32⟩
  | 45 => ⟨S8x1x64x64x128, .f32⟩
  | 46 => ⟨S1x64x128x8x64, .f32⟩
  | 47 => ⟨S1x8192x512, .f32⟩
  | 48 => ⟨S_, .f32⟩
  | 49 => ⟨S1x512, .f32⟩
  | 50 => ⟨S1x1x512, .f32⟩
  | 51 => ⟨S_, .f32⟩
  | 52 => ⟨S512, .f32⟩
  | 53 => ⟨S1x8192x512, .f32⟩
  | 54 => ⟨S_, .f32⟩
  | 55 => ⟨S1x512, .f32⟩
  | 56 => ⟨S1x1x512, .f32⟩
  | 57 => ⟨S_, .f32⟩
  | 58 => ⟨S512, .f32⟩
  | 59 => ⟨S1x512, .f32⟩
  | 60 => ⟨S1x512, .f32⟩
  | 61 => ⟨S8x128, .f32⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_cst_1 : Ref sig .tc := ⟨.hbm, 33, rfl⟩
abbrev main_v6 : Ref sig .tc := ⟨.hbm, 34, rfl⟩
abbrev main_v7 : Ref sig .tc := ⟨.hbm, 35, rfl⟩
abbrev main_cst_2 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c : Ref sig .tc := ⟨.hbm, 81, rfl⟩
abbrev main_v48 : Ref sig .tc := ⟨.hbm, 82, rfl⟩
abbrev main_v49 : Ref sig .tc := ⟨.hbm, 83, rfl⟩
abbrev main_c_7 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_8 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_9 : Ref sig .tc := ⟨.hbm, 100, rfl⟩
abbrev main_v64 : Ref sig .tc := ⟨.hbm, 101, rfl⟩
abbrev main_v65 : Ref sig .tc := ⟨.hbm, 102, rfl⟩
abbrev main_cst_10 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_11 : Ref sig .tc := ⟨.hbm, 109, rfl⟩
abbrev main_v71 : Ref sig .tc := ⟨.hbm, 110, rfl⟩
abbrev main_v72 : Ref sig .tc := ⟨.hbm, 111, rfl⟩
abbrev main_cst_12 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_13 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call1_v0 : Ref sig .tc := ⟨.hbm, 129, rfl⟩
abbrev main_call1_v1 : Ref sig .tc := ⟨.hbm, 130, rfl⟩
abbrev main_call1_cst : Ref sig .tc := ⟨.hbm, 131, rfl⟩
abbrev main_call1_v2 : Ref sig .tc := ⟨.hbm, 132, rfl⟩
abbrev main_call1_v3 : Ref sig .tc := ⟨.hbm, 133, rfl⟩
abbrev main_call1_cst_0 : Ref sig .tc := ⟨.hbm, 134, rfl⟩
abbrev main_call1_v4 : Ref sig .tc := ⟨.hbm, 135, rfl⟩
abbrev main_call1_v5 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_14 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_15 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_16 : Ref sig .tc := ⟨.hbm, 148, rfl⟩
abbrev main_v97 : Ref sig .tc := ⟨.hbm, 149, rfl⟩
abbrev main_v98 : Ref sig .tc := ⟨.hbm, 150, rfl⟩
abbrev main_cst_17 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_18 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_19 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_20 : Ref sig .tc := ⟨.hbm, 165, rfl⟩
abbrev main_v110 : Ref sig .tc := ⟨.hbm, 166, rfl⟩
abbrev main_v111 : Ref sig .tc := ⟨.hbm, 167, rfl⟩
abbrev main_cst_21 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_22 : Ref sig .tc := ⟨.hbm, 174, rfl⟩
abbrev main_v117 : Ref sig .tc := ⟨.hbm, 175, rfl⟩
abbrev main_v118 : Ref sig .tc := ⟨.hbm, 176, rfl⟩
abbrev main_cst_23 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_24 : Ref sig .tc := ⟨.hbm, 183, rfl⟩
abbrev main_v124 : Ref sig .tc := ⟨.hbm, 184, rfl⟩
abbrev main_v125 : Ref sig .tc := ⟨.hbm, 185, rfl⟩
abbrev main_cst_25 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_26 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_27 : Ref sig .tc := ⟨.hbm, 219, rfl⟩
abbrev main_v157 : Ref sig .tc := ⟨.hbm, 220, rfl⟩
abbrev main_v158 : Ref sig .tc := ⟨.hbm, 221, rfl⟩
abbrev main_cst_28 : Ref sig .tc := ⟨.hbm, 222, rfl⟩
abbrev main_v159 : Ref sig .tc := ⟨.hbm, 223, rfl⟩
abbrev main_v160 : Ref sig .tc := ⟨.hbm, 224, rfl⟩
abbrev main_cst_29 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_cst_30 : Ref sig .tc := ⟨.hbm, 238, rfl⟩
abbrev main_v173 : Ref sig .tc := ⟨.hbm, 239, rfl⟩
abbrev main_v174 : Ref sig .tc := ⟨.hbm, 240, rfl⟩
abbrev main_cst_31 : Ref sig .tc := ⟨.hbm, 241, rfl⟩
abbrev main_v175 : Ref sig .tc := ⟨.hbm, 242, rfl⟩
abbrev main_v176 : Ref sig .tc := ⟨.hbm, 243, rfl⟩
abbrev main_cst_32 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_cst_33 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_cst_34 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_cst_35 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_cst_36 : Ref sig .tc := ⟨.hbm, 280, rfl⟩
abbrev main_v209 : Ref sig .tc := ⟨.hbm, 281, rfl⟩
abbrev main_v210 : Ref sig .tc := ⟨.hbm, 282, rfl⟩
abbrev main_cst_37 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_cst_38 : Ref sig .tc := ⟨.hbm, 293, rfl⟩
abbrev main_v220 : Ref sig .tc := ⟨.hbm, 294, rfl⟩
abbrev main_v221 : Ref sig .tc := ⟨.hbm, 295, rfl⟩
abbrev main_cst_39 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_cst_40 : Ref sig .tc := ⟨.hbm, 304, rfl⟩
abbrev main_v229 : Ref sig .tc := ⟨.hbm, 305, rfl⟩
abbrev main_v230 : Ref sig .tc := ⟨.hbm, 306, rfl⟩
abbrev main_cst_41 : Ref sig .tc := ⟨.hbm, 307, rfl⟩
abbrev main_v231 : Ref sig .tc := ⟨.hbm, 308, rfl⟩
abbrev main_v232 : Ref sig .tc := ⟨.hbm, 309, rfl⟩
abbrev main_cst_42 : Ref sig .tc := ⟨.hbm, 310, rfl⟩
abbrev main_v233 : Ref sig .tc := ⟨.hbm, 311, rfl⟩
abbrev main_v234 : Ref sig .tc := ⟨.hbm, 312, rfl⟩
abbrev main_cst_43 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩

abbrev nD : Nat := 1
abbrev τ : Topo := Topo.v7x

variable {F : FTy → Type} [FloatOps F]
-- ==== KernelUp.lean ====
abbrev S1x8192x1024 : Shape := ⟨3, ![1, 8192, 1024]⟩
abbrev S1x1024 : Shape := ⟨2, ![1, 1024]⟩
abbrev S1x8192x5632 : Shape := ⟨3, ![1, 8192, 5632]⟩
abbrev S8192x5632 : Shape := ⟨2, ![8192, 5632]⟩
abbrev S8192x1024 : Shape := ⟨2, ![8192, 1024]⟩
abbrev S4x1024x1408 : Shape := ⟨3, ![4, 1024, 1408]⟩
abbrev S512x5632 : Shape := ⟨2, ![512, 5632]⟩
abbrev S512x1024 : Shape := ⟨2, ![512, 1024]⟩
abbrev S2 : Shape := ⟨1, ![2]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1 : Shape := ⟨1, ![1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x8192x5632, .f32⟩
  | .hbm, ⟨5, _⟩ => ⟨S8192x5632, .f32⟩
  | .hbm, ⟨6, _⟩ => ⟨S8192x5632, .bf16⟩
  | .hbm, ⟨7, _⟩ => ⟨S8192x1024, .f32⟩
  | .hbm, ⟨8, _⟩ => ⟨S4x1024x1408, .f32⟩
  | .hbm, ⟨9, _⟩ => ⟨S4x1024x1408, .bf16⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S4x1024x1408, .bf16⟩
  | .local _ .vmem, ⟨8, _⟩ => ⟨S4x1024x1408, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceUpIdeal.lean ====
abbrev S1x8192x1024 : Shape := ⟨3, ![1, 8192, 1024]⟩
abbrev S1x1024 : Shape := ⟨2, ![1, 1024]⟩
abbrev S1x8192x5632 : Shape := ⟨3, ![1, 8192, 5632]⟩
abbrev S_ : Shape := ⟨0, ![]⟩
abbrev S1x1024x5632 : Shape := ⟨3, ![1, 1024, 5632]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 42
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x8192x5632, .f32⟩
  | .hbm, ⟨5, _⟩ => ⟨S_, .f32⟩
  | .hbm, ⟨6, _⟩ => ⟨S1x1024x5632, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1024x5632, .f32⟩
  | .hbm, ⟨34, _⟩ => ⟨S1x8192x5632, .f32⟩
  | .hbm, ⟨35, _⟩ => ⟨S5632x1024, .f32⟩
  | .hbm, ⟨36, _⟩ => ⟨S1024x5632, .f32⟩
  | .hbm, ⟨37, _⟩ => ⟨S1x1024x5632, .f32⟩
  | .hbm, ⟨38, _⟩ => ⟨S1024x5632, .f32⟩
  | .hbm, ⟨39, _⟩ => ⟨S1024x4x1408, .f32⟩
  | .hbm, ⟨40, _⟩ => ⟨S4x1024x1408, .f32⟩
  | .hbm, ⟨41, _⟩ => ⟨S4x1024x1408, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Ffn.Code.lean ====
/-
  Straight-line programs of loads and stores over a family of buffers, and the one rule that runs them.

  A kernel body that only loads and stores rectangles of its VMEM buffers computes a function of their contents.
  `Code` is the free syntax of such bodies, `Code.run` the function, `Code.prog` the kernel program, and
  `wp_prog` says once that the program, owning every buffer at the contents `σ`, ends owning them at what `run` computes.
-/
module

public import Idealize.ShloMosaic.Lib.Memref
public import Idealize.ShloMosaic.Lib.Tactic
public import Idealize.ShloMosaic.Rules.Step

@[expose] public section

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Patch

variable {β : Type} {s : Shape}

/-- `X` with the rectangle of size `size` at `off` replaced by `w`. -/
def patch (X : s.Idx → β) (off size : Fin s.rank → ℕ) (w : ((a : Fin s.rank) → Fin (size a)) → β) : s.Idx → β :=
  fun y => if h : ∀ a, off a ≤ (y a).val ∧ (y a).val < off a + size a then w (fun a => ⟨(y a).val - off a, by have := h a; omega⟩) else X y

/-- The rectangle of size `size` at `off` of `X`. -/
def window (X : s.Idx → β) (off size : Fin s.rank → ℕ) (inb : ∀ a, off a + size a ≤ s.size a) : ((a : Fin s.rank) → Fin (size a)) → β :=
  fun j => X (fun a => ⟨off a + (j a).val, by have := inb a; have := (j a).isLt; omega⟩)

theorem patch_of_mem (X : s.Idx → β) (off size : Fin s.rank → ℕ) (w : ((a : Fin s.rank) → Fin (size a)) → β) (y : s.Idx)
    (j : (a : Fin s.rank) → Fin (size a)) (h : ∀ a, (y a).val = off a + (j a).val) : patch X off size w y = w j := by
  have hin : ∀ a, off a ≤ (y a).val ∧ (y a).val < off a + size a := fun a => by
    have := h a; have := (j a).isLt; omega
  unfold patch; rw [dif_pos hin]; congr 1; funext a; apply Fin.ext; have := h a; show (y a).val - off a = _; omega

theorem patch_of_not_mem (X : s.Idx → β) (off size : Fin s.rank → ℕ) (w : ((a : Fin s.rank) → Fin (size a)) → β) (y : s.Idx)
    (a : Fin s.rank) (h : (y a).val < off a ∨ off a + size a ≤ (y a).val) : patch X off size w y = X y := by
  unfold patch; rw [dif_neg fun hin => ?_]; have := hin a; omega

end Patch

/-- A program of loads and stores over buffers `b : B` of shape `shp b` and element type `el b`. -/
inductive Code (Val : EltTy → Type) {B : Type} (shp : B → Shape) (el : B → EltTy) (α : Type) : Type
  | ret (a : α) : Code Val shp el α
  | ld (b : B) (off size : Fin (shp b).rank → ℕ) (inb : ∀ a, off a + size a ≤ (shp b).size a)
      (h : 0 < (Rect.unit (s := shp b) off size inb).shape.numel)
      (k : (((a : Fin (shp b).rank) → Fin (size a)) → Val (el b)) → Code Val shp el α) : Code Val shp el α
  | st (b : B) (off size : Fin (shp b).rank → ℕ) (inb : ∀ a, off a + size a ≤ (shp b).size a)
      (h : 0 < (Rect.unit (s := shp b) off size inb).shape.numel)
      (hx : (el b).bits = 32 ∨ (Rect.unit (s := shp b) off size inb).PackedRows (el b).packing)
      (w : ((a : Fin (shp b).rank) → Fin (size a)) → Val (el b)) (k : Code Val shp el α) : Code Val shp el α

namespace Code

variable {Val : EltTy → Type} {B : Type} {shp : B → Shape} {el : B → EltTy} {α β : Type}

/-- One program after another. -/
def bind : Code Val shp el α → (α → Code Val shp el β) → Code Val shp el β
  | ret a, f => f a
  | ld b off size inb h k, f => ld b off size inb h fun x => (k x).bind f
  | st b off size inb h hx w k, f => st b off size inb h hx w (k.bind f)

instance : Monad (Code Val shp el) where
  pure := ret
  bind := bind

/-- The contents of every buffer. -/
abbrev State (Val : EltTy → Type) (shp : B → Shape) (el : B → EltTy) : Type := (b : B) → (shp b).Idx → Val (el b)

/-- What the program returns and the contents it leaves, from contents `σ`. -/
def run [DecidableEq B] : Code Val shp el α → State Val shp el → α × State Val shp el
  | ret a, σ => (a, σ)
  | ld b off size inb _ k, σ => (k (window (σ b) off size inb)).run σ
  | st b off size _ _ _ w k, σ => k.run (Function.update σ b (patch (σ b) off size w))

theorem run_bind [DecidableEq B] (p : Code Val shp el α) (f : α → Code Val shp el β) (σ : State Val shp el) :
    (p >>= f).run σ = (f (p.run σ).1).run (p.run σ).2 := by
  show (p.bind f).run σ = _
  induction p generalizing σ with
  | ret a => rfl
  | ld b off size inb h k ih => exact ih _ _
  | st b off size inb h hx w k ih => exact ih _

theorem run_pure [DecidableEq B] (a : α) (σ : State Val shp el) : (pure a : Code Val shp el α).run σ = (a, σ) := rfl

/-- One load. -/
abbrev load (b : B) (off size : Fin (shp b).rank → ℕ) (inb : ∀ a, off a + size a ≤ (shp b).size a)
    (h : 0 < (Rect.unit (s := shp b) off size inb).shape.numel) :
    Code Val shp el (((a : Fin (shp b).rank) → Fin (size a)) → Val (el b)) :=
  ld b off size inb h ret

/-- One store. -/
abbrev store (b : B) (off size : Fin (shp b).rank → ℕ) (inb : ∀ a, off a + size a ≤ (shp b).size a)
    (h : 0 < (Rect.unit (s := shp b) off size inb).shape.numel)
    (hx : (el b).bits = 32 ∨ (Rect.unit (s := shp b) off size inb).PackedRows (el b).packing)
    (w : ((a : Fin (shp b).rank) → Fin (size a)) → Val (el b)) : Code Val shp el PUnit :=
  st b off size inb h hx w (ret ⟨⟩)

variable {nD : Nat} {τ : Topo} {sig : RefSig} {Λ : Labels}

/-- The kernel program on the buffers `mem`. -/
def prog (mem : (b : B) → Memref sig .tc .vmem (shp b) (el b)) (hw : ∀ b, (mem b).IsWhole) :
    Code Val shp el α → Prog (TpuEff nD τ sig Val Λ .tc) α
  | ret a => .ret a
  | ld b off size inb h k => .op (.load (mem b) (Rect.unit (s := shp b) off size inb).toLoadRect (View.loadsAt_vmem h)) fun x => (k x).prog mem hw
  | st b off size inb h hx w k => .op (.store (mem b) (Rect.unit (s := shp b) off size inb) w Finset.univ
      (hx.elim (fun hb => View.stores_vmem_bits_univ h hb) (fun hr => View.stores_vmem h ((hw b).storeExact_slice rfl _ hr) (fun _ => rfl))) (.inl rfl))
      fun _ => k.prog mem hw

end Code

section Run

variable {Val : EltTy → Type} {B : Type} [DecidableEq B] [Fintype B] {shp : B → Shape} {el : B → EltTy} {α : Type}
variable {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix Val Name U Lvl

/-- Core `c` owns every buffer of the family whole, at the contents `σ`. -/
def ownsAll (c : Dev nD) (mem : (b : B) → Memref sig .tc .vmem (shp b) (el b)) (σ : Code.State Val shp el) : sProp 𝕄 :=
  bigSep Finset.univ fun b => owns (c : Thread nD τ) (mem b) fullShare (σ b)

theorem ownsAll_take (c : Dev nD) (mem : (b : B) → Memref sig .tc .vmem (shp b) (el b)) (σ : Code.State Val shp el) (b : B) :
    (ownsAll c mem σ : sProp 𝕄) = iprop(owns (c : Thread nD τ) (mem b) fullShare (σ b)
      ∗ bigSep (Finset.univ.erase b) fun b => owns (c : Thread nD τ) (mem b) fullShare (σ b)) :=
  BI.bigSep_erase (Finset.mem_univ b)

theorem ownsAll_update (c : Dev nD) (mem : (b : B) → Memref sig .tc .vmem (shp b) (el b)) (σ : Code.State Val shp el) (b : B)
    (X : (shp b).Idx → Val (el b)) :
    (ownsAll c mem (Function.update σ b X) : sProp 𝕄) = iprop(owns (c : Thread nD τ) (mem b) fullShare X
      ∗ bigSep (Finset.univ.erase b) fun b => owns (c : Thread nD τ) (mem b) fullShare (σ b)) := by
  rw [ownsAll_take c mem _ b, Function.update_self]
  congr 1
  exact BI.bigSep_congr fun b' hb' => by rw [Function.update_of_ne (Finset.ne_of_mem_erase hb')]

/-- Reading through a view after storing into a rectangle of it. -/
theorem read_store {s : Shape} {e : EltTy} (v : View sig .tc .vmem s e) (off size : Fin s.rank → ℕ) (inb : ∀ a, off a + size a ≤ s.size a)
    (f : v.ty.Contents Val) (w : ((a : Fin s.rank) → Fin (size a)) → Val e) :
    v.read Val ((v.slice (Rect.unit (s := s) off size inb)).write Val f w Finset.univ) = patch (v.read Val f) off size w := by
  funext y
  by_cases h : ∀ a, off a ≤ (y a).val ∧ (y a).val < off a + size a
  · let j : (Rect.unit (s := s) off size inb).shape.Idx := fun a => ⟨(y a).val - off a, by have := h a; show _ < size a; omega⟩
    have hy : (Rect.unit (s := s) off size inb).emb j = y := by
      funext a; apply Fin.ext; have := h a; show off a + 1 * ((y a).val - off a) = (y a).val; omega
    have h1 := View.read_slice_write_emb (v := v) (Rect.unit (s := s) off size inb) f w (Finset.mem_univ j)
    rw [hy] at h1
    rw [h1, patch_of_mem _ off size w y j (fun a => by have := h a; show _ = off a + ((y a).val - off a); omega)]
  · rw [View.read_slice_write_of_not_mem]
    · unfold patch; rw [dif_neg h]
    · intro hm
      obtain ⟨j, -, rfl⟩ := Finset.mem_map.mp hm
      refine h fun a => ?_
      have hj : (j a).val < size a := (j a).isLt
      have he : (((Rect.unit (s := s) off size inb).emb j) a).val = off a + 1 * (j a).val := rfl
      omega

variable {defs : Defs nD τ sig Val Λ} (𝒱 : Variants) (c : Dev nD) (bd : Option 𝒱.V) (E : Set Name)

/-- The program run: from every buffer at `σ` it continues with its result, every buffer at what `run` leaves. -/
theorem wp_prog (mem : (b : B) → Memref sig .tc .vmem (shp b) (el b)) (hw : ∀ b, (mem b).IsWhole) (p : Code Val shp el α)
    (σ : Code.State Val shp el) (Q : α → sProp 𝕄) :
    iprop(ownsAll c mem σ ∗ (ownsAll c mem (p.run σ).2 -∗ Q (p.run σ).1))
      ⊢ wp frame (wpE defs 𝒱 (c : Thread nD τ) bd) E (p.prog mem hw : Prog (TpuEff nD τ sig Val Λ .tc) α) Q := by
  induction p generalizing σ with
  | ret a =>
    refine BIBase.Entails.trans ?_ (le_wp_ret _ _ _ a Q)
    show iprop(ownsAll c mem σ ∗ (ownsAll c mem σ -∗ Q a)) ⊢ Q a
    iintro ⟨H, Hk⟩
    iapply Hk
    iexact H
  | ld b off size inb h k ih =>
    have hcont := ih (window (σ b) off size inb) σ
    rw [ownsAll_take c mem σ b] at hcont ⊢
    unfold owns
    iintro ⟨⟨⟨%f, %hf, H⟩, HR⟩, Hk⟩
    iapply (wp_load 𝒱 (c : Thread nD τ) bd E (m := mem b) (S := (mem b).view.set) (View.setOn_subset_set _ _)) $$ H
    iintro H
    have hread : (mem b).view.readAt Val (Rect.unit (s := shp b) off size inb).toLoadRect f = window (σ b) off size inb := by
      funext j
      rw [View.readAt_apply, hf]
      unfold window
      congr 1
      funext a
      apply Fin.ext
      show off a + 1 * (j a).val = off a + (j a).val
      omega
    rw [hread]
    iapply hcont
    isplitr [Hk]
    · isplitl [H]
      · unfold owns
        iexists f
        isplitr
        · ipureintro; exact hf
        · iexact H
      · iexact HR
    · iexact Hk
  | st b off size inb h hx w k ih =>
    have hcont := ih (Function.update σ b (patch (σ b) off size w))
    rw [ownsAll_update c mem σ b] at hcont
    rw [ownsAll_take c mem σ b]
    unfold owns
    iintro ⟨⟨⟨%f, %hf, H⟩, HR⟩, Hk⟩
    iapply (wp_store 𝒱 (c : Thread nD τ) bd E (m := mem b) (r := Rect.unit (s := shp b) off size inb) (S := (mem b).view.set)
      ((View.setOn_subset_set _ _).trans (View.set_slice_subset _ _))) $$ H
    iintro H
    iapply hcont
    isplitr [Hk]
    · isplitl [H]
      · unfold owns
        iexists _
        isplitr
        · ipureintro; rw [← hf]; exact read_store (mem b).view off size inb f w
        · iexact H
      · iexact HR
    · iexact Hk

end Run

end Cert.Ffn

end
-- ==== Proof.Ffn.Prog.lean ====
/-
  The body of the FFN kernel as a program of loads and stores over its 31 VMEM buffers.

  One grid point computes, for one tile of 256 tokens (in interleaved row order), the forward pass of the FFN
  sublayer in 11 column blocks, the loss and its gradient down to the sublayer's output, and the backward pass in
  the same 11 column blocks; each column block is one definition over its column offset.
-/
module

public import proofs.«01_k».proof.Proof.Ffn.Code
public import proofs.«01_k».proof.KernelIdeal
public import proofs.«01_k».proof.Proof.Gen.KernelIdeal

@[expose] public section

set_option maxRecDepth 16384

noncomputable section

namespace Cert.Ffn

open Idealize.ShloMosaic Idealize.ShloMosaic.TcCoe
open Cert.KernelIdeal Cert.KernelIdeal.Facts₀ Cert.KernelIdeal.Facts

variable {F : FTy → Type} [FloatOps F]

/-- The VMEM buffers of the kernel: its windows (inputs `x2 … pmt`, outputs `du … loss`) and its scratch. -/
inductive Bf : Type
  | x2 | halo | tgt | g2 | sc2 | sh2 | fw | fb | gt2 | fg | pm | pmt
  | du | dx2 | dfw | dfb | dfg | dgt2 | dg2 | dsc2 | dsh2 | loss
  | wup | wd | dwd | carry | u | sil | vds | f | dus
  deriving DecidableEq

/-- The buffers in order. -/
def bufs : List Bf := [.x2, .halo, .tgt, .g2, .sc2, .sh2, .fw, .fb, .gt2, .fg, .pm, .pmt,
  .du, .dx2, .dfw, .dfb, .dfg, .dgt2, .dg2, .dsc2, .dsh2, .loss, .wup, .wd, .dwd, .carry, .u, .sil, .vds, .f, .dus]

theorem bufs_nodup : bufs.Nodup := by decide

theorem mem_bufs (b : Bf) : b ∈ bufs := by cases b <;> decide

instance : Fintype Bf := ⟨⟨bufs, bufs_nodup⟩, mem_bufs⟩

/-- The shape of each buffer. -/
@[reducible] def shp : Bf → Shape
  | .x2 => S256x1024 | .halo => S8x1024 | .tgt => S256x1024 | .g2 => S1x1024 | .sc2 => S1x1024 | .sh2 => S1x1024
  | .fw => S3x5632 | .fb => S1x5632 | .gt2 => S1x1024 | .fg => S1x1024 | .pm => S256x256 | .pmt => S256x256
  | .du => S256x5632 | .dx2 => S256x1024 | .dfw => S3x5632 | .dfb => S1x5632 | .dfg => S1x1024 | .dgt2 => S1x1024
  | .dg2 => S1x1024 | .dsc2 => S1x1024 | .dsh2 => S1x1024 | .loss => S1x128
  | .wup => S1024x5632 | .wd => S2816x1024 | .dwd => S2816x1024 | .carry => S16x5632
  | .u => S256x5632 | .sil => S256x2816 | .vds => S256x2816 | .f => S256x2816 | .dus => S256x5632

/-- The element type of each buffer. -/
@[reducible] def elt : Bf → EltTy
  | .pm | .pmt | .du | .wup | .wd | .u | .f | .dus => .bf16
  | _ => .f32

variable (F) in
/-- Programs over these buffers. -/
abbrev K (α : Type) : Type := Code (Elt F) shp elt α

variable (F) in
/-- The contents of these buffers. -/
abbrev St : Type := Code.State (Elt F) shp elt

/-- One load. -/
abbrev ld (b : Bf) (off size : Fin (shp b).rank → ℕ) (inb : ∀ a, off a + size a ≤ (shp b).size a)
    (h : 0 < (Rect.unit (s := shp b) off size inb).shape.numel) : K F (((a : Fin (shp b).rank) → Fin (size a)) → Elt F (elt b)) :=
  Code.load b off size inb h

/-- One store. -/
abbrev st (b : Bf) (off size : Fin (shp b).rank → ℕ) (inb : ∀ a, off a + size a ≤ (shp b).size a)
    (h : 0 < (Rect.unit (s := shp b) off size inb).shape.numel)
    (hx : (elt b).bits = 32 ∨ (Rect.unit (s := shp b) off size inb).PackedRows (elt b).packing)
    (w : ((a : Fin (shp b).rank) → Fin (size a)) → Elt F (elt b)) : K F PUnit :=
  Code.store b off size inb h hx w

/-! ### The values of one tile -/

/-- Reciprocal root mean square of the rows of `x`, as a column. -/
def rms (x : FVec F S256x1024 .f32) : FVec F S256x1 .f32 :=
  rsqrt (addf (divf (shapeCast S256x1 (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32)))

/-- The rows of `x` times their column `r`. -/
def scaleRows (x : FVec F S256x1024 .f32) (r : FVec F S256x1 .f32) : FVec F S256x1024 .f32 :=
  mulf x (broadcastTo S256x1024 r broadcasts_S256x1_S256x1024)

/-- A row, one plus its entries. -/
def onePlus (s : FVec F S1x1024 .f32) : FVec F S1x1024 .f32 :=
  addf (broadcast S1x1024 (Scalar.ofBits .f32 0x3F800000#32)) s

/-- The adaptive part of the norm: normalised rows times gain, times one plus scale, plus shift. -/
def modulate (n : FVec F S256x1024 .f32) (g sc sh : FVec F S1x1024 .f32) : FVec F S256x1024 .f32 :=
  addf (mulf (mulf n (broadcastTo S256x1024 g broadcasts_S1x1024_S256x1024)) (broadcastTo S256x1024 (onePlus sc) broadcasts_S1x1024_S256x1024))
    (broadcastTo S256x1024 sh broadcasts_S1x1024_S256x1024)

/-- The same norm of the 8 rows before the tile. -/
def haloNorm (x : FVec F S8x1024 .f32) (g sc sh : FVec F S1x1024 .f32) : FVec F S8x1024 .f32 :=
  addf (mulf (mulf (mulf x (broadcastTo S8x1024 (rsqrt (addf (divf (shapeCast S8x1 (multiReduction .add [1] S8 (mulf x x) 0x00000000#32 reduces_S8x1024_S8 (.inl rfl) rfl) shapeCasts_S8_S8x1)
      (broadcast S8x1 (Scalar.ofBits .f32 0x44800000#32))) (broadcast S8x1 (Scalar.ofBits .f32 0x358637BD#32)))) broadcasts_S8x1_S8x1024))
      (broadcastTo S8x1024 g broadcasts_S1x1024_S8x1024)) (broadcastTo S8x1024 (onePlus sc) broadcasts_S1x1024_S8x1024))
    (broadcastTo S8x1024 sh broadcasts_S1x1024_S8x1024)

/-- The rows of the up projection's input: the tile's rows interleaved, then the 8 rows before it. -/
def upRows (pm : FVec F S256x256 .bf16) (h : FVec F S256x1024 .f32) (hb : FVec F S8x1024 .f32) : FVec F S264x1024 .bf16 :=
  concatenate S264x1024 0 [⟨S256x1024, truncf .bf16 (matmul dot_S256x256_S256x1024_S256x1024_1_0_0_1_n_n none pm (truncf .bf16 h bitsLt_bf16_f32) (constant S256x1024 .f32 0x00000000#32)) bitsLt_bf16_f32⟩,
    ⟨S8x1024, truncf .bf16 hb bitsLt_bf16_f32⟩] concatenates_S256x1024_S8x1024_S264x1024_d0

/-- One column block of the up projection. -/
def upBlock (r : FVec F S264x1024 .bf16) (w : FVec F S1024x256 .bf16) : FVec F S264x256 .f32 :=
  matmul dot_S264x1024_S1024x256_S264x256_1_0_0_1_n_n none r w (constant S264x256 .f32 0x00000000#32)

/-- The tile's own rows of a column block. -/
def ownRows (b : FVec F S264x256 .f32) : FVec F S256x256 .f32 := extractStridedSlice S256x256 ![0, 0] b slices_S264x256_o0_0_S256x256

/-- The 8 rows before the tile, zero at the first tile. -/
def edgeRows (v0 : BitVec 32) (b : FVec F S264x256 .f32) : FVec F S8x256 .f32 :=
  Scalar.select (Scalar.cmpi .sgt v0 0#32) (extractStridedSlice S8x256 ![256, 0] b slices_S264x256_o256_0_S8x256) (broadcast S8x256 (Scalar.ofBits .f32 0x00000000#32))

/-- Eight rows moved down by one. -/
def rot1 (x : FVec F S8x256 .f32) : FVec F S8x256 .f32 := dynamicRotate 0 1#32 none x rotates_S8x256_d0

/-- Eight rows moved up by one. -/
def rot7 (x : FVec F S8x256 .f32) : FVec F S8x256 .f32 := dynamicRotate 0 7#32 none x rotates_S8x256_d0

/-- The row numbers. -/
def rowNo : IVec S8x256 32 := iota .tc S8x256 32 [0] iota_S8x256_d0_w32

/-- Row `k` of `a`, the others of `b`. -/
def pickRow (v1 : IVec S8x256 32) (k : BitVec 32) (a b : FVec F S8x256 .f32) : FVec F S8x256 .f32 := select (cmpi .eq v1 (broadcast S8x256 k)) a b

/-- The rows of one token before, at the tile's first 8 rows. -/
def back1 (v1 : IVec S8x256 32) (e : FVec F S8x256 .f32) (v : FVec F S256x256 .f32) : FVec F S8x256 .f32 :=
  pickRow v1 0#32 (rot1 e) (rot1 (extractStridedSlice S8x256 ![248, 0] v slices_S256x256_o248_0_S8x256))

/-- The rows of two tokens before, at the tile's first 8 rows. -/
def back2 (v1 : IVec S8x256 32) (e : FVec F S8x256 .f32) (v : FVec F S256x256 .f32) : FVec F S8x256 .f32 :=
  pickRow v1 0#32 (rot1 (rot1 e)) (rot1 (extractStridedSlice S8x256 ![240, 0] v slices_S256x256_o240_0_S8x256))

/-- The rows of one token before. -/
def prev1 (v1 : IVec S8x256 32) (e : FVec F S8x256 .f32) (v : FVec F S256x256 .f32) : FVec F S256x256 .f32 :=
  concatenate S256x256 0 [⟨S8x256, back1 v1 e v⟩, ⟨S248x256, extractStridedSlice S248x256 ![0, 0] v slices_S256x256_o0_0_S248x256⟩] concatenates_S8x256_S248x256_S256x256_d0

/-- The rows of two tokens before. -/
def prev2 (v1 : IVec S8x256 32) (e : FVec F S8x256 .f32) (v : FVec F S256x256 .f32) : FVec F S256x256 .f32 :=
  concatenate S256x256 0 [⟨S8x256, back2 v1 e v⟩, ⟨S8x256, back1 v1 e v⟩, ⟨S240x256, extractStridedSlice S240x256 ![0, 0] v slices_S256x256_o0_0_S240x256⟩]
    concatenates_S8x256_S8x256_S240x256_S256x256_d0

/-- A row times every row. -/
def rowMul (x : FVec F S256x256 .f32) (w : FVec F S1x256 .f32) : FVec F S256x256 .f32 :=
  mulf x (broadcastTo S256x256 (shapeCast S1x256 w shapeCasts_S1x256_S1x256) broadcasts_S1x256_S256x256)

/-- The column sums as a row. -/
def colSum (x : FVec F S256x256 .f32) : FVec F S1x256 .f32 :=
  shapeCast S1x256 (multiReduction .add [0] S256 x 0x00000000#32 reduces_S256x256_S256 (.inl rfl) rfl) shapeCasts_S256_S1x256

/-- The column sums of a tile as a row. -/
def colSumD (x : FVec F S256x1024 .f32) : FVec F S1x1024 .f32 :=
  shapeCast S1x1024 (multiReduction .add [0] S1024 x 0x00000000#32 reduces_S256x1024_S1024 (.inl rfl) rfl) shapeCasts_S1024_S1x1024

/-- The depthwise convolution's three terms. -/
def conv3 (fb w0 w1 w2 : FVec F S1x256 .f32) (x0 x1 x2 : FVec F S256x256 .f32) : FVec F S256x256 .f32 :=
  addf (addf (addf (broadcastTo S256x256 fb broadcasts_S1x256_S256x256) (rowMul x2 w2)) (rowMul x1 w1)) (rowMul x0 w0)

/-- `silu` of the gate. -/
def silu (g : FVec F S256x256 .f32) : FVec F S256x256 .f32 := mulf g (logistic g)

/-- The gate's derivative times the value. -/
def gateGrad (v g : FVec F S256x256 .f32) : FVec F S256x256 .f32 :=
  mulf v (addf (logistic g) (mulf (silu g) (subf (broadcast S256x256 (Scalar.ofBits .f32 0x3F800000#32)) (logistic g))))

/-- One column block of the down projection. -/
def downBlock (f : FVec F S256x256 .bf16) (w : FVec F S256x1024 .bf16) : FVec F S256x1024 .f32 :=
  matmul dot_S256x256_S256x1024_S256x1024_1_0_0_1_n_n none f w (constant S256x1024 .f32 0x00000000#32)

/-- The interleaved rows put back in token order, in three parts. -/
def deinterleave (pmt : FVec F S256x256 .bf16) (o : FVec F S256x1024 .f32) : FVec F S256x1024 .f32 :=
  let hi : FVec F S256x1024 .bf16 := truncf .bf16 o bitsLt_bf16_f32
  let r1 : FVec F S256x1024 .f32 := subf o (extf .f32 hi bitsLt_bf16_f32)
  let mid : FVec F S256x1024 .bf16 := truncf .bf16 r1 bitsLt_bf16_f32
  let low : FVec F S256x1024 .bf16 := truncf .bf16 (subf r1 (extf .f32 mid bitsLt_bf16_f32)) bitsLt_bf16_f32
  matmul dot_S256x768_S768x1024_S256x1024_1_0_0_1_n_n none
    (concatenate S256x768 1 [⟨S256x256, pmt⟩, ⟨S256x256, pmt⟩, ⟨S256x256, pmt⟩] concatenates_S256x256_S256x256_S256x256_S256x768_d1)
    (concatenate S768x1024 0 [⟨S256x1024, hi⟩, ⟨S256x1024, mid⟩, ⟨S256x1024, low⟩] concatenates_S256x1024_S256x1024_S256x1024_S768x1024_d0)
    (constant S256x1024 .f32 0x00000000#32)

/-- A row broadcast over a tile. -/
def rowD (w : FVec F S1x1024 .f32) : FVec F S256x1024 .f32 := broadcastTo S256x1024 w broadcasts_S1x1024_S256x1024

/-- The gradient through a root mean square norm: `r (a - n mean(a n))`. -/
def normGrad (a n : FVec F S256x1024 .f32) (r : FVec F S256x1 .f32) : FVec F S256x1024 .f32 :=
  mulf (broadcastTo S256x1024 r broadcasts_S256x1_S256x1024)
    (subf a (mulf n (broadcastTo S256x1024 (divf (shapeCast S256x1 (multiReduction .add [1] S256 (mulf a n) 0x00000000#32 reduces_S256x1024_S256 (.inl rfl) rfl) shapeCasts_S256_S256x1)
      (broadcast S256x1 (Scalar.ofBits .f32 0x44800000#32))) broadcasts_S256x1_S256x1024)))

/-- The tile's part of the loss: half the mean of the squared rows, summed. -/
def lossPart (d : FVec F S256x1024 .f32) : F .f32 :=
  Scalar.mulf (Scalar.ofBits .f32 0x3A000000#32) (extractAt ![0, 0, 0] (shapeCast S1x1x1 (multiReduction .add [1, 2] S1
    (shapeCast S1x256x1024 (mulf d d) shapeCasts_S256x1024_S1x256x1024) 0x00000000#32 reduces_S1x256x1024_S1 (.inl rfl) rfl) shapeCasts_S1_S1x1x1) inpos_S1x1x1_p0_0_0)

/-- The rows of one token after: `c` holds the first 16 rows of the tile after. -/
def next1row (v1 : IVec S8x256 32) (c : FVec F S16x256 .f32) (d : FVec F S256x256 .f32) : FVec F S8x256 .f32 :=
  pickRow v1 7#32 (rot7 (extractStridedSlice S8x256 ![0, 0] c slices_S16x256_o0_0_S8x256)) (rot7 (extractStridedSlice S8x256 ![0, 0] d slices_S256x256_o0_0_S8x256))

/-- The rows of two tokens after, at the tile's last 8 rows. -/
def next2row (v1 : IVec S8x256 32) (c : FVec F S16x256 .f32) (d : FVec F S256x256 .f32) : FVec F S8x256 .f32 :=
  pickRow v1 7#32 (rot7 (extractStridedSlice S8x256 ![8, 0] c slices_S16x256_o8_0_S8x256)) (rot7 (extractStridedSlice S8x256 ![8, 0] d slices_S256x256_o8_0_S8x256))

/-- The rows of one token after. -/
def next1 (v1 : IVec S8x256 32) (c : FVec F S16x256 .f32) (d : FVec F S256x256 .f32) : FVec F S256x256 .f32 :=
  concatenate S256x256 0 [⟨S248x256, extractStridedSlice S248x256 ![8, 0] d slices_S256x256_o8_0_S248x256⟩, ⟨S8x256, next1row v1 c d⟩] concatenates_S248x256_S8x256_S256x256_d0

/-- The rows of two tokens after. -/
def next2 (v1 : IVec S8x256 32) (c : FVec F S16x256 .f32) (d : FVec F S256x256 .f32) : FVec F S256x256 .f32 :=
  concatenate S256x256 0 [⟨S240x256, extractStridedSlice S240x256 ![16, 0] d slices_S256x256_o16_0_S240x256⟩, ⟨S8x256, next1row v1 c d⟩, ⟨S8x256, next2row v1 c d⟩]
    concatenates_S240x256_S8x256_S8x256_S256x256_d0

/-! ### The column blocks -/

theorem inb2 {r o n w h w' : ℕ} (hr : r + n ≤ h) (ho : o + w ≤ w') :
    ∀ a : Fin 2, (![r, o] : Fin 2 → ℕ) a + (![n, w] : Fin 2 → ℕ) a ≤ (![h, w'] : Fin 2 → ℕ) a := by
  intro a
  match a with
  | 0 => exact hr
  | 1 => exact ho

/-- Whole rows of a buffer of packed pairs are whole words. -/
theorem packed2 {o w h w' : ℕ} (inb : ∀ a : Fin 2, (![0, o] : Fin 2 → ℕ) a + (![h, w] : Fin 2 → ℕ) a ≤ (![h, w'] : Fin 2 → ℕ) a)
    (h2 : 2 ∣ h) : (Rect.unit (s := ⟨2, ![h, w']⟩) ![0, o] ![h, w] inb).PackedRows (EltTy.packing .bf16) :=
  .inr ⟨le_rfl, rfl, .inl ⟨Nat.dvd_zero _, h2⟩⟩

/-- A block of whole pairs of rows of a buffer of packed pairs is whole words. -/
theorem packedRows2 {r n w h w' : ℕ} (inb : ∀ a : Fin 2, (![r, 0] : Fin 2 → ℕ) a + (![n, w] : Fin 2 → ℕ) a ≤ (![h, w'] : Fin 2 → ℕ) a)
    (hr : 2 ∣ r) (hn : 2 ∣ n) : (Rect.unit (s := ⟨2, ![h, w']⟩) ![r, 0] ![n, w] inb).PackedRows (EltTy.packing .bf16) :=
  .inr ⟨le_rfl, rfl, .inl ⟨hr, hn⟩⟩

/-- One half of a column block's forward convolution, its own rows kept for the backward pass. -/
def convHalf (v0 : BitVec 32) (v1 : IVec S8x256 32) (o : ℕ) (ho : o + 256 ≤ 5632) (b : FVec F S264x256 .f32) : K F (FVec F S256x256 .f32) := do
  let v := ownRows b
  let _ ← ld Bf.u ![0, o] S256x256.size (inb2 le_rfl ho) h_S256x256
  st Bf.u ![0, o] S256x256.size (inb2 le_rfl ho) h_S256x256 (.inr (packed2 (inb2 le_rfl ho) (by decide))) (shapeCast S256x256 (truncf .bf16 v bitsLt_bf16_f32) shapeCasts_S256x256_S256x256)
  let e := edgeRows v0 b
  let fb ← ld Bf.fb ![0, o] S1x256.size (inb2 le_rfl ho) h_S1x256
  let w2 ← ld Bf.fw ![2, o] S1x256.size (inb2 (by decide) ho) h_S1x256
  let w1 ← ld Bf.fw ![1, o] S1x256.size (inb2 (by decide) ho) h_S1x256
  let w0 ← ld Bf.fw ![0, o] S1x256.size (inb2 (by decide) ho) h_S1x256
  pure (conv3 fb w0 w1 w2 (prev2 v1 e v) (prev1 v1 e v) v)

/-- The two halves (value and gate) of one column block of the up projection. -/
def upHalves (rows : FVec F S264x1024 .bf16) (q : ℕ) (hq : q < 11) : K F (FVec F S264x256 .f32 × FVec F S264x256 .f32) := do
  let wv ← ld Bf.wup ![0, 256 * q] S1024x256.size (inb2 le_rfl (by omega)) h_S1024x256
  let wg ← ld Bf.wup ![0, 2816 + 256 * q] S1024x256.size (inb2 le_rfl (by omega)) h_S1024x256
  pure (upBlock rows wv, upBlock rows wg)

/-- The forward pass of one column block, added to the down projection `o2`. -/
def fwdBlock (v0 : BitVec 32) (v1 : IVec S8x256 32) (q : ℕ) (hq : q < 11) (b : FVec F S264x256 .f32 × FVec F S264x256 .f32)
    (o2 : FVec F S256x1024 .f32) : K F (FVec F S256x1024 .f32) := do
  let v ← convHalf v0 v1 (256 * q) (by omega) b.1
  let g ← convHalf v0 v1 (2816 + 256 * q) (by omega) b.2
  let f : FVec F S256x256 .bf16 := truncf .bf16 (mulf (silu g) v) bitsLt_bf16_f32
  let _ ← ld Bf.sil ![0, 256 * q] S256x256.size (inb2 le_rfl (by omega)) h_S256x256
  st Bf.sil ![0, 256 * q] S256x256.size (inb2 le_rfl (by omega)) h_S256x256 (.inl rfl) (shapeCast S256x256 (silu g) shapeCasts_S256x256_S256x256)
  let _ ← ld Bf.vds ![0, 256 * q] S256x256.size (inb2 le_rfl (by omega)) h_S256x256
  st Bf.vds ![0, 256 * q] S256x256.size (inb2 le_rfl (by omega)) h_S256x256 (.inl rfl) (shapeCast S256x256 (gateGrad v g) shapeCasts_S256x256_S256x256)
  let _ ← ld Bf.f ![0, 256 * q] S256x256.size (inb2 le_rfl (by omega)) h_S256x256
  st Bf.f ![0, 256 * q] S256x256.size (inb2 le_rfl (by omega)) h_S256x256 (.inr (packed2 (inb2 le_rfl (by omega)) (by decide))) (shapeCast S256x256 f shapeCasts_S256x256_S256x256)
  let w ← ld Bf.wd ![256 * q, 0] S256x1024.size (inb2 (by omega) le_rfl) h_S256x1024
  pure (addf o2 (downBlock f w))

/-- The first `n` column blocks, each loading the next block's halves before its own work. -/
def fwdTo (v0 : BitVec 32) (v1 : IVec S8x256 32) (rows : FVec F S264x1024 .bf16) : (n : ℕ) → n < 11 →
    K F ((FVec F S264x256 .f32 × FVec F S264x256 .f32) × FVec F S256x1024 .f32)
  | 0, h => do
    let b ← upHalves rows 0 h
    pure (b, broadcast S256x1024 (Scalar.ofBits .f32 0x00000000#32))
  | n + 1, h => do
    let a ← fwdTo v0 v1 rows n (by omega)
    let b ← upHalves rows (n + 1) h
    let o2 ← fwdBlock v0 v1 n (by omega) a.1 a.2
    pure (b, o2)

/-- The gradient of one half of a column block through the convolution: `d` is the gradient at its output. -/
def convBack (v1 : IVec S8x256 32) (o : ℕ) (ho : o + 256 ≤ 5632) (d : FVec F S256x256 .f32) : K F PUnit := do
  let s ← ld Bf.dfb ![0, o] S1x256.size (inb2 le_rfl ho) h_S1x256
  let _ ← ld Bf.dfb ![0, o] S1x256.size (inb2 le_rfl ho) h_S1x256
  st Bf.dfb ![0, o] S1x256.size (inb2 le_rfl ho) h_S1x256 (.inl rfl) (addf (shapeCast S1x256 s shapeCasts_S1x256_S1x256) (colSum d))
  let c ← ld Bf.carry ![0, o] S16x256.size (inb2 le_rfl ho) h_S16x256
  let _ ← ld Bf.carry ![0, o] S16x256.size (inb2 le_rfl ho) h_S16x256
  st Bf.carry ![0, o] S16x256.size (inb2 le_rfl ho) h_S16x256 (.inl rfl)
    (shapeCast S16x256 (extractStridedSlice S16x256 ![0, 0] d slices_S256x256_o0_0_S16x256) shapeCasts_S16x256_S16x256)
  let u ← ld Bf.u ![0, o] S256x256.size (inb2 le_rfl ho) h_S256x256
  let uv : FVec F S256x256 .f32 := extf .f32 (u : FVec F S256x256 .bf16) bitsLt_bf16_f32
  let w2 ← ld Bf.fw ![2, o] S1x256.size (inb2 (by decide) ho) h_S1x256
  let s2 ← ld Bf.dfw ![2, o] S1x256.size (inb2 (by decide) ho) h_S1x256
  let _ ← ld Bf.dfw ![2, o] S1x256.size (inb2 (by decide) ho) h_S1x256
  st Bf.dfw ![2, o] S1x256.size (inb2 (by decide) ho) h_S1x256 (.inl rfl) (addf (shapeCast S1x256 s2 shapeCasts_S1x256_S1x256) (colSum (mulf d uv)))
  let w1 ← ld Bf.fw ![1, o] S1x256.size (inb2 (by decide) ho) h_S1x256
  let s1 ← ld Bf.dfw ![1, o] S1x256.size (inb2 (by decide) ho) h_S1x256
  let _ ← ld Bf.dfw ![1, o] S1x256.size (inb2 (by decide) ho) h_S1x256
  st Bf.dfw ![1, o] S1x256.size (inb2 (by decide) ho) h_S1x256 (.inl rfl) (addf (shapeCast S1x256 s1 shapeCasts_S1x256_S1x256) (colSum (mulf (next1 v1 c d) uv)))
  let w0 ← ld Bf.fw ![0, o] S1x256.size (inb2 (by decide) ho) h_S1x256
  let s0 ← ld Bf.dfw ![0, o] S1x256.size (inb2 (by decide) ho) h_S1x256
  let _ ← ld Bf.dfw ![0, o] S1x256.size (inb2 (by decide) ho) h_S1x256
  st Bf.dfw ![0, o] S1x256.size (inb2 (by decide) ho) h_S1x256 (.inl rfl) (addf (shapeCast S1x256 s0 shapeCasts_S1x256_S1x256) (colSum (mulf (next2 v1 c d) uv)))
  let _ ← ld Bf.dus ![0, o] S256x256.size (inb2 le_rfl ho) h_S256x256
  st Bf.dus ![0, o] S256x256.size (inb2 le_rfl ho) h_S256x256 (.inr (packed2 (inb2 le_rfl ho) (by decide)))
    (shapeCast S256x256 (truncf .bf16 (addf (addf (addf (broadcast S256x256 (Scalar.ofBits .f32 0x00000000#32)) (rowMul d w2)) (rowMul (next1 v1 c d) w1)) (rowMul (next2 v1 c d) w0)) bitsLt_bf16_f32)
      shapeCasts_S256x256_S256x256)

/-- The backward pass of one column block: `g` is the gradient at the interleaved sublayer output. -/
def bwdBlock (v1 : IVec S8x256 32) (g : FVec F S256x1024 .bf16) (q : ℕ) (hq : q < 11) : K F PUnit := do
  let w ← ld Bf.wd ![256 * q, 0] S256x1024.size (inb2 (by omega) le_rfl) h_S256x1024
  let df : FVec F S256x256 .f32 := matmul dot_S256x1024_S256x1024_S256x256_1_1_0_0_n_n none g (w : FVec F S256x1024 .bf16) (constant S256x256 .f32 0x00000000#32)
  let s ← ld Bf.dwd ![256 * q, 0] S256x1024.size (inb2 (by omega) le_rfl) h_S256x1024
  let f ← ld Bf.f ![0, 256 * q] S256x256.size (inb2 le_rfl (by omega)) h_S256x256
  let _ ← ld Bf.dwd ![256 * q, 0] S256x1024.size (inb2 (by omega) le_rfl) h_S256x1024
  st Bf.dwd ![256 * q, 0] S256x1024.size (inb2 (by omega) le_rfl) h_S256x1024 (.inl rfl)
    (shapeCast S256x1024 (addf (s : FVec F S256x1024 .f32) (matmul dot_S256x256_S256x1024_S256x1024_0_0_1_1_n_n none (f : FVec F S256x256 .bf16) g (constant S256x1024 .f32 0x00000000#32)))
      shapeCasts_S256x1024_S256x1024)
  let sl ← ld Bf.sil ![0, 256 * q] S256x256.size (inb2 le_rfl (by omega)) h_S256x256
  convBack v1 (256 * q) (by omega) (mulf df (sl : FVec F S256x256 .f32))
  let vd ← ld Bf.vds ![0, 256 * q] S256x256.size (inb2 le_rfl (by omega)) h_S256x256
  convBack v1 (2816 + 256 * q) (by omega) (mulf df (vd : FVec F S256x256 .f32))

/-- The first `n` column blocks of the backward pass. -/
def bwdTo (v1 : IVec S8x256 32) (g : FVec F S256x1024 .bf16) : (n : ℕ) → n ≤ 11 → K F PUnit
  | 0, _ => pure ⟨⟩
  | n + 1, h => do
    bwdTo v1 g n (by omega)
    bwdBlock v1 g n (by omega)

/-! ### The tile -/

variable (F) in
/-- What the tile's first part leaves for the rest. -/
structure Pre where
  x : FVec F S256x1024 .f32
  g2 : FVec F S1x1024 .f32
  sc2 : FVec F S1x1024 .f32
  rows : FVec F S264x1024 .bf16
  pmt : FVec F S256x256 .bf16

/-- The tile's rows, normalised and interleaved. -/
def pre : K F (Pre F) := do
  let x ← ld Bf.x2 ![0, 0] S256x1024.size (inb2 le_rfl le_rfl) h_S256x1024
  let x := shapeCast S256x1024 (x : FVec F S256x1024 .f32) shapeCasts_S256x1024_S256x1024
  let g ← ld Bf.g2 ![0, 0] S1x1024.size (inb2 le_rfl le_rfl) h_S1x1024
  let sc ← ld Bf.sc2 ![0, 0] S1x1024.size (inb2 le_rfl le_rfl) h_S1x1024
  let sh ← ld Bf.sh2 ![0, 0] S1x1024.size (inb2 le_rfl le_rfl) h_S1x1024
  let hx ← ld Bf.halo ![0, 0] S8x1024.size (inb2 le_rfl le_rfl) h_S8x1024
  let g' ← ld Bf.g2 ![0, 0] S1x1024.size (inb2 le_rfl le_rfl) h_S1x1024
  let sc' ← ld Bf.sc2 ![0, 0] S1x1024.size (inb2 le_rfl le_rfl) h_S1x1024
  let sh' ← ld Bf.sh2 ![0, 0] S1x1024.size (inb2 le_rfl le_rfl) h_S1x1024
  let pm ← ld Bf.pm ![0, 0] S256x256.size (inb2 le_rfl le_rfl) h_S256x256
  let pmt ← ld Bf.pmt ![0, 0] S256x256.size (inb2 le_rfl le_rfl) h_S256x256
  pure { x := x, g2 := g, sc2 := sc
         rows := upRows (shapeCast S256x256 pm shapeCasts_S256x256_S256x256) (modulate (scaleRows x (rms x)) g sc sh)
           (haloNorm (shapeCast S8x1024 hx shapeCasts_S8x1024_S8x1024) g' sc' sh')
         pmt := shapeCast S256x256 pmt shapeCasts_S256x256_S256x256 }

/-- The loss, its gradient at the sublayer's input by the residual, and at its interleaved output. -/
def mid (P : Pre F) (o2 : FVec F S256x1024 .f32) : K F (FVec F S256x1024 .f32 × FVec F S256x1024 .bf16) := do
  let ff := deinterleave P.pmt o2
  let gt ← ld Bf.gt2 ![0, 0] S1x1024.size (inb2 le_rfl le_rfl) h_S1x1024
  let x3 := addf P.x (mulf (rowD gt) ff)
  let fg ← ld Bf.fg ![0, 0] S1x1024.size (inb2 le_rfl le_rfl) h_S1x1024
  let fg := shapeCast S1x1024 (fg : FVec F S1x1024 .f32) shapeCasts_S1x1024_S1x1024
  let n := scaleRows x3 (rms x3)
  let t ← ld Bf.tgt ![0, 0] S256x1024.size (inb2 le_rfl le_rfl) h_S256x1024
  let d := subf (mulf n (rowD fg)) (shapeCast S256x1024 t shapeCasts_S256x1024_S256x1024)
  let l ← ld Bf.loss ![0, 0] S1x128.size (inb2 le_rfl le_rfl) h_S1x128
  let _ ← ld Bf.loss ![0, 0] S1x128.size (inb2 le_rfl le_rfl) h_S1x128
  st Bf.loss ![0, 0] S1x128.size (inb2 le_rfl le_rfl) h_S1x128 (.inl rfl)
    (addf (shapeCast S1x128 l shapeCasts_S1x128_S1x128) (addf (broadcast S1x128 (Scalar.ofBits .f32 0x00000000#32)) (broadcast S1x128 (lossPart d))))
  let dy := mulf d (broadcast S256x1024 (Scalar.ofBits .f32 0x3A800000#32))
  let dx3 := normGrad (mulf dy (rowD fg)) n (rms x3)
  let s ← ld Bf.dfg ![0, 0] S1x1024.size (inb2 le_rfl le_rfl) h_S1x1024
  let _ ← ld Bf.dfg ![0, 0] S1x1024.size (inb2 le_rfl le_rfl) h_S1x1024
  st Bf.dfg ![0, 0] S1x1024.size (inb2 le_rfl le_rfl) h_S1x1024 (.inl rfl) (addf (shapeCast S1x1024 s shapeCasts_S1x1024_S1x1024) (colSumD (mulf dy n)))
  let s ← ld Bf.dgt2 ![0, 0] S1x1024.size (inb2 le_rfl le_rfl) h_S1x1024
  let _ ← ld Bf.dgt2 ![0, 0] S1x1024.size (inb2 le_rfl le_rfl) h_S1x1024
  st Bf.dgt2 ![0, 0] S1x1024.size (inb2 le_rfl le_rfl) h_S1x1024 (.inl rfl) (addf (shapeCast S1x1024 s shapeCasts_S1x1024_S1x1024) (colSumD (mulf dx3 ff)))
  let pm ← ld Bf.pm ![0, 0] S256x256.size (inb2 le_rfl le_rfl) h_S256x256
  pure (dx3, truncf .bf16 (matmul dot_S256x256_S256x1024_S256x1024_1_0_0_1_n_n none (shapeCast S256x256 pm shapeCasts_S256x256_S256x256)
    (truncf .bf16 (mulf (rowD gt) dx3) bitsLt_bf16_f32) (constant S256x1024 .f32 0x00000000#32)) bitsLt_bf16_f32)

/-- The gradient in token order, through the up projection and the norm. -/
def post (P : Pre F) (dx3 : FVec F S256x1024 .f32) : K F PUnit := do
  let d ← ld Bf.dus ![0, 0] S256x5632.size (inb2 le_rfl le_rfl) h_S256x5632
  let du : FVec F S256x5632 .bf16 := truncf .bf16 (matmul dot_S256x256_S256x5632_S256x5632_1_0_0_1_n_n none P.pmt (d : FVec F S256x5632 .bf16) (constant S256x5632 .f32 0x00000000#32)) bitsLt_bf16_f32
  let _ ← ld Bf.du ![0, 0] S256x5632.size (inb2 le_rfl le_rfl) h_S256x5632
  st Bf.du ![0, 0] S256x5632.size (inb2 le_rfl le_rfl) h_S256x5632 (.inr (packed2 (inb2 le_rfl le_rfl) (by decide))) du
  let w ← ld Bf.wup ![0, 0] S1024x5632.size (inb2 le_rfl le_rfl) h_S1024x5632
  let dh : FVec F S256x1024 .f32 := matmul dot_S256x5632_S1024x5632_S256x1024_1_1_0_0_n_n none du (w : FVec F S1024x5632 .bf16) (constant S256x1024 .f32 0x00000000#32)
  let n := scaleRows P.x (rms P.x)
  let c := colSumD (mulf dh n)
  let dx := normGrad (mulf dh (rowD (mulf P.g2 (onePlus P.sc2)))) n (rms P.x)
  let _ ← ld Bf.dx2 ![0, 0] S256x1024.size (inb2 le_rfl le_rfl) h_S256x1024
  st Bf.dx2 ![0, 0] S256x1024.size (inb2 le_rfl le_rfl) h_S256x1024 (.inl rfl) (addf dx3 dx)
  let s ← ld Bf.dg2 ![0, 0] S1x1024.size (inb2 le_rfl le_rfl) h_S1x1024
  let _ ← ld Bf.dg2 ![0, 0] S1x1024.size (inb2 le_rfl le_rfl) h_S1x1024
  st Bf.dg2 ![0, 0] S1x1024.size (inb2 le_rfl le_rfl) h_S1x1024 (.inl rfl) (addf (shapeCast S1x1024 s shapeCasts_S1x1024_S1x1024) (mulf c (onePlus P.sc2)))
  let s ← ld Bf.dsc2 ![0, 0] S1x1024.size (inb2 le_rfl le_rfl) h_S1x1024
  let _ ← ld Bf.dsc2 ![0, 0] S1x1024.size (inb2 le_rfl le_rfl) h_S1x1024
  st Bf.dsc2 ![0, 0] S1x1024.size (inb2 le_rfl le_rfl) h_S1x1024 (.inl rfl) (addf (shapeCast S1x1024 s shapeCasts_S1x1024_S1x1024) (mulf c P.g2))
  let s ← ld Bf.dsh2 ![0, 0] S1x1024.size (inb2 le_rfl le_rfl) h_S1x1024
  let _ ← ld Bf.dsh2 ![0, 0] S1x1024.size (inb2 le_rfl le_rfl) h_S1x1024
  st Bf.dsh2 ![0, 0] S1x1024.size (inb2 le_rfl le_rfl) h_S1x1024 (.inl rfl) (addf (shapeCast S1x1024 s shapeCasts_S1x1024_S1x1024) (colSumD dh))

/-- One tile: `v0` is its number, `v1` the row numbers. -/
def tile (v0 : BitVec 32) (v1 : IVec S8x256 32) : K F PUnit := do
  let P ← pre
  let a ← fwdTo v0 v1 P.rows 10 (by decide)
  let o2 ← fwdBlock v0 v1 10 (by decide) a.1 a.2
  let m ← mid P o2
  bwdTo v1 m.2 11 (by decide)
  post P m.1

/-- The accumulators and the carry zeroed. -/
def zeros : K F PUnit := do
  let _ ← ld Bf.dwd ![0, 0] S2816x1024.size (inb2 le_rfl le_rfl) h_S2816x1024
  st Bf.dwd ![0, 0] S2816x1024.size (inb2 le_rfl le_rfl) h_S2816x1024 (.inl rfl) (shapeCast S2816x1024 (broadcast S2816x1024 (Scalar.ofBits .f32 0x00000000#32)) shapeCasts_S2816x1024_S2816x1024)
  let _ ← ld Bf.carry ![0, 0] S16x5632.size (inb2 le_rfl le_rfl) h_S16x5632
  st Bf.carry ![0, 0] S16x5632.size (inb2 le_rfl le_rfl) h_S16x5632 (.inl rfl) (shapeCast S16x5632 (broadcast S16x5632 (Scalar.ofBits .f32 0x00000000#32)) shapeCasts_S16x5632_S16x5632)
  let _ ← ld Bf.dfw ![0, 0] S3x5632.size (inb2 le_rfl le_rfl) h_S3x5632
  st Bf.dfw ![0, 0] S3x5632.size (inb2 le_rfl le_rfl) h_S3x5632 (.inl rfl) (broadcast S3x5632 (Scalar.ofBits .f32 0x00000000#32))
  let _ ← ld Bf.dfb ![0, 0] S1x5632.size (inb2 le_rfl le_rfl) h_S1x5632
  st Bf.dfb ![0, 0] S1x5632.size (inb2 le_rfl le_rfl) h_S1x5632 (.inl rfl) (broadcast S1x5632 (Scalar.ofBits .f32 0x00000000#32))
  let _ ← ld Bf.dfg ![0, 0] S1x1024.size (inb2 le_rfl le_rfl) h_S1x1024
  st Bf.dfg ![0, 0] S1x1024.size (inb2 le_rfl le_rfl) h_S1x1024 (.inl rfl) (broadcast S1x1024 (Scalar.ofBits .f32 0x00000000#32))
  let _ ← ld Bf.dgt2 ![0, 0] S1x1024.size (inb2 le_rfl le_rfl) h_S1x1024
  st Bf.dgt2 ![0, 0] S1x1024.size (inb2 le_rfl le_rfl) h_S1x1024 (.inl rfl) (broadcast S1x1024 (Scalar.ofBits .f32 0x00000000#32))
  let _ ← ld Bf.dg2 ![0, 0] S1x1024.size (inb2 le_rfl le_rfl) h_S1x1024
  st Bf.dg2 ![0, 0] S1x1024.size (inb2 le_rfl le_rfl) h_S1x1024 (.inl rfl) (broadcast S1x1024 (Scalar.ofBits .f32 0x00000000#32))
  let _ ← ld Bf.dsc2 ![0, 0] S1x1024.size (inb2 le_rfl le_rfl) h_S1x1024
  st Bf.dsc2 ![0, 0] S1x1024.size (inb2 le_rfl le_rfl) h_S1x1024 (.inl rfl) (broadcast S1x1024 (Scalar.ofBits .f32 0x00000000#32))
  let _ ← ld Bf.dsh2 ![0, 0] S1x1024.size (inb2 le_rfl le_rfl) h_S1x1024
  st Bf.dsh2 ![0, 0] S1x1024.size (inb2 le_rfl le_rfl) h_S1x1024 (.inl rfl) (broadcast S1x1024 (Scalar.ofBits .f32 0x00000000#32))
  let _ ← ld Bf.loss ![0, 0] S1x128.size (inb2 le_rfl le_rfl) h_S1x128
  st Bf.loss ![0, 0] S1x128.size (inb2 le_rfl le_rfl) h_S1x128 (.inl rfl) (broadcast S1x128 (Scalar.ofBits .f32 0x00000000#32))

/-- The tile a grid point works on: the last tile first. -/
def tileNo (i : grid0.Coords) : BitVec 32 := Scalar.subi 31#32 (BitVec.ofNat 32 (i 0).val)

/-- Whether the point is the first. -/
def isFirst (i : grid0.Coords) : BitVec 1 := Scalar.cmpi .ne (Scalar.extui (Scalar.cmpi .eq (BitVec.ofNat 32 (i 0).val) 0#32) : BitVec 32) 0#32

/-- Whether the point is the last. -/
def isLast (i : grid0.Coords) : BitVec 1 := Scalar.cmpi .ne (Scalar.extui (Scalar.cmpi .eq (BitVec.ofNat 32 (i 0).val) 31#32) : BitVec 32) 0#32

end Cert.Ffn

end
-- ==== Proof.Ffn.Bridge.lean ====
/-
  The printed kernel body is the first point's copies and zeros, the tile, and the last point's copies.
-/
module

public import proofs.«01_k».proof.Proof.Ffn.Prog
public import Idealize.ShloMosaic.Lib.Tactic

@[expose] public section

set_option maxRecDepth 65536

noncomputable section

namespace Cert.Ffn

open Idealize.ShloMosaic Idealize.ShloMosaic.TcCoe Idealize.ShloMosaic.Tactic Idealize.SL.Sem
open Cert.KernelIdeal Cert.KernelIdeal.Facts₀ Cert.KernelIdeal.Facts

variable {F : FTy → Type} [FloatOps F]

/-- The kernel's VMEM arguments, buffer by buffer. -/
def memOf (arg1 : Memref sig .tc .vmem S256x1024 .f32) (arg2 : Memref sig .tc .vmem S8x1024 .f32) (arg3 : Memref sig .tc .vmem S256x1024 .f32) (arg4 : Memref sig .tc .vmem S1x1024 .f32) (arg5 : Memref sig .tc .vmem S1x1024 .f32) (arg6 : Memref sig .tc .vmem S1x1024 .f32) (arg7 : Memref sig .tc .vmem S3x5632 .f32) (arg8 : Memref sig .tc .vmem S1x5632 .f32) (arg9 : Memref sig .tc .vmem S1x1024 .f32) (arg10 : Memref sig .tc .vmem S1x1024 .f32) (arg11 : Memref sig .tc .vmem S256x256 .bf16) (arg12 : Memref sig .tc .vmem S256x256 .bf16) (arg15 : Memref sig .tc .vmem S256x5632 .bf16) (arg16 : Memref sig .tc .vmem S256x1024 .f32) (arg17 : Memref sig .tc .vmem S3x5632 .f32) (arg18 : Memref sig .tc .vmem S1x5632 .f32) (arg19 : Memref sig .tc .vmem S1x1024 .f32) (arg20 : Memref sig .tc .vmem S1x1024 .f32) (arg21 : Memref sig .tc .vmem S1x1024 .f32) (arg22 : Memref sig .tc .vmem S1x1024 .f32) (arg23 : Memref sig .tc .vmem S1x1024 .f32) (arg24 : Memref sig .tc .vmem S1x128 .f32) (arg27 : Memref sig .tc .vmem S1024x5632 .bf16) (arg28 : Memref sig .tc .vmem S2816x1024 .bf16) (arg29 : Memref sig .tc .vmem S2816x1024 .f32) (arg30 : Memref sig .tc .vmem S16x5632 .f32) (arg31 : Memref sig .tc .vmem S256x5632 .bf16) (arg32 : Memref sig .tc .vmem S256x2816 .f32) (arg33 : Memref sig .tc .vmem S256x2816 .f32) (arg34 : Memref sig .tc .vmem S256x2816 .bf16) (arg35 : Memref sig .tc .vmem S256x5632 .bf16) :
    (b : Bf) → Memref sig .tc .vmem (shp b) (elt b)
  | .x2 => arg1 | .halo => arg2 | .tgt => arg3 | .g2 => arg4 | .sc2 => arg5 | .sh2 => arg6 | .fw => arg7 | .fb => arg8 | .gt2 => arg9 | .fg => arg10 | .pm => arg11 | .pmt => arg12 | .du => arg15 | .dx2 => arg16 | .dfw => arg17 | .dfb => arg18 | .dfg => arg19 | .dgt2 => arg20 | .dg2 => arg21 | .dsc2 => arg22 | .dsh2 => arg23 | .loss => arg24 | .wup => arg27 | .wd => arg28 | .dwd => arg29 | .carry => arg30 | .u => arg31 | .sil => arg32 | .vds => arg33 | .f => arg34 | .dus => arg35

theorem wholeOf (arg1 : Memref sig .tc .vmem S256x1024 .f32) (arg2 : Memref sig .tc .vmem S8x1024 .f32) (arg3 : Memref sig .tc .vmem S256x1024 .f32) (arg4 : Memref sig .tc .vmem S1x1024 .f32) (arg5 : Memref sig .tc .vmem S1x1024 .f32) (arg6 : Memref sig .tc .vmem S1x1024 .f32) (arg7 : Memref sig .tc .vmem S3x5632 .f32) (arg8 : Memref sig .tc .vmem S1x5632 .f32) (arg9 : Memref sig .tc .vmem S1x1024 .f32) (arg10 : Memref sig .tc .vmem S1x1024 .f32) (arg11 : Memref sig .tc .vmem S256x256 .bf16) (arg12 : Memref sig .tc .vmem S256x256 .bf16) (arg15 : Memref sig .tc .vmem S256x5632 .bf16) (arg16 : Memref sig .tc .vmem S256x1024 .f32) (arg17 : Memref sig .tc .vmem S3x5632 .f32) (arg18 : Memref sig .tc .vmem S1x5632 .f32) (arg19 : Memref sig .tc .vmem S1x1024 .f32) (arg20 : Memref sig .tc .vmem S1x1024 .f32) (arg21 : Memref sig .tc .vmem S1x1024 .f32) (arg22 : Memref sig .tc .vmem S1x1024 .f32) (arg23 : Memref sig .tc .vmem S1x1024 .f32) (arg24 : Memref sig .tc .vmem S1x128 .f32) (arg27 : Memref sig .tc .vmem S1024x5632 .bf16) (arg28 : Memref sig .tc .vmem S2816x1024 .bf16) (arg29 : Memref sig .tc .vmem S2816x1024 .f32) (arg30 : Memref sig .tc .vmem S16x5632 .f32) (arg31 : Memref sig .tc .vmem S256x5632 .bf16) (arg32 : Memref sig .tc .vmem S256x2816 .f32) (arg33 : Memref sig .tc .vmem S256x2816 .f32) (arg34 : Memref sig .tc .vmem S256x2816 .bf16) (arg35 : Memref sig .tc .vmem S256x5632 .bf16)
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg27 : arg27.IsWhole) (harg28 : arg28.IsWhole) (harg29 : arg29.IsWhole) (harg30 : arg30.IsWhole) (harg31 : arg31.IsWhole) (harg32 : arg32.IsWhole) (harg33 : arg33.IsWhole) (harg34 : arg34.IsWhole) (harg35 : arg35.IsWhole) :
    ∀ b, (memOf arg1 arg2 arg3 arg4 arg5 arg6 arg7 arg8 arg9 arg10 arg11 arg12 arg15 arg16 arg17 arg18 arg19 arg20 arg21 arg22 arg23 arg24 arg27 arg28 arg29 arg30 arg31 arg32 arg33 arg34 arg35 b).IsWhole
  | .x2 => harg1 | .halo => harg2 | .tgt => harg3 | .g2 => harg4 | .sc2 => harg5 | .sh2 => harg6 | .fw => harg7 | .fb => harg8 | .gt2 => harg9 | .fg => harg10 | .pm => harg11 | .pmt => harg12 | .du => harg15 | .dx2 => harg16 | .dfw => harg17 | .dfb => harg18 | .dfg => harg19 | .dgt2 => harg20 | .dg2 => harg21 | .dsc2 => harg22 | .dsh2 => harg23 | .loss => harg24 | .wup => harg27 | .wd => harg28 | .dwd => harg29 | .carry => harg30 | .u => harg31 | .sil => harg32 | .vds => harg33 | .f => harg34 | .dus => harg35

/-- The first point's copies of the two weights into VMEM, all started and then waited for. -/
def fill (arg13 : Memref sig .tc .hbm S4x1024x1408 .bf16) (harg13 : arg13.IsWhole) (arg14 : Memref sig .tc .hbm S2816x1024 .bf16) (harg14 : arg14.IsWhole) (arg27 : Memref sig .tc .vmem S1024x5632 .bf16) (harg27 : arg27.IsWhole) (arg28 : Memref sig .tc .vmem S2816x1024 .bf16) (harg28 : arg28.IsWhole) (arg36 : DmaSems sig S7) :
    Prog (TpuEff nD τ sig (Elt F) Λ₀ .tc) PUnit := do
  let v3135 : DmaSems sig S1 := arg36.slice (Rect.unit (s := S7) ![0] S1.size inb_S7_S1_0)
  let v3136 : DmaSems sig S_ := v3135.squeeze S_ squeezes_S1_S_
  Prog.lift (.enqueueDma arg14 (.here arg28) (.dma v3136.sem) harg14.wordExact harg28.wordExact ⟨Or.inl rfl, trivial⟩)
  let v3137 : DmaSems sig S1 := arg36.slice (Rect.unit (s := S7) ![3] S1.size inb_S7_S1_3)
  let v3138 : DmaSems sig S_ := v3137.squeeze S_ squeezes_S1_S_
  let v3139 : Memref sig .tc .vmem S1024x1408 .bf16 := arg27.slice (Rect.unit (s := S1024x5632) ![0, 0] S1024x1408.size inb_S1024x5632_S1024x1408_0_0) (fun _ => rfl)
  let v3140 : Memref sig .tc .hbm S1x1024x1408 .bf16 := arg13.slice (Rect.unit (s := S4x1024x1408) ![0, 0, 0] S1x1024x1408.size inb_S4x1024x1408_S1x1024x1408_0_0_0) (fun _ => rfl)
  let v3141 : Memref sig .tc .hbm S1024x1408 .bf16 := v3140.squeeze S1024x1408 squeezes_S1x1024x1408_S1024x1408
  Prog.lift (.enqueueDma v3141 (.here v3139) (.dma v3138.sem) ((harg13.wordExact_slice rfl _ wordsbf16_S4x1024x1408_S1x1024x1408_0_0_0).reshape _ _) (harg27.wordExact_slice rfl _ wordsbf16_S1024x5632_S1024x1408_0_0) ⟨Or.inl rfl, trivial⟩)
  let v3142 : DmaSems sig S1 := arg36.slice (Rect.unit (s := S7) ![4] S1.size inb_S7_S1_4)
  let v3143 : DmaSems sig S_ := v3142.squeeze S_ squeezes_S1_S_
  let v3144 : Memref sig .tc .vmem S1024x1408 .bf16 := arg27.slice (Rect.unit (s := S1024x5632) ![0, 1408] S1024x1408.size inb_S1024x5632_S1024x1408_0_1408) (fun _ => rfl)
  let v3145 : Memref sig .tc .hbm S1x1024x1408 .bf16 := arg13.slice (Rect.unit (s := S4x1024x1408) ![1, 0, 0] S1x1024x1408.size inb_S4x1024x1408_S1x1024x1408_1_0_0) (fun _ => rfl)
  let v3146 : Memref sig .tc .hbm S1024x1408 .bf16 := v3145.squeeze S1024x1408 squeezes_S1x1024x1408_S1024x1408
  Prog.lift (.enqueueDma v3146 (.here v3144) (.dma v3143.sem) ((harg13.wordExact_slice rfl _ wordsbf16_S4x1024x1408_S1x1024x1408_1_0_0).reshape _ _) (harg27.wordExact_slice rfl _ wordsbf16_S1024x5632_S1024x1408_0_1408) ⟨Or.inl rfl, trivial⟩)
  let v3147 : DmaSems sig S1 := arg36.slice (Rect.unit (s := S7) ![5] S1.size inb_S7_S1_5)
  let v3148 : DmaSems sig S_ := v3147.squeeze S_ squeezes_S1_S_
  let v3149 : Memref sig .tc .vmem S1024x1408 .bf16 := arg27.slice (Rect.unit (s := S1024x5632) ![0, 2816] S1024x1408.size inb_S1024x5632_S1024x1408_0_2816) (fun _ => rfl)
  let v3150 : Memref sig .tc .hbm S1x1024x1408 .bf16 := arg13.slice (Rect.unit (s := S4x1024x1408) ![2, 0, 0] S1x1024x1408.size inb_S4x1024x1408_S1x1024x1408_2_0_0) (fun _ => rfl)
  let v3151 : Memref sig .tc .hbm S1024x1408 .bf16 := v3150.squeeze S1024x1408 squeezes_S1x1024x1408_S1024x1408
  Prog.lift (.enqueueDma v3151 (.here v3149) (.dma v3148.sem) ((harg13.wordExact_slice rfl _ wordsbf16_S4x1024x1408_S1x1024x1408_2_0_0).reshape _ _) (harg27.wordExact_slice rfl _ wordsbf16_S1024x5632_S1024x1408_0_2816) ⟨Or.inl rfl, trivial⟩)
  let v3152 : DmaSems sig S1 := arg36.slice (Rect.unit (s := S7) ![6] S1.size inb_S7_S1_6)
  let v3153 : DmaSems sig S_ := v3152.squeeze S_ squeezes_S1_S_
  let v3154 : Memref sig .tc .vmem S1024x1408 .bf16 := arg27.slice (Rect.unit (s := S1024x5632) ![0, 4224] S1024x1408.size inb_S1024x5632_S1024x1408_0_4224) (fun _ => rfl)
  let v3155 : Memref sig .tc .hbm S1x1024x1408 .bf16 := arg13.slice (Rect.unit (s := S4x1024x1408) ![3, 0, 0] S1x1024x1408.size inb_S4x1024x1408_S1x1024x1408_3_0_0) (fun _ => rfl)
  let v3156 : Memref sig .tc .hbm S1024x1408 .bf16 := v3155.squeeze S1024x1408 squeezes_S1x1024x1408_S1024x1408
  Prog.lift (.enqueueDma v3156 (.here v3154) (.dma v3153.sem) ((harg13.wordExact_slice rfl _ wordsbf16_S4x1024x1408_S1x1024x1408_3_0_0).reshape _ _) (harg27.wordExact_slice rfl _ wordsbf16_S1024x5632_S1024x1408_0_4224) ⟨Or.inl rfl, trivial⟩)
  let v3157 : DmaSems sig S1 := arg36.slice (Rect.unit (s := S7) ![0] S1.size inb_S7_S1_0)
  let v3158 : DmaSems sig S_ := v3157.squeeze S_ squeezes_S1_S_
  Prog.lift (.waitDma2 v3158.sem arg14 arg28 harg14.wordExact harg28.wordExact)
  let v3159 : DmaSems sig S1 := arg36.slice (Rect.unit (s := S7) ![3] S1.size inb_S7_S1_3)
  let v3160 : DmaSems sig S_ := v3159.squeeze S_ squeezes_S1_S_
  let v3161 : Memref sig .tc .vmem S1024x1408 .bf16 := arg27.slice (Rect.unit (s := S1024x5632) ![0, 0] S1024x1408.size inb_S1024x5632_S1024x1408_0_0) (fun _ => rfl)
  let v3162 : Memref sig .tc .hbm S1x1024x1408 .bf16 := arg13.slice (Rect.unit (s := S4x1024x1408) ![0, 0, 0] S1x1024x1408.size inb_S4x1024x1408_S1x1024x1408_0_0_0) (fun _ => rfl)
  let v3163 : Memref sig .tc .hbm S1024x1408 .bf16 := v3162.squeeze S1024x1408 squeezes_S1x1024x1408_S1024x1408
  let v3159 : DmaSems sig S1 := arg36.slice (Rect.unit (s := S7) ![3] S1.size inb_S7_S1_3)
  let v3160 : DmaSems sig S_ := v3159.squeeze S_ squeezes_S1_S_
  Prog.lift (.waitDma2 v3160.sem v3163 v3161 ((harg13.wordExact_slice rfl _ wordsbf16_S4x1024x1408_S1x1024x1408_0_0_0).reshape _ _) (harg27.wordExact_slice rfl _ wordsbf16_S1024x5632_S1024x1408_0_0))
  let v3164 : DmaSems sig S1 := arg36.slice (Rect.unit (s := S7) ![4] S1.size inb_S7_S1_4)
  let v3165 : DmaSems sig S_ := v3164.squeeze S_ squeezes_S1_S_
  let v3166 : Memref sig .tc .vmem S1024x1408 .bf16 := arg27.slice (Rect.unit (s := S1024x5632) ![0, 1408] S1024x1408.size inb_S1024x5632_S1024x1408_0_1408) (fun _ => rfl)
  let v3167 : Memref sig .tc .hbm S1x1024x1408 .bf16 := arg13.slice (Rect.unit (s := S4x1024x1408) ![1, 0, 0] S1x1024x1408.size inb_S4x1024x1408_S1x1024x1408_1_0_0) (fun _ => rfl)
  let v3168 : Memref sig .tc .hbm S1024x1408 .bf16 := v3167.squeeze S1024x1408 squeezes_S1x1024x1408_S1024x1408
  Prog.lift (.waitDma2 v3165.sem v3168 v3166 ((harg13.wordExact_slice rfl _ wordsbf16_S4x1024x1408_S1x1024x1408_1_0_0).reshape _ _) (harg27.wordExact_slice rfl _ wordsbf16_S1024x5632_S1024x1408_0_1408))
  let v3169 : DmaSems sig S1 := arg36.slice (Rect.unit (s := S7) ![5] S1.size inb_S7_S1_5)
  let v3170 : DmaSems sig S_ := v3169.squeeze S_ squeezes_S1_S_
  let v3171 : Memref sig .tc .vmem S1024x1408 .bf16 := arg27.slice (Rect.unit (s := S1024x5632) ![0, 2816] S1024x1408.size inb_S1024x5632_S1024x1408_0_2816) (fun _ => rfl)
  let v3172 : Memref sig .tc .hbm S1x1024x1408 .bf16 := arg13.slice (Rect.unit (s := S4x1024x1408) ![2, 0, 0] S1x1024x1408.size inb_S4x1024x1408_S1x1024x1408_2_0_0) (fun _ => rfl)
  let v3173 : Memref sig .tc .hbm S1024x1408 .bf16 := v3172.squeeze S1024x1408 squeezes_S1x1024x1408_S1024x1408
  Prog.lift (.waitDma2 v3170.sem v3173 v3171 ((harg13.wordExact_slice rfl _ wordsbf16_S4x1024x1408_S1x1024x1408_2_0_0).reshape _ _) (harg27.wordExact_slice rfl _ wordsbf16_S1024x5632_S1024x1408_0_2816))
  let v3174 : DmaSems sig S1 := arg36.slice (Rect.unit (s := S7) ![6] S1.size inb_S7_S1_6)
  let v3175 : DmaSems sig S_ := v3174.squeeze S_ squeezes_S1_S_
  let v3176 : Memref sig .tc .vmem S1024x1408 .bf16 := arg27.slice (Rect.unit (s := S1024x5632) ![0, 4224] S1024x1408.size inb_S1024x5632_S1024x1408_0_4224) (fun _ => rfl)
  let v3177 : Memref sig .tc .hbm S1x1024x1408 .bf16 := arg13.slice (Rect.unit (s := S4x1024x1408) ![3, 0, 0] S1x1024x1408.size inb_S4x1024x1408_S1x1024x1408_3_0_0) (fun _ => rfl)
  let v3178 : Memref sig .tc .hbm S1024x1408 .bf16 := v3177.squeeze S1024x1408 squeezes_S1x1024x1408_S1024x1408
  Prog.lift (.waitDma2 v3175.sem v3178 v3176 ((harg13.wordExact_slice rfl _ wordsbf16_S4x1024x1408_S1x1024x1408_3_0_0).reshape _ _) (harg27.wordExact_slice rfl _ wordsbf16_S1024x5632_S1024x1408_0_4224))

/-- The last point's copies of the down projection's gradient, in both formats, out of VMEM. -/
def drain (arg25 : Memref sig .tc .hbm S2816x1024 .f32) (harg25 : arg25.IsWhole) (arg26 : Memref sig .tc .hbm S2816x1024 .bf16) (harg26 : arg26.IsWhole) (arg28 : Memref sig .tc .vmem S2816x1024 .bf16) (harg28 : arg28.IsWhole) (arg29 : Memref sig .tc .vmem S2816x1024 .f32) (harg29 : arg29.IsWhole) (arg36 : DmaSems sig S7) :
    Prog (TpuEff nD τ sig (Elt F) Λ₀ .tc) PUnit := do
  let v3135 : DmaSems sig S1 := arg36.slice (Rect.unit (s := S7) ![1] S1.size inb_S7_S1_1)
  let v3136 : DmaSems sig S_ := v3135.squeeze S_ squeezes_S1_S_
  Prog.lift (.enqueueDma arg29 (.here arg25) (.dma v3136.sem) harg29.wordExact harg25.wordExact ⟨Or.inl rfl, trivial⟩)
  let v3137 : Vec F S2816x1024 .f32 ← Prog.lift (.load arg29 (Rect.unit (s := S2816x1024) ![0, 0] S2816x1024.size inb_S2816x1024_S2816x1024_0_0).toLoadRect (View.loadsAt_vmem h_S2816x1024))
  have v3138 : FVec F S2816x1024 .bf16 := truncf .bf16 v3137 bitsLt_bf16_f32
  let v3139 : Vec F S2816x1024 .bf16 ← Prog.lift (.load arg28 (Rect.unit (s := S2816x1024) ![0, 0] S2816x1024.size inb_S2816x1024_S2816x1024_0_0).toLoadRect (View.loadsAt_vmem h_S2816x1024))
  have v3140 : FVec F S2816x1024 .bf16 := shapeCast S2816x1024 v3139 shapeCasts_S2816x1024_S2816x1024
  have v3141 : FVec F S2816x1024 .bf16 := shapeCast S2816x1024 v3138 shapeCasts_S2816x1024_S2816x1024
  Prog.lift (.store arg28 (Rect.unit (s := S2816x1024) ![0, 0] S2816x1024.size inb_S2816x1024_S2816x1024_0_0) v3141 Finset.univ (View.stores_vmem h_S2816x1024 (harg28.storeExact_slice rfl _ packedbf16_S2816x1024_S2816x1024_0_0) (fun _ => rfl)) (.inl rfl))
  let v3142 : DmaSems sig S1 := arg36.slice (Rect.unit (s := S7) ![2] S1.size inb_S7_S1_2)
  let v3143 : DmaSems sig S_ := v3142.squeeze S_ squeezes_S1_S_
  Prog.lift (.enqueueDma arg28 (.here arg26) (.dma v3143.sem) harg28.wordExact harg26.wordExact ⟨Or.inl rfl, trivial⟩)
  let v3144 : DmaSems sig S1 := arg36.slice (Rect.unit (s := S7) ![1] S1.size inb_S7_S1_1)
  let v3145 : DmaSems sig S_ := v3144.squeeze S_ squeezes_S1_S_
  Prog.lift (.waitDma2 v3145.sem arg29 arg25 harg29.wordExact harg25.wordExact)
  let v3146 : DmaSems sig S1 := arg36.slice (Rect.unit (s := S7) ![2] S1.size inb_S7_S1_2)
  let v3147 : DmaSems sig S_ := v3146.squeeze S_ squeezes_S1_S_
  Prog.lift (.waitDma2 v3147.sem arg28 arg26 harg28.wordExact harg26.wordExact)
  pure ⟨⟩

set_option maxHeartbeats 0 in
/-- The kernel body is these parts. -/
theorem cc0_ffn_eq (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x256 .bf16) (harg11 : arg11.IsWhole) (arg12 : Memref sig .tc .vmem S256x256 .bf16) (harg12 : arg12.IsWhole) (arg13 : Memref sig .tc .hbm S4x1024x1408 .bf16) (harg13 : arg13.IsWhole) (arg14 : Memref sig .tc .hbm S2816x1024 .bf16) (harg14 : arg14.IsWhole) (arg15 : Memref sig .tc .vmem S256x5632 .bf16) (harg15 : arg15.IsWhole) (arg16 : Memref sig .tc .vmem S256x1024 .f32) (harg16 : arg16.IsWhole) (arg17 : Memref sig .tc .vmem S3x5632 .f32) (harg17 : arg17.IsWhole) (arg18 : Memref sig .tc .vmem S1x5632 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x128 .f32) (harg24 : arg24.IsWhole) (arg25 : Memref sig .tc .hbm S2816x1024 .f32) (harg25 : arg25.IsWhole) (arg26 : Memref sig .tc .hbm S2816x1024 .bf16) (harg26 : arg26.IsWhole) (arg27 : Memref sig .tc .vmem S1024x5632 .bf16) (harg27 : arg27.IsWhole) (arg28 : Memref sig .tc .vmem S2816x1024 .bf16) (harg28 : arg28.IsWhole) (arg29 : Memref sig .tc .vmem S2816x1024 .f32) (harg29 : arg29.IsWhole) (arg30 : Memref sig .tc .vmem S16x5632 .f32) (harg30 : arg30.IsWhole) (arg31 : Memref sig .tc .vmem S256x5632 .bf16) (harg31 : arg31.IsWhole) (arg32 : Memref sig .tc .vmem S256x2816 .f32) (harg32 : arg32.IsWhole) (arg33 : Memref sig .tc .vmem S256x2816 .f32) (harg33 : arg33.IsWhole) (arg34 : Memref sig .tc .vmem S256x2816 .bf16) (harg34 : arg34.IsWhole) (arg35 : Memref sig .tc .vmem S256x5632 .bf16) (harg35 : arg35.IsWhole) (arg36 : DmaSems sig S7) :
    (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 : Prog (TpuEff nD τ sig (Elt F) Λ₀ .tc) PUnit)
      = ((if k0_h1 : isFirst i = 1#1 then (fill arg13 harg13 arg14 harg14 arg27 harg27 arg28 harg28 arg36 >>= fun _ => zeros.prog (memOf arg1 arg2 arg3 arg4 arg5 arg6 arg7 arg8 arg9 arg10 arg11 arg12 arg15 arg16 arg17 arg18 arg19 arg20 arg21 arg22 arg23 arg24 arg27 arg28 arg29 arg30 arg31 arg32 arg33 arg34 arg35) (wholeOf arg1 arg2 arg3 arg4 arg5 arg6 arg7 arg8 arg9 arg10 arg11 arg12 arg15 arg16 arg17 arg18 arg19 arg20 arg21 arg22 arg23 arg24 arg27 arg28 arg29 arg30 arg31 arg32 arg33 arg34 arg35 harg1 harg2 harg3 harg4 harg5 harg6 harg7 harg8 harg9 harg10 harg11 harg12 harg15 harg16 harg17 harg18 harg19 harg20 harg21 harg22 harg23 harg24 harg27 harg28 harg29 harg30 harg31 harg32 harg33 harg34 harg35)) else pure ⟨⟩) >>= fun _ =>
          (tile (tileNo i) rowNo).prog (memOf arg1 arg2 arg3 arg4 arg5 arg6 arg7 arg8 arg9 arg10 arg11 arg12 arg15 arg16 arg17 arg18 arg19 arg20 arg21 arg22 arg23 arg24 arg27 arg28 arg29 arg30 arg31 arg32 arg33 arg34 arg35) (wholeOf arg1 arg2 arg3 arg4 arg5 arg6 arg7 arg8 arg9 arg10 arg11 arg12 arg15 arg16 arg17 arg18 arg19 arg20 arg21 arg22 arg23 arg24 arg27 arg28 arg29 arg30 arg31 arg32 arg33 arg34 arg35 harg1 harg2 harg3 harg4 harg5 harg6 harg7 harg8 harg9 harg10 harg11 harg12 harg15 harg16 harg17 harg18 harg19 harg20 harg21 harg22 harg23 harg24 harg27 harg28 harg29 harg30 harg31 harg32 harg33 harg34 harg35) >>= fun _ =>
          (if k0_h2 : isLast i = 1#1 then drain arg25 harg25 arg26 harg26 arg28 harg28 arg29 harg29 arg36 >>= fun _ => pure ⟨⟩ else pure ⟨⟩)) := by
  by_cases h : isFirst i = 1#1
  · have h' := h
    unfold isFirst at h'
    rw [dif_pos h]
    unfold cc0_ffn k0_part87 k0_part3
    simp only [dif_pos h']
    sl_kernel_rfl
  · have h' := h
    unfold isFirst at h'
    rw [dif_neg h]
    unfold cc0_ffn k0_part87 k0_part3
    simp only [dif_neg h']
    sl_kernel_rfl

end Cert.Ffn

end
-- ==== Proof.Ffn.Run.lean ====
/-
  What one tile of the FFN kernel leaves in every buffer, as a function of what it found.

  The column blocks are independent of each other except for the sum over blocks of the down projection, so each
  buffer ends as its blocks side by side; the buffers holding a block's saved values are wholly rewritten.
-/
module

public import proofs.«01_k».proof.Proof.Ffn.Prog

@[expose] public section

set_option maxRecDepth 16384

noncomputable section

namespace Cert.Ffn

open Idealize.ShloMosaic Idealize.ShloMosaic.TcCoe
open Cert.KernelIdeal Cert.KernelIdeal.Facts₀ Cert.KernelIdeal.Facts

/-! ### Blocks side by side -/

section Paste

variable {β : Type} {H W N : ℕ}

/-- An array of `256 N` columns whose column blocks `k` with `S k` are `blk k`, the others those of `X`. -/
def pasteCols (hW : W = 256 * N) (S : ℕ → Prop) [DecidablePred S] (X : (⟨2, ![H, W]⟩ : Shape).Idx → β)
    (blk : Fin N → (⟨2, ![H, 256]⟩ : Shape).Idx → β) : (⟨2, ![H, W]⟩ : Shape).Idx → β :=
  fun y => if S ((y 1).val / 256) then
      blk ⟨(y 1).val / 256, by have : (y 1).val < W := (y 1).isLt; omega⟩ (fun | 0 => y 0 | 1 => ⟨(y 1).val % 256, Nat.mod_lt _ (by decide)⟩)
    else X y

/-- An array of `256 N` rows whose row blocks `k` with `S k` are `blk k`, the others those of `X`. -/
def pasteRows (hH : H = 256 * N) (S : ℕ → Prop) [DecidablePred S] (X : (⟨2, ![H, W]⟩ : Shape).Idx → β)
    (blk : Fin N → (⟨2, ![256, W]⟩ : Shape).Idx → β) : (⟨2, ![H, W]⟩ : Shape).Idx → β :=
  fun y => if S ((y 0).val / 256) then
      blk ⟨(y 0).val / 256, by have : (y 0).val < H := (y 0).isLt; omega⟩ (fun | 0 => ⟨(y 0).val % 256, Nat.mod_lt _ (by decide)⟩ | 1 => y 1)
    else X y

theorem patch_pasteCols (hW : W = 256 * N) (S S' : ℕ → Prop) [DecidablePred S] [DecidablePred S'] (X : (⟨2, ![H, W]⟩ : Shape).Idx → β)
    (blk : Fin N → (⟨2, ![H, 256]⟩ : Shape).Idx → β) (o : ℕ) (k : Fin N) (ho : o = 256 * k.val) (w : (⟨2, ![H, 256]⟩ : Shape).Idx → β)
    (hw : w = blk k) (hS : ∀ j, S' j ↔ S j ∨ j = k.val) :
    patch (s := ⟨2, ![H, W]⟩) (pasteCols hW S X blk) ![0, o] ![H, 256] w = pasteCols hW S' X blk := by
  subst hw
  subst ho
  funext y
  have hy0 : (y 0).val < H := (y 0).isLt
  by_cases hb : (y 1).val / 256 = k.val
  · have hin : ∀ a : Fin 2, (y a).val = (![0, 256 * k.val] : Fin 2 → ℕ) a + ((fun | 0 => y 0 | 1 => ⟨(y 1).val % 256, Nat.mod_lt _ (by decide)⟩ : (⟨2, ![H, 256]⟩ : Shape).Idx) a).val := by
      intro a
      match a with
      | 0 => exact (Nat.zero_add _).symm
      | 1 => show (y 1).val = 256 * k.val + (y 1).val % 256; omega
    rw [patch_of_mem (s := ⟨2, ![H, W]⟩) _ _ ![H, 256] _ y _ hin]
    unfold pasteCols
    rw [if_pos ((hS _).mpr (Or.inr hb))]
    have hk : k = ⟨(y 1).val / 256, by omega⟩ := Fin.ext hb.symm
    exact congrFun (congrArg blk hk) _
  · rw [patch_of_not_mem (s := ⟨2, ![H, W]⟩) _ _ ![H, 256] _ y 1 (by
      show (y 1).val < 256 * k.val ∨ 256 * k.val + 256 ≤ (y 1).val
      omega)]
    unfold pasteCols
    exact if_congr ((hS _).trans (or_iff_left hb)).symm rfl rfl

theorem patch_pasteRows (hH : H = 256 * N) (S S' : ℕ → Prop) [DecidablePred S] [DecidablePred S'] (X : (⟨2, ![H, W]⟩ : Shape).Idx → β)
    (blk : Fin N → (⟨2, ![256, W]⟩ : Shape).Idx → β) (o : ℕ) (k : Fin N) (ho : o = 256 * k.val) (w : (⟨2, ![256, W]⟩ : Shape).Idx → β)
    (hw : w = blk k) (hS : ∀ j, S' j ↔ S j ∨ j = k.val) :
    patch (s := ⟨2, ![H, W]⟩) (pasteRows hH S X blk) ![o, 0] ![256, W] w = pasteRows hH S' X blk := by
  subst hw
  subst ho
  funext y
  by_cases hb : (y 0).val / 256 = k.val
  · have hin : ∀ a : Fin 2, (y a).val = (![256 * k.val, 0] : Fin 2 → ℕ) a + ((fun | 0 => ⟨(y 0).val % 256, Nat.mod_lt _ (by decide)⟩ | 1 => y 1 : (⟨2, ![256, W]⟩ : Shape).Idx) a).val := by
      intro a
      match a with
      | 0 => show (y 0).val = 256 * k.val + (y 0).val % 256; omega
      | 1 => exact (Nat.zero_add _).symm
    rw [patch_of_mem (s := ⟨2, ![H, W]⟩) _ _ ![256, W] _ y _ hin]
    unfold pasteRows
    rw [if_pos ((hS _).mpr (Or.inr hb))]
    have hk : k = ⟨(y 0).val / 256, by omega⟩ := Fin.ext hb.symm
    exact congrFun (congrArg blk hk) _
  · rw [patch_of_not_mem (s := ⟨2, ![H, W]⟩) _ _ ![256, W] _ y 0 (by
      show (y 0).val < 256 * k.val ∨ 256 * k.val + 256 ≤ (y 0).val
      omega)]
    unfold pasteRows
    exact if_congr ((hS _).trans (or_iff_left hb)).symm rfl rfl

/-- The block `k` of side by side blocks, if it has been put there, -/
theorem window_pasteCols (hW : W = 256 * N) (S : ℕ → Prop) [DecidablePred S] (X : (⟨2, ![H, W]⟩ : Shape).Idx → β)
    (blk : Fin N → (⟨2, ![H, 256]⟩ : Shape).Idx → β) (o : ℕ) (k : Fin N) (ho : o = 256 * k.val) (inb) (hS : S k.val) :
    window (s := ⟨2, ![H, W]⟩) (pasteCols hW S X blk) ![0, o] ![H, 256] inb = blk k := by
  subst ho
  funext j
  have hj : (j 1).val < 256 := (j 1).isLt
  have hb : (256 * k.val + (j 1).val) / 256 = k.val := by omega
  have hS' : S ((256 * k.val + (j 1).val) / 256) := by rw [hb]; exact hS
  have h2 : (fun | 0 => ⟨0 + (j 0).val, by have : (j 0).val < H := (j 0).isLt; show 0 + (j 0).val < H; omega⟩ | 1 => ⟨(256 * k.val + (j 1).val) % 256, Nat.mod_lt _ (by decide)⟩ : (⟨2, ![H, 256]⟩ : Shape).Idx) = j := by
    funext a
    match a with
    | 0 => exact Fin.ext (Nat.zero_add _)
    | 1 => exact Fin.ext (show (256 * k.val + (j 1).val) % 256 = (j 1).val by omega)
  exact (if_pos hS').trans ((congrFun (congrArg blk (Fin.ext hb)) _).trans (congrArg (blk k) h2))

/-- and, if it has not, that of the array before. -/
theorem window_pasteCols_not (hW : W = 256 * N) (S : ℕ → Prop) [DecidablePred S] (X : (⟨2, ![H, W]⟩ : Shape).Idx → β)
    (blk : Fin N → (⟨2, ![H, 256]⟩ : Shape).Idx → β) (r h o : ℕ) (k : Fin N) (ho : o = 256 * k.val) (inb) (hS : ¬ S k.val) :
    window (s := ⟨2, ![H, W]⟩) (pasteCols hW S X blk) ![r, o] ![h, 256] inb = window (s := ⟨2, ![H, W]⟩) X ![r, o] ![h, 256] inb := by
  subst ho
  funext j
  have hj : (j 1).val < 256 := (j 1).isLt
  have hb : (256 * k.val + (j 1).val) / 256 = k.val := by omega
  have hS' : ¬ S ((256 * k.val + (j 1).val) / 256) := by rw [hb]; exact hS
  exact if_neg hS'

theorem window_pasteRows_not (hH : H = 256 * N) (S : ℕ → Prop) [DecidablePred S] (X : (⟨2, ![H, W]⟩ : Shape).Idx → β)
    (blk : Fin N → (⟨2, ![256, W]⟩ : Shape).Idx → β) (o : ℕ) (k : Fin N) (ho : o = 256 * k.val) (inb) (hS : ¬ S k.val) :
    window (s := ⟨2, ![H, W]⟩) (pasteRows hH S X blk) ![o, 0] ![256, W] inb = window (s := ⟨2, ![H, W]⟩) X ![o, 0] ![256, W] inb := by
  subst ho
  funext j
  have hj : (j 0).val < 256 := (j 0).isLt
  have hb : (256 * k.val + (j 0).val) / 256 = k.val := by omega
  have hS' : ¬ S ((256 * k.val + (j 0).val) / 256) := by rw [hb]; exact hS
  exact if_neg hS'

theorem pasteCols_none (hW : W = 256 * N) (S : ℕ → Prop) [DecidablePred S] (X : (⟨2, ![H, W]⟩ : Shape).Idx → β)
    (blk : Fin N → (⟨2, ![H, 256]⟩ : Shape).Idx → β) (hS : ∀ j, ¬ S j) : pasteCols hW S X blk = X := by
  funext y; unfold pasteCols; rw [if_neg (hS _)]

theorem pasteRows_none (hH : H = 256 * N) (S : ℕ → Prop) [DecidablePred S] (X : (⟨2, ![H, W]⟩ : Shape).Idx → β)
    (blk : Fin N → (⟨2, ![256, W]⟩ : Shape).Idx → β) (hS : ∀ j, ¬ S j) : pasteRows hH S X blk = X := by
  funext y; unfold pasteRows; rw [if_neg (hS _)]

/-- With every block put there, what was there before is gone. -/
theorem pasteCols_all (hW : W = 256 * N) (S S' : ℕ → Prop) [DecidablePred S] [DecidablePred S'] (X X' : (⟨2, ![H, W]⟩ : Shape).Idx → β)
    (blk : Fin N → (⟨2, ![H, 256]⟩ : Shape).Idx → β) (hS : ∀ j, j < N → S j) (hS' : ∀ j, j < N → S' j) :
    pasteCols hW S X blk = pasteCols hW S' X' blk := by
  funext y
  have hk : (y 1).val / 256 < N := by have : (y 1).val < W := (y 1).isLt; omega
  unfold pasteCols; rw [if_pos (hS _ hk), if_pos (hS' _ hk)]

theorem pasteRows_all (hH : H = 256 * N) (S S' : ℕ → Prop) [DecidablePred S] [DecidablePred S'] (X X' : (⟨2, ![H, W]⟩ : Shape).Idx → β)
    (blk : Fin N → (⟨2, ![256, W]⟩ : Shape).Idx → β) (hS : ∀ j, j < N → S j) (hS' : ∀ j, j < N → S' j) :
    pasteRows hH S X blk = pasteRows hH S' X' blk := by
  funext y
  have hk : (y 0).val / 256 < N := by have : (y 0).val < H := (y 0).isLt; omega
  unfold pasteRows; rw [if_pos (hS _ hk), if_pos (hS' _ hk)]

/-- A store over the whole buffer leaves what was stored. -/
theorem patch_whole (X w : (⟨2, ![H, W]⟩ : Shape).Idx → β) : patch (s := ⟨2, ![H, W]⟩) X ![0, 0] ![H, W] w = w := by
  funext y
  exact patch_of_mem (s := ⟨2, ![H, W]⟩) _ _ ![H, W] _ y y (fun a => by
    match a with
    | 0 => exact (Nat.zero_add _).symm
    | 1 => exact (Nat.zero_add _).symm)

/-- A load of the whole buffer. -/
theorem window_whole (X : (⟨2, ![H, W]⟩ : Shape).Idx → β) (inb) : window (s := ⟨2, ![H, W]⟩) X ![0, 0] ![H, W] inb = X := by
  funext j
  unfold window
  congr 1
  funext a
  match a with
  | 0 => exact Fin.ext (Nat.zero_add _)
  | 1 => exact Fin.ext (Nat.zero_add _)

theorem pasteCols_congr (hW : W = 256 * N) {S S' : ℕ → Prop} [DecidablePred S] [DecidablePred S'] (X : (⟨2, ![H, W]⟩ : Shape).Idx → β)
    (blk : Fin N → (⟨2, ![H, 256]⟩ : Shape).Idx → β) (h : ∀ j, j < N → (S j ↔ S' j)) : pasteCols hW S X blk = pasteCols hW S' X blk := by
  funext y
  have hy : (y 1).val < W := (y 1).isLt
  unfold pasteCols
  exact if_congr (h _ (by omega)) rfl rfl

/-- Three rows on top of each other. -/
def stack3 (w0 w1 w2 : (⟨2, ![1, 256]⟩ : Shape).Idx → β) : (⟨2, ![3, 256]⟩ : Shape).Idx → β :=
  fun y => (if (y 0).val = 0 then w0 else if (y 0).val = 1 then w1 else w2) (fun | 0 => ⟨0, by decide⟩ | 1 => y 1)

theorem patch_three (hW : W = 256 * N) (S S' : ℕ → Prop) [DecidablePred S] [DecidablePred S'] (X : (⟨2, ![3, W]⟩ : Shape).Idx → β)
    (blk : Fin N → (⟨2, ![3, 256]⟩ : Shape).Idx → β) (o : ℕ) (k : Fin N) (ho : o = 256 * k.val) (w0 w1 w2 : (⟨2, ![1, 256]⟩ : Shape).Idx → β)
    (hw : stack3 w0 w1 w2 = blk k) (hS : ∀ j, S' j ↔ S j ∨ j = k.val) :
    patch (s := ⟨2, ![3, W]⟩) (patch (s := ⟨2, ![3, W]⟩) (patch (s := ⟨2, ![3, W]⟩) (pasteCols hW S X blk) ![2, o] ![1, 256] w2) ![1, o] ![1, 256] w1) ![0, o] ![1, 256] w0
      = pasteCols hW S' X blk := by
  subst ho
  funext y
  have hy0 : (y 0).val < 3 := (y 0).isLt
  by_cases hb : (y 1).val / 256 = k.val
  · let z : (⟨2, ![1, 256]⟩ : Shape).Idx := fun | 0 => ⟨0, by decide⟩ | 1 => ⟨(y 1).val % 256, Nat.mod_lt _ (by decide)⟩
    have hin : ∀ r : ℕ, (y 0).val = r → ∀ a : Fin 2, (y a).val = (![r, 256 * k.val] : Fin 2 → ℕ) a + (z a).val := by
      intro r hr a
      match a with
      | 0 => exact hr
      | 1 => show (y 1).val = 256 * k.val + (y 1).val % 256; omega
    have hk : k = ⟨(y 1).val / 256, by omega⟩ := Fin.ext hb.symm
    have hR : pasteCols hW S' X blk y = stack3 w0 w1 w2 (fun | 0 => y 0 | 1 => ⟨(y 1).val % 256, Nat.mod_lt _ (by decide)⟩) := by
      rw [hw]
      unfold pasteCols
      rw [if_pos ((hS _).mpr (Or.inr hb))]
      refine (congrFun (congrArg blk hk.symm) _).trans (congrArg (blk k) ?_)
      exact funext fun a => match a with | 0 => rfl | 1 => rfl
    rw [hR]
    have hout : ∀ r : ℕ, (y 0).val ≠ r → (y 0).val < (![r, 256 * k.val] : Fin 2 → ℕ) 0 ∨ (![r, 256 * k.val] : Fin 2 → ℕ) 0 + (![1, 256] : Fin 2 → ℕ) 0 ≤ (y 0).val := by
      intro r hr
      show (y 0).val < r ∨ r + 1 ≤ (y 0).val
      omega
    by_cases h0 : (y 0).val = 0
    · rw [patch_of_mem (s := ⟨2, ![3, W]⟩) _ _ ![1, 256] _ y z (hin 0 h0)]
      unfold stack3
      rw [if_pos h0]
      exact congrArg w0 (funext fun a => match a with | 0 => rfl | 1 => rfl)
    rw [patch_of_not_mem (s := ⟨2, ![3, W]⟩) _ _ ![1, 256] _ y 0 (hout 0 h0)]
    by_cases h1 : (y 0).val = 1
    · rw [patch_of_mem (s := ⟨2, ![3, W]⟩) _ _ ![1, 256] _ y z (hin 1 h1)]
      unfold stack3
      rw [if_neg h0, if_pos h1]
      exact congrArg w1 (funext fun a => match a with | 0 => rfl | 1 => rfl)
    rw [patch_of_not_mem (s := ⟨2, ![3, W]⟩) _ _ ![1, 256] _ y 0 (hout 1 h1)]
    rw [patch_of_mem (s := ⟨2, ![3, W]⟩) _ _ ![1, 256] _ y z (hin 2 (by omega))]
    unfold stack3
    rw [if_neg h0, if_neg h1]
    exact congrArg w2 (funext fun a => match a with | 0 => rfl | 1 => rfl)
  · have hout : ∀ r : ℕ, (y 1).val < (![r, 256 * k.val] : Fin 2 → ℕ) 1 ∨ (![r, 256 * k.val] : Fin 2 → ℕ) 1 + (![1, 256] : Fin 2 → ℕ) 1 ≤ (y 1).val := by
      intro r
      show (y 1).val < 256 * k.val ∨ 256 * k.val + 256 ≤ (y 1).val
      omega
    rw [patch_of_not_mem (s := ⟨2, ![3, W]⟩) _ _ ![1, 256] _ y 1 (hout 0), patch_of_not_mem (s := ⟨2, ![3, W]⟩) _ _ ![1, 256] _ y 1 (hout 1),
      patch_of_not_mem (s := ⟨2, ![3, W]⟩) _ _ ![1, 256] _ y 1 (hout 2)]
    unfold pasteCols
    exact if_congr ((hS _).trans (or_iff_left hb)).symm rfl rfl

/-- A store into one row is not seen by a load of another. -/
theorem window_patch_row (X : (⟨2, ![H, W]⟩ : Shape).Idx → β) (r r' o : ℕ) (w : (⟨2, ![1, 256]⟩ : Shape).Idx → β) (inb) (hr : r' < r) :
    window (s := ⟨2, ![H, W]⟩) (patch (s := ⟨2, ![H, W]⟩) X ![r, o] ![1, 256] w) ![r', o] ![1, 256] inb = window (s := ⟨2, ![H, W]⟩) X ![r', o] ![1, 256] inb := by
  funext j
  have hj : (j 0).val < 1 := (j 0).isLt
  exact patch_of_not_mem (s := ⟨2, ![H, W]⟩) _ _ ![1, 256] _ _ 0 (Or.inl (by show r' + (j 0).val < r; omega))

end Paste

end Cert.Ffn

end
-- ==== Proof.Ffn.Fill.lean ====
/-
  The first point's copies of the weights into VMEM, and the last point's copies of the down projection's gradient out.
-/
module

public import proofs.«01_k».proof.Proof.Ffn.Bridge
public import proofs.«01_k».proof.Proof.Ffn.Run
public import Idealize.ShloMosaic.Lib.Pipeline.Frame
public import Idealize.ShloMosaic.Lib.Transfers
public import Idealize.ShloMosaic.Lib.ValueLayout
public import Idealize.ShloMosaic.Lib.Pipeline.Value

@[expose] public section

set_option maxRecDepth 16384

noncomputable section

namespace Cert.Ffn

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weights and the gradient in HBM, and their buffers in VMEM. -/
abbrev hUp : Memref sig .tc .hbm S4x1024x1408 .bf16 := Memref.whole main_v3
abbrev hDown : Memref sig .tc .hbm S2816x1024 .bf16 := Memref.whole main_v5
abbrev hGrad : Memref sig .tc .hbm S2816x1024 .f32 := Memref.whole main_v23_10
abbrev hGrad16 : Memref sig .tc .hbm S2816x1024 .bf16 := Memref.whole main_v23_11
abbrev vUp : Memref sig .tc .vmem S1024x5632 .bf16 := Memref.whole cc0_scratch0
abbrev vDown : Memref sig .tc .vmem S2816x1024 .bf16 := Memref.whole cc0_scratch1
abbrev vGrad : Memref sig .tc .vmem S2816x1024 .f32 := Memref.whole cc0_scratch2

/-- A memref's buffer on core `c` held whole. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The kernel's own transfer counters at zero. -/
abbrev cells (c : Dev nD) : sProp 𝕄 :=
  iprop(semVal ((c : Thread nD τ), SemLoc.dma 27) 0 ∗ semVal ((c : Thread nD τ), SemLoc.dma 28) 0 ∗ semVal ((c : Thread nD τ), SemLoc.dma 29) 0
    ∗ semVal ((c : Thread nD τ), SemLoc.dma 30) 0 ∗ semVal ((c : Thread nD τ), SemLoc.dma 31) 0 ∗ semVal ((c : Thread nD τ), SemLoc.dma 32) 0
    ∗ semVal ((c : Thread nD τ), SemLoc.dma 33) 0)

/-- The four chunks of the up projection's weight side by side. -/
def chunks {β : Type} (X : S4x1024x1408.Idx → β) : S1024x5632.Idx → β :=
  fun y => X (fun | 0 => ⟨(y 1).val / 1408, by have : (y 1).val < 5632 := (y 1).isLt; show _ < 4; omega⟩ | 1 => y 0 | 2 => ⟨(y 1).val % 1408, Nat.mod_lt _ (by decide)⟩)

/-- A chunk alone. -/
def chunk {β : Type} (X : S4x1024x1408.Idx → β) (k : Fin 4) : S1024x1408.Idx → β := fun j => X (fun | 0 => k | 1 => j 0 | 2 => j 1)

theorem patch_chunks {β : Type} (X : S4x1024x1408.Idx → β) (Y : S1024x5632.Idx → β) :
    patch (s := S1024x5632) (patch (s := S1024x5632) (patch (s := S1024x5632) (patch (s := S1024x5632) Y ![0, 0] S1024x1408.size (chunk X 0)) ![0, 1408] S1024x1408.size (chunk X 1))
      ![0, 2816] S1024x1408.size (chunk X 2)) ![0, 4224] S1024x1408.size (chunk X 3) = chunks X := by
  funext y
  have hy : (y 1).val < 5632 := (y 1).isLt
  let z : S1024x1408.Idx := fun | 0 => y 0 | 1 => ⟨(y 1).val % 1408, Nat.mod_lt _ (by decide)⟩
  have hin : ∀ (k : Fin 4) (o : ℕ), o = 1408 * k.val → (y 1).val / 1408 = k.val → ∀ a : Fin 2, (y a).val = (![0, o] : Fin 2 → ℕ) a + (z a).val := by
    intro k o ho h a
    match a with
    | 0 => exact (Nat.zero_add _).symm
    | 1 => show (y 1).val = o + (y 1).val % 1408; omega
  have hv : ∀ k : Fin 4, (y 1).val / 1408 = k.val → chunk X k z = chunks X y := by
    intro k h
    unfold chunk chunks
    refine congrArg X (funext fun a => ?_)
    match a with
    | 0 => exact Fin.ext h.symm
    | 1 => rfl
    | 2 => rfl
  have hout : ∀ (k : Fin 4) (o : ℕ), o = 1408 * k.val → (y 1).val / 1408 ≠ k.val → (y 1).val < (![0, o] : Fin 2 → ℕ) 1 ∨ (![0, o] : Fin 2 → ℕ) 1 + S1024x1408.size 1 ≤ (y 1).val := by
    intro k o ho h
    show (y 1).val < o ∨ o + 1408 ≤ (y 1).val
    omega
  by_cases h3 : (y 1).val / 1408 = 3
  · rw [patch_of_mem (s := S1024x5632) _ _ S1024x1408.size _ y z (hin 3 4224 rfl h3)]; exact hv 3 h3
  rw [patch_of_not_mem (s := S1024x5632) _ _ S1024x1408.size _ y 1 (hout 3 4224 rfl h3)]
  by_cases h2 : (y 1).val / 1408 = 2
  · rw [patch_of_mem (s := S1024x5632) _ _ S1024x1408.size _ y z (hin 2 2816 rfl h2)]; exact hv 2 h2
  rw [patch_of_not_mem (s := S1024x5632) _ _ S1024x1408.size _ y 1 (hout 2 2816 rfl h2)]
  by_cases h1 : (y 1).val / 1408 = 1
  · rw [patch_of_mem (s := S1024x5632) _ _ S1024x1408.size _ y z (hin 1 1408 rfl h1)]; exact hv 1 h1
  rw [patch_of_not_mem (s := S1024x5632) _ _ S1024x1408.size _ y 1 (hout 1 1408 rfl h1)]
  have h0 : (y 1).val / 1408 = 0 := by omega
  rw [patch_of_mem (s := S1024x5632) _ _ S1024x1408.size _ y z (hin 0 0 rfl h0)]; exact hv 0 h0

/-- What a copy of a chunk carries. -/
theorem read_chunk (c : Dev nD) (f : Buf (Elt F) (hUp.view.loc (c : Thread nD τ))) (k : Fin 4) (off : Fin 3 → ℕ) (ho : off = ![k.val, 0, 0]) (inb) (hs) (hq : S1x1024x1408.Squeezes S1024x1408) :
    ((hUp.slice (Rect.unit (s := S4x1024x1408) off S1x1024x1408.size inb) hs).squeeze S1024x1408 hq).view.read (Elt F) f = chunk (hUp.view.read (Elt F) f) k := by
  subst ho
  funext j
  have hj : j = ix2 (j 0) (j 1) := funext fun a => match a with | 0 => rfl | 1 => rfl
  have hE : Shape.reshapeEquiv hq.numel_eq j = ix3 (⟨0, Nat.one_pos⟩ : Fin 1) (j 0) (j 1) :=
    (congrArg (Shape.reshapeEquiv hq.numel_eq) hj).trans (reshapeEquiv_ix2_1ab hq.numel_eq (j 0) (j 1))
  show hUp.view.read (Elt F) f ((Rect.unit (s := S4x1024x1408) ![k.val, 0, 0] S1x1024x1408.size inb).emb (Shape.reshapeEquiv hq.numel_eq j)) = _
  rw [hE]
  refine congrArg (hUp.view.read (Elt F) f) (funext fun a => Fin.ext ?_)
  match a with
  | 0 => rfl
  | 1 => show 0 + 1 * (j 0).val = (j 0).val; omega
  | 2 => show 0 + 1 * (j 1).val = (j 1).val; omega

/-- A view written whole reads back what was written. -/
theorem read_whole_write {s : Shape} {sp : Space} {e : EltTy} (v : View sig .tc sp s e) (f : v.ty.Contents (Elt F)) (w : s.Idx → Elt F e) :
    v.read (Elt F) (v.writes (Elt F) f [⟨Rect.whole s, w⟩]) = w := by
  funext y
  have h := View.read_slice_write_emb (v := v) (Rect.whole s) f w (Finset.mem_univ y)
  have hy : (Rect.whole s).emb y = y := funext fun a => Fin.ext (by show 0 + 1 * (y a).val = (y a).val; omega)
  rw [hy] at h
  exact h

/-- The four copies' contents. -/
theorem read_chunks (c : Dev nD) (fu : Buf (Elt F) (hUp.view.loc (c : Thread nD τ))) (d : vUp.view.ty.Contents (Elt F)) (w0 w1 w2 w3 : S1024x1408.Idx → Elt F .bf16)
    (h0 : w0 = chunk (hUp.view.read (Elt F) fu) 0) (h1 : w1 = chunk (hUp.view.read (Elt F) fu) 1) (h2 : w2 = chunk (hUp.view.read (Elt F) fu) 2) (h3 : w3 = chunk (hUp.view.read (Elt F) fu) 3) :
    vUp.view.read (Elt F) (vUp.view.writes (Elt F) d
      [⟨Rect.unit (s := S1024x5632) ![0, 4224] S1024x1408.size inb_S1024x5632_S1024x1408_0_4224, w3⟩, ⟨Rect.unit (s := S1024x5632) ![0, 2816] S1024x1408.size inb_S1024x5632_S1024x1408_0_2816, w2⟩,
       ⟨Rect.unit (s := S1024x5632) ![0, 1408] S1024x1408.size inb_S1024x5632_S1024x1408_0_1408, w1⟩, ⟨Rect.unit (s := S1024x5632) ![0, 0] S1024x1408.size inb_S1024x5632_S1024x1408_0_0, w0⟩])
      = chunks (hUp.view.read (Elt F) fu) := by
  subst h0 h1 h2 h3
  refine (read_store vUp.view ![0, 4224] S1024x1408.size inb_S1024x5632_S1024x1408_0_4224 _ _).trans ?_
  rw [View.writes_cons]
  refine (congrArg (fun X => patch (s := S1024x5632) X ![0, 4224] S1024x1408.size (chunk (hUp.view.read (Elt F) fu) 3)) (read_store vUp.view ![0, 2816] S1024x1408.size inb_S1024x5632_S1024x1408_0_2816 _ _)).trans ?_
  rw [View.writes_cons]
  refine (congrArg (fun X => patch (s := S1024x5632) (patch (s := S1024x5632) X ![0, 2816] S1024x1408.size (chunk (hUp.view.read (Elt F) fu) 2)) ![0, 4224] S1024x1408.size (chunk (hUp.view.read (Elt F) fu) 3))
    (read_store vUp.view ![0, 1408] S1024x1408.size inb_S1024x5632_S1024x1408_0_1408 _ _)).trans ?_
  rw [View.writes_cons]
  refine (congrArg (fun X => patch (s := S1024x5632) (patch (s := S1024x5632) (patch (s := S1024x5632) X ![0, 1408] S1024x1408.size (chunk (hUp.view.read (Elt F) fu) 1))
    ![0, 2816] S1024x1408.size (chunk (hUp.view.read (Elt F) fu) 2)) ![0, 4224] S1024x1408.size (chunk (hUp.view.read (Elt F) fu) 3))
    (read_store vUp.view ![0, 0] S1024x1408.size inb_S1024x5632_S1024x1408_0_0 _ _)).trans ?_
  exact patch_chunks _ _

theorem fillRun (c : Dev nD) (fu : Buf (Elt F) (hUp.view.loc (c : Thread nD τ))) (fd : Buf (Elt F) (hDown.view.loc (c : Thread nD τ)))
    (W : Waits sig Unit) (K : PUnit → sProp 𝕄) :
    iprop((∃ d, owns (c : Thread nD τ) vUp fullShare d) ∗ (∃ d, owns (c : Thread nD τ) vDown fullShare d) ∗ hbPt c hUp fu ∗ hbPt c hDown fd ∗ cells c ∗ owes (c : Thread nD τ) 0 W
        ∗ (iprop(owns (c : Thread nD τ) vUp fullShare (chunks (hUp.view.read (Elt F) fu)) ∗ owns (c : Thread nD τ) vDown fullShare (hDown.view.read (Elt F) fd)
            ∗ hbPt c hUp fu ∗ hbPt c hDown fd ∗ cells c ∗ ∃ W', owes (c : Thread nD τ) 0 W') -∗ K ⟨⟩))
      ⊢ wp frame (wpE (defs₀ (F := F)) Variants.none c none) Set.univ
          (fill hUp (Memref.isWhole_whole _) hDown (Memref.isWhole_whole _) vUp (Memref.isWhole_whole _) vDown (Memref.isWhole_whole _) cc0_scratch9) K := by
  unfold fill owns
  iintro ⟨⟨%du, %du', -, H1⟩, ⟨%dd, %dd', -, H2⟩, H3, H4, ⟨S0, S1, S2, S3, S4, S5, S6⟩, HW, Hk⟩
  set_option sl_exec.dmaWindow true in set_option sl_exec.dmaWindowSet true in sl_exec
  sl_step
  iapply Hk
  isplitl [H1]
  · iexists _; isplitr; swap; · iexact H1
    ipureintro
    exact read_chunks c fu du' _ _ _ _ (read_chunk c fu 0 _ rfl _ _ _) (read_chunk c fu 1 _ rfl _ _ _) (read_chunk c fu 2 _ rfl _ _ _) (read_chunk c fu 3 _ rfl _ _ _)
  isplitl [H2]
  · iexists _; isplitr; swap; · iexact H2
    ipureintro
    exact read_whole_write vDown.view _ _
  isplitl [H3]; · iexact H3
  isplitl [H4]; · iexact H4
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists _; iexact HW

set_option sl_exec.lendShare "H3" in
theorem drainRun (c : Dev nD) (X : S2816x1024.Idx → Elt F .f32) (W : Waits sig Unit) (K : PUnit → sProp 𝕄) :
    iprop((∃ f, hbPt c hGrad f) ∗ (∃ f, hbPt c hGrad16 f) ∗ owns (c : Thread nD τ) vGrad fullShare X ∗ (∃ d, owns (c : Thread nD τ) vDown fullShare d) ∗ cells c ∗ owes (c : Thread nD τ) 0 W
        ∗ (iprop((∃ f, ⌜hGrad.view.read (Elt F) f = X⌝ ∗ hbPt c hGrad f) ∗ (∃ f, ⌜hGrad16.view.read (Elt F) f = truncf .bf16 (X : FVec F S2816x1024 .f32) bitsLt_bf16_f32⌝ ∗ hbPt c hGrad16 f)
            ∗ owns (c : Thread nD τ) vGrad fullShare X ∗ (∃ d, owns (c : Thread nD τ) vDown fullShare d) ∗ cells c ∗ ∃ W', owes (c : Thread nD τ) 0 W') -∗ K ⟨⟩))
      ⊢ wp frame (wpE (defs₀ (F := F)) Variants.none c none) Set.univ
          (drain hGrad (Memref.isWhole_whole _) hGrad16 (Memref.isWhole_whole _) vDown (Memref.isWhole_whole _) vGrad (Memref.isWhole_whole _) cc0_scratch9) K := by
  unfold drain owns
  iintro ⟨⟨%g1, H1⟩, ⟨%g2, H2⟩, ⟨%f3, %h3, H3⟩, ⟨%d4, %f4, -, H4⟩, ⟨S0, S1, S2, S3, S4, S5, S6⟩, HW, Hk⟩
  sl_exec
  sl_step
  iapply Hk
  isplitl [H1]
  · iexists _; isplitr; swap; · iexact H1
    ipureintro
    rw [View.read_write_univ]
    exact h3
  isplitl [H2]
  · iexists _; isplitr; swap; · iexact H2
    ipureintro
    rw [View.read_write_univ]
    refine (read_store vDown.view ![0, 0] S2816x1024.size (fun a => match a with | 0 => le_rfl | 1 => le_rfl) f4 (drainRun.sl.v3141 c f3)).trans ?_
    refine (patch_whole (H := 2816) (W := 1024) (vDown.view.read (Elt F) f4) (drainRun.sl.v3141 c f3)).trans ?_
    unfold drainRun.sl.v3141 drainRun.sl.v3138
    rw [shapeCast_self]
    refine congrArg (fun Z => truncf .bf16 Z bitsLt_bf16_f32) (Eq.trans (funext fun y => ?_) h3)
    exact congrArg (vGrad.view.read (Elt F) f3) (funext fun a => Fin.ext (by
      match a with
      | 0 => show 0 + 1 * (y 0).val = (y 0).val; omega
      | 1 => show 0 + 1 * (y 1).val = (y 1).val; omega))
  isplitl [H3]
  · iexists _; isplitr; swap; · iexact H3
    ipureintro; exact h3
  isplitl [H4]
  · iexists _, _; isplitr; swap; · iexact H4
    ipureintro; rfl
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists _; iexact HW

end Cert.Ffn
-- ==== Proof.Ffn.Tile.lean ====
/-
  What one tile of the FFN kernel leaves in every buffer.
-/
module

public import proofs.«01_k».proof.Proof.Ffn.Run

@[expose] public section

set_option maxRecDepth 16384

noncomputable section

namespace Cert.Ffn

open Idealize.ShloMosaic Idealize.ShloMosaic.TcCoe
open Cert.KernelIdeal Cert.KernelIdeal.Facts₀ Cert.KernelIdeal.Facts

variable {F : FTy → Type} [FloatOps F]

section Forward

variable (v0 : BitVec 32) (v1 : IVec S8x256 32) (σ : St F)

/-- The tile's normalised interleaved rows and what goes with them. -/
def preOf : Pre F := (pre.run σ).1

theorem run_pre : pre.run σ = (preOf σ, σ) := rfl

/-- The up projection's 256 columns at `o`. -/
def upAt (o : ℕ) (ho : o + 256 ≤ 5632) : FVec F S264x256 .f32 :=
  upBlock (preOf σ).rows (window (σ .wup) ![0, o] S1024x256.size (inb2 le_rfl ho))

/-- The convolution of 256 columns `b` of the up projection, with the weights at `o`. -/
def convOf (b : FVec F S264x256 .f32) (o : ℕ) (ho : o + 256 ≤ 5632) : FVec F S256x256 .f32 :=
  conv3 (window (σ .fb) ![0, o] S1x256.size (inb2 le_rfl ho)) (window (σ .fw) ![0, o] S1x256.size (inb2 (by decide) ho))
    (window (σ .fw) ![1, o] S1x256.size (inb2 (by decide) ho)) (window (σ .fw) ![2, o] S1x256.size (inb2 (by decide) ho))
    (prev2 v1 (edgeRows v0 b) (ownRows b)) (prev1 v1 (edgeRows v0 b) (ownRows b)) (ownRows b)

/-- The convolution's output at `o`. -/
def convAt (o : ℕ) (ho : o + 256 ≤ 5632) : FVec F S256x256 .f32 := convOf v0 v1 σ (upAt σ o ho) o ho

/-- The saved rows of the up projection at `o`. -/
def uOf (b : FVec F S264x256 .f32) : FVec F S256x256 .bf16 := shapeCast S256x256 (truncf .bf16 (ownRows b) bitsLt_bf16_f32) shapeCasts_S256x256_S256x256

/-- The value half of column block `q` after the convolution, -/
def valAt (q : ℕ) (hq : q < 11) : FVec F S256x256 .f32 := convAt v0 v1 σ (256 * q) (by omega)

/-- and its gate half. -/
def gateAt (q : ℕ) (hq : q < 11) : FVec F S256x256 .f32 := convAt v0 v1 σ (2816 + 256 * q) (by omega)

/-- The gated values of a column block. -/
def fOf (v g : FVec F S256x256 .f32) : FVec F S256x256 .bf16 := truncf .bf16 (mulf (silu g) v) bitsLt_bf16_f32

/-- The sum of the first `n` column blocks of the down projection. -/
def o2 : (n : ℕ) → n ≤ 11 → FVec F S256x1024 .f32
  | 0, _ => broadcast S256x1024 (Scalar.ofBits .f32 0x00000000#32)
  | n + 1, h => addf (o2 n (by omega)) (downBlock (fOf (valAt v0 v1 σ n (by omega)) (gateAt v0 v1 σ n (by omega)))
      (window (σ .wd) ![256 * n, 0] S256x1024.size (inb2 (by omega) le_rfl)))

/-- The buffers after the first `n` column blocks of the forward pass. -/
def fwdSt (n : ℕ) : St F
  | .u => pasteCols (H := 256) (W := 5632) (N := 22) rfl (fun k => k % 11 < n) (σ .u) fun k => uOf (upAt σ (256 * k.val) (by have := k.isLt; omega))
  | .sil => pasteCols (H := 256) (W := 2816) (N := 11) rfl (fun k => k < n) (σ .sil) fun k =>
      shapeCast S256x256 (silu (gateAt v0 v1 σ k.val k.isLt)) shapeCasts_S256x256_S256x256
  | .vds => pasteCols (H := 256) (W := 2816) (N := 11) rfl (fun k => k < n) (σ .vds) fun k =>
      shapeCast S256x256 (gateGrad (valAt v0 v1 σ k.val k.isLt) (gateAt v0 v1 σ k.val k.isLt)) shapeCasts_S256x256_S256x256
  | .f => pasteCols (H := 256) (W := 2816) (N := 11) rfl (fun k => k < n) (σ .f) fun k =>
      shapeCast S256x256 (fOf (valAt v0 v1 σ k.val k.isLt) (gateAt v0 v1 σ k.val k.isLt)) shapeCasts_S256x256_S256x256
  | b => σ b

/-- A column block's effect on any buffers. -/
theorem run_fwdBlock' (q : ℕ) (hq : q < 11) (b : FVec F S264x256 .f32 × FVec F S264x256 .f32) (acc : FVec F S256x1024 .f32) (τ : St F) :
    (fwdBlock v0 v1 q hq b acc).run τ =
      (addf acc (downBlock (fOf (convOf v0 v1 τ b.1 (256 * q) (by omega)) (convOf v0 v1 τ b.2 (2816 + 256 * q) (by omega)))
          (window (τ .wd) ![256 * q, 0] S256x1024.size (inb2 (by omega) le_rfl))),
        Function.update (Function.update (Function.update (Function.update (Function.update τ
          .u (patch (τ .u) ![0, 256 * q] S256x256.size (uOf b.1)))
          .u (patch (patch (τ .u) ![0, 256 * q] S256x256.size (uOf b.1)) ![0, 2816 + 256 * q] S256x256.size (uOf b.2)))
          .sil (patch (τ .sil) ![0, 256 * q] S256x256.size (shapeCast S256x256 (silu (convOf v0 v1 τ b.2 (2816 + 256 * q) (by omega))) shapeCasts_S256x256_S256x256)))
          .vds (patch (τ .vds) ![0, 256 * q] S256x256.size (shapeCast S256x256 (gateGrad (convOf v0 v1 τ b.1 (256 * q) (by omega)) (convOf v0 v1 τ b.2 (2816 + 256 * q) (by omega))) shapeCasts_S256x256_S256x256)))
          .f (patch (τ .f) ![0, 256 * q] S256x256.size (shapeCast S256x256 (fOf (convOf v0 v1 τ b.1 (256 * q) (by omega)) (convOf v0 v1 τ b.2 (2816 + 256 * q) (by omega))) shapeCasts_S256x256_S256x256))) := rfl

theorem upAt_congr {o o' : ℕ} (h : o = o') (ho) (ho') : upAt σ o ho = upAt σ o' ho' := by subst h; rfl

theorem run_fwdBlock (q : ℕ) (hq : q < 11) (acc : FVec F S256x1024 .f32) :
    (fwdBlock v0 v1 q hq (upAt σ (256 * q) (by omega), upAt σ (2816 + 256 * q) (by omega)) acc).run (fwdSt v0 v1 σ q) =
      (addf acc (downBlock (fOf (valAt v0 v1 σ q hq) (gateAt v0 v1 σ q hq)) (window (σ .wd) ![256 * q, 0] S256x1024.size (inb2 (by omega) le_rfl))),
        fwdSt v0 v1 σ (q + 1)) := by
  rw [run_fwdBlock']
  refine Prod.ext rfl ?_
  funext b
  have hu1 : patch (fwdSt v0 v1 σ q .u) ![0, 256 * q] S256x256.size (uOf (upAt σ (256 * q) (by omega)))
      = pasteCols (H := 256) (W := 5632) (N := 22) rfl (fun k => k % 11 < q ∨ k = q) (σ .u) fun k => uOf (upAt σ (256 * k.val) (by have := k.isLt; omega)) :=
    patch_pasteCols (H := 256) (W := 5632) (N := 22) rfl (fun k => k % 11 < q) (fun k => k % 11 < q ∨ k = q) (σ .u) (fun k => uOf (upAt σ (256 * k.val) (by have := k.isLt; omega))) _ ⟨q, by omega⟩ rfl _ rfl fun j => Iff.rfl
  have hu2 : patch (patch (fwdSt v0 v1 σ q .u) ![0, 256 * q] S256x256.size (uOf (upAt σ (256 * q) (by omega)))) ![0, 2816 + 256 * q] S256x256.size (uOf (upAt σ (2816 + 256 * q) (by omega)))
      = fwdSt v0 v1 σ (q + 1) .u := by
    rw [hu1]
    refine (patch_pasteCols (H := 256) (W := 5632) (N := 22) rfl _ (fun k => (k % 11 < q ∨ k = q) ∨ k = 11 + q) _ _ _ ⟨11 + q, by omega⟩ (by show 2816 + 256 * q = 256 * (11 + q); omega) _
      (congrArg uOf (upAt_congr σ (by show 2816 + 256 * q = 256 * (11 + q); omega) _ _)) fun j => Iff.rfl).trans ?_
    funext y
    unfold fwdSt pasteCols
    have hy : (y 1).val < 5632 := (y 1).isLt
    exact if_congr (by omega) rfl rfl
  have hsil : patch (fwdSt v0 v1 σ q .sil) ![0, 256 * q] S256x256.size (shapeCast S256x256 (silu (gateAt v0 v1 σ q hq)) shapeCasts_S256x256_S256x256) = fwdSt v0 v1 σ (q + 1) .sil := by
    unfold fwdSt
    exact patch_pasteCols (H := 256) (W := 2816) (N := 11) rfl (fun k => k < q) (fun k => k < q + 1) _ _ _ ⟨q, hq⟩ rfl _ rfl fun j => Nat.lt_succ_iff_lt_or_eq
  have hvds : patch (fwdSt v0 v1 σ q .vds) ![0, 256 * q] S256x256.size (shapeCast S256x256 (gateGrad (valAt v0 v1 σ q hq) (gateAt v0 v1 σ q hq)) shapeCasts_S256x256_S256x256) = fwdSt v0 v1 σ (q + 1) .vds := by
    unfold fwdSt
    exact patch_pasteCols (H := 256) (W := 2816) (N := 11) rfl (fun k => k < q) (fun k => k < q + 1) _ _ _ ⟨q, hq⟩ rfl _ rfl fun j => Nat.lt_succ_iff_lt_or_eq
  have hf : patch (fwdSt v0 v1 σ q .f) ![0, 256 * q] S256x256.size (shapeCast S256x256 (fOf (valAt v0 v1 σ q hq) (gateAt v0 v1 σ q hq)) shapeCasts_S256x256_S256x256) = fwdSt v0 v1 σ (q + 1) .f := by
    unfold fwdSt
    exact patch_pasteCols (H := 256) (W := 2816) (N := 11) rfl (fun k => k < q) (fun k => k < q + 1) _ _ _ ⟨q, hq⟩ rfl _ rfl fun j => Nat.lt_succ_iff_lt_or_eq
  cases b
  case u => exact hu2
  case sil => exact hsil
  case vds => exact hvds
  case f => exact hf
  all_goals rfl

theorem fwdSt_zero : fwdSt v0 v1 σ 0 = σ := by
  funext b
  cases b <;> first
    | rfl
    | exact pasteCols_none (H := 256) (N := 22) rfl (fun k => k % 11 < 0) _ _ fun j => Nat.not_lt_zero _
    | exact pasteCols_none (H := 256) (N := 11) rfl (fun k => k < 0) _ _ fun j => Nat.not_lt_zero _

theorem run_fwdTo (n : ℕ) (h : n < 11) : (fwdTo v0 v1 (preOf σ).rows n h).run σ =
    (((upAt σ (256 * n) (by omega), upAt σ (2816 + 256 * n) (by omega)), o2 v0 v1 σ n (by omega)), fwdSt v0 v1 σ n) := by
  induction n with
  | zero => exact (Prod.ext rfl (fwdSt_zero v0 v1 σ).symm)
  | succ n ih =>
    unfold fwdTo
    rw [Code.run_bind, ih (by omega), Code.run_bind]
    show Code.run (fwdBlock v0 v1 n (by omega) _ _ >>= _) (fwdSt v0 v1 σ n) = _
    rw [Code.run_bind]
    rw [run_fwdBlock]
    rfl

end Forward

section Backward

variable (v1 : IVec S8x256 32) (g : FVec F S256x1024 .bf16) (τ : St F)

/-- The gradient at the gated values of column block `q`. -/
def dfAt (q : ℕ) (hq : q < 11) : FVec F S256x256 .f32 :=
  matmul dot_S256x1024_S256x1024_S256x256_1_1_0_0_n_n none g (window (τ .wd) ![256 * q, 0] S256x1024.size (inb2 (by omega) le_rfl) : FVec F S256x1024 .bf16) (constant S256x256 .f32 0x00000000#32)

/-- The gradient at the convolution's output, value half then gate half. -/
def dAt (k : ℕ) (hk : k < 22) : FVec F S256x256 .f32 :=
  if h : k < 11 then mulf (dfAt g τ k h) (window (τ .sil) ![0, 256 * k] S256x256.size (inb2 le_rfl (by omega)) : FVec F S256x256 .f32)
  else mulf (dfAt g τ (k - 11) (by omega)) (window (τ .vds) ![0, 256 * (k - 11)] S256x256.size (inb2 le_rfl (by omega)) : FVec F S256x256 .f32)

theorem dAt_val (q : ℕ) (hq : q < 11) : dAt g τ q (by omega) = mulf (dfAt g τ q hq) (window (τ .sil) ![0, 256 * q] S256x256.size (inb2 le_rfl (by omega)) : FVec F S256x256 .f32) :=
  dif_pos hq

theorem dAt_aux (p q : ℕ) (h : p = q) (hp : p < 11) (hq : q < 11) (ip) (iq) :
    mulf (dfAt g τ p hp) (window (τ .vds) ![0, 256 * p] S256x256.size ip : FVec F S256x256 .f32)
      = mulf (dfAt g τ q hq) (window (τ .vds) ![0, 256 * q] S256x256.size iq : FVec F S256x256 .f32) := by
  subst h
  rfl

theorem dAt_gate (q : ℕ) (hq : q < 11) : dAt g τ (11 + q) (by omega) = mulf (dfAt g τ q hq) (window (τ .vds) ![0, 256 * q] S256x256.size (inb2 le_rfl (by omega)) : FVec F S256x256 .f32) := by
  unfold dAt
  rw [dif_neg (by omega)]
  exact dAt_aux g τ _ q (by omega) _ hq _ _

/-- The saved rows of the up projection. -/
def uAt (o : ℕ) (ho : o + 256 ≤ 5632) : FVec F S256x256 .f32 :=
  extf .f32 (window (τ .u) ![0, o] S256x256.size (inb2 le_rfl ho) : FVec F S256x256 .bf16) bitsLt_bf16_f32

/-- The first rows of the tile after. -/
def carryAt (o : ℕ) (ho : o + 256 ≤ 5632) : FVec F S16x256 .f32 := window (τ .carry) ![0, o] S16x256.size (inb2 le_rfl ho)

/-- One row of a row accumulator of the convolution, plus the column sums of `x`. -/
def accAt (b : (⟨2, ![3, 5632]⟩ : Shape).Idx → Elt F .f32) (r : ℕ) (hr : r + 1 ≤ 3) (x : FVec F S256x256 .f32) (o : ℕ) (ho : o + 256 ≤ 5632) : FVec F S1x256 .f32 :=
  addf (shapeCast S1x256 (window (s := S3x5632) b ![r, o] S1x256.size (inb2 hr ho)) shapeCasts_S1x256_S1x256) (colSum x)

/-- The bias gradient's columns at `o`. -/
def dfbOf (d : FVec F S256x256 .f32) (o : ℕ) (ho : o + 256 ≤ 5632) : FVec F S1x256 .f32 :=
  addf (shapeCast S1x256 (window (τ .dfb) ![0, o] S1x256.size (inb2 le_rfl ho)) shapeCasts_S1x256_S1x256) (colSum d)

/-- The weight gradient's columns at `o`. -/
def dfwOf (d : FVec F S256x256 .f32) (o : ℕ) (ho : o + 256 ≤ 5632) : (⟨2, ![3, 256]⟩ : Shape).Idx → Elt F .f32 :=
  stack3 (accAt (τ .dfw) 0 (by decide) (mulf (next2 v1 (carryAt τ o ho) d) (uAt τ o ho)) o ho)
    (accAt (τ .dfw) 1 (by decide) (mulf (next1 v1 (carryAt τ o ho) d) (uAt τ o ho)) o ho)
    (accAt (τ .dfw) 2 (by decide) (mulf d (uAt τ o ho)) o ho)

/-- The rows kept for the tile before. -/
def carryOf (d : FVec F S256x256 .f32) : FVec F S16x256 .f32 :=
  shapeCast S16x256 (extractStridedSlice S16x256 ![0, 0] d slices_S256x256_o0_0_S16x256) shapeCasts_S16x256_S16x256

/-- The gradient at the up projection's columns at `o`. -/
def dusOf (d : FVec F S256x256 .f32) (o : ℕ) (ho : o + 256 ≤ 5632) : FVec F S256x256 .bf16 :=
  shapeCast S256x256 (truncf .bf16 (addf (addf (addf (broadcast S256x256 (Scalar.ofBits .f32 0x00000000#32))
      (rowMul d (window (τ .fw) ![2, o] S1x256.size (inb2 (by decide) ho)))) (rowMul (next1 v1 (carryAt τ o ho) d) (window (τ .fw) ![1, o] S1x256.size (inb2 (by decide) ho))))
      (rowMul (next2 v1 (carryAt τ o ho) d) (window (τ .fw) ![0, o] S1x256.size (inb2 (by decide) ho)))) bitsLt_bf16_f32)
    shapeCasts_S256x256_S256x256

/-- The rows `256 q …` of the down projection's weight gradient. -/
def dwdOf (q : ℕ) (hq : q < 11) : FVec F S256x1024 .f32 :=
  shapeCast S256x1024 (addf (window (τ .dwd) ![256 * q, 0] S256x1024.size (inb2 (by omega) le_rfl) : FVec F S256x1024 .f32)
      (matmul dot_S256x256_S256x1024_S256x1024_0_0_1_1_n_n none (window (τ .f) ![0, 256 * q] S256x256.size (inb2 le_rfl (by omega)) : FVec F S256x256 .bf16) g (constant S256x1024 .f32 0x00000000#32)))
      shapeCasts_S256x1024_S256x1024

theorem off_le (k : Fin 22) : 256 * k.val + 256 ≤ 5632 := by have := k.isLt; omega

/-- The buffers after the backward pass of the row blocks `R` and the column blocks `S`. -/
def bwdSt (R S : ℕ → Prop) [DecidablePred R] [DecidablePred S] : St F
  | .dwd => pasteRows (H := 2816) (W := 1024) (N := 11) rfl R (τ .dwd) fun k => dwdOf g τ k.val k.isLt
  | .dfb => pasteCols (H := 1) (W := 5632) (N := 22) rfl S (τ .dfb) fun k => dfbOf τ (dAt g τ k.val k.isLt) (256 * k.val) (off_le k)
  | .carry => pasteCols (H := 16) (W := 5632) (N := 22) rfl S (τ .carry) fun k => carryOf (dAt g τ k.val k.isLt)
  | .dfw => pasteCols (H := 3) (W := 5632) (N := 22) rfl S (τ .dfw) fun k => dfwOf v1 τ (dAt g τ k.val k.isLt) (256 * k.val) (off_le k)
  | .dus => pasteCols (H := 256) (W := 5632) (N := 22) rfl S (τ .dus) fun k => dusOf v1 τ (dAt g τ k.val k.isLt) (256 * k.val) (off_le k)
  | b => τ b

theorem bwdSt_congr (R S S' : ℕ → Prop) [DecidablePred R] [DecidablePred S] [DecidablePred S'] (h : ∀ j, j < 22 → (S j ↔ S' j)) : bwdSt v1 g τ R S = bwdSt v1 g τ R S' := by
  funext b
  cases b
  case dfb => exact pasteCols_congr (H := 1) (W := 5632) (N := 22) rfl (τ .dfb) (fun k => dfbOf τ (dAt g τ k.val k.isLt) (256 * k.val) (off_le k)) h
  case carry => exact pasteCols_congr (H := 16) (W := 5632) (N := 22) rfl (τ .carry) (fun k => carryOf (dAt g τ k.val k.isLt)) h
  case dfw => exact pasteCols_congr (H := 3) (W := 5632) (N := 22) rfl (τ .dfw) (fun k => dfwOf v1 τ (dAt g τ k.val k.isLt) (256 * k.val) (off_le k)) h
  case dus => exact pasteCols_congr (H := 256) (W := 5632) (N := 22) rfl (τ .dus) (fun k => dusOf v1 τ (dAt g τ k.val k.isLt) (256 * k.val) (off_le k)) h
  all_goals rfl

/-- A column block's effect on any buffers. -/
theorem run_convBack' (o : ℕ) (ho : o + 256 ≤ 5632) (d : FVec F S256x256 .f32) (υ : St F) :
    (convBack v1 o ho d).run υ = (⟨⟩,
      Function.update (Function.update (Function.update (Function.update (Function.update (Function.update υ
        .dfb (patch (υ .dfb) ![0, o] S1x256.size (dfbOf υ d o ho)))
        .carry (patch (υ .carry) ![0, o] S16x256.size (carryOf d)))
        .dfw (patch (υ .dfw) ![2, o] S1x256.size (accAt (υ .dfw) 2 (by decide) (mulf d (uAt υ o ho)) o ho)))
        .dfw (patch (patch (υ .dfw) ![2, o] S1x256.size (accAt (υ .dfw) 2 (by decide) (mulf d (uAt υ o ho)) o ho)) ![1, o] S1x256.size
          (accAt (patch (υ .dfw) ![2, o] S1x256.size (accAt (υ .dfw) 2 (by decide) (mulf d (uAt υ o ho)) o ho)) 1 (by decide) (mulf (next1 v1 (carryAt υ o ho) d) (uAt υ o ho)) o ho)))
        .dfw (patch (patch (patch (υ .dfw) ![2, o] S1x256.size (accAt (υ .dfw) 2 (by decide) (mulf d (uAt υ o ho)) o ho)) ![1, o] S1x256.size
          (accAt (patch (υ .dfw) ![2, o] S1x256.size (accAt (υ .dfw) 2 (by decide) (mulf d (uAt υ o ho)) o ho)) 1 (by decide) (mulf (next1 v1 (carryAt υ o ho) d) (uAt υ o ho)) o ho)) ![0, o] S1x256.size
          (accAt (patch (patch (υ .dfw) ![2, o] S1x256.size (accAt (υ .dfw) 2 (by decide) (mulf d (uAt υ o ho)) o ho)) ![1, o] S1x256.size
            (accAt (patch (υ .dfw) ![2, o] S1x256.size (accAt (υ .dfw) 2 (by decide) (mulf d (uAt υ o ho)) o ho)) 1 (by decide) (mulf (next1 v1 (carryAt υ o ho) d) (uAt υ o ho)) o ho))
            0 (by decide) (mulf (next2 v1 (carryAt υ o ho) d) (uAt υ o ho)) o ho)))
        .dus (patch (υ .dus) ![0, o] S256x256.size (dusOf v1 υ d o ho))) := rfl

theorem accAt_congr {b b' : (⟨2, ![3, 5632]⟩ : Shape).Idx → Elt F .f32} {r : ℕ} {hr : r + 1 ≤ 3} {x x' : FVec F S256x256 .f32} {o : ℕ} {ho : o + 256 ≤ 5632}
    (hb : window (s := S3x5632) b ![r, o] S1x256.size (inb2 hr ho) = window (s := S3x5632) b' ![r, o] S1x256.size (inb2 hr ho)) (hx : x = x') :
    accAt b r hr x o ho = accAt b' r hr x' o ho := by
  unfold accAt; rw [hb, hx]

theorem run_convBack (R S S' : ℕ → Prop) [DecidablePred R] [DecidablePred S] [DecidablePred S'] (o : ℕ) (ho : o + 256 ≤ 5632) (k : Fin 22) (hk : o = 256 * k.val)
    (hS : ¬ S k.val) (hS' : ∀ j, S' j ↔ S j ∨ j = k.val) (d : FVec F S256x256 .f32) (hd : d = dAt g τ k.val k.isLt) :
    (convBack v1 o ho d).run (bwdSt v1 g τ R S) = (⟨⟩, bwdSt v1 g τ R S') := by
  subst hk
  subst hd
  rw [run_convBack']
  refine Prod.ext rfl ?_
  set υ := bwdSt v1 g τ R S with hυ
  have hc : carryAt υ (256 * k.val) ho = carryAt τ (256 * k.val) ho :=
    window_pasteCols_not (H := 16) (W := 5632) (N := 22) rfl S (τ .carry) (fun k => carryOf (dAt g τ k.val k.isLt)) 0 16 _ k rfl _ hS
  have hdfb : dfbOf υ (dAt g τ k.val k.isLt) (256 * k.val) ho = dfbOf τ (dAt g τ k.val k.isLt) (256 * k.val) ho := by
    unfold dfbOf
    rw [show window (υ .dfb) ![0, 256 * k.val] S1x256.size (inb2 le_rfl ho) = window (τ .dfb) ![0, 256 * k.val] S1x256.size (inb2 le_rfl ho) from
      window_pasteCols_not (H := 1) (W := 5632) (N := 22) rfl S (τ .dfb) (fun k => dfbOf τ (dAt g τ k.val k.isLt) (256 * k.val) (off_le k)) 0 1 _ k rfl _ hS]
  have hdus : dusOf v1 υ (dAt g τ k.val k.isLt) (256 * k.val) ho = dusOf v1 τ (dAt g τ k.val k.isLt) (256 * k.val) ho := by
    unfold dusOf
    rw [hc]
    rfl
  have hw : ∀ (r : ℕ) (hr : r + 1 ≤ 3), window (s := S3x5632) (υ .dfw) ![r, 256 * k.val] S1x256.size (inb2 hr ho) = window (s := S3x5632) (τ .dfw) ![r, 256 * k.val] S1x256.size (inb2 hr ho) := fun r hr =>
    window_pasteCols_not (H := 3) (W := 5632) (N := 22) rfl S (τ .dfw) (fun k => dfwOf v1 τ (dAt g τ k.val k.isLt) (256 * k.val) (off_le k)) r 1 _ k rfl _ hS
  have h1 : patch (υ .dfb) ![0, 256 * k.val] S1x256.size (dfbOf υ (dAt g τ k.val k.isLt) (256 * k.val) ho) = bwdSt v1 g τ R S' .dfb := by
    rw [hdfb]
    exact patch_pasteCols (H := 1) (W := 5632) (N := 22) rfl S S' (τ .dfb) (fun k => dfbOf τ (dAt g τ k.val k.isLt) (256 * k.val) (off_le k)) _ k rfl _ rfl hS'
  have h2 : patch (υ .carry) ![0, 256 * k.val] S16x256.size (carryOf (dAt g τ k.val k.isLt)) = bwdSt v1 g τ R S' .carry :=
    patch_pasteCols (H := 16) (W := 5632) (N := 22) rfl S S' (τ .carry) (fun k => carryOf (dAt g τ k.val k.isLt)) _ k rfl _ rfl hS'
  have h3 : patch (υ .dus) ![0, 256 * k.val] S256x256.size (dusOf v1 υ (dAt g τ k.val k.isLt) (256 * k.val) ho) = bwdSt v1 g τ R S' .dus := by
    rw [hdus]
    exact patch_pasteCols (H := 256) (W := 5632) (N := 22) rfl S S' (τ .dus) (fun k => dusOf v1 τ (dAt g τ k.val k.isLt) (256 * k.val) (off_le k)) _ k rfl _ rfl hS'
  have h4 : ∀ w0 w1 w2, stack3 w0 w1 w2 = dfwOf v1 τ (dAt g τ k.val k.isLt) (256 * k.val) ho →
      patch (patch (patch (υ .dfw) ![2, 256 * k.val] S1x256.size w2) ![1, 256 * k.val] S1x256.size w1) ![0, 256 * k.val] S1x256.size w0 = bwdSt v1 g τ R S' .dfw := fun w0 w1 w2 h =>
    patch_three (W := 5632) (N := 22) rfl S S' (τ .dfw) (fun k => dfwOf v1 τ (dAt g τ k.val k.isLt) (256 * k.val) (off_le k)) _ k rfl w0 w1 w2 h hS'
  funext b
  cases b
  case dfb => exact h1
  case carry => exact h2
  case dus => exact h3
  case dfw =>
    refine h4 _ _ _ ?_
    unfold dfwOf
    congr 1
    · refine accAt_congr ?_ (by rw [hc]; rfl)
      exact (window_patch_row (H := 3) (W := 5632) _ 1 0 _ _ _ (by decide)).trans ((window_patch_row (H := 3) (W := 5632) _ 2 0 _ _ _ (by decide)).trans (hw 0 (by decide)))
    · refine accAt_congr ?_ (by rw [hc]; rfl)
      exact (window_patch_row (H := 3) (W := 5632) _ 2 1 _ _ _ (by decide)).trans (hw 1 (by decide))
    · exact accAt_congr (hw 2 (by decide)) rfl
  all_goals rfl

/-- The matrix product's block of rows. -/
theorem run_bwdBlock (q : ℕ) (hq : q < 11) :
    (bwdBlock v1 g q hq).run (bwdSt v1 g τ (fun k => k < q) (fun k => k % 11 < q)) = (⟨⟩, bwdSt v1 g τ (fun k => k < q + 1) (fun k => k % 11 < q + 1)) := by
  set υ := bwdSt v1 g τ (fun k => k < q) (fun k => k % 11 < q) with hυ
  set df : FVec F S256x256 .f32 := dfAt g τ q hq with hdf
  have hprog : (bwdBlock v1 g q hq).run υ = (convBack v1 (2816 + 256 * q) (by omega) (mulf df (window (τ .vds) ![0, 256 * q] S256x256.size (inb2 le_rfl (by omega)) : FVec F S256x256 .f32))).run
      ((convBack v1 (256 * q) (by omega) (mulf df (window (τ .sil) ![0, 256 * q] S256x256.size (inb2 le_rfl (by omega)) : FVec F S256x256 .f32))).run
        (Function.update υ .dwd (patch (υ .dwd) ![256 * q, 0] S256x1024.size (dwdOf g υ q hq)))).2 := rfl
  have hd : Function.update υ .dwd (patch (υ .dwd) ![256 * q, 0] S256x1024.size (dwdOf g υ q hq)) = bwdSt v1 g τ (fun k => k < q + 1) (fun k => k % 11 < q) := by
    have h0 : dwdOf g υ q hq = dwdOf g τ q hq := by
      unfold dwdOf
      rw [show window (υ .dwd) ![256 * q, 0] S256x1024.size (inb2 (by omega) le_rfl) = window (τ .dwd) ![256 * q, 0] S256x1024.size (inb2 (by omega) le_rfl) from
        window_pasteRows_not (H := 2816) (W := 1024) (N := 11) rfl (fun k => k < q) (τ .dwd) (fun k => dwdOf g τ k.val k.isLt) _ ⟨q, hq⟩ rfl _ (by simp)]
      rfl
    have h1 : patch (υ .dwd) ![256 * q, 0] S256x1024.size (dwdOf g τ q hq) = bwdSt v1 g τ (fun k => k < q + 1) (fun k => k % 11 < q) .dwd :=
      patch_pasteRows (H := 2816) (W := 1024) (N := 11) rfl (fun k => k < q) (fun k => k < q + 1) (τ .dwd) (fun k => dwdOf g τ k.val k.isLt) _ ⟨q, hq⟩ rfl _ rfl
        (fun j => by show j < q + 1 ↔ j < q ∨ j = q; omega)
    rw [h0, h1]
    funext b
    cases b <;> rfl
  rw [hprog, hd, run_convBack v1 g τ _ (fun k => k % 11 < q) (fun k => k % 11 < q ∨ k = q) (256 * q) _ ⟨q, by omega⟩ rfl (by show ¬ q % 11 < q; omega) (fun j => Iff.rfl) _ (dAt_val g τ q hq).symm,
    run_convBack v1 g τ _ (fun k => k % 11 < q ∨ k = q) (fun k => k % 11 < q ∨ k = q ∨ k = 11 + q) (2816 + 256 * q) _ ⟨11 + q, by omega⟩ (by show _ = 256 * (11 + q); omega) (by show ¬ ((11 + q) % 11 < q ∨ 11 + q = q); omega)
      (fun j => by show _ ↔ _ ∨ j = 11 + q; rw [or_assoc]) _ (dAt_gate g τ q hq).symm]
  refine Prod.ext rfl ?_
  exact bwdSt_congr v1 g τ _ _ _ (fun j hj => by omega)

end Backward

end Cert.Ffn

end
-- ==== Proof.Ffn.Final.lean ====
/-
  One whole tile of the FFN kernel as a function of the buffers it starts from.
-/
module

public import proofs.«01_k».proof.Proof.Ffn.Tile

@[expose] public section

set_option maxRecDepth 16384

noncomputable section

namespace Cert.Ffn

open Idealize.ShloMosaic Idealize.ShloMosaic.TcCoe
open Cert.KernelIdeal Cert.KernelIdeal.Facts₀ Cert.KernelIdeal.Facts

variable {F : FTy → Type} [FloatOps F]

section Stages

variable (v0 : BitVec 32) (v1 : IVec S8x256 32)

/-- The backward pass of the first `n` column blocks. -/
theorem run_bwdTo (g : FVec F S256x1024 .bf16) (τ : St F) (n : ℕ) (h : n ≤ 11) :
    (bwdTo v1 g n h).run τ = (⟨⟩, bwdSt v1 g τ (fun k => k < n) (fun k => k % 11 < n)) := by
  induction n with
  | zero =>
    refine Prod.ext rfl ?_
    funext b
    cases b
    case dwd => exact (pasteRows_none (H := 2816) (W := 1024) (N := 11) rfl (fun k => k < 0) (τ .dwd) (fun k => dwdOf g τ k.val k.isLt) (fun j => Nat.not_lt_zero _)).symm
    case dfb => exact (pasteCols_none (H := 1) (W := 5632) (N := 22) rfl (fun k => k % 11 < 0) (τ .dfb) (fun k => dfbOf τ (dAt g τ k.val k.isLt) (256 * k.val) (off_le k)) (fun j => Nat.not_lt_zero _)).symm
    case carry => exact (pasteCols_none (H := 16) (W := 5632) (N := 22) rfl (fun k => k % 11 < 0) (τ .carry) (fun k => carryOf (dAt g τ k.val k.isLt)) (fun j => Nat.not_lt_zero _)).symm
    case dfw => exact (pasteCols_none (H := 3) (W := 5632) (N := 22) rfl (fun k => k % 11 < 0) (τ .dfw) (fun k => dfwOf v1 τ (dAt g τ k.val k.isLt) (256 * k.val) (off_le k)) (fun j => Nat.not_lt_zero _)).symm
    case dus => exact (pasteCols_none (H := 256) (W := 5632) (N := 22) rfl (fun k => k % 11 < 0) (τ .dus) (fun k => dusOf v1 τ (dAt g τ k.val k.isLt) (256 * k.val) (off_le k)) (fun j => Nat.not_lt_zero _)).symm
    all_goals rfl
  | succ n ih =>
    unfold bwdTo
    rw [Code.run_bind, ih (by omega)]
    exact run_bwdBlock v1 g τ n (by omega)

/-- The residual stream after the FFN, -/
def x3Of (P : Pre F) (o : FVec F S256x1024 .f32) (τ : St F) : FVec F S256x1024 .f32 :=
  addf P.x (mulf (rowD (window (τ .gt2) ![0, 0] S1x1024.size (inb2 le_rfl le_rfl))) (deinterleave P.pmt o))

/-- the final norm's weight, -/
def fgOf (τ : St F) : FVec F S1x1024 .f32 := shapeCast S1x1024 (window (τ .fg) ![0, 0] S1x1024.size (inb2 le_rfl le_rfl) : FVec F S1x1024 .f32) shapeCasts_S1x1024_S1x1024

/-- the output's distance from the target, -/
def diffOf (P : Pre F) (o : FVec F S256x1024 .f32) (τ : St F) : FVec F S256x1024 .f32 :=
  subf (mulf (scaleRows (x3Of P o τ) (rms (x3Of P o τ))) (rowD (fgOf τ)))
    (shapeCast S256x1024 (window (τ .tgt) ![0, 0] S256x1024.size (inb2 le_rfl le_rfl)) shapeCasts_S256x1024_S256x1024)

/-- its gradient, -/
def dyOf (P : Pre F) (o : FVec F S256x1024 .f32) (τ : St F) : FVec F S256x1024 .f32 :=
  mulf (diffOf P o τ) (broadcast S256x1024 (Scalar.ofBits .f32 0x3A800000#32))

/-- the gradient at the residual stream, -/
def dx3Of (P : Pre F) (o : FVec F S256x1024 .f32) (τ : St F) : FVec F S256x1024 .f32 :=
  normGrad (mulf (dyOf P o τ) (rowD (fgOf τ))) (scaleRows (x3Of P o τ) (rms (x3Of P o τ))) (rms (x3Of P o τ))

/-- and the gradient at the FFN's output, interleaved. -/
def gOf (P : Pre F) (o : FVec F S256x1024 .f32) (τ : St F) : FVec F S256x1024 .bf16 := ((mid P o).run τ).1.2

/-- The buffers after the middle of the tile. -/
def midSt (P : Pre F) (o : FVec F S256x1024 .f32) (τ : St F) : St F
  | .loss => addf (shapeCast S1x128 (window (τ .loss) ![0, 0] S1x128.size (inb2 le_rfl le_rfl)) shapeCasts_S1x128_S1x128)
      (addf (broadcast S1x128 (Scalar.ofBits .f32 0x00000000#32)) (broadcast S1x128 (lossPart (diffOf P o τ))))
  | .dfg => addf (shapeCast S1x1024 (window (τ .dfg) ![0, 0] S1x1024.size (inb2 le_rfl le_rfl)) shapeCasts_S1x1024_S1x1024)
      (colSumD (mulf (dyOf P o τ) (scaleRows (x3Of P o τ) (rms (x3Of P o τ)))))
  | .dgt2 => addf (shapeCast S1x1024 (window (τ .dgt2) ![0, 0] S1x1024.size (inb2 le_rfl le_rfl)) shapeCasts_S1x1024_S1x1024)
      (colSumD (mulf (dx3Of P o τ) (deinterleave P.pmt o)))
  | b => τ b

theorem run_mid (P : Pre F) (o : FVec F S256x1024 .f32) (τ : St F) : (mid P o).run τ = ((dx3Of P o τ, gOf P o τ), midSt P o τ) := by
  refine Prod.ext rfl ?_
  funext b
  cases b
  case loss => exact patch_whole (H := 1) (W := 128) _ _
  case dfg => exact patch_whole (H := 1) (W := 1024) _ _
  case dgt2 => exact patch_whole (H := 1) (W := 1024) _ _
  all_goals rfl

/-- The gradient at the up projection's output, in the tile's own order. -/
def duOf (P : Pre F) (τ : St F) : FVec F S256x5632 .bf16 :=
  truncf .bf16 (matmul dot_S256x256_S256x5632_S256x5632_1_0_0_1_n_n none P.pmt (window (τ .dus) ![0, 0] S256x5632.size (inb2 le_rfl le_rfl) : FVec F S256x5632 .bf16)
    (constant S256x5632 .f32 0x00000000#32)) bitsLt_bf16_f32

/-- The gradient at the modulated rows. -/
def dhOf (P : Pre F) (τ : St F) : FVec F S256x1024 .f32 :=
  matmul dot_S256x5632_S1024x5632_S256x1024_1_1_0_0_n_n none (duOf P τ) (window (τ .wup) ![0, 0] S1024x5632.size (inb2 le_rfl le_rfl) : FVec F S1024x5632 .bf16)
    (constant S256x1024 .f32 0x00000000#32)

/-- The column sums of the gradient times the normalised rows. -/
def cOf (P : Pre F) (τ : St F) : FVec F S1x1024 .f32 := colSumD (mulf (dhOf P τ) (scaleRows P.x (rms P.x)))

/-- The buffers after the last part of the tile. -/
def postSt (P : Pre F) (dx3 : FVec F S256x1024 .f32) (τ : St F) : St F
  | .du => duOf P τ
  | .dx2 => addf dx3 (normGrad (mulf (dhOf P τ) (rowD (mulf P.g2 (onePlus P.sc2)))) (scaleRows P.x (rms P.x)) (rms P.x))
  | .dg2 => addf (shapeCast S1x1024 (window (τ .dg2) ![0, 0] S1x1024.size (inb2 le_rfl le_rfl)) shapeCasts_S1x1024_S1x1024) (mulf (cOf P τ) (onePlus P.sc2))
  | .dsc2 => addf (shapeCast S1x1024 (window (τ .dsc2) ![0, 0] S1x1024.size (inb2 le_rfl le_rfl)) shapeCasts_S1x1024_S1x1024) (mulf (cOf P τ) P.g2)
  | .dsh2 => addf (shapeCast S1x1024 (window (τ .dsh2) ![0, 0] S1x1024.size (inb2 le_rfl le_rfl)) shapeCasts_S1x1024_S1x1024) (colSumD (dhOf P τ))
  | b => τ b

theorem run_post (P : Pre F) (dx3 : FVec F S256x1024 .f32) (τ : St F) : (post P dx3).run τ = (⟨⟩, postSt P dx3 τ) := by
  refine Prod.ext rfl ?_
  funext b
  cases b
  case du => exact patch_whole (H := 256) (W := 5632) _ _
  case dx2 => exact patch_whole (H := 256) (W := 1024) _ _
  case dg2 => exact patch_whole (H := 1) (W := 1024) _ _
  case dsc2 => exact patch_whole (H := 1) (W := 1024) _ _
  case dsh2 => exact patch_whole (H := 1) (W := 1024) _ _
  all_goals rfl

/-- The buffers after the forward pass of a tile, -/
def fwdAll (σ : St F) : St F := fwdSt v0 v1 σ 11

/-- after its middle, -/
def midAll (σ : St F) : St F := midSt (preOf σ) (o2 v0 v1 σ 11 le_rfl) (fwdAll v0 v1 σ)

/-- after its backward pass, -/
def bwdAll (σ : St F) : St F :=
  bwdSt v1 (gOf (preOf σ) (o2 v0 v1 σ 11 le_rfl) (fwdAll v0 v1 σ)) (midAll v0 v1 σ) (fun k => k < 11) (fun k => k % 11 < 11)

/-- and after the whole of it. -/
def tileSt (σ : St F) : St F :=
  postSt (preOf σ) (dx3Of (preOf σ) (o2 v0 v1 σ 11 le_rfl) (fwdAll v0 v1 σ)) (bwdAll v0 v1 σ)

theorem run_tile (σ : St F) : ((tile v0 v1).run σ).2 = tileSt v0 v1 σ := by
  unfold tile
  rw [Code.run_bind, run_pre, Code.run_bind, run_fwdTo v0 v1 σ 10 (by decide), Code.run_bind, run_fwdBlock v0 v1 σ 10 (by decide), Code.run_bind, run_mid,
    Code.run_bind, run_bwdTo, run_post]
  rfl

theorem eleven_pos : 0 < 11 := by decide

/-! ### Buffers whose contents are not read -/

/-- The buffers with those a tile overwrites before reading emptied. -/
def clean (σ : St F) : St F
  | .u => constant S256x5632 .bf16 0x0000#16
  | .sil => constant S256x2816 .f32 0x00000000#32
  | .vds => constant S256x2816 .f32 0x00000000#32
  | .f => constant S256x2816 .bf16 0x0000#16
  | .dus => constant S256x5632 .bf16 0x0000#16
  | .du => constant S256x5632 .bf16 0x0000#16
  | .dx2 => constant S256x1024 .f32 0x00000000#32
  | b => σ b

/-- Buffers that differ at most in the three result buffers of the backward pass. -/
def over (τ : St F) (a : Code.State (Elt F) shp elt) : St F
  | .dus => a .dus
  | .du => a .du
  | .dx2 => a .dx2
  | b => τ b

theorem o2_clean (σ : St F) (n : ℕ) (h : n ≤ 11) : o2 v0 v1 (clean σ) n h = o2 v0 v1 σ n h := by
  induction n with
  | zero => rfl
  | succ n ih =>
    show addf (o2 v0 v1 (clean σ) n _) _ = addf (o2 v0 v1 σ n _) _
    rw [ih]
    rfl

theorem fwdAll_clean (σ : St F) : fwdAll v0 v1 σ = over (fwdAll v0 v1 (clean σ)) σ := by
  funext b
  cases b
  case u => exact pasteCols_all (H := 256) (W := 5632) (N := 22) rfl (fun k => k % 11 < 11) (fun k => k % 11 < 11) (σ .u) (clean σ .u) (fun k => uOf (upAt σ (256 * k.val) (off_le k))) (fun j _ => Nat.mod_lt j eleven_pos) (fun j _ => Nat.mod_lt j eleven_pos)
  case sil => exact pasteCols_all (H := 256) (W := 2816) (N := 11) rfl _ _ (σ .sil) (clean σ .sil) (fun k => shapeCast S256x256 (silu (gateAt v0 v1 σ k.val k.isLt)) shapeCasts_S256x256_S256x256) (fun j h => h) (fun j h => h)
  case vds => exact pasteCols_all (H := 256) (W := 2816) (N := 11) rfl _ _ (σ .vds) (clean σ .vds) (fun k => shapeCast S256x256 (gateGrad (valAt v0 v1 σ k.val k.isLt) (gateAt v0 v1 σ k.val k.isLt)) shapeCasts_S256x256_S256x256) (fun j h => h) (fun j h => h)
  case f => exact pasteCols_all (H := 256) (W := 2816) (N := 11) rfl _ _ (σ .f) (clean σ .f) (fun k => shapeCast S256x256 (fOf (valAt v0 v1 σ k.val k.isLt) (gateAt v0 v1 σ k.val k.isLt)) shapeCasts_S256x256_S256x256) (fun j h => h) (fun j h => h)
  all_goals rfl

theorem midSt_over (P : Pre F) (o : FVec F S256x1024 .f32) (τ a : St F) : midSt P o (over τ a) = over (midSt P o τ) a := by
  funext b
  cases b <;> rfl

theorem bwdSt_over (g : FVec F S256x1024 .bf16) (τ a : St F) :
    bwdSt v1 g (over τ a) (fun k => k < 11) (fun k => k % 11 < 11) = over (bwdSt v1 g τ (fun k => k < 11) (fun k => k % 11 < 11))
      (Function.update a .dus (bwdSt v1 g τ (fun k => k < 11) (fun k => k % 11 < 11) .dus)) := by
  funext b
  cases b
  case dus => exact pasteCols_all (H := 256) (W := 5632) (N := 22) rfl (fun k => k % 11 < 11) (fun k => k % 11 < 11) (a .dus) (τ .dus) (fun k => dusOf v1 τ (dAt g τ k.val k.isLt) (256 * k.val) (off_le k)) (fun j _ => Nat.mod_lt j eleven_pos) (fun j _ => Nat.mod_lt j eleven_pos)
  all_goals rfl

theorem postSt_over (P : Pre F) (dx3 : FVec F S256x1024 .f32) (τ a : St F) (h : a .dus = τ .dus) : postSt P dx3 (over τ a) = postSt P dx3 τ := by
  have hd : over τ a .dus = τ .dus := h
  have h1 : duOf P (over τ a) = duOf P τ := by unfold duOf; rw [hd]
  have h2 : dhOf P (over τ a) = dhOf P τ := by unfold dhOf; rw [h1]; rfl
  have h3 : cOf P (over τ a) = cOf P τ := by unfold cOf; rw [h2]
  funext b
  cases b
  case du => exact h1
  case dus => exact h
  case dx2 => show addf _ _ = addf _ _; rw [h2]
  case dg2 => show addf _ (mulf _ _) = addf _ (mulf _ _); rw [h3]; rfl
  case dsc2 => show addf _ (mulf _ _) = addf _ (mulf _ _); rw [h3]; rfl
  case dsh2 => show addf _ (colSumD _) = addf _ (colSumD _); rw [h2]; rfl
  all_goals rfl

/-- A tile does not read what `clean` empties. -/
theorem tileSt_clean (σ : St F) : tileSt v0 v1 (clean σ) = tileSt v0 v1 σ := by
  have hb : bwdAll v0 v1 σ = over (bwdAll v0 v1 (clean σ)) (Function.update σ .dus (bwdAll v0 v1 (clean σ) .dus)) := by
    unfold bwdAll midAll
    rw [o2_clean, fwdAll_clean v0 v1 σ, midSt_over]
    exact bwdSt_over v1 _ _ σ
  unfold tileSt
  rw [hb, postSt_over _ _ _ _ (Function.update_self _ _ _), o2_clean, fwdAll_clean v0 v1 σ]
  rfl

/-! ### The first point -/

/-- The buffers with the accumulators and the carry at zero. -/
def zeroSt (σ : St F) : St F
  | .dwd => shapeCast S2816x1024 (broadcast S2816x1024 (Scalar.ofBits .f32 0x00000000#32)) shapeCasts_S2816x1024_S2816x1024
  | .carry => shapeCast S16x5632 (broadcast S16x5632 (Scalar.ofBits .f32 0x00000000#32)) shapeCasts_S16x5632_S16x5632
  | .dfw => broadcast S3x5632 (Scalar.ofBits .f32 0x00000000#32)
  | .dfb => broadcast S1x5632 (Scalar.ofBits .f32 0x00000000#32)
  | .dfg => broadcast S1x1024 (Scalar.ofBits .f32 0x00000000#32)
  | .dgt2 => broadcast S1x1024 (Scalar.ofBits .f32 0x00000000#32)
  | .dg2 => broadcast S1x1024 (Scalar.ofBits .f32 0x00000000#32)
  | .dsc2 => broadcast S1x1024 (Scalar.ofBits .f32 0x00000000#32)
  | .dsh2 => broadcast S1x1024 (Scalar.ofBits .f32 0x00000000#32)
  | .loss => broadcast S1x128 (Scalar.ofBits .f32 0x00000000#32)
  | b => σ b

theorem run_zeros (σ : St F) : zeros.run σ = (⟨⟩, zeroSt σ) := by
  refine Prod.ext rfl ?_
  funext b
  cases b
  case dwd => exact patch_whole (H := 2816) (W := 1024) _ _
  case carry => exact patch_whole (H := 16) (W := 5632) _ _
  case dfw => exact patch_whole (H := 3) (W := 5632) _ _
  case dfb => exact patch_whole (H := 1) (W := 5632) _ _
  case dfg => exact patch_whole (H := 1) (W := 1024) _ _
  case dgt2 => exact patch_whole (H := 1) (W := 1024) _ _
  case dg2 => exact patch_whole (H := 1) (W := 1024) _ _
  case dsc2 => exact patch_whole (H := 1) (W := 1024) _ _
  case dsh2 => exact patch_whole (H := 1) (W := 1024) _ _
  case loss => exact patch_whole (H := 1) (W := 128) _ _
  all_goals rfl

end Stages

end Cert.Ffn

end
-- ==== Proof.Ffn.State.lean ====
/-
  What the kernel's buffers hold after each point of its grid, and the runs of its body at the first, the middle and the last points.
-/
module

public import proofs.«01_k».proof.Proof.Ffn.Fill
public import proofs.«01_k».proof.Proof.Ffn.Final
public import proofs.«01_k».proof.Proof.Gen.KernelIdeal.Frame

@[expose] public section

set_option maxRecDepth 16384

noncomputable section

namespace Cert.Ffn

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-! ### The buffers' contents point by point -/

/-- The buffers with the inputs of a point and the weights in place. -/
def put (c : Dev nD) (t : Fin cfg0.N) (σ : St F) : St F
  | .x2 => iblk m c 0 t
  | .halo => iblk m c 1 t
  | .tgt => iblk m c 2 t
  | .g2 => iblk m c 3 t
  | .sc2 => iblk m c 4 t
  | .sh2 => iblk m c 5 t
  | .fw => iblk m c 6 t
  | .fb => iblk m c 7 t
  | .gt2 => iblk m c 8 t
  | .fg => iblk m c 9 t
  | .pm => iblk m c 10 t
  | .pmt => iblk m c 11 t
  | .wup => chunks (hUp.view.read (Elt F) (V m c main_v3))
  | .wd => hDown.view.read (Elt F) (V m c main_v5)
  | b => σ b

/-- A point of the grid by its number. -/
def pt (t : ℕ) : Fin cfg0.N := ⟨t % 32, lt_of_lt_of_eq (Nat.mod_lt t (by decide)) N_0.symm⟩

theorem pt_val (t : Fin cfg0.N) : pt t.val = t := Fin.ext (Nat.mod_eq_of_lt (lt_of_lt_of_eq t.isLt N_0))

/-- One point's effect. -/
def stepSt (c : Dev nD) (t : Fin cfg0.N) (σ : St F) : St F := tileSt (tileNo (grid0.coords t)) rowNo (clean (put m c t σ))

/-- Buffers at zero. -/
def junk : St F := fun b => match b with
  | .x2 | .tgt | .dx2 => constant S256x1024 .f32 0x00000000#32
  | .halo => constant S8x1024 .f32 0x00000000#32
  | .g2 | .sc2 | .sh2 | .gt2 | .fg | .dfg | .dgt2 | .dg2 | .dsc2 | .dsh2 => constant S1x1024 .f32 0x00000000#32
  | .fw | .dfw => constant S3x5632 .f32 0x00000000#32
  | .fb | .dfb => constant S1x5632 .f32 0x00000000#32
  | .pm | .pmt => constant S256x256 .bf16 0x0000#16
  | .du | .u | .dus => constant S256x5632 .bf16 0x0000#16
  | .loss => constant S1x128 .f32 0x00000000#32
  | .wup => constant S1024x5632 .bf16 0x0000#16
  | .wd => constant S2816x1024 .bf16 0x0000#16
  | .dwd => constant S2816x1024 .f32 0x00000000#32
  | .carry => constant S16x5632 .f32 0x00000000#32
  | .sil | .vds => constant S256x2816 .f32 0x00000000#32
  | .f => constant S256x2816 .bf16 0x0000#16

/-- The buffers before a point: the accumulators at zero before the first. -/
def stIn (c : Dev nD) : ℕ → St F
  | 0 => zeroSt junk
  | t + 1 => stepSt m c (pt t) (stIn c t)

/-- The buffers after a point. -/
def stOut (c : Dev nD) (t : Fin cfg0.N) : St F := stepSt m c t (stIn m c t.val)

theorem stIn_succ (c : Dev nD) (t : Fin cfg0.N) : stIn m c (t.val + 1) = stOut m c t := by
  unfold stOut
  rw [stIn, pt_val]

/-- Buffers that hold a point's inputs, the weights and the accumulators so far. -/
structure Ready (c : Dev nD) (t : Fin cfg0.N) (σ : St F) : Prop where
  inputs : ∀ b, b ∈ [Bf.x2, .halo, .tgt, .g2, .sc2, .sh2, .fw, .fb, .gt2, .fg, .pm, .pmt, .wup, .wd] → σ b = put m c t σ b
  sums : ∀ b, b ∈ [Bf.dfw, .dfb, .dfg, .dgt2, .dg2, .dsc2, .dsh2, .loss, .dwd, .carry] → σ b = stIn m c t.val b

theorem tileSt_ready {c : Dev nD} {t : Fin cfg0.N} {σ : St F} (h : Ready m c t σ) :
    tileSt (tileNo (grid0.coords t)) rowNo σ = stOut m c t := by
  rw [← tileSt_clean]
  unfold stOut stepSt
  refine congrArg (tileSt (tileNo (grid0.coords t)) rowNo) (funext fun b => ?_)
  cases b
  case u | sil | vds | f | dus | du | dx2 => rfl
  case x2 | halo | tgt | g2 | sc2 | sh2 | fw | fb | gt2 | fg | pm | pmt | wup | wd => exact h.inputs _ (by decide)
  case dfw | dfb | dfg | dgt2 | dg2 | dsc2 | dsh2 | loss | dwd | carry => exact h.sums _ (by decide)

/-! ### The runs -/

section Runs

variable (c : Dev nD) (mem : (b : Bf) → Memref sig .tc .vmem (shp b) (elt b)) (hw : ∀ b, (mem b).IsWhole)

/-- The weights' buffers taken out, to be put back at other contents. -/
theorem ownsAll_weights (σ : St F) :
    (ownsAll c mem σ : sProp 𝕄) ⊢ iprop((∃ d, owns (c : Thread nD τ) (mem .wup) fullShare d) ∗ (∃ d, owns (c : Thread nD τ) (mem .wd) fullShare d)
      ∗ (∀ X : (shp .wup).Idx → Elt F (elt .wup), ∀ Y : (shp .wd).Idx → Elt F (elt .wd), iprop(owns (c : Thread nD τ) (mem .wup) fullShare X ∗ owns (c : Thread nD τ) (mem .wd) fullShare Y)
        -∗ ownsAll c mem (Function.update (Function.update σ .wup X) .wd Y))) := by
  have hu : ∀ X : (shp .wup).Idx → Elt F (elt .wup), ∀ Y : (shp .wd).Idx → Elt F (elt .wd),
      (ownsAll c mem (Function.update (Function.update σ .wup X) .wd Y) : sProp 𝕄) = iprop(owns (c : Thread nD τ) (mem .wd) fullShare Y
        ∗ owns (c : Thread nD τ) (mem .wup) fullShare X ∗ bigSep ((Finset.univ.erase .wd).erase .wup) fun b => owns (c : Thread nD τ) (mem b) fullShare (σ b)) := by
    intro X Y
    rw [ownsAll_update, BI.bigSep_erase (Finset.mem_erase.mpr ⟨(by decide : Bf.wup ≠ Bf.wd), Finset.mem_univ Bf.wup⟩), Function.update_self]
    exact congrArg _ (congrArg _ (BI.bigSep_congr fun b hb => by rw [Function.update_of_ne (Finset.ne_of_mem_erase hb)]))
  have h0 := hu (σ .wup) (σ .wd)
  rw [Function.update_eq_self, Function.update_eq_self] at h0
  rw [h0]
  iintro ⟨H1, H2, H3⟩
  isplitl [H2]; · iexists _; iexact H2
  isplitl [H1]; · iexists _; iexact H1
  iintro %X %Y ⟨H2, H1⟩
  rw [hu X Y]
  isplitl [H1]; · iexact H1
  isplitl [H2]; · iexact H2
  iexact H3

/-- The gradient's accumulator and the down projection's buffer taken out. -/
theorem ownsAll_grad (σ : St F) :
    (ownsAll c mem σ : sProp 𝕄) ⊢ iprop(owns (c : Thread nD τ) (mem .dwd) fullShare (σ .dwd) ∗ (∃ d, owns (c : Thread nD τ) (mem .wd) fullShare d)
      ∗ (∀ Y : (shp .wd).Idx → Elt F (elt .wd), iprop(owns (c : Thread nD τ) (mem .dwd) fullShare (σ .dwd) ∗ owns (c : Thread nD τ) (mem .wd) fullShare Y)
        -∗ ownsAll c mem (Function.update σ .wd Y))) := by
  have hu : ∀ Y : (shp .wd).Idx → Elt F (elt .wd),
      (ownsAll c mem (Function.update σ .wd Y) : sProp 𝕄) = iprop(owns (c : Thread nD τ) (mem .wd) fullShare Y
        ∗ owns (c : Thread nD τ) (mem .dwd) fullShare (σ .dwd) ∗ bigSep ((Finset.univ.erase .wd).erase .dwd) fun b => owns (c : Thread nD τ) (mem b) fullShare (σ b)) := by
    intro Y
    rw [ownsAll_update, BI.bigSep_erase (Finset.mem_erase.mpr ⟨(by decide : Bf.dwd ≠ Bf.wd), Finset.mem_univ Bf.dwd⟩)]
    rfl
  have h0 := hu (σ .wd)
  rw [Function.update_eq_self] at h0
  rw [h0]
  iintro ⟨H1, H2, H3⟩
  isplitl [H2]; · iexact H2
  isplitl [H1]; · iexists _; iexact H1
  iintro %Y ⟨H2, H1⟩
  rw [hu Y]
  isplitl [H1]; · iexact H1
  isplitl [H2]; · iexact H2
  iexact H3

variable (v0 : BitVec 32) (v1 : IVec S8x256 32)

/-- A tile's run. -/
theorem tileRun (σ : St F) (K : PUnit → sProp 𝕄) :
    iprop(ownsAll c mem σ ∗ (ownsAll c mem (tileSt v0 v1 σ) -∗ K ⟨⟩))
      ⊢ wp frame (wpE (defs₀ (F := F)) Variants.none c none) Set.univ ((tile v0 v1).prog mem hw) K := by
  have h := wp_prog (defs := defs₀ (F := F)) Variants.none c none Set.univ mem hw (tile v0 v1) σ K
  rw [show ((tile v0 v1).run σ).1 = PUnit.unit from Subsingleton.elim _ _, run_tile] at h
  exact h

/-- The first point's zeroing. -/
theorem zeroRun (σ : St F) (K : PUnit → sProp 𝕄) :
    iprop(ownsAll c mem σ ∗ (ownsAll c mem (zeroSt σ) -∗ K ⟨⟩))
      ⊢ wp frame (wpE (defs₀ (F := F)) Variants.none c none) Set.univ ((zeros (F := F)).prog mem hw) K := by
  have h := wp_prog (defs := defs₀ (F := F)) Variants.none c none Set.univ mem hw zeros σ K
  rw [run_zeros] at h
  exact h

end Runs

end Cert.Ffn

end
-- ==== Proof.Ffn.Data.lean ====
/-
  The proof data of the feed-forward call: what its windows and its scratch hold between the points of its grid.
-/
module

public import proofs.«01_k».proof.Proof.Ffn.State
public import Idealize.ShloMosaic.Lib.Pipeline.FrameValue

@[expose] public section

set_option maxRecDepth 16384

noncomputable section

namespace Cert.Ffn

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The kernel's own counters and the arrays it moves itself -/

abbrev osem0 : Fin 7 → SemLoc sig := fun j =>
  (![SemLoc.dma 27, SemLoc.dma 28, SemLoc.dma 29, SemLoc.dma 30, SemLoc.dma 31, SemLoc.dma 32, SemLoc.dma 33] : Fin 7 → SemLoc sig) j

theorem ownSemFacts0 : Pipeline.OwnSemFacts spec0 osem0 := by decide

theorem ownSems_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6] (by decide) (by decide)]; rfl

/-- The two weights, read; -/
def readRefs : Finset (Ref sig .tc) := {main_v3, main_v5}

/-- the down projection's gradient, written. -/
def writtenRefs : Finset (Ref sig .tc) := {main_v23_10, main_v23_11}

theorem readRefs_sub : readRefs ⊆ Pipeline.restRefs sig spec0 := by decide

theorem writtenRefs_sub : writtenRefs ⊆ Pipeline.restRefs sig spec0 \ readRefs := by decide

/-- The last point of the grid. -/
def lastPt : Fin cfg0.N := pt 31

/-- The written arrays after the run. -/
def written (c : Dev nD) : (b : Ref sig .tc) → Buf (Elt F) ((c : Thread nD τ).loc b) :=
  Function.update (Function.update (V m c) main_v23_10 (stOut m c lastPt .dwd)) main_v23_11 (truncf .bf16 (stOut m c lastPt .dwd) Facts₀.bitsLt_bf16_f32)

theorem readRefs_eq (c : Dev nD) :
    (bigSep readRefs fun b => ((c.tc : Thread nD τ).loc b) ↦{fullShare} V m c b : sProp 𝕄) = iprop(hbPt c hUp (V m c main_v3) ∗ hbPt c hDown (V m c main_v5)) := by
  rw [BI.bigSep_eq_bigSepL_of_eq [main_v3, main_v5] (by decide) (by decide)]; rfl

theorem routed_V (c : Dev nD) :
    (Pipeline.routed writtenRefs c (V m c) : sProp 𝕄) = iprop(hbPt c hGrad (V m c main_v23_10) ∗ hbPt c hGrad16 (V m c main_v23_11)) := by
  unfold Pipeline.routed
  rw [BI.bigSep_eq_bigSepL_of_eq [main_v23_10, main_v23_11] (by decide) (by decide)]; rfl

theorem routed_written (c : Dev nD) :
    (Pipeline.routed writtenRefs c (written m c) : sProp 𝕄)
      = iprop(hbPt c hGrad (stOut m c lastPt .dwd) ∗ hbPt c hGrad16 (truncf .bf16 (stOut m c lastPt .dwd) Facts₀.bitsLt_bf16_f32)) := by
  unfold Pipeline.routed
  rw [BI.bigSep_eq_bigSepL_of_eq [main_v23_10, main_v23_11] (by decide) (by decide)]
  simp only [bigSepL_cons_cons, bigSepL_singleton]
  unfold written
  rw [Function.update_self, Function.update_of_ne (by decide : main_v23_10 ≠ main_v23_11), Function.update_self]
  rfl

/-! ### The buffers -/

/-- The buffers a point of the grid is run on. -/
abbrev memAt (t : Fin cfg0.N) : (b : Bf) → Memref sig .tc .vmem (shp b) (elt b) :=
  memOf (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) (win0_17.stage (cfg0.slots t 17)) (win0_18.stage (cfg0.slots t 18)) (win0_19.stage (cfg0.slots t 19)) (win0_20.stage (cfg0.slots t 20)) (win0_21.stage (cfg0.slots t 21))
    (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8)

theorem ownsAll_eq (c : Dev nD) (mem : (b : Bf) → Memref sig .tc .vmem (shp b) (elt b)) (σ : St F) :
    (ownsAll c mem σ : sProp 𝕄) = iprop(owns (c : Thread nD τ) (mem .x2) fullShare (σ .x2) ∗ owns (c : Thread nD τ) (mem .halo) fullShare (σ .halo) ∗ owns (c : Thread nD τ) (mem .tgt) fullShare (σ .tgt) ∗ owns (c : Thread nD τ) (mem .g2) fullShare (σ .g2) ∗ owns (c : Thread nD τ) (mem .sc2) fullShare (σ .sc2) ∗ owns (c : Thread nD τ) (mem .sh2) fullShare (σ .sh2) ∗ owns (c : Thread nD τ) (mem .fw) fullShare (σ .fw) ∗ owns (c : Thread nD τ) (mem .fb) fullShare (σ .fb) ∗ owns (c : Thread nD τ) (mem .gt2) fullShare (σ .gt2) ∗ owns (c : Thread nD τ) (mem .fg) fullShare (σ .fg) ∗ owns (c : Thread nD τ) (mem .pm) fullShare (σ .pm) ∗ owns (c : Thread nD τ) (mem .pmt) fullShare (σ .pmt) ∗ owns (c : Thread nD τ) (mem .du) fullShare (σ .du) ∗ owns (c : Thread nD τ) (mem .dx2) fullShare (σ .dx2) ∗ owns (c : Thread nD τ) (mem .dfw) fullShare (σ .dfw) ∗ owns (c : Thread nD τ) (mem .dfb) fullShare (σ .dfb) ∗ owns (c : Thread nD τ) (mem .dfg) fullShare (σ .dfg) ∗ owns (c : Thread nD τ) (mem .dgt2) fullShare (σ .dgt2) ∗ owns (c : Thread nD τ) (mem .dg2) fullShare (σ .dg2) ∗ owns (c : Thread nD τ) (mem .dsc2) fullShare (σ .dsc2) ∗ owns (c : Thread nD τ) (mem .dsh2) fullShare (σ .dsh2) ∗ owns (c : Thread nD τ) (mem .loss) fullShare (σ .loss) ∗ owns (c : Thread nD τ) (mem .wup) fullShare (σ .wup) ∗ owns (c : Thread nD τ) (mem .wd) fullShare (σ .wd) ∗ owns (c : Thread nD τ) (mem .dwd) fullShare (σ .dwd) ∗ owns (c : Thread nD τ) (mem .carry) fullShare (σ .carry) ∗ owns (c : Thread nD τ) (mem .u) fullShare (σ .u) ∗ owns (c : Thread nD τ) (mem .sil) fullShare (σ .sil) ∗ owns (c : Thread nD τ) (mem .vds) fullShare (σ .vds) ∗ owns (c : Thread nD τ) (mem .f) fullShare (σ .f) ∗ owns (c : Thread nD τ) (mem .dus) fullShare (σ .dus)) := by
  unfold ownsAll
  rw [BI.bigSep_eq_bigSepL_of_eq bufs (Finset.ext fun b => ⟨fun _ => List.mem_toFinset.mpr (mem_bufs b), fun _ => Finset.mem_univ b⟩) bufs_nodup]
  rfl

/-- Scratch buffers, each at its contents. -/
abbrev scratchAt (c : Dev nD) (σ : St F) : sProp 𝕄 :=
  iprop(owns (c : Thread nD τ) (Memref.whole cc0_scratch0) fullShare (σ .wup) ∗ owns (c : Thread nD τ) (Memref.whole cc0_scratch1) fullShare (σ .wd) ∗ owns (c : Thread nD τ) (Memref.whole cc0_scratch2) fullShare (σ .dwd) ∗ owns (c : Thread nD τ) (Memref.whole cc0_scratch3) fullShare (σ .carry) ∗ owns (c : Thread nD τ) (Memref.whole cc0_scratch4) fullShare (σ .u) ∗ owns (c : Thread nD τ) (Memref.whole cc0_scratch5) fullShare (σ .sil) ∗ owns (c : Thread nD τ) (Memref.whole cc0_scratch6) fullShare (σ .vds) ∗ owns (c : Thread nD τ) (Memref.whole cc0_scratch7) fullShare (σ .f) ∗ owns (c : Thread nD τ) (Memref.whole cc0_scratch8) fullShare (σ .dus))

/-- Window buffers, each at its contents. -/
abbrev winsAt (c : Dev nD) (t : Fin cfg0.N) (σ : St F) : sProp 𝕄 :=
  iprop(owns (c : Thread nD τ) (win0_0.stage (cfg0.slots t 0)) fullShare (σ .x2) ∗ owns (c : Thread nD τ) (win0_1.stage (cfg0.slots t 1)) fullShare (σ .halo) ∗ owns (c : Thread nD τ) (win0_2.stage (cfg0.slots t 2)) fullShare (σ .tgt) ∗ owns (c : Thread nD τ) (win0_3.stage (cfg0.slots t 3)) fullShare (σ .g2) ∗ owns (c : Thread nD τ) (win0_4.stage (cfg0.slots t 4)) fullShare (σ .sc2) ∗ owns (c : Thread nD τ) (win0_5.stage (cfg0.slots t 5)) fullShare (σ .sh2) ∗ owns (c : Thread nD τ) (win0_6.stage (cfg0.slots t 6)) fullShare (σ .fw) ∗ owns (c : Thread nD τ) (win0_7.stage (cfg0.slots t 7)) fullShare (σ .fb) ∗ owns (c : Thread nD τ) (win0_8.stage (cfg0.slots t 8)) fullShare (σ .gt2) ∗ owns (c : Thread nD τ) (win0_9.stage (cfg0.slots t 9)) fullShare (σ .fg) ∗ owns (c : Thread nD τ) (win0_10.stage (cfg0.slots t 10)) fullShare (σ .pm) ∗ owns (c : Thread nD τ) (win0_11.stage (cfg0.slots t 11)) fullShare (σ .pmt) ∗ owns (c : Thread nD τ) (win0_12.stage (cfg0.slots t 12)) fullShare (σ .du) ∗ owns (c : Thread nD τ) (win0_13.stage (cfg0.slots t 13)) fullShare (σ .dx2) ∗ owns (c : Thread nD τ) (win0_14.stage (cfg0.slots t 14)) fullShare (σ .dfw) ∗ owns (c : Thread nD τ) (win0_15.stage (cfg0.slots t 15)) fullShare (σ .dfb) ∗ owns (c : Thread nD τ) (win0_16.stage (cfg0.slots t 16)) fullShare (σ .dfg) ∗ owns (c : Thread nD τ) (win0_17.stage (cfg0.slots t 17)) fullShare (σ .dgt2) ∗ owns (c : Thread nD τ) (win0_18.stage (cfg0.slots t 18)) fullShare (σ .dg2) ∗ owns (c : Thread nD τ) (win0_19.stage (cfg0.slots t 19)) fullShare (σ .dsc2) ∗ owns (c : Thread nD τ) (win0_20.stage (cfg0.slots t 20)) fullShare (σ .dsh2) ∗ owns (c : Thread nD τ) (win0_21.stage (cfg0.slots t 21)) fullShare (σ .loss))

theorem ownsAll_split (c : Dev nD) (t : Fin cfg0.N) (σ : St F) : (ownsAll c (memAt t) σ : sProp 𝕄) ⊢ iprop(winsAt c t σ ∗ scratchAt c σ) := by
  rw [ownsAll_eq]
  iintro ⟨Hx2, Hhalo, Htgt, Hg2, Hsc2, Hsh2, Hfw, Hfb, Hgt2, Hfg, Hpm, Hpmt, Hdu, Hdx2, Hdfw, Hdfb, Hdfg, Hdgt2, Hdg2, Hdsc2, Hdsh2, Hloss, Hwup, Hwd, Hdwd, Hcarry, Hu, Hsil, Hvds, Hf, Hdus⟩
  isplitr [Hwup Hwd Hdwd Hcarry Hu Hsil Hvds Hf Hdus]
  · isplitl [Hx2]; · iexact Hx2
    isplitl [Hhalo]; · iexact Hhalo
    isplitl [Htgt]; · iexact Htgt
    isplitl [Hg2]; · iexact Hg2
    isplitl [Hsc2]; · iexact Hsc2
    isplitl [Hsh2]; · iexact Hsh2
    isplitl [Hfw]; · iexact Hfw
    isplitl [Hfb]; · iexact Hfb
    isplitl [Hgt2]; · iexact Hgt2
    isplitl [Hfg]; · iexact Hfg
    isplitl [Hpm]; · iexact Hpm
    isplitl [Hpmt]; · iexact Hpmt
    isplitl [Hdu]; · iexact Hdu
    isplitl [Hdx2]; · iexact Hdx2
    isplitl [Hdfw]; · iexact Hdfw
    isplitl [Hdfb]; · iexact Hdfb
    isplitl [Hdfg]; · iexact Hdfg
    isplitl [Hdgt2]; · iexact Hdgt2
    isplitl [Hdg2]; · iexact Hdg2
    isplitl [Hdsc2]; · iexact Hdsc2
    isplitl [Hdsh2]; · iexact Hdsh2
    iexact Hloss
  isplitl [Hwup]; · iexact Hwup
  isplitl [Hwd]; · iexact Hwd
  isplitl [Hdwd]; · iexact Hdwd
  isplitl [Hcarry]; · iexact Hcarry
  isplitl [Hu]; · iexact Hu
  isplitl [Hsil]; · iexact Hsil
  isplitl [Hvds]; · iexact Hvds
  isplitl [Hf]; · iexact Hf
  iexact Hdus

theorem winsAt_update (c : Dev nD) (t : Fin cfg0.N) (σ : St F) (Y : (shp .wd).Idx → Elt F (elt .wd)) : (winsAt c t (Function.update σ .wd Y) : sProp 𝕄) = winsAt c t σ := rfl

theorem ownsAll_split_wd (c : Dev nD) (t : Fin cfg0.N) (σ : St F) (Y : (shp .wd).Idx → Elt F (elt .wd)) :
    (ownsAll c (memAt t) (Function.update σ .wd Y) : sProp 𝕄) ⊢ iprop(winsAt c t σ ∗ scratchAt c (Function.update σ .wd Y)) := by
  have h := ownsAll_split c t (Function.update σ .wd Y)
  rw [winsAt_update] at h
  exact h

/-- What the scratch buffers hold on the way: the weights, the gradient's accumulator and the carry. -/
def Held (c : Dev nD) (t : ℕ) (σ : St F) : Prop :=
  0 < t → t < 32 → σ .wup = chunks (hUp.view.read (Elt F) (V m c main_v3)) ∧ σ .wd = hDown.view.read (Elt F) (V m c main_v5) ∧ σ .dwd = stIn m c t .dwd ∧ σ .carry = stIn m c t .carry

/-- The invariant between points. -/
def inv (c : Dev nD) (t : Fin (cfg0.N + 1)) : sProp 𝕄 :=
  iprop((∃ σ : St F, ⌜Held m c t.val σ⌝ ∗ scratchAt c σ) ∗ (∃ r, prngReg c r) ∗ cells c ∗ (hbPt c hUp (V m c main_v3) ∗ hbPt c hDown (V m c main_v5))
    ∗ Pipeline.routed writtenRefs c (if t.val = 32 then written m c else V m c))

/-- The proof data: arrays as the region finds them, windows after a point as computed. -/
def dats (_ : Fin 1) (c : Dev nD) : Dat τ (Elt F) Unit ℕ (Pipeline.UD sig nD τ) ℕ cfg0 c where
  A w := V m c (Pipeline.arrRef spec0 w)
  after w t := match w with
    | ⟨0, _⟩ => stOut m c t .x2
    | ⟨1, _⟩ => stOut m c t .halo
    | ⟨2, _⟩ => stOut m c t .tgt
    | ⟨3, _⟩ => stOut m c t .g2
    | ⟨4, _⟩ => stOut m c t .sc2
    | ⟨5, _⟩ => stOut m c t .sh2
    | ⟨6, _⟩ => stOut m c t .fw
    | ⟨7, _⟩ => stOut m c t .fb
    | ⟨8, _⟩ => stOut m c t .gt2
    | ⟨9, _⟩ => stOut m c t .fg
    | ⟨10, _⟩ => stOut m c t .pm
    | ⟨11, _⟩ => stOut m c t .pmt
    | ⟨12, _⟩ => stOut m c t .du
    | ⟨13, _⟩ => stOut m c t .dx2
    | ⟨14, _⟩ => stOut m c t .dfw
    | ⟨15, _⟩ => stOut m c t .dfb
    | ⟨16, _⟩ => stOut m c t .dfg
    | ⟨17, _⟩ => stOut m c t .dgt2
    | ⟨18, _⟩ => stOut m c t .dg2
    | ⟨19, _⟩ => stOut m c t .dsc2
    | ⟨20, _⟩ => stOut m c t .dsh2
    | ⟨21, _⟩ => stOut m c t .loss
    | ⟨n + 22, h⟩ => absurd h (by show ¬ n + 22 < 22; omega)
  Φ := inv m c
  q w := if (spec0 w).isOut = false then Pipeline.shareOf spec0 w else fullShare
  owed _ := 0

theorem A_eq (c : Dev nD) (w : Fin cfg0.W) : (dats m 0 c).A w = V m c (Pipeline.arrRef spec0 w) := by
  dsimp only [dats]

theorem left_x2 (c : Dev nD) (t : Fin cfg0.N) : (dats m 0 c).after 0 t = stOut m c t .x2 := by dsimp only [dats]
theorem left_halo (c : Dev nD) (t : Fin cfg0.N) : (dats m 0 c).after 1 t = stOut m c t .halo := by dsimp only [dats]
theorem left_tgt (c : Dev nD) (t : Fin cfg0.N) : (dats m 0 c).after 2 t = stOut m c t .tgt := by dsimp only [dats]
theorem left_g2 (c : Dev nD) (t : Fin cfg0.N) : (dats m 0 c).after 3 t = stOut m c t .g2 := by dsimp only [dats]
theorem left_sc2 (c : Dev nD) (t : Fin cfg0.N) : (dats m 0 c).after 4 t = stOut m c t .sc2 := by dsimp only [dats]
theorem left_sh2 (c : Dev nD) (t : Fin cfg0.N) : (dats m 0 c).after 5 t = stOut m c t .sh2 := by dsimp only [dats]
theorem left_fw (c : Dev nD) (t : Fin cfg0.N) : (dats m 0 c).after 6 t = stOut m c t .fw := by dsimp only [dats]
theorem left_fb (c : Dev nD) (t : Fin cfg0.N) : (dats m 0 c).after 7 t = stOut m c t .fb := by dsimp only [dats]
theorem left_gt2 (c : Dev nD) (t : Fin cfg0.N) : (dats m 0 c).after 8 t = stOut m c t .gt2 := by dsimp only [dats]
theorem left_fg (c : Dev nD) (t : Fin cfg0.N) : (dats m 0 c).after 9 t = stOut m c t .fg := by dsimp only [dats]
theorem left_pm (c : Dev nD) (t : Fin cfg0.N) : (dats m 0 c).after 10 t = stOut m c t .pm := by dsimp only [dats]
theorem left_pmt (c : Dev nD) (t : Fin cfg0.N) : (dats m 0 c).after 11 t = stOut m c t .pmt := by dsimp only [dats]
theorem left_du (c : Dev nD) (t : Fin cfg0.N) : (dats m 0 c).after 12 t = stOut m c t .du := by dsimp only [dats]
theorem left_dx2 (c : Dev nD) (t : Fin cfg0.N) : (dats m 0 c).after 13 t = stOut m c t .dx2 := by dsimp only [dats]
theorem left_dfw (c : Dev nD) (t : Fin cfg0.N) : (dats m 0 c).after 14 t = stOut m c t .dfw := by dsimp only [dats]
theorem left_dfb (c : Dev nD) (t : Fin cfg0.N) : (dats m 0 c).after 15 t = stOut m c t .dfb := by dsimp only [dats]
theorem left_dfg (c : Dev nD) (t : Fin cfg0.N) : (dats m 0 c).after 16 t = stOut m c t .dfg := by dsimp only [dats]
theorem left_dgt2 (c : Dev nD) (t : Fin cfg0.N) : (dats m 0 c).after 17 t = stOut m c t .dgt2 := by dsimp only [dats]
theorem left_dg2 (c : Dev nD) (t : Fin cfg0.N) : (dats m 0 c).after 18 t = stOut m c t .dg2 := by dsimp only [dats]
theorem left_dsc2 (c : Dev nD) (t : Fin cfg0.N) : (dats m 0 c).after 19 t = stOut m c t .dsc2 := by dsimp only [dats]
theorem left_dsh2 (c : Dev nD) (t : Fin cfg0.N) : (dats m 0 c).after 20 t = stOut m c t .dsh2 := by dsimp only [dats]
theorem left_loss (c : Dev nD) (t : Fin cfg0.N) : (dats m 0 c).after 21 t = stOut m c t .loss := by dsimp only [dats]
theorem after_x2 (c : Dev nD) (t : Fin cfg0.N) : (dats m 0 c).after 0 t = iblk m c 0 t := by dsimp only [dats]; rfl
theorem before_x2 (c : Dev nD) (t : Fin cfg0.N) (d) : (dats m 0 c).before 0 t d = iblk m c 0 t :=
  ((dats m 0 c).before_in_eq_fetched 0 rfl (fun _ => rfl) (fun _ _ _ => rfl) (fun t => by rw [after_x2]; unfold Dat.blockOf iblk; rw [A_eq]; try rfl) t d).trans
    (by unfold Dat.fetched Dat.blockOf iblk; rw [A_eq]; try rfl)
theorem after_halo (c : Dev nD) (t : Fin cfg0.N) : (dats m 0 c).after 1 t = iblk m c 1 t := by dsimp only [dats]; rfl
theorem before_halo (c : Dev nD) (t : Fin cfg0.N) (d) : (dats m 0 c).before 1 t d = iblk m c 1 t :=
  ((dats m 0 c).before_in_eq_fetched 1 rfl (fun _ => rfl) (fun _ _ _ => rfl) (fun t => by rw [after_halo]; unfold Dat.blockOf iblk; rw [A_eq]; try rfl) t d).trans
    (by unfold Dat.fetched Dat.blockOf iblk; rw [A_eq]; try rfl)
theorem after_tgt (c : Dev nD) (t : Fin cfg0.N) : (dats m 0 c).after 2 t = iblk m c 2 t := by dsimp only [dats]; rfl
theorem before_tgt (c : Dev nD) (t : Fin cfg0.N) (d) : (dats m 0 c).before 2 t d = iblk m c 2 t :=
  ((dats m 0 c).before_in_eq_fetched 2 rfl (fun _ => rfl) (fun _ _ _ => rfl) (fun t => by rw [after_tgt]; unfold Dat.blockOf iblk; rw [A_eq]; try rfl) t d).trans
    (by unfold Dat.fetched Dat.blockOf iblk; rw [A_eq]; try rfl)
theorem after_g2 (c : Dev nD) (t : Fin cfg0.N) : (dats m 0 c).after 3 t = iblk m c 3 t := by dsimp only [dats]; rfl
theorem before_g2 (c : Dev nD) (t : Fin cfg0.N) (d) : (dats m 0 c).before 3 t d = iblk m c 3 t :=
  ((dats m 0 c).before_in_eq_fetched 3 rfl (fun _ => rfl) (fun _ _ _ => rfl) (fun t => by rw [after_g2]; unfold Dat.blockOf iblk; rw [A_eq]; try rfl) t d).trans
    (by unfold Dat.fetched Dat.blockOf iblk; rw [A_eq]; try rfl)
theorem after_sc2 (c : Dev nD) (t : Fin cfg0.N) : (dats m 0 c).after 4 t = iblk m c 4 t := by dsimp only [dats]; rfl
theorem before_sc2 (c : Dev nD) (t : Fin cfg0.N) (d) : (dats m 0 c).before 4 t d = iblk m c 4 t :=
  ((dats m 0 c).before_in_eq_fetched 4 rfl (fun _ => rfl) (fun _ _ _ => rfl) (fun t => by rw [after_sc2]; unfold Dat.blockOf iblk; rw [A_eq]; try rfl) t d).trans
    (by unfold Dat.fetched Dat.blockOf iblk; rw [A_eq]; try rfl)
theorem after_sh2 (c : Dev nD) (t : Fin cfg0.N) : (dats m 0 c).after 5 t = iblk m c 5 t := by dsimp only [dats]; rfl
theorem before_sh2 (c : Dev nD) (t : Fin cfg0.N) (d) : (dats m 0 c).before 5 t d = iblk m c 5 t :=
  ((dats m 0 c).before_in_eq_fetched 5 rfl (fun _ => rfl) (fun _ _ _ => rfl) (fun t => by rw [after_sh2]; unfold Dat.blockOf iblk; rw [A_eq]; try rfl) t d).trans
    (by unfold Dat.fetched Dat.blockOf iblk; rw [A_eq]; try rfl)
theorem after_fw (c : Dev nD) (t : Fin cfg0.N) : (dats m 0 c).after 6 t = iblk m c 6 t := by dsimp only [dats]; rfl
theorem before_fw (c : Dev nD) (t : Fin cfg0.N) (d) : (dats m 0 c).before 6 t d = iblk m c 6 t :=
  ((dats m 0 c).before_in_eq_fetched 6 rfl (fun _ => rfl) (fun _ _ _ => rfl) (fun t => by rw [after_fw]; unfold Dat.blockOf iblk; rw [A_eq]; try rfl) t d).trans
    (by unfold Dat.fetched Dat.blockOf iblk; rw [A_eq]; try rfl)
theorem after_fb (c : Dev nD) (t : Fin cfg0.N) : (dats m 0 c).after 7 t = iblk m c 7 t := by dsimp only [dats]; rfl
theorem before_fb (c : Dev nD) (t : Fin cfg0.N) (d) : (dats m 0 c).before 7 t d = iblk m c 7 t :=
  ((dats m 0 c).before_in_eq_fetched 7 rfl (fun _ => rfl) (fun _ _ _ => rfl) (fun t => by rw [after_fb]; unfold Dat.blockOf iblk; rw [A_eq]; try rfl) t d).trans
    (by unfold Dat.fetched Dat.blockOf iblk; rw [A_eq]; try rfl)
theorem after_gt2 (c : Dev nD) (t : Fin cfg0.N) : (dats m 0 c).after 8 t = iblk m c 8 t := by dsimp only [dats]; rfl
theorem before_gt2 (c : Dev nD) (t : Fin cfg0.N) (d) : (dats m 0 c).before 8 t d = iblk m c 8 t :=
  ((dats m 0 c).before_in_eq_fetched 8 rfl (fun _ => rfl) (fun _ _ _ => rfl) (fun t => by rw [after_gt2]; unfold Dat.blockOf iblk; rw [A_eq]; try rfl) t d).trans
    (by unfold Dat.fetched Dat.blockOf iblk; rw [A_eq]; try rfl)
theorem after_fg (c : Dev nD) (t : Fin cfg0.N) : (dats m 0 c).after 9 t = iblk m c 9 t := by dsimp only [dats]; rfl
theorem before_fg (c : Dev nD) (t : Fin cfg0.N) (d) : (dats m 0 c).before 9 t d = iblk m c 9 t :=
  ((dats m 0 c).before_in_eq_fetched 9 rfl (fun _ => rfl) (fun _ _ _ => rfl) (fun t => by rw [after_fg]; unfold Dat.blockOf iblk; rw [A_eq]; try rfl) t d).trans
    (by unfold Dat.fetched Dat.blockOf iblk; rw [A_eq]; try rfl)
theorem after_pm (c : Dev nD) (t : Fin cfg0.N) : (dats m 0 c).after 10 t = iblk m c 10 t := by dsimp only [dats]; rfl
theorem before_pm (c : Dev nD) (t : Fin cfg0.N) (d) : (dats m 0 c).before 10 t d = iblk m c 10 t :=
  ((dats m 0 c).before_in_eq_fetched 10 rfl (fun _ => rfl) (fun _ _ _ => rfl) (fun t => by rw [after_pm]; unfold Dat.blockOf iblk; rw [A_eq]; try rfl) t d).trans
    (by unfold Dat.fetched Dat.blockOf iblk; rw [A_eq]; try rfl)
theorem after_pmt (c : Dev nD) (t : Fin cfg0.N) : (dats m 0 c).after 11 t = iblk m c 11 t := by dsimp only [dats]; rfl
theorem before_pmt (c : Dev nD) (t : Fin cfg0.N) (d) : (dats m 0 c).before 11 t d = iblk m c 11 t :=
  ((dats m 0 c).before_in_eq_fetched 11 rfl (fun _ => rfl) (fun _ _ _ => rfl) (fun t => by rw [after_pmt]; unfold Dat.blockOf iblk; rw [A_eq]; try rfl) t d).trans
    (by unfold Dat.fetched Dat.blockOf iblk; rw [A_eq]; try rfl)
theorem before_sum (c : Dev nD) (w : Fin cfg0.W) (hw : (cfg0.win w).isOut = true) (hflush : ∀ t, (cfg0.win w).flush t = true ↔ t.val % 32 = 31)
    (hlive : ∀ i, cfg0.idle w i = false) (hclip : ∀ (i : cfg0.grid.Coords) a, (cfg0.win w).clip i a = none) (t : Fin cfg0.N) (ht : t.val ≠ 0) (d)
    (f : (t : Fin cfg0.N) → (cfg0.win w).block.Idx → Elt F (cfg0.win w).elt) (hf : ∀ t, (dats m 0 c).after w t = f t)
    (g : ℕ → (cfg0.win w).block.Idx → Elt F (cfg0.win w).elt) (hg : ∀ t : Fin cfg0.N, g (t.val + 1) = f t) :
    (dats m 0 c).before w t d = g t.val := by
  have hlt : t.val < 32 := lt_of_lt_of_eq t.isLt N_0
  rw [Dat.before_out_kept (dats m 0 c) w hw t ht (Bool.eq_false_iff.mpr fun h => by have h' := (hflush _).mp h; dsimp only at h'; omega) hlive hclip d, hf]
  refine (hg _).symm.trans (congrArg g ?_)
  show t.val - 1 + 1 = t.val
  omega
theorem before_dfw (c : Dev nD) (t : Fin cfg0.N) (ht : t.val ≠ 0) (d) : (dats m 0 c).before 14 t d = stIn m c t.val .dfw :=
  before_sum m c 14 rfl flush0_14 (fun _ => rfl) (fun _ _ => rfl) t ht d (fun t' => stOut m c t' .dfw) (left_dfw m c) (fun t' => stIn m c t' .dfw) (fun t' => congrFun (stIn_succ m c t') .dfw)
theorem before_dfb (c : Dev nD) (t : Fin cfg0.N) (ht : t.val ≠ 0) (d) : (dats m 0 c).before 15 t d = stIn m c t.val .dfb :=
  before_sum m c 15 rfl flush0_15 (fun _ => rfl) (fun _ _ => rfl) t ht d (fun t' => stOut m c t' .dfb) (left_dfb m c) (fun t' => stIn m c t' .dfb) (fun t' => congrFun (stIn_succ m c t') .dfb)
theorem before_dfg (c : Dev nD) (t : Fin cfg0.N) (ht : t.val ≠ 0) (d) : (dats m 0 c).before 16 t d = stIn m c t.val .dfg :=
  before_sum m c 16 rfl flush0_16 (fun _ => rfl) (fun _ _ => rfl) t ht d (fun t' => stOut m c t' .dfg) (left_dfg m c) (fun t' => stIn m c t' .dfg) (fun t' => congrFun (stIn_succ m c t') .dfg)
theorem before_dgt2 (c : Dev nD) (t : Fin cfg0.N) (ht : t.val ≠ 0) (d) : (dats m 0 c).before 17 t d = stIn m c t.val .dgt2 :=
  before_sum m c 17 rfl flush0_17 (fun _ => rfl) (fun _ _ => rfl) t ht d (fun t' => stOut m c t' .dgt2) (left_dgt2 m c) (fun t' => stIn m c t' .dgt2) (fun t' => congrFun (stIn_succ m c t') .dgt2)
theorem before_dg2 (c : Dev nD) (t : Fin cfg0.N) (ht : t.val ≠ 0) (d) : (dats m 0 c).before 18 t d = stIn m c t.val .dg2 :=
  before_sum m c 18 rfl flush0_18 (fun _ => rfl) (fun _ _ => rfl) t ht d (fun t' => stOut m c t' .dg2) (left_dg2 m c) (fun t' => stIn m c t' .dg2) (fun t' => congrFun (stIn_succ m c t') .dg2)
theorem before_dsc2 (c : Dev nD) (t : Fin cfg0.N) (ht : t.val ≠ 0) (d) : (dats m 0 c).before 19 t d = stIn m c t.val .dsc2 :=
  before_sum m c 19 rfl flush0_19 (fun _ => rfl) (fun _ _ => rfl) t ht d (fun t' => stOut m c t' .dsc2) (left_dsc2 m c) (fun t' => stIn m c t' .dsc2) (fun t' => congrFun (stIn_succ m c t') .dsc2)
theorem before_dsh2 (c : Dev nD) (t : Fin cfg0.N) (ht : t.val ≠ 0) (d) : (dats m 0 c).before 20 t d = stIn m c t.val .dsh2 :=
  before_sum m c 20 rfl flush0_20 (fun _ => rfl) (fun _ _ => rfl) t ht d (fun t' => stOut m c t' .dsh2) (left_dsh2 m c) (fun t' => stIn m c t' .dsh2) (fun t' => congrFun (stIn_succ m c t') .dsh2)
theorem before_loss (c : Dev nD) (t : Fin cfg0.N) (ht : t.val ≠ 0) (d) : (dats m 0 c).before 21 t d = stIn m c t.val .loss :=
  before_sum m c 21 rfl flush0_21 (fun _ => rfl) (fun _ _ => rfl) t ht d (fun t' => stOut m c t' .loss) (left_loss m c) (fun t' => stIn m c t' .loss) (fun t' => congrFun (stIn_succ m c t') .loss)

end Cert.Ffn

end
-- ==== Proof.Ffn.Frame.lean ====
/-
  The frame of the feed-forward call: its body at every point, its grid, its launch.
-/
module

public import proofs.«01_k».proof.Proof.Ffn.Data
public import Idealize.ShloMosaic.Lib.Pipeline.FrameValue

@[expose] public section

set_option maxRecDepth 16384

noncomputable section

namespace Cert.Ffn

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The body -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t))

/-- The contents of the buffers at a point, from the windows' and the scratch's. -/
def gather (c : Dev nD) (t : Fin cfg0.N) (σ : St F) (d0 : (cfg0.win 0).block.Idx → Elt F (cfg0.win 0).elt)  (d1 : (cfg0.win 1).block.Idx → Elt F (cfg0.win 1).elt)  (d2 : (cfg0.win 2).block.Idx → Elt F (cfg0.win 2).elt)  (d3 : (cfg0.win 3).block.Idx → Elt F (cfg0.win 3).elt)  (d4 : (cfg0.win 4).block.Idx → Elt F (cfg0.win 4).elt)  (d5 : (cfg0.win 5).block.Idx → Elt F (cfg0.win 5).elt)  (d6 : (cfg0.win 6).block.Idx → Elt F (cfg0.win 6).elt)  (d7 : (cfg0.win 7).block.Idx → Elt F (cfg0.win 7).elt)  (d8 : (cfg0.win 8).block.Idx → Elt F (cfg0.win 8).elt)  (d9 : (cfg0.win 9).block.Idx → Elt F (cfg0.win 9).elt)  (d10 : (cfg0.win 10).block.Idx → Elt F (cfg0.win 10).elt)  (d11 : (cfg0.win 11).block.Idx → Elt F (cfg0.win 11).elt)  (d12 : (cfg0.win 12).block.Idx → Elt F (cfg0.win 12).elt)  (d13 : (cfg0.win 13).block.Idx → Elt F (cfg0.win 13).elt)  (d14 : (cfg0.win 14).block.Idx → Elt F (cfg0.win 14).elt)  (d15 : (cfg0.win 15).block.Idx → Elt F (cfg0.win 15).elt)  (d16 : (cfg0.win 16).block.Idx → Elt F (cfg0.win 16).elt)  (d17 : (cfg0.win 17).block.Idx → Elt F (cfg0.win 17).elt)  (d18 : (cfg0.win 18).block.Idx → Elt F (cfg0.win 18).elt)  (d19 : (cfg0.win 19).block.Idx → Elt F (cfg0.win 19).elt)  (d20 : (cfg0.win 20).block.Idx → Elt F (cfg0.win 20).elt)  (d21 : (cfg0.win 21).block.Idx → Elt F (cfg0.win 21).elt) : St F
  | .x2 => (dats m 0 c).before 0 t d0
  | .halo => (dats m 0 c).before 1 t d1
  | .tgt => (dats m 0 c).before 2 t d2
  | .g2 => (dats m 0 c).before 3 t d3
  | .sc2 => (dats m 0 c).before 4 t d4
  | .sh2 => (dats m 0 c).before 5 t d5
  | .fw => (dats m 0 c).before 6 t d6
  | .fb => (dats m 0 c).before 7 t d7
  | .gt2 => (dats m 0 c).before 8 t d8
  | .fg => (dats m 0 c).before 9 t d9
  | .pm => (dats m 0 c).before 10 t d10
  | .pmt => (dats m 0 c).before 11 t d11
  | .du => (dats m 0 c).before 12 t d12
  | .dx2 => (dats m 0 c).before 13 t d13
  | .dfw => (dats m 0 c).before 14 t d14
  | .dfb => (dats m 0 c).before 15 t d15
  | .dfg => (dats m 0 c).before 16 t d16
  | .dgt2 => (dats m 0 c).before 17 t d17
  | .dg2 => (dats m 0 c).before 18 t d18
  | .dsc2 => (dats m 0 c).before 19 t d19
  | .dsh2 => (dats m 0 c).before 20 t d20
  | .loss => (dats m 0 c).before 21 t d21
  | b => σ b

theorem gather_ready (c : Dev nD) (t : Fin cfg0.N) (ht : t.val ≠ 0) (σ : St F) (hσ : Held m c t.val σ) (d0)  (d1)  (d2)  (d3)  (d4)  (d5)  (d6)  (d7)  (d8)  (d9)  (d10)  (d11)  (d12)  (d13)  (d14)  (d15)  (d16)  (d17)  (d18)  (d19)  (d20)  (d21) :
    Ready m c t (gather m c t σ d0 d1 d2 d3 d4 d5 d6 d7 d8 d9 d10 d11 d12 d13 d14 d15 d16 d17 d18 d19 d20 d21) := by
  have hlt : t.val < 32 := lt_of_lt_of_eq t.isLt N_0
  obtain ⟨h1, h2, h3, h4⟩ := hσ (Nat.pos_of_ne_zero ht) hlt
  refine ⟨fun b hb => ?_, fun b hb => ?_⟩
  · cases b
    case x2 => exact before_x2 m c t d0
    case halo => exact before_halo m c t d1
    case tgt => exact before_tgt m c t d2
    case g2 => exact before_g2 m c t d3
    case sc2 => exact before_sc2 m c t d4
    case sh2 => exact before_sh2 m c t d5
    case fw => exact before_fw m c t d6
    case fb => exact before_fb m c t d7
    case gt2 => exact before_gt2 m c t d8
    case fg => exact before_fg m c t d9
    case pm => exact before_pm m c t d10
    case pmt => exact before_pmt m c t d11
    case wup => exact h1
    case wd => exact h2
    all_goals exact absurd hb (by decide)
  · cases b
    case dfw => exact before_dfw m c t ht d14
    case dfb => exact before_dfb m c t ht d15
    case dfg => exact before_dfg m c t ht d16
    case dgt2 => exact before_dgt2 m c t ht d17
    case dg2 => exact before_dg2 m c t ht d18
    case dsc2 => exact before_dsc2 m c t ht d19
    case dsh2 => exact before_dsh2 m c t ht d20
    case loss => exact before_loss m c t ht d21
    case dwd => exact h3
    case carry => exact h4
    all_goals exact absurd hb (by decide)

theorem gather_ready0 (c : Dev nD) (t : Fin cfg0.N) (ht : t.val = 0) (σ : St F) (d0)  (d1)  (d2)  (d3)  (d4)  (d5)  (d6)  (d7)  (d8)  (d9)  (d10)  (d11)  (d12)  (d13)  (d14)  (d15)  (d16)  (d17)  (d18)  (d19)  (d20)  (d21) :
    Ready m c t (zeroSt (Function.update (Function.update (gather m c t σ d0 d1 d2 d3 d4 d5 d6 d7 d8 d9 d10 d11 d12 d13 d14 d15 d16 d17 d18 d19 d20 d21) .wup (chunks (hUp.view.read (Elt F) (V m c main_v3)))) .wd (hDown.view.read (Elt F) (V m c main_v5)))) := by
  refine ⟨fun b hb => ?_, fun b hb => ?_⟩
  · cases b
    case x2 => exact before_x2 m c t d0
    case halo => exact before_halo m c t d1
    case tgt => exact before_tgt m c t d2
    case g2 => exact before_g2 m c t d3
    case sc2 => exact before_sc2 m c t d4
    case sh2 => exact before_sh2 m c t d5
    case fw => exact before_fw m c t d6
    case fb => exact before_fb m c t d7
    case gt2 => exact before_gt2 m c t d8
    case fg => exact before_fg m c t d9
    case pm => exact before_pm m c t d10
    case pmt => exact before_pmt m c t d11
    case wup => rfl
    case wd => rfl
    all_goals exact absurd hb (by decide)
  · rw [ht]
    cases b
    case dfw | dfb | dfg | dgt2 | dg2 | dsc2 | dsh2 | loss | dwd | carry => rfl
    all_goals exact absurd hb (by decide)

theorem first_iff (t : Fin cfg0.N) : isFirst (grid0.coords t) = 1#1 ↔ t.val = 0 :=
  (by decide +kernel : ∀ t : Fin grid0.N, isFirst (grid0.coords t) = 1#1 ↔ t.val = 0) t

theorem last_iff (t : Fin cfg0.N) : isLast (grid0.coords t) = 1#1 ↔ t.val = 31 :=
  (by decide +kernel : ∀ t : Fin grid0.N, isLast (grid0.coords t) = 1#1 ↔ t.val = 31) t

/-- The windows and the scratch as one family. -/
theorem open_pre (c : Dev nD) (t : Fin cfg0.N) :
    bodyPre m c t ⊢ iprop((∃ σ : St F, ⌜Ready m c t σ ∨ (t.val = 0 ∧ Ready m c t (zeroSt (Function.update (Function.update σ .wup (chunks (hUp.view.read (Elt F) (V m c main_v3)))) .wd (hDown.view.read (Elt F) (V m c main_v5)))))⌝
        ∗ ownsAll c (memAt t) σ) ∗ (∃ W, owes (c : Thread nD τ) 0 W) ∗ (∃ r, prngReg c r) ∗ cells c ∗ (hbPt c hUp (V m c main_v3) ∗ hbPt c hDown (V m c main_v5))
        ∗ hbPt c hGrad (V m c main_v23_10) ∗ hbPt c hGrad16 (V m c main_v23_11)) := by
  have hlt : t.val < 32 := lt_of_lt_of_eq t.isLt N_0
  unfold bodyPre
  rw [show (dats m 0 c).Φ t.castSucc = inv m c t.castSucc from rfl]
  unfold inv
  rw [if_neg (by show t.val ≠ 32; omega), routed_V]
  unfold Dat.owesAt Pipeline.owesWithin
  rw [show (dats m 0 c).owed t.castSucc = 0 from rfl]
  iintro ⟨⟨⟨%σ, %hσ, Swup, Swd, Sdwd, Scarry, Su, Ssil, Svds, Sf, Sdus⟩, Hg, Hq, Hh, Hr1, Hr2⟩, ⟨%W, -, HW⟩, ⟨%d0, Hx2⟩, ⟨%d1, Hhalo⟩, ⟨%d2, Htgt⟩, ⟨%d3, Hg2⟩, ⟨%d4, Hsc2⟩, ⟨%d5, Hsh2⟩, ⟨%d6, Hfw⟩, ⟨%d7, Hfb⟩, ⟨%d8, Hgt2⟩, ⟨%d9, Hfg⟩, ⟨%d10, Hpm⟩, ⟨%d11, Hpmt⟩, ⟨%d12, Hdu⟩, ⟨%d13, Hdx2⟩, ⟨%d14, Hdfw⟩, ⟨%d15, Hdfb⟩, ⟨%d16, Hdfg⟩, ⟨%d17, Hdgt2⟩, ⟨%d18, Hdg2⟩, ⟨%d19, Hdsc2⟩, ⟨%d20, Hdsh2⟩, ⟨%d21, Hloss⟩⟩
  isplitl [Hx2 Hhalo Htgt Hg2 Hsc2 Hsh2 Hfw Hfb Hgt2 Hfg Hpm Hpmt Hdu Hdx2 Hdfw Hdfb Hdfg Hdgt2 Hdg2 Hdsc2 Hdsh2 Hloss Swup Swd Sdwd Scarry Su Ssil Svds Sf Sdus]
  · iexists (gather m c t σ d0 d1 d2 d3 d4 d5 d6 d7 d8 d9 d10 d11 d12 d13 d14 d15 d16 d17 d18 d19 d20 d21)
    isplitr
    · ipureintro
      by_cases ht : t.val = 0
      · exact Or.inr ⟨ht, gather_ready0 m c t ht σ d0 d1 d2 d3 d4 d5 d6 d7 d8 d9 d10 d11 d12 d13 d14 d15 d16 d17 d18 d19 d20 d21⟩
      · exact Or.inl (gather_ready m c t ht σ hσ d0 d1 d2 d3 d4 d5 d6 d7 d8 d9 d10 d11 d12 d13 d14 d15 d16 d17 d18 d19 d20 d21)
    rw [ownsAll_eq]
    isplitl [Hx2]; · iexact Hx2
    isplitl [Hhalo]; · iexact Hhalo
    isplitl [Htgt]; · iexact Htgt
    isplitl [Hg2]; · iexact Hg2
    isplitl [Hsc2]; · iexact Hsc2
    isplitl [Hsh2]; · iexact Hsh2
    isplitl [Hfw]; · iexact Hfw
    isplitl [Hfb]; · iexact Hfb
    isplitl [Hgt2]; · iexact Hgt2
    isplitl [Hfg]; · iexact Hfg
    isplitl [Hpm]; · iexact Hpm
    isplitl [Hpmt]; · iexact Hpmt
    isplitl [Hdu]; · iexact Hdu
    isplitl [Hdx2]; · iexact Hdx2
    isplitl [Hdfw]; · iexact Hdfw
    isplitl [Hdfb]; · iexact Hdfb
    isplitl [Hdfg]; · iexact Hdfg
    isplitl [Hdgt2]; · iexact Hdgt2
    isplitl [Hdg2]; · iexact Hdg2
    isplitl [Hdsc2]; · iexact Hdsc2
    isplitl [Hdsh2]; · iexact Hdsh2
    isplitl [Hloss]; · iexact Hloss
    isplitl [Swup]; · iexact Swup
    isplitl [Swd]; · iexact Swd
    isplitl [Sdwd]; · iexact Sdwd
    isplitl [Scarry]; · iexact Scarry
    isplitl [Su]; · iexact Su
    isplitl [Ssil]; · iexact Ssil
    isplitl [Svds]; · iexact Svds
    isplitl [Sf]; · iexact Sf
    iexact Sdus
  isplitl [HW]; · iexists W; iexact HW
  isplitl [Hg]; · iexact Hg
  isplitl [Hq]; · iexact Hq
  isplitl [Hh]; · iexact Hh
  isplitl [Hr1]; · iexact Hr1
  iexact Hr2

set_option maxHeartbeats 400000 in
/-- One family back into the windows and the scratch. -/
theorem close_post (c : Dev nD) (t : Fin cfg0.N) (Y : (shp .wd).Idx → Elt F (elt .wd)) (hY : t.val < 31 → Y = stOut m c t .wd) :
    iprop(ownsAll c (memAt t) (Function.update (stOut m c t) .wd Y) ∗ (∃ W, owes (c : Thread nD τ) 0 W) ∗ (∃ r, prngReg c r) ∗ cells c
        ∗ (hbPt c hUp (V m c main_v3) ∗ hbPt c hDown (V m c main_v5)) ∗ Pipeline.routed writtenRefs c (if t.val + 1 = 32 then written m c else V m c)) ⊢ bodyPost m c t := by
  unfold bodyPost
  rw [left_x2, left_halo, left_tgt, left_g2, left_sc2, left_sh2, left_fw, left_fb, left_gt2, left_fg, left_pm, left_pmt, left_du, left_dx2, left_dfw, left_dfb, left_dfg, left_dgt2, left_dg2, left_dsc2, left_dsh2, left_loss]
  rw [show (dats m 0 c).Φ t.succ = inv m c t.succ from rfl]
  unfold inv
  rw [show t.succ.val = t.val + 1 from rfl]
  unfold Dat.owesAt Pipeline.owesWithin
  rw [show (dats m 0 c).owed t.succ = 0 from rfl]
  iintro ⟨H, ⟨%W, HW⟩, Hg, Hq, Hh, Hr⟩
  ihave H := (ownsAll_split_wd c t (stOut m c t) Y) $$ H
  icases H with ⟨HA, HS⟩
  isplitl [HS Hg Hq Hh Hr]
  · isplitl [HS]
    · iexists (Function.update (stOut m c t) .wd Y)
      isplitr
      · ipureintro
        intro _ h32
        have hY' := hY (by omega)
        subst hY'
        rw [Function.update_eq_self, stIn_succ]
        exact ⟨rfl, rfl, rfl, rfl⟩
      iexact HS
    isplitl [Hg]; · iexact Hg
    isplitl [Hq]; · iexact Hq
    isplitl [Hh]; · iexact Hh
    iexact Hr
  isplitl [HW]
  · iexists W; isplitr; · ipureintro; exact fun _ _ => Or.inl trivial
    iexact HW
  iexact HA

end Cert.Ffn

end
-- ==== Proof.Ffn.Body.lean ====
/-
  The body of the feed-forward call at every point of its grid, and its launch.
-/
module

public import proofs.«01_k».proof.Proof.Ffn.Frame
public import Idealize.ShloMosaic.Lib.Pipeline.FrameValue

@[expose] public section

set_option maxRecDepth 16384

noncomputable section

namespace Cert.Ffn

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The body's parts on all its buffers -/

section Parts

variable (c : Dev nD) (t : Fin cfg0.N)

/-- The first point: the weights copied in, the accumulators zeroed. -/
theorem startRun (mem : (b : Bf) → Memref sig .tc .vmem (shp b) (elt b)) (hw : ∀ b, (mem b).IsWhole) (hu : mem .wup = vUp) (hd : mem .wd = vDown) (σ : St F)
    (fu : Buf (Elt F) (hUp.view.loc (c : Thread nD τ))) (fd : Buf (Elt F) (hDown.view.loc (c : Thread nD τ))) (W : Waits sig Unit) (K : PUnit → sProp 𝕄) :
    iprop(ownsAll c mem σ ∗ hbPt c hUp fu ∗ hbPt c hDown fd ∗ cells c ∗ owes (c : Thread nD τ) 0 W
        ∗ (iprop(ownsAll c mem (zeroSt (Function.update (Function.update σ .wup (chunks (hUp.view.read (Elt F) fu))) .wd (hDown.view.read (Elt F) fd)))
            ∗ hbPt c hUp fu ∗ hbPt c hDown fd ∗ cells c ∗ ∃ W', owes (c : Thread nD τ) 0 W') -∗ K ⟨⟩))
      ⊢ wp frame (wpE (defs₀ (F := F)) Variants.none c none) Set.univ
          (fill hUp (Memref.isWhole_whole _) hDown (Memref.isWhole_whole _) vUp (Memref.isWhole_whole _) vDown (Memref.isWhole_whole _) cc0_scratch9
            >>= fun _ => zeros.prog mem hw) K := by
  rw [wp_bind]
  iintro ⟨HA, Hu, Hd, Hq, HW, Hk⟩
  ihave HA := (ownsAll_weights c mem σ) $$ HA
  icases HA with ⟨H1, H2, H3⟩
  rw [hu, hd]
  iapply (fillRun c fu fd W _)
  isplitl [H1]; · iexact H1
  isplitl [H2]; · iexact H2
  isplitl [Hu]; · iexact Hu
  isplitl [Hd]; · iexact Hd
  isplitl [Hq]; · iexact Hq
  isplitl [HW]; · iexact HW
  iintro ⟨H1, H2, Hu, Hd, Hq, HW⟩
  iapply (zeroRun c mem hw (Function.update (Function.update σ .wup (chunks (hUp.view.read (Elt F) fu))) .wd (hDown.view.read (Elt F) fd)) K)
  isplitl [H1 H2 H3]
  · iapply H3
    isplitl [H1]; · iexact H1
    iexact H2
  iintro HA
  iapply Hk
  isplitl [HA]; · iexact HA
  isplitl [Hu]; · iexact Hu
  isplitl [Hd]; · iexact Hd
  isplitl [Hq]; · iexact Hq
  iexact HW

/-- The last point: the gradient copied out. -/
theorem endRun (mem : (b : Bf) → Memref sig .tc .vmem (shp b) (elt b)) (hg : mem .dwd = vGrad) (hd : mem .wd = vDown) (σ : St F) (W : Waits sig Unit)
    (K : PUnit → sProp 𝕄) :
    iprop(ownsAll c mem σ ∗ (∃ f, hbPt c hGrad f) ∗ (∃ f, hbPt c hGrad16 f) ∗ cells c ∗ owes (c : Thread nD τ) 0 W
        ∗ (iprop((∃ Y, ownsAll c mem (Function.update σ .wd Y)) ∗ (hbPt c hGrad (σ .dwd) ∗ hbPt c hGrad16 (truncf .bf16 (σ .dwd) Facts₀.bitsLt_bf16_f32))
            ∗ cells c ∗ ∃ W', owes (c : Thread nD τ) 0 W') -∗ K ⟨⟩))
      ⊢ wp frame (wpE (defs₀ (F := F)) Variants.none c none) Set.univ
          (drain hGrad (Memref.isWhole_whole _) hGrad16 (Memref.isWhole_whole _) vDown (Memref.isWhole_whole _) vGrad (Memref.isWhole_whole _) cc0_scratch9
            >>= fun _ => pure ⟨⟩) K := by
  rw [wp_bind]
  iintro ⟨HA, Hg, Hg', Hq, HW, Hk⟩
  ihave HA := (ownsAll_grad c mem σ) $$ HA
  icases HA with ⟨H1, H2, H3⟩
  rw [hg, hd]
  iapply (drainRun c (σ .dwd) W _)
  isplitl [Hg]; · iexact Hg
  isplitl [Hg']; · iexact Hg'
  isplitl [H1]; · iexact H1
  isplitl [H2]; · iexact H2
  isplitl [Hq]; · iexact Hq
  isplitl [HW]; · iexact HW
  iintro ⟨⟨%f1, %h1, Hg⟩, ⟨%f2, %h2, Hg'⟩, H1, ⟨%Y, H2⟩, Hq, HW⟩
  have e1 : f1 = σ .dwd := h1
  have e2 : f2 = truncf .bf16 (σ .dwd) Facts₀.bitsLt_bf16_f32 := h2
  rw [e1, e2]
  iapply (le_wp_ret _ _ _ _ K)
  iapply Hk
  isplitl [H1 H2 H3]
  · iexists Y
    iapply H3
    isplitl [H1]; · iexact H1
    iexact H2
  isplitl [Hg Hg']
  · isplitl [Hg]; · iexact Hg
    iexact Hg'
  isplitl [Hq]; · iexact Hq
  iexact HW

end Parts

end Cert.Ffn

end
-- ==== Proof.Ffn.Launch.lean ====
/-
  The feed-forward call: its body at a point, the launch of its grid, its frame.
-/
module

public import proofs.«01_k».proof.Proof.Ffn.Body
public import Idealize.ShloMosaic.Lib.Pipeline.FrameValue

@[expose] public section

set_option maxRecDepth 16384

noncomputable section

namespace Cert.Ffn

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem wholeAt (t : Fin cfg0.N) : ∀ b, (memAt t b).IsWhole :=
  wholeOf (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) (win0_17.stage (cfg0.slots t 17)) (win0_18.stage (cfg0.slots t 18)) (win0_19.stage (cfg0.slots t 19)) (win0_20.stage (cfg0.slots t 20)) (win0_21.stage (cfg0.slots t 21)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8)
    (Facts₀.hstage0_0 ((cfg0.slots t 0).cast Facts₀.nbuf0_0)) (Facts₀.hstage0_1 ((cfg0.slots t 1).cast Facts₀.nbuf0_1)) (Facts₀.hstage0_2 ((cfg0.slots t 2).cast Facts₀.nbuf0_2)) (Facts₀.hstage0_3 ((cfg0.slots t 3).cast Facts₀.nbuf0_3)) (Facts₀.hstage0_4 ((cfg0.slots t 4).cast Facts₀.nbuf0_4)) (Facts₀.hstage0_5 ((cfg0.slots t 5).cast Facts₀.nbuf0_5)) (Facts₀.hstage0_6 ((cfg0.slots t 6).cast Facts₀.nbuf0_6)) (Facts₀.hstage0_7 ((cfg0.slots t 7).cast Facts₀.nbuf0_7)) (Facts₀.hstage0_8 ((cfg0.slots t 8).cast Facts₀.nbuf0_8)) (Facts₀.hstage0_9 ((cfg0.slots t 9).cast Facts₀.nbuf0_9)) (Facts₀.hstage0_10 ((cfg0.slots t 10).cast Facts₀.nbuf0_10)) (Facts₀.hstage0_11 ((cfg0.slots t 11).cast Facts₀.nbuf0_11)) (Facts₀.hstage0_12 ((cfg0.slots t 12).cast Facts₀.nbuf0_12)) (Facts₀.hstage0_13 ((cfg0.slots t 13).cast Facts₀.nbuf0_13)) (Facts₀.hstage0_14 ((cfg0.slots t 14).cast Facts₀.nbuf0_14)) (Facts₀.hstage0_15 ((cfg0.slots t 15).cast Facts₀.nbuf0_15)) (Facts₀.hstage0_16 ((cfg0.slots t 16).cast Facts₀.nbuf0_16)) (Facts₀.hstage0_17 ((cfg0.slots t 17).cast Facts₀.nbuf0_17)) (Facts₀.hstage0_18 ((cfg0.slots t 18).cast Facts₀.nbuf0_18)) (Facts₀.hstage0_19 ((cfg0.slots t 19).cast Facts₀.nbuf0_19)) (Facts₀.hstage0_20 ((cfg0.slots t 20).cast Facts₀.nbuf0_20)) (Facts₀.hstage0_21 ((cfg0.slots t 21).cast Facts₀.nbuf0_21)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)

/-- The body at a point as its three parts. -/
theorem body_eq (t : Fin cfg0.N) :
    (bodyAt0 t : Prog (TpuEff nD τ sig (Elt F) Λ₀ .tc) PUnit)
      = ((if isFirst (grid0.coords t) = 1#1 then (fill hUp (Memref.isWhole_whole _) hDown (Memref.isWhole_whole _) vUp (Memref.isWhole_whole _) vDown (Memref.isWhole_whole _) cc0_scratch9
            >>= fun _ => zeros.prog (memAt t) (wholeAt t)) else pure ⟨⟩) >>= fun _ =>
          (tile (tileNo (grid0.coords t)) rowNo).prog (memAt t) (wholeAt t) >>= fun _ =>
          (if isLast (grid0.coords t) = 1#1 then drain hGrad (Memref.isWhole_whole _) hGrad16 (Memref.isWhole_whole _) vDown (Memref.isWhole_whole _) vGrad (Memref.isWhole_whole _) cc0_scratch9
            >>= fun _ => pure ⟨⟩ else pure ⟨⟩)) := by
  unfold bodyAt0
  rw [cc0_ffn_eq]
  rfl

/-- The tile's part and the last point's. -/
theorem restRun (c : Dev nD) (t : Fin cfg0.N) (σ : St F) (hσ : Ready m c t σ) (W : Waits sig Unit) :
    iprop(ownsAll c (memAt t) σ ∗ owes (c : Thread nD τ) 0 W ∗ (∃ r, prngReg c r) ∗ cells c ∗ (hbPt c hUp (V m c main_v3) ∗ hbPt c hDown (V m c main_v5))
        ∗ hbPt c hGrad (V m c main_v23_10) ∗ hbPt c hGrad16 (V m c main_v23_11))
      ⊢ wp frame (wpE (defs₀ (F := F)) Variants.none c none) Set.univ
          ((tile (tileNo (grid0.coords t)) rowNo).prog (memAt t) (wholeAt t) >>= fun _ =>
            (if isLast (grid0.coords t) = 1#1 then drain hGrad (Memref.isWhole_whole _) hGrad16 (Memref.isWhole_whole _) vDown (Memref.isWhole_whole _) vGrad (Memref.isWhole_whole _) cc0_scratch9
              >>= fun _ => pure PUnit.unit else pure PUnit.unit)) (fun _ => bodyPost m c t) := by
  have hlt : t.val < 32 := lt_of_lt_of_eq t.isLt N_0
  rw [wp_bind]
  iintro ⟨HA, HW, Hg, Hq, Hh, Hr1, Hr2⟩
  iapply (tileRun c (memAt t) (wholeAt t) (tileNo (grid0.coords t)) rowNo σ _)
  isplitl [HA]; · iexact HA
  rw [tileSt_ready m hσ]
  iintro HA
  by_cases hl : t.val = 31
  · rw [if_pos ((last_iff t).mpr hl)]
    iapply (endRun c (memAt t) rfl rfl (stOut m c t) W _)
    isplitl [HA]; · iexact HA
    isplitl [Hr1]; · iexists _; iexact Hr1
    isplitl [Hr2]; · iexists _; iexact Hr2
    isplitl [Hq]; · iexact Hq
    isplitl [HW]; · iexact HW
    iintro ⟨⟨%Y, HA⟩, Hr, Hq, HW⟩
    iapply (close_post m c t Y (fun h => absurd h (by omega)))
    isplitl [HA]; · iexact HA
    isplitl [HW]; · iexact HW
    isplitl [Hg]; · iexact Hg
    isplitl [Hq]; · iexact Hq
    isplitl [Hh]; · iexact Hh
    rw [if_pos (show t.val + 1 = 32 by omega), routed_written]
    rw [show lastPt = t from Fin.ext hl.symm]
    iexact Hr
  · rw [if_neg (fun h => hl ((last_iff t).mp h))]
    iapply (le_wp_ret _ _ _ _ (fun _ => bodyPost m c t))
    iapply (close_post m c t (stOut m c t .wd) (fun _ => rfl))
    rw [Function.update_eq_self]
    isplitl [HA]; · iexact HA
    isplitl [HW]; · iexists W; iexact HW
    isplitl [Hg]; · iexact Hg
    isplitl [Hq]; · iexact Hq
    isplitl [Hh]; · iexact Hh
    rw [if_neg (show ¬ t.val + 1 = 32 by omega), routed_V]
    isplitl [Hr1]; · iexact Hr1
    iexact Hr2

theorem start_ready (c : Dev nD) (t : Fin cfg0.N) (hf : t.val = 0) {σ : St F}
    (hσ : Ready m c t σ ∨ (t.val = 0 ∧ Ready m c t (zeroSt (Function.update (Function.update σ .wup (chunks (hUp.view.read (Elt F) (V m c main_v3)))) .wd (hDown.view.read (Elt F) (V m c main_v5)))))) :
    Ready m c t (zeroSt (Function.update (Function.update σ .wup (chunks (hUp.view.read (Elt F) (V m c main_v3)))) .wd (hDown.view.read (Elt F) (V m c main_v5)))) := by
  rcases hσ with h | ⟨-, h⟩
  · refine ⟨fun b hb => ?_, fun b hb => ?_⟩
    · cases b
      case x2 | halo | tgt | g2 | sc2 | sh2 | fw | fb | gt2 | fg | pm | pmt => exact h.inputs _ hb
      case wup | wd => rfl
      all_goals exact absurd hb (by decide)
    · rw [hf]
      cases b
      case dfw | dfb | dfg | dgt2 | dg2 | dsc2 | dsh2 | loss | dwd | carry => rfl
      all_goals exact absurd hb (by decide)
  · exact h

theorem sound_body (c : Dev nD) (t : Fin cfg0.N) :
    bodyPre m c t ⊢ wp frame (wpE (defs₀ (F := F)) Variants.none c none) Set.univ (bodyAt0 t) (fun _ => bodyPost m c t) := by
  refine (open_pre m c t).trans ?_
  rw [body_eq, wp_bind]
  iintro ⟨⟨%σ, %hσ, HA⟩, ⟨%W, HW⟩, Hg, Hq, ⟨Hu, Hd⟩, Hr1, Hr2⟩
  by_cases hf : t.val = 0
  · rw [if_pos ((first_iff t).mpr hf)]
    iapply (startRun c (memAt t) (wholeAt t) rfl rfl σ (V m c main_v3) (V m c main_v5) W _)
    isplitl [HA]; · iexact HA
    isplitl [Hu]; · iexact Hu
    isplitl [Hd]; · iexact Hd
    isplitl [Hq]; · iexact Hq
    isplitl [HW]; · iexact HW
    iintro ⟨HA, Hu, Hd, Hq, ⟨%W', HW⟩⟩
    iapply (restRun m c t _ (start_ready m c t hf hσ) W')
    isplitl [HA]; · iexact HA
    isplitl [HW]; · iexact HW
    isplitl [Hg]; · iexact Hg
    isplitl [Hq]; · iexact Hq
    isplitl [Hu Hd]
    · isplitl [Hu]; · iexact Hu
      iexact Hd
    isplitl [Hr1]; · iexact Hr1
    iexact Hr2
  · rw [if_neg (fun h => hf ((first_iff t).mp h))]
    iapply (le_wp_ret _ _ _ _ _)
    iapply (restRun m c t σ (hσ.resolve_right fun h => hf h.1) W)
    isplitl [HA]; · iexact HA
    isplitl [HW]; · iexact HW
    isplitl [Hg]; · iexact Hg
    isplitl [Hq]; · iexact Hq
    isplitl [Hu Hd]
    · isplitl [Hu]; · iexact Hu
      iexact Hd
    isplitl [Hr1]; · iexact Hr1
    iexact Hr2

theorem defs₀_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The invariant before the first point. -/
theorem inv_in (c : Dev nD) : Pipeline.ΦDRG osem0 spec0 readRefs writtenRefs (V m) (V m) c ⊢ (dats m 0 c).Φ 0 := by
  rw [show (dats m 0 c).Φ 0 = inv m c 0 from rfl, Pipeline.ΦDRG_eq, scopedRest0_eq, ownSems_eq, readRefs_eq]
  unfold inv
  rw [if_neg (by decide)]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hg, Hq, Hh, Hr⟩
  isplitl [H0 H1 H2 H3 H4 H5 H6 H7 H8]
  · iexists (fun b => match b with
      | .wup => f0
      | .wd => f1
      | .dwd => f2
      | .carry => f3
      | .u => f4
      | .sil => f5
      | .vds => f6
      | .f => f7
      | .dus => f8
      | b => junk b)
    isplitr; · ipureintro; exact fun h => absurd h (by decide)
    unfold scratchAt
    simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hg]; · iexact Hg
  isplitl [Hq]; · iexact Hq
  isplitl [Hh]; · iexact Hh
  iexact Hr

/-- The invariant after the last. -/
theorem inv_out (c : Dev nD) : (dats m 0 c).Φ (Fin.last cfg0.N) ⊢ Pipeline.ΦDRG osem0 spec0 readRefs writtenRefs (V m) (written m) c := by
  rw [show (dats m 0 c).Φ (Fin.last cfg0.N) = inv m c (Fin.last cfg0.N) from rfl, Pipeline.ΦDRG_eq, scopedRest0_eq, ownSems_eq, readRefs_eq]
  unfold inv
  rw [if_pos (by show cfg0.N = 32; exact N_0)]
  unfold scratchAt
  simp only [owns_whole]
  iintro ⟨⟨%σ, -, H0, H1, H2, H3, H4, H5, H6, H7, H8⟩, Hg, Hq, Hh, Hr⟩
  isplitl [H0 H1 H2 H3 H4 H5 H6 H7 H8]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8
  isplitl [Hg]; · iexact Hg
  isplitl [Hq]; · iexact Hq
  isplitl [Hh]; · iexact Hh
  iexact Hr

set_option backward.isDefEq.respectTransparency.types false in
/-- The run: the windows' arrays as computed, the gradient of the down projection as written, the counters back at zero. -/
theorem run_main [∀ e, Nonempty (Elt F e)] : θ_run defs (onTc (τ := τ) (main (F := F))) (s₀ m ρ)
    (fun r => Pipeline.FramePostRG cfgs (dats m) 0 writtenRefs (V m) (written m) r ∧ r.2.sem = fun _ => 0) :=
  Pipeline.θ_run_frame_dmaRG_shared (Q' := _) cfgs (dats m) (0 : Fin 1) launch₀0 osem0 defs₀ Variants.none ownSemFacts0 readRefs writtenRefs readRefs_sub writtenRefs_sub m ρ main
    (hbody := fun c => (body_obligation m c).loose) (hq := fun c w hw => if_pos hw)
    (howed := fun _ _ => rfl) (V := V m) (hmain := hmainD m Variants.none) (hA := A_eq m) (G := written m)
    (hin := inv_in m) (hout := inv_out m)

/-- The post leaves the arguments as they were. -/
theorem args_kept {r : PUnit × MemSt nD τ sig (Elt F)} (h' : Pipeline.FramePostRG cfgs (dats m) 0 writtenRefs (V m) (written m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  have h := h'.1
  ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).2 main_arg5 (Finset.mem_sdiff.mpr ⟨Pipeline.mem_restRefs_of main_arg5 (by decide) (by decide), by decide⟩)).trans (V_main_arg5 m c),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c)⟩

/-- The frame: the run ends, its arguments as they were, the counters at zero. -/
theorem frame_main [∀ e, Nonempty (Elt F e)] : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨args_kept m h.1, h.2⟩) (run_main m ρ)

end Cert.Ffn

end
-- ==== Proof.Ffn.Machine.lean ====
/-
  The frame over the machine's floats: the kernel's two printed programs are one program, so the one run
  serves both.
-/
module

public import proofs.«01_k».proof.Defs
public import proofs.«01_k».proof.Proof.Gen.Kernel
public import proofs.«01_k».proof.Proof.Gen.KernelIdeal
public import proofs.«01_k».proof.Proof.Ffn.Launch

@[expose] public section

noncomputable section

namespace Cert.Ffn

open Idealize.ShloMosaic Idealize.SL.Sem

open Cert.KernelIdeal

variable {F : FTy → Type} [FloatOps F]

variable (F) in
/-- The frame's statement, over any float values. -/
def FrameAt : Prop := ∀ (m : (ℓ : Loc nD τ sig) → Buf (Elt F) ℓ) (ρ : Dev nD → PrngReg), True →
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0)

set_option maxRecDepth 16384 in
theorem frame_same : Cert.quiescent_Kernel = FrameAt Bits := by
  sl_kernel_rfl

/-- The kernel's frame over the machine's floats: the one run, read there. -/
theorem frame_kernel : Cert.quiescent_Kernel :=
  frame_same.mpr fun m ρ _ => frame_main (F := Bits) m ρ

end Cert.Ffn

end
-- ==== Proof.Ffn.V.Calc.lean ====
/-
  Arrays of real numbers: the kernel's operations, read over the extended reals, on arrays whose entries are real
  functions of the row and column numbers.
-/
module

public import Idealize.ShloMosaic.Lib.ValueIdx
public import Idealize.ShloMosaic.Lib.Pipeline.Value
public import Idealize.ShloMosaic.Lib.KernelVsHost
public import Idealize.ShloMosaic.Lib.Pointwise
public import Idealize.ShloMosaic.PureOps.Ideal.Laws
public import Idealize.ShloMosaic.Lib.IdealHost

@[expose] public section

set_option maxRecDepth 16384

noncomputable section

namespace Cert.Ffn.V

open Idealize.ShloMosaic
open Idealize.ShloMosaic.ValueIdx (contrEquiv1 contrEquiv1_symm_val)
open scoped BigOperators

/-- The one-axis array `A` holds the real function `f`. -/
def Is1 {a : ℕ} {φ : FTy} (A : FVec Ideal ⟨1, ![a]⟩ φ) (f : ℕ → ℝ) : Prop := ∀ y, A y = ((f (y 0).val : ℝ) : EReal)

/-- The array `A` holds the real function `f` of the row and the column. -/
def Is2 {a b : ℕ} {φ : FTy} (A : FVec Ideal ⟨2, ![a, b]⟩ φ) (f : ℕ → ℕ → ℝ) : Prop := ∀ y, A y = ((f (y 0).val (y 1).val : ℝ) : EReal)

/-- The array `A` holds the real function `f` of its last two coordinates. -/
def Is3 {n a b : ℕ} {φ : FTy} (A : FVec Ideal ⟨3, ![n, a, b]⟩ φ) (f : ℕ → ℕ → ℝ) : Prop := ∀ y, A y = ((f (y 1).val (y 2).val : ℝ) : EReal)

theorem Is1.congr {a : ℕ} {φ : FTy} {A : FVec Ideal ⟨1, ![a]⟩ φ} {f g : ℕ → ℝ} (h : Is1 A f) (e : ∀ i, i < a → f i = g i) : Is1 A g :=
  fun y => (h y).trans (congrArg _ (e _ (y 0).isLt))

theorem Is2.congr {a b : ℕ} {φ : FTy} {A : FVec Ideal ⟨2, ![a, b]⟩ φ} {f g : ℕ → ℕ → ℝ} (h : Is2 A f)
    (e : ∀ i, i < a → ∀ j, j < b → f i j = g i j) : Is2 A g :=
  fun y => (h y).trans (congrArg _ (e _ (y 0).isLt _ (y 1).isLt))

theorem Is3.congr {n a b : ℕ} {φ : FTy} {A : FVec Ideal ⟨3, ![n, a, b]⟩ φ} {f g : ℕ → ℕ → ℝ} (h : Is3 A f)
    (e : ∀ i, i < a → ∀ j, j < b → f i j = g i j) : Is3 A g :=
  fun y => (h y).trans (congrArg _ (e _ (y 1).isLt _ (y 2).isLt))

/-- Two arrays holding the same function are equal. -/
theorem Is2.eq {a b : ℕ} {φ : FTy} {A B : FVec Ideal ⟨2, ![a, b]⟩ φ} {f : ℕ → ℕ → ℝ} (h : Is2 A f) (h' : Is2 B f) : A = B :=
  funext fun y => (h y).trans (h' y).symm

theorem coe_sum {ι : Type} (s : Finset ι) (f : ι → ℝ) : ((∑ i ∈ s, f i : ℝ) : EReal) = ∑ i ∈ s, ((f i : ℝ) : EReal) := by
  classical
  induction s using Finset.induction_on with
  | empty => rfl
  | insert a s ha ih => rw [Finset.sum_insert ha, Finset.sum_insert ha, EReal.coe_add, ih]

theorem sum_fin {n : ℕ} (f : ℕ → ℝ) : ∑ k : Fin n, ((f k.val : ℝ) : EReal) = ((∑ k ∈ Finset.range n, f k : ℝ) : EReal) := by
  rw [coe_sum, Fin.sum_univ_eq_sum_range (fun k => ((f k : ℝ) : EReal))]

theorem sum_fin_mul {n : ℕ} (f g : ℕ → ℝ) : ∑ k : Fin n, ((f k.val : ℝ) : EReal) * ((g k.val : ℝ) : EReal) = ((∑ k ∈ Finset.range n, f k * g k : ℝ) : EReal) := by
  rw [← sum_fin]
  exact Finset.sum_congr rfl fun k _ => (EReal.coe_mul _ _).symm

theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem rsqrt_real (x : ℝ) (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

/-- The logistic function. -/
def sgm (x : ℝ) : ℝ := 1 / (1 + Real.exp (-x))

theorem exp_ne (x : ℝ) : (1 + Real.exp (-x)) ≠ 0 := (by positivity : (0 : ℝ) < 1 + Real.exp (-x)).ne'

theorem logistic_real (x : ℝ) : Ideal.logistic (x : EReal) = ((sgm x : ℝ) : EReal) := by
  have e : (1 : EReal) + Ideal.exp (-(x : EReal)) = ((1 + Real.exp (-x) : ℝ) : EReal) := by
    rw [← EReal.coe_neg]
    exact (EReal.coe_add _ _).symm
  unfold Ideal.logistic
  rw [e]
  exact div_real 1 _ (exp_ne x)

/-! ### The numerals of the programs -/

theorem lit_zero : Ideal.ofBits .f32 0x00000000#32 = ((0 : ℝ) : EReal) := Ideal.ofBits_zero_f32
theorem lit_one : Ideal.ofBits .f32 0x3F800000#32 = ((1 : ℝ) : EReal) := by
  simp [Ideal.ofBits, Ideal.ieee]
  rw [← EReal.coe_mul]
  exact (congrArg _ (by norm_num)).trans EReal.coe_one
theorem lit_two : Ideal.ofBits .f32 0x40000000#32 = ((2 : ℝ) : EReal) := by
  simp [Ideal.ofBits, Ideal.ieee]
  rw [← EReal.coe_mul]
  exact congrArg _ (by norm_num)
theorem lit_half : Ideal.ofBits .f32 0x3F000000#32 = ((1 / 2 : ℝ) : EReal) := by
  simp [Ideal.ofBits, Ideal.ieee]
  rw [← EReal.coe_mul]
  exact congrArg _ (by norm_num)
theorem lit_neg_half : Ideal.ofBits .f32 0xBF000000#32 = ((-(1 / 2) : ℝ) : EReal) := by
  simp [Ideal.ofBits, Ideal.ieee]
  rw [← EReal.coe_mul]
  exact congrArg _ (by norm_num)
theorem lit_width : Ideal.ofBits .f32 0x44800000#32 = ((1024 : ℝ) : EReal) := by
  simp [Ideal.ofBits, Ideal.ieee]
  rw [← EReal.coe_mul]
  exact congrArg _ (by norm_num)
theorem lit_dy : Ideal.ofBits .f32 0x3A800000#32 = ((1 / 1024 : ℝ) : EReal) := by
  simp [Ideal.ofBits, Ideal.ieee]
  rw [← EReal.coe_mul]
  exact congrArg _ (by norm_num)
theorem lit_loss : Ideal.ofBits .f32 0x3A000000#32 = ((1 / 2048 : ℝ) : EReal) := by
  simp [Ideal.ofBits, Ideal.ieee]
  rw [← EReal.coe_mul]
  exact congrArg _ (by norm_num)

/-- The norms' epsilon. -/
def eps : ℝ := 8796093 / 8796093022208
theorem lit_eps : Ideal.ofBits .f32 0x358637BD#32 = ((eps : ℝ) : EReal) := by
  simp [Ideal.ofBits, Ideal.ieee, eps]
  rw [← EReal.coe_mul]
  exact congrArg _ (by norm_num)

theorem eps_pos : 0 < eps := by unfold eps; norm_num

section Pointwise

variable {φ ψ : FTy} {a b : ℕ} {A B : FVec Ideal ⟨2, ![a, b]⟩ φ} {f g : ℕ → ℕ → ℝ}

theorem Is2.add (h : Is2 A f) (h' : Is2 B g) : Is2 (addf A B) fun i j => f i j + g i j :=
  fun y => (congrArg₂ (fun p q : EReal => p + q) (h y) (h' y)).trans (EReal.coe_add _ _).symm

theorem Is2.sub (h : Is2 A f) (h' : Is2 B g) : Is2 (subf A B) fun i j => f i j - g i j :=
  fun y => (congrArg₂ (fun p q : EReal => p - q) (h y) (h' y)).trans (EReal.coe_sub _ _).symm

theorem Is2.mul (h : Is2 A f) (h' : Is2 B g) : Is2 (mulf A B) fun i j => f i j * g i j :=
  fun y => (congrArg₂ (fun p q : EReal => p * q) (h y) (h' y)).trans (EReal.coe_mul _ _).symm

theorem Is2.trunc (h : Is2 A f) (hb : ψ.bits < φ.bits) : Is2 (truncf ψ A hb) f := h

theorem Is2.ext (h : Is2 A f) (hb : φ.bits < ψ.bits) : Is2 (extf ψ A hb) f := h

theorem Is2.div (h : Is2 A f) (h' : Is2 B g) (hg : ∀ i, i < a → ∀ j, j < b → g i j ≠ 0) : Is2 (divf A B) fun i j => f i j / g i j :=
  fun y => (congrArg₂ Ideal.div (h y) (h' y)).trans (div_real _ _ (hg _ (y 0).isLt _ (y 1).isLt))

theorem Is2.rsqrt (h : Is2 A f) (hf : ∀ i, i < a → ∀ j, j < b → 0 < f i j) : Is2 (rsqrt A) fun i j => (Real.sqrt (f i j))⁻¹ :=
  fun y => (congrArg Ideal.rsqrt (h y)).trans (rsqrt_real _ (hf _ (y 0).isLt _ (y 1).isLt))

theorem Is2.logistic (h : Is2 A f) : Is2 (logistic A) fun i j => sgm (f i j) :=
  fun y => (congrArg Ideal.logistic (h y)).trans (logistic_real _)

theorem Is2.splat {w : BitVec 32} {c : ℝ} (e : Ideal.ofBits .f32 w = (c : EReal)) : Is2 (a := a) (b := b) (broadcast ⟨2, ![a, b]⟩ (Scalar.ofBits (F := Ideal) .f32 w)) fun _ _ => c :=
  fun _ => e

theorem Is2.cast (h : Is2 A f) (hc) : Is2 (shapeCast ⟨2, ![a, b]⟩ A hc) f := by
  rw [shapeCast_self]
  exact h

end Pointwise

section Moves

variable {φ : FTy} {a b c : ℕ} {f g k : ℕ → ℕ → ℝ}

/-- A column broadcast over the columns. -/
theorem Is2.col {A : FVec Ideal ⟨2, ![a, 1]⟩ φ} (h : Is2 A f) (ha : a ≠ 1) (hb) : Is2 (broadcastTo ⟨2, ![a, b]⟩ A hb) fun i _ => f i 0 := fun y => by
  refine (broadcastTo_apply A hb y (ix2 (y 0) 0) fun x => ?_).trans (h _)
  match x with
  | 0 => exact (if_neg ha).symm
  | 1 => rfl

/-- A row broadcast over the rows. -/
theorem Is2.row {A : FVec Ideal ⟨2, ![1, b]⟩ φ} (h : Is2 A f) (hb' : b ≠ 1) (hb) : Is2 (broadcastTo ⟨2, ![a, b]⟩ A hb) fun _ j => f 0 j := fun y => by
  refine (broadcastTo_apply A hb y (ix2 0 (y 1)) fun x => ?_).trans (h _)
  match x with
  | 0 => rfl
  | 1 => exact (if_neg hb').symm

theorem Is2.slice {A : FVec Ideal ⟨2, ![a, b]⟩ φ} (h : Is2 A f) {c d : ℕ} (off : Fin 2 → ℕ) (hs) :
    Is2 (extractStridedSlice (s := ⟨2, ![a, b]⟩) ⟨2, ![c, d]⟩ off A hs) fun i j => f (off 0 + i) (off 1 + j) := fun _ => h _

/-- The sums of the rows as a column. -/
theorem Is2.rowSum {A : FVec Ideal ⟨2, ![a, b]⟩ φ} (h : Is2 A f) (w) (hr) (hφ) (hw) (hc) :
    Is2 (shapeCast ⟨2, ![a, 1]⟩ (multiReduction .add [1] ⟨1, ![a]⟩ A w hr hφ hw) hc) fun i _ => ∑ j ∈ Finset.range b, f i j := fun y => by
  refine (shapeCast_apply _ hc y (ix1 (y 0)) ?_).trans ?_
  · rw [Shape.rowMajor_val_one, Shape.rowMajor_val_two]
    have : (y 1).val < 1 := (y 1).isLt
    show (y 0).val = (y 0).val * 1 + (y 1).val
    omega
  · rw [Ideal.multiReduction_add_single, ← sum_fin]
    exact Finset.sum_congr rfl fun k _ => h _

/-- The sums of the columns as a row. -/
theorem Is2.colSum {A : FVec Ideal ⟨2, ![a, b]⟩ φ} (h : Is2 A f) (w) (hr) (hφ) (hw) (hc) :
    Is2 (shapeCast ⟨2, ![1, b]⟩ (multiReduction .add [0] ⟨1, ![b]⟩ A w hr hφ hw) hc) fun _ j => ∑ i ∈ Finset.range a, f i j := fun y => by
  refine (shapeCast_apply _ hc y (ix1 (y 1)) ?_).trans ?_
  · rw [Shape.rowMajor_val_one, Shape.rowMajor_val_two]
    have : (y 0).val < 1 := (y 0).isLt
    show (y 1).val = (y 0).val * b + (y 1).val
    rw [show (y 0).val = 0 by omega]
    omega
  · rw [Ideal.multiReduction_add_single, ← sum_fin]
    exact Finset.sum_congr rfl fun k _ => h _

/-- Rows one under another. -/
theorem Is2.rows2 {a₁ a₂ : ℕ} {A : FVec Ideal ⟨2, ![a₁, b]⟩ φ} {B : FVec Ideal ⟨2, ![a₂, b]⟩ φ} (h : Is2 A f) (h' : Is2 B g) (hc) :
    Is2 (concatenate ⟨2, ![c, b]⟩ 0 [⟨⟨2, ![a₁, b]⟩, A⟩, ⟨⟨2, ![a₂, b]⟩, B⟩] hc) fun i j => if i < a₁ then f i j else g (i - a₁) j := fun y => by
  have hs : a₁ + (a₂ + 0) = c := hc.2.2
  have hy : (y 0).val < c := (y 0).isLt
  by_cases hi : (y 0).val < a₁
  · refine (concatenate_apply_piece 0 _ hc y 0 (by show 0 < 2; omega) _ A rfl rfl 0 rfl (ix2 ⟨(y 0).val, hi⟩ (y 1)) (fun x hx => ?_) (Nat.zero_add _)).trans ?_
    · match x with
      | 0 => exact absurd rfl hx
      | 1 => rfl
    · show A _ = ((if (y 0).val < a₁ then f (y 0).val (y 1).val else g ((y 0).val - a₁) (y 1).val : ℝ) : EReal)
      rw [if_pos hi]; exact h _
  · refine (concatenate_apply_piece 0 _ hc y 1 (by show 1 < 2; omega) _ B rfl rfl a₁ rfl (ix2 ⟨(y 0).val - a₁, by omega⟩ (y 1)) (fun x hx => ?_)
      (by show a₁ + ((y 0).val - a₁) = (y 0).val; omega)).trans ?_
    · match x with
      | 0 => exact absurd rfl hx
      | 1 => rfl
    · show B _ = ((if (y 0).val < a₁ then f (y 0).val (y 1).val else g ((y 0).val - a₁) (y 1).val : ℝ) : EReal)
      rw [if_neg hi]; exact h' _

/-- Three times. -/
theorem Is2.rows3 {a₁ a₂ a₃ : ℕ} {A : FVec Ideal ⟨2, ![a₁, b]⟩ φ} {B : FVec Ideal ⟨2, ![a₂, b]⟩ φ} {C : FVec Ideal ⟨2, ![a₃, b]⟩ φ}
    (h : Is2 A f) (h' : Is2 B g) (h'' : Is2 C k) (hc) :
    Is2 (concatenate ⟨2, ![c, b]⟩ 0 [⟨⟨2, ![a₁, b]⟩, A⟩, ⟨⟨2, ![a₂, b]⟩, B⟩, ⟨⟨2, ![a₃, b]⟩, C⟩] hc)
      fun i j => if i < a₁ then f i j else if i < a₁ + a₂ then g (i - a₁) j else k (i - (a₁ + a₂)) j := fun y => by
  have hs : a₁ + (a₂ + (a₃ + 0)) = c := hc.2.2
  have hy : (y 0).val < c := (y 0).isLt
  by_cases hi : (y 0).val < a₁
  · refine (concatenate_apply_piece 0 _ hc y 0 (by show 0 < 3; omega) _ A rfl rfl 0 rfl (ix2 ⟨(y 0).val, hi⟩ (y 1)) (fun x hx => ?_) (Nat.zero_add _)).trans ?_
    · match x with
      | 0 => exact absurd rfl hx
      | 1 => rfl
    · refine (h _).trans (congrArg _ ?_)
      exact (if_pos hi).symm
  · by_cases hj : (y 0).val < a₁ + a₂
    · refine (concatenate_apply_piece 0 _ hc y 1 (by show 1 < 3; omega) _ B rfl rfl a₁ rfl (ix2 ⟨(y 0).val - a₁, by omega⟩ (y 1)) (fun x hx => ?_)
        (by show a₁ + ((y 0).val - a₁) = (y 0).val; omega)).trans ?_
      · match x with
        | 0 => exact absurd rfl hx
        | 1 => rfl
      · refine (h' _).trans (congrArg _ ?_)
        exact ((if_neg hi).trans (if_pos hj)).symm
    · refine (concatenate_apply_piece 0 _ hc y 2 (by show 2 < 3; omega) _ C rfl rfl (a₁ + a₂) rfl (ix2 ⟨(y 0).val - (a₁ + a₂), by omega⟩ (y 1)) (fun x hx => ?_)
        (by show (a₁ + a₂) + ((y 0).val - (a₁ + a₂)) = (y 0).val; omega)).trans ?_
      · match x with
        | 0 => exact absurd rfl hx
        | 1 => rfl
      · refine (h'' _).trans (congrArg _ ?_)
        exact ((if_neg hi).trans (if_neg hj)).symm

/-- The same array three times side by side. -/
theorem Is2.cols3 {A : FVec Ideal ⟨2, ![a, b]⟩ φ} (h : Is2 A f) (hc) :
    Is2 (concatenate ⟨2, ![a, c]⟩ 1 [⟨⟨2, ![a, b]⟩, A⟩, ⟨⟨2, ![a, b]⟩, A⟩, ⟨⟨2, ![a, b]⟩, A⟩] hc) fun i j => f i (j % b) := fun y => by
  have hs : b + (b + (b + 0)) = c := hc.2.2
  have hy : (y 1).val < c := (y 1).isLt
  have hb : 0 < b := by omega
  have hlt : (y 1).val % b < b := Nat.mod_lt _ hb
  have hd : (y 1).val / b < 3 := Nat.div_lt_of_lt_mul (by omega)
  have he : b * ((y 1).val / b) + (y 1).val % b = (y 1).val := Nat.div_add_mod _ _
  have hx : ∀ x : Fin 2, x.cast rfl ≠ (1 : Fin 2) → ((ix2 (y 0) ⟨(y 1).val % b, hlt⟩ : (⟨2, ![a, b]⟩ : Shape).Idx) x).val = (y (x.cast rfl)).val := fun x hx => by
    match x with
    | 0 => rfl
    | 1 => exact absurd rfl hx
  refine (concatenate_apply_piece 1 _ hc y ((y 1).val / b) hd ⟨2, ![a, b]⟩ A ?_ rfl (b * ((y 1).val / b)) ?_ (ix2 (y 0) ⟨(y 1).val % b, hlt⟩) hx he).trans (h _)
  · generalize (y 1).val / b = q at hd
    interval_cases q <;> rfl
  · generalize (y 1).val / b = q at hd
    interval_cases q
    · rfl
    · exact (Nat.mul_one b).symm
    · exact (by omega : b + (b + 0) = b * 2)

end Moves

section Products

variable {φ ψ : FTy} {M K N : ℕ} {f g : ℕ → ℕ → ℝ}

/-- The dimension numbers of a plain product. -/
def dnn (w : DotDims.WF ⟨2, ![M, K]⟩ ⟨2, ![K, N]⟩ ⟨2, ![M, N]⟩ [1] [0] [0] [1] [] []) : DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := w

/-- The dimension numbers of a product with the second factor transposed. -/
def dnt (w : DotDims.WF ⟨2, ![M, K]⟩ ⟨2, ![N, K]⟩ ⟨2, ![M, N]⟩ [1] [1] [0] [0] [] []) : DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := w

/-- The dimension numbers of a product with the first factor transposed. -/
def dtn (w : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := w

theorem Is2.mmNN {A : FVec Ideal ⟨2, ![M, K]⟩ φ} {B : FVec Ideal ⟨2, ![K, N]⟩ ψ} (h : Is2 A f) (h' : Is2 B g) (w) :
    Is2 (matmul (dnn w) none A B (constant ⟨2, ![M, N]⟩ .f32 0x00000000#32)) fun i j => ∑ k ∈ Finset.range K, f i k * g k j := fun y => by
  simp only [matmul]
  rw [Ideal.matmul_constant_zero_apply, ← Equiv.sum_comp (contrEquiv1 (dnn w) K rfl rfl).symm, ← sum_fin_mul]
  refine Finset.sum_congr rfl fun k _ => ?_
  have hk := contrEquiv1_symm_val (dnn w) K rfl rfl k
  refine congrArg₂ (fun p q : EReal => p * q) ((h _).trans ?_) ((h' _).trans ?_)
  · exact congrArg (fun t => ((f (y 0).val t : ℝ) : EReal)) hk
  · exact congrArg (fun t => ((g t (y 1).val : ℝ) : EReal)) hk

theorem Is2.mmNT {A : FVec Ideal ⟨2, ![M, K]⟩ φ} {B : FVec Ideal ⟨2, ![N, K]⟩ ψ} (h : Is2 A f) (h' : Is2 B g) (w) :
    Is2 (matmul (dnt w) none A B (constant ⟨2, ![M, N]⟩ .f32 0x00000000#32)) fun i j => ∑ k ∈ Finset.range K, f i k * g j k := fun y => by
  simp only [matmul]
  rw [Ideal.matmul_constant_zero_apply, ← Equiv.sum_comp (contrEquiv1 (dnt w) K rfl rfl).symm, ← sum_fin_mul]
  refine Finset.sum_congr rfl fun k _ => ?_
  have hk := contrEquiv1_symm_val (dnt w) K rfl rfl k
  refine congrArg₂ (fun p q : EReal => p * q) ((h _).trans ?_) ((h' _).trans ?_)
  · exact congrArg (fun t => ((f (y 0).val t : ℝ) : EReal)) hk
  · exact congrArg (fun t => ((g (y 1).val t : ℝ) : EReal)) hk

theorem Is2.mmTN {A : FVec Ideal ⟨2, ![K, M]⟩ φ} {B : FVec Ideal ⟨2, ![K, N]⟩ ψ} (h : Is2 A f) (h' : Is2 B g) (w) :
    Is2 (matmul (dtn w) none A B (constant ⟨2, ![M, N]⟩ .f32 0x00000000#32)) fun i j => ∑ k ∈ Finset.range K, f k i * g k j := fun y => by
  simp only [matmul]
  rw [Ideal.matmul_constant_zero_apply, ← Equiv.sum_comp (contrEquiv1 (dtn w) K rfl rfl).symm, ← sum_fin_mul]
  refine Finset.sum_congr rfl fun k _ => ?_
  have hk := contrEquiv1_symm_val (dtn w) K rfl rfl k
  refine congrArg₂ (fun p q : EReal => p * q) ((h _).trans ?_) ((h' _).trans ?_)
  · exact congrArg (fun t => ((f t (y 0).val : ℝ) : EReal)) hk
  · exact congrArg (fun t => ((g t (y 1).val : ℝ) : EReal)) hk

end Products

end Cert.Ffn.V

end
-- ==== Proof.Ffn.V.Spec.lean ====
/-
  The FFN sublayer, the loss and their gradients over the reals, token by token.
-/
module

public import proofs.«01_k».proof.Proof.Ffn.V.Calc

@[expose] public section

noncomputable section

namespace Cert.Ffn.V

open scoped BigOperators

/-- The eleven arguments as real functions of row and column. -/
structure In where
  x : ℕ → ℕ → ℝ
  tg : ℕ → ℕ → ℝ
  gn : ℕ → ℝ
  sc : ℕ → ℝ
  sh : ℕ → ℝ
  fw : ℕ → ℕ → ℝ
  fb : ℕ → ℝ
  gt : ℕ → ℝ
  fg : ℕ → ℝ
  wup : ℕ → ℕ → ℝ
  wd : ℕ → ℕ → ℝ

/-- The mean square of a row plus the epsilon. -/
def msq (f : ℕ → ℝ) : ℝ := (∑ k ∈ Finset.range 1024, f k * f k) / 1024 + eps

theorem msq_pos (f : ℕ → ℝ) : 0 < msq f := by
  have : 0 ≤ ∑ k ∈ Finset.range 1024, f k * f k := Finset.sum_nonneg fun k _ => mul_self_nonneg _
  have := eps_pos
  unfold msq
  positivity

/-- The reciprocal root mean square of a row. -/
def rstd (f : ℕ → ℝ) : ℝ := (Real.sqrt (msq f))⁻¹

/-- The gradient through a norm: `a` is the gradient at the normalised row `f / rms f`. -/
def ngrad (a f : ℕ → ℝ) (k : ℕ) : ℝ :=
  rstd f * (a k - f k * rstd f * ((∑ l ∈ Finset.range 1024, a l * (f l * rstd f)) / 1024))

/-- `silu`. -/
def sl (g : ℝ) : ℝ := g * sgm g

/-- The derivative of `silu`, as the programs compute it. -/
def dsl (g : ℝ) : ℝ := sgm g + sl g * (1 - sgm g)

namespace In

variable (I : In)

/-- The normalised rows, -/
def n (t k : ℕ) : ℝ := I.x t k * rstd (I.x t)

/-- modulated. -/
def h (t k : ℕ) : ℝ := I.n t k * I.gn k * (1 + I.sc k) + I.sh k

/-- The up projection, -/
def u (t j : ℕ) : ℝ := ∑ k ∈ Finset.range 1024, I.h t k * I.wup k j

/-- `s` tokens before. -/
def ub (s t j : ℕ) : ℝ := if t < s then 0 else I.u (t - s) j

/-- The causal convolution. -/
def cv (t j : ℕ) : ℝ := I.fb j + I.u t j * I.fw 2 j + I.ub 1 t j * I.fw 1 j + I.ub 2 t j * I.fw 0 j

/-- The gated values, -/
def f (t j : ℕ) : ℝ := sl (I.cv t (2816 + j)) * I.cv t j

/-- the down projection, -/
def o (t k : ℕ) : ℝ := ∑ j ∈ Finset.range 2816, I.f t j * I.wd j k

/-- the residual stream, -/
def x3 (t k : ℕ) : ℝ := I.x t k + I.gt k * I.o t k

/-- normalised, -/
def n3 (t k : ℕ) : ℝ := I.x3 t k * rstd (I.x3 t)

/-- and the distance from the target. -/
def diff (t k : ℕ) : ℝ := I.n3 t k * I.fg k - I.tg t k

/-- The gradient at the output, -/
def dy (t k : ℕ) : ℝ := I.diff t k * (1 / 1024)

/-- at the residual stream, -/
def dx3 (t k : ℕ) : ℝ := ngrad (fun l => I.dy t l * I.fg l) (I.x3 t) k

/-- at the down projection, -/
def go (t k : ℕ) : ℝ := I.gt k * I.dx3 t k

/-- at the gated values, -/
def df (t j : ℕ) : ℝ := ∑ k ∈ Finset.range 1024, I.go t k * I.wd j k

/-- at the convolution's output, -/
def dc (t j : ℕ) : ℝ :=
  if j < 2816 then I.df t j * sl (I.cv t (2816 + j)) else I.df t (j - 2816) * (I.cv t (j - 2816) * dsl (I.cv t j))

/-- zero after the last token, -/
def dcv (t j : ℕ) : ℝ := if t < 8192 then I.dc t j else 0

/-- at the up projection, -/
def du (t j : ℕ) : ℝ := I.dcv t j * I.fw 2 j + I.dcv (t + 1) j * I.fw 1 j + I.dcv (t + 2) j * I.fw 0 j

/-- at the modulated rows, -/
def dh (t k : ℕ) : ℝ := ∑ j ∈ Finset.range 5632, I.du t j * I.wup k j

/-- and at the input. -/
def dx2 (t k : ℕ) : ℝ := I.dx3 t k + ngrad (fun l => I.dh t l * (I.gn l * (1 + I.sc l))) (I.x t) k

end In

/-! ### Tiles of 256 tokens and their interleaved order -/

/-- The token of row `p` of an interleaved tile. -/
def tok (p : ℕ) : ℕ := p % 8 * 32 + p / 8

theorem tok_lt {p : ℕ} (h : p < 256) : tok p < 256 := by unfold tok; omega

/-- The row of a token. -/
def rowOf (t : ℕ) : ℕ := t % 32 * 8 + t / 32

theorem rowOf_lt {t : ℕ} (h : t < 256) : rowOf t < 256 := by unfold rowOf; omega

theorem tok_rowOf {t : ℕ} (h : t < 256) : tok (rowOf t) = t := by unfold tok rowOf; omega

theorem rowOf_tok {p : ℕ} (h : p < 256) : rowOf (tok p) = p := by unfold tok rowOf; omega

theorem sum_tok (F : ℕ → ℝ) : ∑ p ∈ Finset.range 256, F (tok p) = ∑ t ∈ Finset.range 256, F t :=
  Finset.sum_nbij' tok rowOf (fun p hp => Finset.mem_range.mpr (tok_lt (Finset.mem_range.mp hp)))
    (fun t ht => Finset.mem_range.mpr (rowOf_lt (Finset.mem_range.mp ht)))
    (fun p hp => rowOf_tok (Finset.mem_range.mp hp)) (fun t ht => tok_rowOf (Finset.mem_range.mp ht)) fun _ _ => rfl

/-- Picking row `tok p` by a sum. -/
theorem sum_pick (F : ℕ → ℝ) (p : ℕ) (hp : p < 256) : ∑ t ∈ Finset.range 256, (if t = tok p then (1 : ℝ) else 0) * F t = F (tok p) := by
  rw [Finset.sum_eq_single (tok p) (fun t _ ht => by rw [if_neg ht, zero_mul])
    (fun h => absurd (Finset.mem_range.mpr (tok_lt hp)) h), if_pos rfl, one_mul]

/-- Picking the row of token `t` by a sum. -/
theorem sum_pick' (F : ℕ → ℝ) (t : ℕ) (ht : t < 256) : ∑ p ∈ Finset.range 256, (if t = tok p then (1 : ℝ) else 0) * F p = F (rowOf t) := by
  rw [Finset.sum_eq_single (rowOf t) (fun p hp hne => by
      rw [if_neg (fun e => hne (by rw [e, rowOf_tok (Finset.mem_range.mp hp)])), zero_mul])
    (fun h => absurd (Finset.mem_range.mpr (rowOf_lt ht)) h), if_pos (tok_rowOf ht).symm, one_mul]

/-- The sum of `F` over the tokens of tile `n`. -/
def tsum (n : ℕ) (F : ℕ → ℝ) : ℝ := ∑ p ∈ Finset.range 256, F (256 * n + p)

theorem sum_rows (n : ℕ) (F : ℕ → ℝ) : ∑ p ∈ Finset.range 256, F (256 * n + tok p) = tsum n F := sum_tok fun t => F (256 * n + t)

theorem sum_blocks {b : ℕ} (N : ℕ) (F : ℕ → ℝ) : ∑ n ∈ Finset.range N, ∑ p ∈ Finset.range b, F (b * n + p) = ∑ t ∈ Finset.range (b * N), F t := by
  induction N with
  | zero => rfl
  | succ N ih => rw [Finset.sum_range_succ, ih, Nat.mul_succ, Finset.sum_range_add]

/-- The sum over the last `t` tiles. -/
def after (t : ℕ) (F : ℕ → ℝ) : ℝ := ∑ s ∈ Finset.range t, tsum (31 - s) F

theorem after_zero (F : ℕ → ℝ) : after 0 F = 0 := rfl

theorem after_succ (t : ℕ) (F : ℕ → ℝ) : after (t + 1) F = after t F + tsum (31 - t) F := Finset.sum_range_succ _ _

theorem after_all (F : ℕ → ℝ) : after 32 F = ∑ t ∈ Finset.range 8192, F t := by
  have e := Finset.sum_range_reflect (fun s => tsum s F) 32
  exact e.trans (sum_blocks 32 F)

end Cert.Ffn.V

end
-- ==== Proof.Ffn.V.Ops.lean ====
/-
  The values of one tile of the FFN kernel over the reals: each operation of the tile on arrays of real numbers.
-/
module

public import proofs.«01_k».proof.Proof.Ffn.V.Spec
public import proofs.«01_k».proof.Proof.Ffn.Prog

@[expose] public section

set_option maxRecDepth 16384

noncomputable section

namespace Cert.Ffn.V

open Idealize.ShloMosaic Idealize.ShloMosaic.TcCoe
open Cert.KernelIdeal Cert.KernelIdeal.Facts₀ Cert.KernelIdeal.Facts

variable {f g k : ℕ → ℕ → ℝ}

theorem width_ne : ∀ i, i < 256 → ∀ j, j < 1 → (1024 : ℝ) ≠ 0 := fun _ _ _ _ => by norm_num

theorem is_rms {x : FVec Ideal S256x1024 .f32} (h : Is2 x f) : Is2 (rms x) fun i _ => rstd (f i) :=
  ((((h.mul h).rowSum _ _ _ _ _).div (Is2.splat lit_width) width_ne).add (Is2.splat lit_eps)).rsqrt fun i _ _ _ => msq_pos (f i)

theorem is_scaleRows {x : FVec Ideal S256x1024 .f32} {r : FVec Ideal S256x1 .f32} (h : Is2 x f) (hr : Is2 r g) :
    Is2 (scaleRows x r) fun i j => f i j * g i 0 := h.mul (hr.col (by decide) _)

theorem is_norm {x : FVec Ideal S256x1024 .f32} (h : Is2 x f) : Is2 (scaleRows x (rms x)) fun i j => f i j * rstd (f i) := is_scaleRows h (is_rms h)

theorem is_onePlus {s : FVec Ideal S1x1024 .f32} {c : ℕ → ℝ} (h : Is2 s fun _ j => c j) : Is2 (onePlus s) fun _ j => 1 + c j := (Is2.splat lit_one).add h

theorem is_rowD {s : FVec Ideal S1x1024 .f32} {c : ℕ → ℝ} (h : Is2 s fun _ j => c j) : Is2 (rowD s) fun _ j => c j := h.row (by decide) _

theorem is_modulate {x : FVec Ideal S256x1024 .f32} {g s t : FVec Ideal S1x1024 .f32} {a b c : ℕ → ℝ} (h : Is2 x f) (hg : Is2 g fun _ j => a j)
    (hs : Is2 s fun _ j => b j) (ht : Is2 t fun _ j => c j) : Is2 (modulate x g s t) fun i j => f i j * a j * (1 + b j) + c j :=
  ((h.mul (is_rowD hg)).mul (is_rowD (is_onePlus hs))).add (is_rowD ht)

theorem is_haloNorm {x : FVec Ideal S8x1024 .f32} {g s t : FVec Ideal S1x1024 .f32} {a b c : ℕ → ℝ} (h : Is2 x f) (hg : Is2 g fun _ j => a j)
    (hs : Is2 s fun _ j => b j) (ht : Is2 t fun _ j => c j) : Is2 (haloNorm x g s t) fun i j => f i j * rstd (f i) * a j * (1 + b j) + c j :=
  ((((h.mul ((((((h.mul h).rowSum _ _ _ _ _).div (Is2.splat lit_width) (fun _ _ _ _ => by norm_num)).add (Is2.splat lit_eps)).rsqrt
    fun i _ _ _ => msq_pos (f i)).col (by decide) _)).mul (hg.row (by decide) _)).mul ((is_onePlus hs).row (by decide) _)).add (ht.row (by decide) _))

/-- The permutation to the interleaved order. -/
def perm (p t : ℕ) : ℝ := if t = tok p then 1 else 0

theorem is_toInter {pm : FVec Ideal S256x256 .bf16} {x : FVec Ideal S256x1024 .f32} (hp : Is2 pm perm) (h : Is2 x f) :
    Is2 (matmul dot_S256x256_S256x1024_S256x1024_1_0_0_1_n_n none pm (truncf .bf16 x bitsLt_bf16_f32) (constant S256x1024 .f32 0x00000000#32)) fun i j => f (tok i) j :=
  (hp.mmNN (h.trunc bitsLt_bf16_f32) _).congr fun i hi j _ => sum_pick (fun t => f t j) i hi

theorem is_upRows {pm : FVec Ideal S256x256 .bf16} {x : FVec Ideal S256x1024 .f32} {y : FVec Ideal S8x1024 .f32} (hp : Is2 pm perm) (h : Is2 x f) (h' : Is2 y g) :
    Is2 (upRows pm x y) fun i j => if i < 256 then f (tok i) j else g (i - 256) j :=
  ((is_toInter hp h).trunc bitsLt_bf16_f32).rows2 (h'.trunc bitsLt_bf16_f32) concatenates_S256x1024_S8x1024_S264x1024_d0

theorem is_upBlock {r : FVec Ideal S264x1024 .bf16} {w : FVec Ideal S1024x256 .bf16} (h : Is2 r f) (h' : Is2 w g) :
    Is2 (upBlock r w) fun i j => ∑ k ∈ Finset.range 1024, f i k * g k j := h.mmNN h' _

theorem is_ownRows {b : FVec Ideal S264x256 .f32} (h : Is2 b f) : Is2 (ownRows b) f :=
  (h.slice ![0, 0] slices_S264x256_o0_0_S256x256).congr fun i _ j _ => congrArg₂ f (Nat.zero_add i) (Nat.zero_add j)

theorem word_pos (n : ℕ) (h : n < 32) : Scalar.cmpi .sgt (BitVec.ofNat 32 n) 0#32 = if n = 0 then 0#1 else 1#1 := by
  interval_cases n <;> decide

theorem is_edgeRows {n : ℕ} (hn : n < 32) {b : FVec Ideal S264x256 .f32} (h : Is2 b f) :
    Is2 (edgeRows (BitVec.ofNat 32 n) b) fun i j => if n = 0 then 0 else f (256 + i) j := by
  unfold edgeRows
  rw [word_pos n hn]
  by_cases h0 : n = 0
  · rw [if_pos h0]
    exact (Is2.splat lit_zero).congr fun _ _ _ _ => (if_pos h0).symm
  · rw [if_neg h0]
    exact (h.slice ![256, 0] slices_S264x256_o256_0_S8x256).congr fun i _ j _ => (congrArg₂ f rfl (Nat.zero_add j)).trans (if_neg h0).symm

theorem is_rot1 {x : FVec Ideal S8x256 .f32} (h : Is2 x f) : Is2 (rot1 x) fun i j => f ((i + 7) % 8) j := fun y =>
  (dynamicRotate_apply (s := S8x256) 0 1#32 x rotates_S8x256_d0 y (ix2 ⟨((y 0).val + 7) % 8, Nat.mod_lt _ (by decide)⟩ (y 1)) fun b => by
    match b with
    | 0 => rfl
    | 1 => rfl).trans (h _)

theorem is_rot7 {x : FVec Ideal S8x256 .f32} (h : Is2 x f) : Is2 (rot7 x) fun i j => f ((i + 1) % 8) j := fun y =>
  (dynamicRotate_apply (s := S8x256) 0 7#32 x rotates_S8x256_d0 y (ix2 ⟨((y 0).val + 1) % 8, Nat.mod_lt _ (by decide)⟩ (y 1)) fun b => by
    match b with
    | 0 => rfl
    | 1 => rfl).trans (h _)

theorem word_row (k i : ℕ) (hk : k < 8) (h : i < 8) : Scalar.cmpi .eq (BitVec.ofNat 32 i) (BitVec.ofNat 32 k) = if i = k then 1#1 else 0#1 := by
  interval_cases k <;> interval_cases i <;> decide

theorem rowNo_apply (y : S8x256.Idx) : rowNo y = BitVec.ofNat 32 (y 0).val := iota_single_apply _ _ _ 0 iota_S8x256_d0_w32 y

theorem is_pickRow (k : ℕ) (hk : k < 8) {x y : FVec Ideal S8x256 .f32} (h : Is2 x f) (h' : Is2 y g) :
    Is2 (pickRow rowNo (BitVec.ofNat 32 k) x y) fun i j => if i = k then f i j else g i j := fun z => by
  have e : cmpi .eq rowNo (broadcast S8x256 (BitVec.ofNat 32 k)) z = if (z 0).val = k then 1#1 else 0#1 :=
    (congrArg (Scalar.cmpi .eq · (BitVec.ofNat 32 k)) (rowNo_apply z)).trans (word_row k _ hk (z 0).isLt)
  show (if cmpi .eq rowNo (broadcast S8x256 (BitVec.ofNat 32 k)) z = 1 then x z else y z) = _
  rw [e]
  by_cases hz : (z 0).val = k
  · rw [if_pos hz]
    exact (if_pos rfl).trans ((h z).trans (congrArg _ (if_pos hz).symm))
  · rw [if_neg hz]
    exact (if_neg (by decide)).trans ((h' z).trans (congrArg _ (if_neg hz).symm))

theorem is_back1 {e : FVec Ideal S8x256 .f32} {v : FVec Ideal S256x256 .f32} (he : Is2 e f) (hv : Is2 v g) :
    Is2 (back1 rowNo e v) fun i j => if i = 0 then f 7 j else g (247 + i) j :=
  (is_pickRow 0 (by decide) (is_rot1 he) (is_rot1 (hv.slice ![248, 0] slices_S256x256_o248_0_S8x256))).congr fun i hi j _ => by
    by_cases h0 : i = 0
    · rw [if_pos h0, if_pos h0, h0]
    · rw [if_neg h0, if_neg h0]
      exact congrArg₂ g (show 248 + (i + 7) % 8 = 247 + i by omega) (Nat.zero_add j)

theorem is_back2 {e : FVec Ideal S8x256 .f32} {v : FVec Ideal S256x256 .f32} (he : Is2 e f) (hv : Is2 v g) :
    Is2 (back2 rowNo e v) fun i j => if i = 0 then f 6 j else g (239 + i) j :=
  (is_pickRow 0 (by decide) (is_rot1 (is_rot1 he)) (is_rot1 (hv.slice ![240, 0] slices_S256x256_o240_0_S8x256))).congr fun i hi j _ => by
    by_cases h0 : i = 0
    · rw [if_pos h0, if_pos h0, h0]
    · rw [if_neg h0, if_neg h0]
      exact congrArg₂ g (show 240 + (i + 7) % 8 = 239 + i by omega) (Nat.zero_add j)

theorem is_prev1 {e : FVec Ideal S8x256 .f32} {v : FVec Ideal S256x256 .f32} (he : Is2 e f) (hv : Is2 v g) :
    Is2 (prev1 rowNo e v) fun i j => if i < 8 then (if i = 0 then f 7 j else g (247 + i) j) else g (i - 8) j :=
  ((is_back1 he hv).rows2 (hv.slice ![0, 0] slices_S256x256_o0_0_S248x256) _).congr fun i _ j _ =>
    congrArg (ite _ _) (congrArg₂ g (Nat.zero_add _) (Nat.zero_add j))

theorem is_prev2 {e : FVec Ideal S8x256 .f32} {v : FVec Ideal S256x256 .f32} (he : Is2 e f) (hv : Is2 v g) :
    Is2 (prev2 rowNo e v) fun i j => if i < 8 then (if i = 0 then f 6 j else g (239 + i) j)
      else if i < 16 then (if i - 8 = 0 then f 7 j else g (247 + (i - 8)) j) else g (i - 16) j :=
  ((is_back2 he hv).rows3 (is_back1 he hv) (hv.slice ![0, 0] slices_S256x256_o0_0_S240x256) _).congr fun i _ j _ =>
    congrArg (ite _ _) (congrArg (ite _ _) (congrArg₂ g (Nat.zero_add _) (Nat.zero_add j)))

theorem is_next1row {c : FVec Ideal S16x256 .f32} {d : FVec Ideal S256x256 .f32} (hc : Is2 c f) (hd : Is2 d g) :
    Is2 (next1row rowNo c d) fun i j => if i = 7 then f 0 j else g (i + 1) j :=
  (is_pickRow 7 (by decide) (is_rot7 (hc.slice ![0, 0] slices_S16x256_o0_0_S8x256)) (is_rot7 (hd.slice ![0, 0] slices_S256x256_o0_0_S8x256))).congr fun i hi j _ => by
    by_cases h0 : i = 7
    · rw [if_pos h0, if_pos h0, h0]
      exact congrArg₂ f rfl (Nat.zero_add j)
    · rw [if_neg h0, if_neg h0]
      exact congrArg₂ g (show 0 + (i + 1) % 8 = i + 1 by omega) (Nat.zero_add j)

theorem is_next2row {c : FVec Ideal S16x256 .f32} {d : FVec Ideal S256x256 .f32} (hc : Is2 c f) (hd : Is2 d g) :
    Is2 (next2row rowNo c d) fun i j => if i = 7 then f 8 j else g (i + 9) j :=
  (is_pickRow 7 (by decide) (is_rot7 (hc.slice ![8, 0] slices_S16x256_o8_0_S8x256)) (is_rot7 (hd.slice ![8, 0] slices_S256x256_o8_0_S8x256))).congr fun i hi j _ => by
    by_cases h0 : i = 7
    · rw [if_pos h0, if_pos h0, h0]
      exact congrArg₂ f rfl (Nat.zero_add j)
    · rw [if_neg h0, if_neg h0]
      exact congrArg₂ g (show 8 + (i + 1) % 8 = i + 9 by omega) (Nat.zero_add j)

theorem is_next1 {c : FVec Ideal S16x256 .f32} {d : FVec Ideal S256x256 .f32} (hc : Is2 c f) (hd : Is2 d g) :
    Is2 (next1 rowNo c d) fun i j => if i < 248 then g (8 + i) j else if i - 248 = 7 then f 0 j else g (i - 248 + 1) j :=
  ((hd.slice ![8, 0] slices_S256x256_o8_0_S248x256).rows2 (is_next1row hc hd) _).congr fun i _ j _ => by
    show (if i < 248 then g (8 + i) (0 + j) else _) = _
    rw [Nat.zero_add]

theorem is_next2 {c : FVec Ideal S16x256 .f32} {d : FVec Ideal S256x256 .f32} (hc : Is2 c f) (hd : Is2 d g) :
    Is2 (next2 rowNo c d) fun i j => if i < 240 then g (16 + i) j else if i < 240 + 8 then (if i - 240 = 7 then f 0 j else g (i - 240 + 1) j)
      else if i - (240 + 8) = 7 then f 8 j else g (i - (240 + 8) + 9) j :=
  ((hd.slice ![16, 0] slices_S256x256_o16_0_S240x256).rows3 (is_next1row hc hd) (is_next2row hc hd) _).congr fun i _ j _ => by
    show (if i < 240 then g (16 + i) (0 + j) else _) = _
    rw [Nat.zero_add]

theorem is_rowMul {x : FVec Ideal S256x256 .f32} {w : FVec Ideal S1x256 .f32} {c : ℕ → ℝ} (h : Is2 x f) (hw : Is2 w fun _ j => c j) :
    Is2 (rowMul x w) fun i j => f i j * c j := h.mul ((hw.cast _).row (by decide) _)

theorem is_colSum {x : FVec Ideal S256x256 .f32} (h : Is2 x f) : Is2 (colSum x) fun _ j => ∑ i ∈ Finset.range 256, f i j := h.colSum _ _ _ _ _

theorem is_colSumD {x : FVec Ideal S256x1024 .f32} (h : Is2 x f) : Is2 (colSumD x) fun _ j => ∑ i ∈ Finset.range 256, f i j := h.colSum _ _ _ _ _

theorem is_conv3 {b w0 w1 w2 : FVec Ideal S1x256 .f32} {x0 x1 x2 : FVec Ideal S256x256 .f32} {c c0 c1 c2 : ℕ → ℝ} (hb : Is2 b fun _ j => c j)
    (h0 : Is2 w0 fun _ j => c0 j) (h1 : Is2 w1 fun _ j => c1 j) (h2 : Is2 w2 fun _ j => c2 j) (hx0 : Is2 x0 f) (hx1 : Is2 x1 g) (hx2 : Is2 x2 k) :
    Is2 (conv3 b w0 w1 w2 x0 x1 x2) fun i j => c j + k i j * c2 j + g i j * c1 j + f i j * c0 j :=
  (((hb.row (by decide) _).add (is_rowMul hx2 h2)).add (is_rowMul hx1 h1)).add (is_rowMul hx0 h0)

theorem is_silu {x : FVec Ideal S256x256 .f32} (h : Is2 x f) : Is2 (silu x) fun i j => sl (f i j) := h.mul h.logistic

theorem is_gateGrad {v x : FVec Ideal S256x256 .f32} (hv : Is2 v g) (h : Is2 x f) : Is2 (gateGrad v x) fun i j => g i j * dsl (f i j) :=
  hv.mul (h.logistic.add ((is_silu h).mul ((Is2.splat lit_one).sub h.logistic)))

theorem is_downBlock {x : FVec Ideal S256x256 .bf16} {w : FVec Ideal S256x1024 .bf16} (h : Is2 x f) (h' : Is2 w g) :
    Is2 (downBlock x w) fun i j => ∑ k ∈ Finset.range 256, f i k * g k j := h.mmNN h' _

theorem is_normGrad {a n : FVec Ideal S256x1024 .f32} {r : FVec Ideal S256x1 .f32} (ha : Is2 a f) (hn : Is2 n g) (hr : Is2 r k) :
    Is2 (normGrad a n r) fun i j => k i 0 * (f i j - g i j * ((∑ l ∈ Finset.range 1024, f i l * g i l) / 1024)) :=
  (hr.col (by decide) _).mul (ha.sub (hn.mul ((((ha.mul hn).rowSum _ _ _ _ _).div (Is2.splat lit_width) width_ne).col (by decide) _)))

/-- The permutation back to token order. -/
def permT (t p : ℕ) : ℝ := if t = tok p then 1 else 0

theorem is_deinterleave {pmt : FVec Ideal S256x256 .bf16} {x : FVec Ideal S256x1024 .f32} (hp : Is2 pmt permT) (h : Is2 x f) :
    Is2 (deinterleave pmt x) fun t j => f (rowOf t) j := by
  have h1 := h.sub ((h.trunc bitsLt_bf16_f32).ext bitsLt_bf16_f32)
  have h2 := h1.sub ((h1.trunc bitsLt_bf16_f32).ext bitsLt_bf16_f32)
  refine ((hp.cols3 concatenates_S256x256_S256x256_S256x256_S256x768_d1).mmNN
    ((h.trunc bitsLt_bf16_f32).rows3 (h1.trunc bitsLt_bf16_f32) (h2.trunc bitsLt_bf16_f32) concatenates_S256x1024_S256x1024_S256x1024_S768x1024_d0) _).congr fun t ht j _ => ?_
  rw [show (768 : ℕ) = 256 + 512 from rfl, Finset.sum_range_add, Finset.sum_eq_zero (s := Finset.range 512) (fun p _ => by
    rw [if_neg (by omega)]
    split_ifs <;> simp), add_zero]
  refine Eq.trans (Finset.sum_congr rfl fun p hp => ?_) (sum_pick' (fun p => f p j) t ht)
  have := Finset.mem_range.mp hp
  rw [if_pos this, Nat.mod_eq_of_lt this]
  rfl

theorem is_fromInter {pmt : FVec Ideal S256x256 .bf16} {x : FVec Ideal S256x5632 .bf16} (hp : Is2 pmt permT) (h : Is2 x f) :
    Is2 (matmul dot_S256x256_S256x5632_S256x5632_1_0_0_1_n_n none pmt x (constant S256x5632 .f32 0x00000000#32)) fun t j => f (rowOf t) j :=
  (hp.mmNN h _).congr fun t ht j _ => sum_pick' (fun p => f p j) t ht

theorem is_lossPart {d : FVec Ideal S256x1024 .f32} (h : Is2 d f) :
    lossPart d = ((1 / 2048 * ∑ i ∈ Finset.range 256, ∑ j ∈ Finset.range 1024, f i j * f i j : ℝ) : EReal) := by
  unfold lossPart
  have e : extractAt (s := S1x1x1) ![0, 0, 0] (shapeCast S1x1x1 (multiReduction .add [1, 2] S1
      (shapeCast S1x256x1024 (mulf d d) shapeCasts_S256x1024_S1x256x1024) 0x00000000#32 reduces_S1x256x1024_S1 (.inl rfl) rfl) shapeCasts_S1_S1x1x1) inpos_S1x1x1_p0_0_0
      = ((∑ i ∈ Finset.range 256, ∑ j ∈ Finset.range 1024, f i j * f i j : ℝ) : EReal) := by
    show shapeCast S1x1x1 (multiReduction .add [1, 2] S1 _ 0x00000000#32 reduces_S1x256x1024_S1 (.inl rfl) rfl) shapeCasts_S1_S1x1x1 _ = _
    unfold shapeCast
    refine (Ideal.multiReduction_add_total _ _ reduces_S1x256x1024_S1 (fun b => by match b with | 0 => rfl) _ _ _).trans ?_
    refine (Equiv.sum_comp (Shape.reshapeEquiv shapeCasts_S256x1024_S1x256x1024) (fun i : S256x1024.Idx => mulf d d i)).trans ?_
    rw [ValueIdx.sum_idx2]
    rw [← sum_fin (n := 256) (fun i => ∑ j ∈ Finset.range 1024, f i j * f i j)]
    refine Finset.sum_congr rfl fun i _ => ?_
    rw [← sum_fin (n := 1024) (fun j => f i.val j * f i.val j)]
    exact Finset.sum_congr rfl fun j _ => (h.mul h) _
  rw [e]
  exact (congrArg (fun q : EReal => q * _) lit_loss).trans (EReal.coe_mul _ _).symm

end Cert.Ffn.V

end
-- ==== Proof.Ffn.V.Tile.lean ====
/-
  One tile of the FFN kernel over the reals: what its buffers hold afterwards, in terms of the mathematics of the
  sublayer.
-/
module

public import proofs.«01_k».proof.Proof.Ffn.V.Ops
public import proofs.«01_k».proof.Proof.Ffn.Final

@[expose] public section

set_option maxRecDepth 16384

noncomputable section

namespace Cert.Ffn.V

open Idealize.ShloMosaic Idealize.ShloMosaic.TcCoe
open Cert.KernelIdeal Cert.KernelIdeal.Facts₀ Cert.KernelIdeal.Facts

section Parts

variable {φ : FTy} {a b N : ℕ} {f : ℕ → ℕ → ℝ}

theorem Is2.window {A : FVec Ideal ⟨2, ![a, b]⟩ φ} (h : Is2 A f) {c d : ℕ} (o p : ℕ) (inb) :
    Is2 (a := c) (b := d) (φ := φ) (Ffn.window (s := ⟨2, ![a, b]⟩) A ![o, p] ![c, d] inb) fun i j => f (o + i) (p + j) := fun _ => h _

/-- A window of the whole. -/
theorem Is2.all {A : FVec Ideal ⟨2, ![a, b]⟩ φ} (h : Is2 A f) (inb) :
    Is2 (a := a) (b := b) (φ := φ) (Ffn.window (s := ⟨2, ![a, b]⟩) A ![0, 0] ![a, b] inb) f :=
  (h.window 0 0 inb).congr fun i _ j _ => congrArg₂ f (Nat.zero_add i) (Nat.zero_add j)

/-- A piece of one row. -/
theorem Is2.windowRow {A : FVec Ideal ⟨2, ![a, b]⟩ φ} (h : Is2 A f) {d : ℕ} (r o : ℕ) (inb) :
    Is2 (a := 1) (b := d) (φ := φ) (Ffn.window (s := ⟨2, ![a, b]⟩) A ![r, o] ![1, d] inb) fun _ j => f r (o + j) :=
  (h.window r o inb).congr fun i hi j _ => by rw [show i = 0 by omega]; rfl

theorem is_pasteCols (hW : b = 256 * N) (S : ℕ → Prop) [DecidablePred S] (X : FVec Ideal ⟨2, ![a, b]⟩ φ) (blk : Fin N → FVec Ideal ⟨2, ![a, 256]⟩ φ)
    (hS : ∀ k, k < N → S k) (h : ∀ k : Fin N, Is2 (blk k) fun i j => f i (256 * k.val + j)) :
    Is2 (a := a) (b := b) (φ := φ) (pasteCols hW S X blk) f := fun y => by
  have hy : (y 1).val < b := (y 1).isLt
  unfold pasteCols
  rw [if_pos (hS _ (by omega))]
  exact (h _ _).trans (congrArg (fun j => ((f (y 0).val j : ℝ) : EReal)) (Nat.div_add_mod _ 256))

theorem is_pasteRows (hH : a = 256 * N) (S : ℕ → Prop) [DecidablePred S] (X : FVec Ideal ⟨2, ![a, b]⟩ φ) (blk : Fin N → FVec Ideal ⟨2, ![256, b]⟩ φ)
    (hS : ∀ k, k < N → S k) (h : ∀ k : Fin N, Is2 (blk k) fun i j => f (256 * k.val + i) j) :
    Is2 (a := a) (b := b) (φ := φ) (pasteRows hH S X blk) f := fun y => by
  have hy : (y 0).val < a := (y 0).isLt
  unfold pasteRows
  rw [if_pos (hS _ (by omega))]
  exact (h _ _).trans (congrArg (fun i => ((f i (y 1).val : ℝ) : EReal)) (Nat.div_add_mod _ 256))

theorem is_stack3 {A B C : FVec Ideal ⟨2, ![1, 256]⟩ φ} (hA : Is2 A fun _ j => f 0 j) (hB : Is2 B fun _ j => f 1 j) (hC : Is2 C fun _ j => f 2 j) :
    Is2 (a := 3) (b := 256) (φ := φ) (stack3 A B C) f := fun y => by
  have hy : (y 0).val < 3 := (y 0).isLt
  unfold stack3
  by_cases h0 : (y 0).val = 0
  · rw [if_pos h0, h0]; exact hA _
  · rw [if_neg h0]
    by_cases h1 : (y 0).val = 1
    · rw [if_pos h1, h1]; exact hB _
    · rw [if_neg h1, show (y 0).val = 2 by omega]; exact hC _

end Parts

/-- The row of the input at row `p` of the 8 rows before tile `n`. -/
def hrow (n p : ℕ) : ℕ := if n = 0 then p else 256 * n - 8 + p

/-- The buffers the tile reads hold the arguments' tile `n`. -/
structure Feeds (I : In) (n : ℕ) (σ : St Ideal) : Prop where
  x2 : Is2 (a := 256) (b := 1024) (φ := .f32) (σ .x2) fun p k => I.x (256 * n + p) k
  halo : Is2 (a := 8) (b := 1024) (φ := .f32) (σ .halo) fun p k => I.x (hrow n p) k
  tgt : Is2 (a := 256) (b := 1024) (φ := .f32) (σ .tgt) fun p k => I.tg (256 * n + p) k
  g2 : Is2 (a := 1) (b := 1024) (φ := .f32) (σ .g2) fun _ k => I.gn k
  sc2 : Is2 (a := 1) (b := 1024) (φ := .f32) (σ .sc2) fun _ k => I.sc k
  sh2 : Is2 (a := 1) (b := 1024) (φ := .f32) (σ .sh2) fun _ k => I.sh k
  fw : Is2 (a := 3) (b := 5632) (φ := .f32) (σ .fw) I.fw
  fb : Is2 (a := 1) (b := 5632) (φ := .f32) (σ .fb) fun _ j => I.fb j
  gt2 : Is2 (a := 1) (b := 1024) (φ := .f32) (σ .gt2) fun _ k => I.gt k
  fg : Is2 (a := 1) (b := 1024) (φ := .f32) (σ .fg) fun _ k => I.fg k
  pm : Is2 (a := 256) (b := 256) (φ := .bf16) (σ .pm) perm
  pmt : Is2 (a := 256) (b := 256) (φ := .bf16) (σ .pmt) permT
  wup : Is2 (a := 1024) (b := 5632) (φ := .bf16) (σ .wup) I.wup
  wd : Is2 (a := 2816) (b := 1024) (φ := .bf16) (σ .wd) I.wd

/-- The accumulators hold the sums over the last `t` tiles, the carry the gradients at the first rows of the last tile. -/
structure Sums (I : In) (t : ℕ) (σ : St Ideal) : Prop where
  loss : Is2 (a := 1) (b := 128) (φ := .f32) (σ .loss) fun _ _ => after t fun s => 1 / 2048 * ∑ k ∈ Finset.range 1024, I.diff s k * I.diff s k
  dfg : Is2 (a := 1) (b := 1024) (φ := .f32) (σ .dfg) fun _ k => after t fun s => I.dy s k * I.n3 s k
  dgt2 : Is2 (a := 1) (b := 1024) (φ := .f32) (σ .dgt2) fun _ k => after t fun s => I.dx3 s k * I.o s k
  dg2 : Is2 (a := 1) (b := 1024) (φ := .f32) (σ .dg2) fun _ k => (after t fun s => I.dh s k * I.n s k) * (1 + I.sc k)
  dsc2 : Is2 (a := 1) (b := 1024) (φ := .f32) (σ .dsc2) fun _ k => (after t fun s => I.dh s k * I.n s k) * I.gn k
  dsh2 : Is2 (a := 1) (b := 1024) (φ := .f32) (σ .dsh2) fun _ k => after t fun s => I.dh s k
  dfb : Is2 (a := 1) (b := 5632) (φ := .f32) (σ .dfb) fun _ j => after t fun s => I.dcv s j
  dfw : Is2 (a := 3) (b := 5632) (φ := .f32) (σ .dfw) fun r j => after t fun s => I.dcv (s + (2 - r)) j * I.u s j
  dwd : Is2 (a := 2816) (b := 1024) (φ := .f32) (σ .dwd) fun j k => after t fun s => I.f s j * I.go s k
  carry : Is2 (a := 16) (b := 5632) (φ := .f32) (σ .carry) fun p j => I.dcv (256 * (32 - t) + tok p) j

section Forward

variable {I : In} {n : ℕ} {σ : St Ideal} (hn : n < 32) (h : Feeds I n σ)
include h

theorem is_preX : Is2 (preOf σ).x fun p k => I.x (256 * n + p) k := (h.x2.all (inb2 le_rfl le_rfl)).cast _

theorem is_preG : Is2 (preOf σ).g2 fun _ k => I.gn k := h.g2.all (inb2 le_rfl le_rfl)

theorem is_preSc : Is2 (preOf σ).sc2 fun _ k => I.sc k := h.sc2.all (inb2 le_rfl le_rfl)

theorem is_prePmt : Is2 (preOf σ).pmt permT := (h.pmt.all (inb2 le_rfl le_rfl)).cast _

theorem is_preRows : Is2 (preOf σ).rows fun i k => if i < 256 then I.h (256 * n + tok i) k else I.h (hrow n (i - 256)) k :=
  is_upRows ((h.pm.all (inb2 le_rfl le_rfl)).cast _) (is_modulate (is_norm (is_preX h)) (h.g2.all (inb2 le_rfl le_rfl)) (h.sc2.all (inb2 le_rfl le_rfl)) (h.sh2.all (inb2 le_rfl le_rfl)))
    (is_haloNorm ((h.halo.all (inb2 le_rfl le_rfl)).cast _) (h.g2.all (inb2 le_rfl le_rfl)) (h.sc2.all (inb2 le_rfl le_rfl)) (h.sh2.all (inb2 le_rfl le_rfl)))

theorem is_upAt (o : ℕ) (ho : o + 256 ≤ 5632) :
    Is2 (upAt σ o ho) fun i j => if i < 256 then I.u (256 * n + tok i) (o + j) else I.u (hrow n (i - 256)) (o + j) :=
  (is_upBlock (is_preRows h) (h.wup.window 0 o _)).congr fun i _ j _ => by
    by_cases hi : i < 256
    · rw [if_pos hi]
      exact Finset.sum_congr rfl fun k _ => by rw [if_pos hi, Nat.zero_add]
    · rw [if_neg hi]
      exact Finset.sum_congr rfl fun k _ => by rw [if_neg hi, Nat.zero_add]

theorem is_own (o : ℕ) (ho : o + 256 ≤ 5632) : Is2 (ownRows (upAt σ o ho)) fun i j => I.u (256 * n + tok i) (o + j) :=
  (is_ownRows (is_upAt h o ho)).congr fun _ hi _ _ => if_pos hi

include hn in
theorem is_edge (o : ℕ) (ho : o + 256 ≤ 5632) : Is2 (edgeRows (BitVec.ofNat 32 n) (upAt σ o ho)) fun i j => if n = 0 then 0 else I.u (256 * n - 8 + i) (o + j) :=
  (is_edgeRows hn (is_upAt h o ho)).congr fun i _ j _ => by
    by_cases h0 : n = 0
    · rw [if_pos h0, if_pos h0]
    · rw [if_neg h0, if_neg h0, if_neg (by omega)]
      unfold hrow
      rw [if_neg h0, Nat.add_sub_cancel_left]

/-- The rows of one token before. -/
theorem prev1_tok (o i j : ℕ) (hi : i < 256) :
    (if i < 8 then (if i = 0 then (if n = 0 then 0 else I.u (256 * n - 8 + 7) (o + j)) else I.u (256 * n + tok (247 + i)) (o + j)) else I.u (256 * n + tok (i - 8)) (o + j))
      = I.ub 1 (256 * n + tok i) (o + j) := by
  unfold In.ub tok
  split_ifs <;> first
    | rfl
    | exact congrArg (fun t => I.u t (o + j)) (by omega)
    | omega

/-- The rows of two tokens before. -/
theorem prev2_tok (o i j : ℕ) (hi : i < 256) :
    (if i < 8 then (if i = 0 then (if n = 0 then 0 else I.u (256 * n - 8 + 6) (o + j)) else I.u (256 * n + tok (239 + i)) (o + j))
      else if i < 16 then (if i - 8 = 0 then (if n = 0 then 0 else I.u (256 * n - 8 + 7) (o + j)) else I.u (256 * n + tok (247 + (i - 8))) (o + j)) else I.u (256 * n + tok (i - 16)) (o + j))
      = I.ub 2 (256 * n + tok i) (o + j) := by
  unfold In.ub tok
  split_ifs <;> first
    | rfl
    | exact congrArg (fun t => I.u t (o + j)) (by omega)
    | omega

include hn in
theorem is_convAt (o : ℕ) (ho : o + 256 ≤ 5632) : Is2 (convAt (BitVec.ofNat 32 n) rowNo σ o ho) fun i j => I.cv (256 * n + tok i) (o + j) :=
  (is_conv3 (c := fun j => I.fb (o + j)) (c0 := fun j => I.fw 0 (o + j)) (c1 := fun j => I.fw 1 (o + j)) (c2 := fun j => I.fw 2 (o + j))
    (h.fb.window 0 o _) (h.fw.windowRow 0 o (inb2 (by decide) ho)) (h.fw.windowRow 1 o (inb2 (by decide) ho)) (h.fw.windowRow 2 o (inb2 (by decide) ho))
    (is_prev2 (is_edge hn h o ho) (is_own h o ho)) (is_prev1 (is_edge hn h o ho) (is_own h o ho)) (is_own h o ho)).congr fun i hi j _ => by
      rw [prev1_tok h o i j hi, prev2_tok h o i j hi]
      rfl

include hn in
theorem is_valAt (q : ℕ) (hq : q < 11) : Is2 (valAt (BitVec.ofNat 32 n) rowNo σ q hq) fun i j => I.cv (256 * n + tok i) (256 * q + j) := is_convAt hn h _ _

include hn in
theorem is_gateAt (q : ℕ) (hq : q < 11) : Is2 (gateAt (BitVec.ofNat 32 n) rowNo σ q hq) fun i j => I.cv (256 * n + tok i) (2816 + (256 * q + j)) :=
  (is_convAt hn h _ _).congr fun i _ j _ => congrArg (I.cv _) (Nat.add_assoc _ _ _)

include hn in
theorem is_fAt (q : ℕ) (hq : q < 11) : Is2 (fOf (valAt (BitVec.ofNat 32 n) rowNo σ q hq) (gateAt (BitVec.ofNat 32 n) rowNo σ q hq)) fun i j => I.f (256 * n + tok i) (256 * q + j) :=
  ((is_silu (is_gateAt hn h q hq)).mul (is_valAt hn h q hq)).trunc _

include hn in
theorem is_o2 (m : ℕ) (hm : m ≤ 11) : Is2 (o2 (BitVec.ofNat 32 n) rowNo σ m hm) fun i k => ∑ j ∈ Finset.range (256 * m), I.f (256 * n + tok i) j * I.wd j k := by
  induction m with
  | zero => exact Is2.splat lit_zero
  | succ m ih =>
    refine ((ih (by omega)).add (is_downBlock (is_fAt hn h m (by omega)) (h.wd.window (256 * m) 0 _))).congr fun i _ k _ => ?_
    rw [Nat.mul_succ, Finset.sum_range_add]
    simp only [Nat.zero_add]

include hn in
theorem is_o : Is2 (o2 (BitVec.ofNat 32 n) rowNo σ 11 le_rfl) fun i k => I.o (256 * n + tok i) k := is_o2 hn h 11 le_rfl

theorem is_u : Is2 (a := 256) (b := 5632) (φ := .bf16) (fwdAll (BitVec.ofNat 32 n) rowNo σ .u) fun i j => I.u (256 * n + tok i) j :=
  is_pasteCols (N := 22) rfl _ _ _ (fun k _ => Nat.mod_lt k eleven_pos) fun k => ((is_own h _ _).trunc _).cast _

include hn in
theorem is_sil : Is2 (a := 256) (b := 2816) (φ := .f32) (fwdAll (BitVec.ofNat 32 n) rowNo σ .sil) fun i j => sl (I.cv (256 * n + tok i) (2816 + j)) :=
  is_pasteCols (N := 11) (f := fun i j => sl (I.cv (256 * n + tok i) (2816 + j))) rfl (fun k => k < 11) (σ .sil)
    (fun k => shapeCast S256x256 (silu (gateAt (BitVec.ofNat 32 n) rowNo σ k.val k.isLt)) shapeCasts_S256x256_S256x256) (fun _ hk => hk) fun k => (is_silu (is_gateAt hn h k.val k.isLt)).cast _

include hn in
theorem is_vds : Is2 (a := 256) (b := 2816) (φ := .f32) (fwdAll (BitVec.ofNat 32 n) rowNo σ .vds) fun i j => I.cv (256 * n + tok i) j * dsl (I.cv (256 * n + tok i) (2816 + j)) :=
  is_pasteCols (N := 11) (f := fun i j => I.cv (256 * n + tok i) j * dsl (I.cv (256 * n + tok i) (2816 + j))) rfl (fun k => k < 11) (σ .vds)
    (fun k => shapeCast S256x256 (gateGrad (valAt (BitVec.ofNat 32 n) rowNo σ k.val k.isLt) (gateAt (BitVec.ofNat 32 n) rowNo σ k.val k.isLt)) shapeCasts_S256x256_S256x256)
    (fun _ hk => hk) fun k => (is_gateGrad (is_valAt hn h k.val k.isLt) (is_gateAt hn h k.val k.isLt)).cast _

include hn in
theorem is_f : Is2 (a := 256) (b := 2816) (φ := .bf16) (fwdAll (BitVec.ofNat 32 n) rowNo σ .f) fun i j => I.f (256 * n + tok i) j :=
  is_pasteCols (N := 11) rfl _ _ _ (fun _ hk => hk) fun k => (is_fAt hn h k.val k.isLt).cast _

end Forward

end Cert.Ffn.V

end
-- ==== Proof.Ffn.V.Host.lean ====
/-
  The arrays the program prepares before the call, as terms of the launch arrays.
-/
module

public import proofs.«01_k».proof.Proof.Ffn.V.Tile
public import proofs.«01_k».proof.Proof.Ffn.State

@[expose] public section

set_option maxRecDepth 16384

noncomputable section

namespace Cert.Ffn.V

open Idealize.ShloMosaic Idealize.ShloMosaic.TcCoe Idealize.SL.Sem
open Cert.KernelIdeal Cert.KernelIdeal.Facts₀ Cert.KernelIdeal.Facts Cert.KernelIdeal.Gen

variable (m : (ℓ : Loc nD τ sig) → Buf (Elt Ideal) ℓ) (c : Dev nD)

/-- An array as launched. -/
abbrev L (b : Ref sig .tc) : Buf (Elt Ideal) ((c : Thread nD τ).loc b) := m ((c : Thread nD τ).loc b)

section

theorem host_v19 : V m c main_v19 = shapeCast S8192x1024 (L m c main_arg0) Facts₀.shapeCasts_S1x8192x1024_S8192x1024 := by
  show StableHlo.after _ _ (Proc.devRef .tc main_v19) = _
  simp only [List.flatten_cons, List.flatten_nil, List.append_nil, List.cons_append, List.nil_append]
  after_results
  rfl

theorem host_v20 : V m c main_v20 = shapeCast S8192x1024 (L m c main_arg1) Facts₀.shapeCasts_S1x8192x1024_S8192x1024 := by
  show StableHlo.after _ _ (Proc.devRef .tc main_v20) = _
  simp only [List.flatten_cons, List.flatten_nil, List.append_nil, List.cons_append, List.nil_append]
  after_results
  rfl

theorem host_v21 : V m c main_v21 = shapeCast S3x5632 (L m c main_arg5) Facts₀.shapeCasts_S1x3x5632_S3x5632 := by
  show StableHlo.after _ _ (Proc.devRef .tc main_v21) = _
  simp only [List.flatten_cons, List.flatten_nil, List.append_nil, List.cons_append, List.nil_append]
  after_results
  rfl

theorem host_v22 : V m c main_v22 = broadcastInDim S1x1024 ![1] Facts₀.bcast_S1024_S1x1024_1 (L m c main_arg8) := by
  show StableHlo.after _ _ (Proc.devRef .tc main_v22) = _
  simp only [List.flatten_cons, List.flatten_nil, List.append_nil, List.cons_append, List.nil_append]
  after_results

theorem host_v3 : V m c main_v3 = truncf (F := Ideal) (φ := .f32) .bf16 (transpose S4x1024x1408 [1, 0, 2] (shapeCast S1024x4x1408 (shapeCast S1024x5632 (L m c main_arg9) Facts₀.shapeCasts_S1x1024x5632_S1024x5632) Facts₀.shapeCasts_S1024x5632_S1024x4x1408) Facts₀.transposes_S1024x4x1408_S4x1024x1408_1_0_2) Facts₀.bitsLt_bf16_f32 := by
  show StableHlo.after _ _ (Proc.devRef .tc main_v3) = _
  simp only [List.flatten_cons, List.flatten_nil, List.append_nil, List.cons_append, List.nil_append]
  after_results
  rfl

theorem host_v5 : V m c main_v5 = truncf (F := Ideal) (φ := .f32) .bf16 (shapeCast S2816x1024 (L m c main_arg10) Facts₀.shapeCasts_S1x2816x1024_S2816x1024) Facts₀.bitsLt_bf16_f32 := by
  show StableHlo.after _ _ (Proc.devRef .tc main_v5) = _
  simp only [List.flatten_cons, List.flatten_nil, List.append_nil, List.cons_append, List.nil_append]
  after_results
  rfl

/-- A number at every one of 256 places. -/
abbrev all256 (x : IVec S_ 32) : IVec S256 32 := broadcastInDim S256 ![] Facts₀.bcast_S_S256 x

/-- The token that stands at each row of a tile, as the program computes it: the remainder by 8, times 32, plus the quotient by 8. -/
def order : IVec S256 32 :=
  let i : IVec S256 32 := iotaInDim S256 32 0
  let z : IVec S_ 32 := constantI S_ 32 0#32
  let e : IVec S_ 32 := constantI S_ 32 8#32
  let k : IVec S_ 32 := select (cmpi .eq e z) (constantI S_ 32 1#32) e
  let r := Host.remsi i (all256 k)
  let q := Host.divsi i (all256 e)
  addi
    (muli (select (andi (cmpi .ne (cmpi .slt r (all256 z)) (broadcastInDim S256 ![] Facts₀.bcast_S_S256 (cmpi .slt k z))) (cmpi .ne r (all256 z))) (addi r (all256 k)) r)
      (all256 (constantI S_ 32 32#32)))
    (select (andi (cmpi .ne (signi i) (all256 (signi e))) (cmpi .ne (Host.remsi i (all256 e)) (all256 z))) (subi q (all256 (constantI S_ 32 1#32))) q)

theorem order_apply : ∀ i : Fin 256, order (ix1 i) = BitVec.ofNat 32 (tok i.val) := by decide +kernel

theorem host_v11 : V m c main_v11 = order := by
  simp only [V, List.flatten_cons, List.flatten_nil, List.append_nil, List.cons_append, List.nil_append]
  after_results
  rfl

theorem host_v17 : V m c main_v17 = uitofp (F := Ideal) .bf16 (cmpi .eq
    (broadcastInDim S256x256 ![0, 1] Facts₀.bcast_S256x1_S256x256_0_1 (broadcastInDim S256x1 ![0] Facts₀.bcast_S256_S256x1_0 order))
    (broadcastInDim S256x256 ![0, 1] Facts₀.bcast_S1x256_S256x256_0_1 (broadcastInDim S1x256 ![1] Facts₀.bcast_S256_S1x256_1 (iotaInDim S256 32 0)))) := by
  simp only [V, List.flatten_cons, List.flatten_nil, List.append_nil, List.cons_append, List.nil_append]
  after_results
  rfl

theorem host_v18 : V m c main_v18 = transpose S256x256 [1, 0] (V m c main_v17) Facts₀.transposes_S256x256_S256x256_1_0 := by
  simp only [V, List.flatten_cons, List.flatten_nil, List.append_nil, List.cons_append, List.nil_append]
  after_results

end

end Cert.Ffn.V
-- ==== Proof.Ffn.V.Back.lean ====
/-
  The loss and the backward pass of one tile of the FFN kernel over the reals.
-/
module

public import proofs.«01_k».proof.Proof.Ffn.V.Tile

@[expose] public section

set_option maxRecDepth 16384

noncomputable section

namespace Cert.Ffn.V

open Idealize.ShloMosaic Idealize.ShloMosaic.TcCoe
open Cert.KernelIdeal Cert.KernelIdeal.Facts₀ Cert.KernelIdeal.Facts

variable {I : In} {n : ℕ} {σ : St Ideal} (hn : n < 32) (h : Feeds I n σ)

/-- The parts of the tile by name: what its first part leaves, -/
abbrev P (σ : St Ideal) : Pre Ideal := preOf σ
/-- the down projection, -/
abbrev O (n : ℕ) (σ : St Ideal) : FVec Ideal S256x1024 .f32 := o2 (BitVec.ofNat 32 n) rowNo σ 11 le_rfl
/-- and the buffers after the forward pass. -/
abbrev T1 (n : ℕ) (σ : St Ideal) : St Ideal := fwdAll (BitVec.ofNat 32 n) rowNo σ

section Middle

include hn h

theorem is_ff : Is2 (deinterleave (P σ).pmt (O n σ)) fun t k => I.o (256 * n + t) k :=
  (is_deinterleave (is_prePmt h) (is_o hn h)).congr fun t ht k _ => by rw [tok_rowOf ht]

theorem is_x3 : Is2 (x3Of (P σ) (O n σ) (T1 n σ)) fun t k => I.x3 (256 * n + t) k :=
  (is_preX h).add ((is_rowD (h.gt2.all (inb2 le_rfl le_rfl))).mul (is_ff hn h))

theorem is_n3 : Is2 (scaleRows (x3Of (P σ) (O n σ) (T1 n σ)) (rms (x3Of (P σ) (O n σ) (T1 n σ)))) fun t k => I.n3 (256 * n + t) k := is_norm (is_x3 hn h)

theorem is_fg : Is2 (fgOf (T1 n σ)) fun _ k => I.fg k := (h.fg.all (inb2 le_rfl le_rfl)).cast _

theorem is_diff : Is2 (diffOf (P σ) (O n σ) (T1 n σ)) fun t k => I.diff (256 * n + t) k :=
  ((is_n3 hn h).mul (is_rowD (is_fg hn h))).sub ((h.tgt.all (inb2 le_rfl le_rfl)).cast _)

theorem is_dy : Is2 (dyOf (P σ) (O n σ) (T1 n σ)) fun t k => I.dy (256 * n + t) k := (is_diff hn h).mul (Is2.splat lit_dy)

theorem is_dx3 : Is2 (dx3Of (P σ) (O n σ) (T1 n σ)) fun t k => I.dx3 (256 * n + t) k :=
  is_normGrad ((is_dy hn h).mul (is_rowD (is_fg hn h))) (is_n3 hn h) (is_rms (is_x3 hn h))

theorem is_go : Is2 (gOf (P σ) (O n σ) (T1 n σ)) fun i k => I.go (256 * n + tok i) k :=
  (is_toInter ((h.pm.all (inb2 le_rfl le_rfl)).cast _) ((is_rowD (h.gt2.all (inb2 le_rfl le_rfl))).mul (is_dx3 hn h))).trunc bitsLt_bf16_f32

end Middle

/-- The buffers after the middle of the tile. -/
abbrev T2 (n : ℕ) (σ : St Ideal) : St Ideal := midAll (BitVec.ofNat 32 n) rowNo σ
/-- The gradient at the interleaved down projection. -/
abbrev G (n : ℕ) (σ : St Ideal) : FVec Ideal S256x1024 .bf16 := gOf (P σ) (O n σ) (T1 n σ)

theorem tok_dcv (i j : ℕ) (hn : n < 32) (hi : i < 256) : I.dcv (256 * n + tok i) j = I.dc (256 * n + tok i) j := if_pos (by have := tok_lt hi; omega)

section Backward

include hn h

theorem is_dfAt (q : ℕ) (hq : q < 11) : Is2 (dfAt (G n σ) (T2 n σ) q hq) fun i j => I.df (256 * n + tok i) (256 * q + j) :=
  ((is_go hn h).mmNT (h.wd.window (c := 256) (256 * q) 0 (inb2 (by omega) le_rfl)) _).congr fun i _ j _ =>
    Finset.sum_congr rfl fun k _ => by rw [Nat.zero_add]

theorem is_dAt (k : ℕ) (hk : k < 22) : Is2 (dAt (G n σ) (T2 n σ) k hk) fun i j => I.dcv (256 * n + tok i) (256 * k + j) := by
  unfold dAt
  by_cases h11 : k < 11
  · rw [dif_pos h11]
    refine ((is_dfAt hn h k h11).mul ((is_sil hn h).window 0 (256 * k) (inb2 le_rfl (by omega)))).congr fun i hi j hj => ?_
    rw [tok_dcv i _ hn hi, In.dc, if_pos (by omega), Nat.zero_add]
  · rw [dif_neg h11]
    refine ((is_dfAt hn h (k - 11) (by omega)).mul ((is_vds hn h).window 0 (256 * (k - 11)) (inb2 le_rfl (by omega)))).congr fun i hi j hj => ?_
    rw [tok_dcv i _ hn hi, In.dc, if_neg (by omega), Nat.zero_add, show 256 * k + j - 2816 = 256 * (k - 11) + j by omega,
      show 256 * k + j = 2816 + (256 * (k - 11) + j) by omega]

theorem is_uAt (o : ℕ) (ho : o + 256 ≤ 5632) : Is2 (uAt (T2 n σ) o ho) fun i j => I.u (256 * n + tok i) (o + j) :=
  (((is_u h).window 0 o (inb2 le_rfl ho)).ext _).congr fun i _ j _ => by rw [Nat.zero_add]

variable {t : ℕ} (ht : n = 31 - t) (ht' : t < 32) (hs : Sums I t σ)
include hs ht ht'

theorem is_carryAt (o : ℕ) (ho : o + 256 ≤ 5632) : Is2 (carryAt (T2 n σ) o ho) fun i j => I.dcv (256 * n + 256 + tok i) (o + j) :=
  (hs.carry.window 0 o (inb2 le_rfl ho)).congr fun i _ j _ => by
    rw [Nat.zero_add, show 256 * (32 - t) = 256 * n + 256 by omega]

/-- The gradients of one token after. -/
theorem is_nx1 (k : ℕ) (hk : k < 22) : Is2 (next1 rowNo (carryAt (T2 n σ) (256 * k) (by omega)) (dAt (G n σ) (T2 n σ) k hk))
    fun i j => I.dcv (256 * n + tok i + 1) (256 * k + j) :=
  (is_next1 (is_carryAt hn h ht ht' hs (256 * k) (by omega)) (is_dAt hn h k hk)).congr fun i hi j _ => by
    unfold tok
    split_ifs <;> exact congrArg (fun t => I.dcv t (256 * k + j)) (by omega)

/-- The gradients of two tokens after. -/
theorem is_nx2 (k : ℕ) (hk : k < 22) : Is2 (next2 rowNo (carryAt (T2 n σ) (256 * k) (by omega)) (dAt (G n σ) (T2 n σ) k hk))
    fun i j => I.dcv (256 * n + tok i + 2) (256 * k + j) :=
  (is_next2 (is_carryAt hn h ht ht' hs (256 * k) (by omega)) (is_dAt hn h k hk)).congr fun i hi j _ => by
    unfold tok
    split_ifs <;> exact congrArg (fun t => I.dcv t (256 * k + j)) (by omega)

omit h hs in
/-- One tile more in a sum. -/
theorem sum_more (F : ℕ → ℝ) : after t F + ∑ p ∈ Finset.range 256, F (256 * n + tok p) = after (t + 1) F := by
  rw [after_succ, sum_rows, ht]

omit h hs in
theorem sum_more' (F : ℕ → ℝ) : after t F + ∑ p ∈ Finset.range 256, F (256 * n + p) = after (t + 1) F := by
  rw [after_succ, ht]
  rfl

/-- The buffers after the backward pass of the tile. -/
abbrev T3 (n : ℕ) (σ : St Ideal) : St Ideal := bwdAll (BitVec.ofNat 32 n) rowNo σ

theorem out_dfb : Is2 (a := 1) (b := 5632) (φ := .f32) (T3 n σ .dfb) fun _ j => after (t + 1) fun s => I.dcv s j :=
  is_pasteCols (N := 22) (f := fun _ j => after (t + 1) fun s => I.dcv s j) rfl (fun k => k % 11 < 11) (T2 n σ .dfb)
    (fun k => dfbOf (T2 n σ) (dAt (G n σ) (T2 n σ) k.val k.isLt) (256 * k.val) (off_le k)) (fun k _ => Nat.mod_lt k eleven_pos) fun k =>
    (((hs.dfb.window 0 (256 * k.val) (inb2 le_rfl (off_le k))).cast _).add (is_colSum (is_dAt hn h k.val k.isLt))).congr fun _ _ j _ =>
      sum_more hn ht ht' fun s => I.dcv s (256 * k.val + j)

theorem is_acc (k r : ℕ) (hk : k < 22) (hr : r + 1 ≤ 3) {x : FVec Ideal S256x256 .f32}
    (hx : Is2 x fun i j => I.dcv (256 * n + tok i + (2 - r)) (256 * k + j)) :
    Is2 (accAt (T2 n σ .dfw) r hr (mulf x (uAt (T2 n σ) (256 * k) (by omega))) (256 * k) (by omega))
      fun _ j => after (t + 1) fun s => I.dcv (s + (2 - r)) (256 * k + j) * I.u s (256 * k + j) :=
  (((hs.dfw.windowRow r (256 * k) (inb2 hr (by omega))).cast _).add (is_colSum (hx.mul (is_uAt hn h (256 * k) (by omega))))).congr fun _ _ j _ =>
    sum_more hn ht ht' fun s => I.dcv (s + (2 - r)) (256 * k + j) * I.u s (256 * k + j)

theorem out_dfw : Is2 (a := 3) (b := 5632) (φ := .f32) (T3 n σ .dfw) fun r j => after (t + 1) fun s => I.dcv (s + (2 - r)) j * I.u s j :=
  is_pasteCols (N := 22) (f := fun r j => after (t + 1) fun s => I.dcv (s + (2 - r)) j * I.u s j) rfl (fun k => k % 11 < 11) (T2 n σ .dfw)
    (fun k => dfwOf rowNo (T2 n σ) (dAt (G n σ) (T2 n σ) k.val k.isLt) (256 * k.val) (off_le k)) (fun k _ => Nat.mod_lt k eleven_pos) fun k =>
    is_stack3 (f := fun r j => after (t + 1) fun s => I.dcv (s + (2 - r)) (256 * k.val + j) * I.u s (256 * k.val + j))
      (is_acc hn h ht ht' hs k.val 0 k.isLt (by decide) (is_nx2 hn h ht ht' hs k.val k.isLt))
      (is_acc hn h ht ht' hs k.val 1 k.isLt (by decide) (is_nx1 hn h ht ht' hs k.val k.isLt))
      (is_acc hn h ht ht' hs k.val 2 k.isLt (by decide) (is_dAt hn h k.val k.isLt))

theorem out_carry : Is2 (a := 16) (b := 5632) (φ := .f32) (T3 n σ .carry) fun p j => I.dcv (256 * (32 - (t + 1)) + tok p) j :=
  is_pasteCols (N := 22) (f := fun p j => I.dcv (256 * (32 - (t + 1)) + tok p) j) rfl (fun k => k % 11 < 11) (T2 n σ .carry)
    (fun k => carryOf (dAt (G n σ) (T2 n σ) k.val k.isLt)) (fun k _ => Nat.mod_lt k eleven_pos) fun k =>
    (((is_dAt hn h k.val k.isLt).slice ![0, 0] slices_S256x256_o0_0_S16x256).cast _).congr fun i _ j _ => by
      show I.dcv (256 * n + tok (0 + i)) (256 * k.val + (0 + j)) = _
      rw [Nat.zero_add, Nat.zero_add, show 32 - (t + 1) = n by omega]

theorem out_dus : Is2 (a := 256) (b := 5632) (φ := .bf16) (T3 n σ .dus) fun i j => I.du (256 * n + tok i) j :=
  is_pasteCols (N := 22) (f := fun i j => I.du (256 * n + tok i) j) rfl (fun k => k % 11 < 11) (T2 n σ .dus)
    (fun k => dusOf rowNo (T2 n σ) (dAt (G n σ) (T2 n σ) k.val k.isLt) (256 * k.val) (off_le k)) (fun k _ => Nat.mod_lt k eleven_pos) fun k =>
    (((((Is2.splat lit_zero).add (is_rowMul (is_dAt hn h k.val k.isLt) (h.fw.windowRow 2 (256 * k.val) (inb2 (by decide) (off_le k))))).add
      (is_rowMul (is_nx1 hn h ht ht' hs k.val k.isLt) (h.fw.windowRow 1 (256 * k.val) (inb2 (by decide) (off_le k))))).add
      (is_rowMul (is_nx2 hn h ht ht' hs k.val k.isLt) (h.fw.windowRow 0 (256 * k.val) (inb2 (by decide) (off_le k)))) |>.trunc bitsLt_bf16_f32).cast _).congr fun i _ j _ => by
      rw [zero_add]
      rfl

theorem out_dwd : Is2 (a := 2816) (b := 1024) (φ := .f32) (T3 n σ .dwd) fun j k => after (t + 1) fun s => I.f s j * I.go s k :=
  is_pasteRows (N := 11) (f := fun j k => after (t + 1) fun s => I.f s j * I.go s k) rfl (fun k => k < 11) (T2 n σ .dwd)
    (fun q => dwdOf (G n σ) (T2 n σ) q.val q.isLt) (fun _ hk => hk) fun q =>
    ((hs.dwd.window (c := 256) (256 * q.val) 0 (inb2 (by have := q.isLt; omega) le_rfl)).add (((is_f hn h).window (d := 256) 0 (256 * q.val) (inb2 le_rfl (by have := q.isLt; omega))).mmTN (is_go hn h) _) |>.cast _).congr fun i _ k _ => by
      simp only [Nat.zero_add]
      exact sum_more hn ht ht' fun s => I.f s (256 * q.val + i) * I.go s k

theorem out_du : Is2 (duOf (P σ) (T3 n σ)) fun p j => I.du (256 * n + p) j :=
  ((is_fromInter (is_prePmt h) ((out_dus hn h ht ht' hs).all (inb2 le_rfl le_rfl))).trunc bitsLt_bf16_f32).congr fun p hp j _ => by rw [tok_rowOf hp]

theorem is_dh : Is2 (dhOf (P σ) (T3 n σ)) fun p k => I.dh (256 * n + p) k :=
  (out_du hn h ht ht' hs).mmNT (h.wup.all (inb2 le_rfl le_rfl)) _

theorem is_c : Is2 (cOf (P σ) (T3 n σ)) fun _ k => ∑ p ∈ Finset.range 256, I.dh (256 * n + p) k * I.n (256 * n + p) k :=
  is_colSumD ((is_dh hn h ht ht' hs).mul (is_norm (is_preX h)))

/-- The buffers after the tile. -/
abbrev T4 (n : ℕ) (σ : St Ideal) : St Ideal := tileSt (BitVec.ofNat 32 n) rowNo σ

theorem out_dx2 : Is2 (a := 256) (b := 1024) (φ := .f32) (T4 n σ .dx2) fun p k => I.dx2 (256 * n + p) k :=
  (is_dx3 hn h).add (is_normGrad ((is_dh hn h ht ht' hs).mul (is_rowD (c := fun k => I.gn k * (1 + I.sc k)) ((is_preG h).mul (is_onePlus (c := I.sc) (is_preSc h))))) (is_norm (is_preX h)) (is_rms (is_preX h)))

theorem is_loss : Is2 (a := 1) (b := 128) (φ := .f32) (broadcast S1x128 (lossPart (diffOf (P σ) (O n σ) (T1 n σ))))
    fun _ _ => ∑ p ∈ Finset.range 256, 1 / 2048 * ∑ k ∈ Finset.range 1024, I.diff (256 * n + p) k * I.diff (256 * n + p) k := fun _ =>
  (is_lossPart (is_diff hn h)).trans (congrArg _ (Finset.mul_sum _ _ _))

theorem out_sums : Sums I (t + 1) (T4 n σ) where
  loss := (((hs.loss.all (inb2 le_rfl le_rfl)).cast _).add ((Is2.splat lit_zero).add (is_loss hn h ht ht' hs))).congr fun _ _ _ _ => by
    rw [zero_add]
    exact sum_more' hn ht ht' fun s => 1 / 2048 * ∑ k ∈ Finset.range 1024, I.diff s k * I.diff s k
  dfg := (((hs.dfg.all (inb2 le_rfl le_rfl)).cast _).add (is_colSumD ((is_dy hn h).mul (is_n3 hn h)))).congr fun _ _ k _ => sum_more' hn ht ht' fun s => I.dy s k * I.n3 s k
  dgt2 := (((hs.dgt2.all (inb2 le_rfl le_rfl)).cast _).add (is_colSumD ((is_dx3 hn h).mul (is_ff hn h)))).congr fun _ _ k _ => sum_more' hn ht ht' fun s => I.dx3 s k * I.o s k
  dg2 := (((hs.dg2.all (inb2 le_rfl le_rfl)).cast _).add ((is_c hn h ht ht' hs).mul (is_onePlus (c := I.sc) (is_preSc h)))).congr fun _ _ k _ => by
    rw [← add_mul, sum_more' hn ht ht' fun s => I.dh s k * I.n s k]
  dsc2 := (((hs.dsc2.all (inb2 le_rfl le_rfl)).cast _).add ((is_c hn h ht ht' hs).mul (is_preG h))).congr fun _ _ k _ => by
    rw [← add_mul, sum_more' hn ht ht' fun s => I.dh s k * I.n s k]
  dsh2 := (((hs.dsh2.all (inb2 le_rfl le_rfl)).cast _).add (is_colSumD (is_dh hn h ht ht' hs))).congr fun _ _ k _ => sum_more' hn ht ht' fun s => I.dh s k
  dfb := out_dfb hn h ht ht' hs
  dfw := out_dfw hn h ht ht' hs
  dwd := out_dwd hn h ht ht' hs
  carry := out_carry hn h ht ht' hs

end Backward

end Cert.Ffn.V

end
-- ==== Proof.Ffn.V.Feed.lean ====
/-
  What the tiles read: every window's block at a grid point, as part of the arguments.
-/
module

public import proofs.«01_k».proof.Proof.Ffn.V.Host
public import proofs.«01_k».proof.Proof.Ffn.V.Back

@[expose] public section

set_option maxRecDepth 16384

noncomputable section

namespace Cert.Ffn.V

open Idealize.ShloMosaic Idealize.ShloMosaic.TcCoe Idealize.SL.Sem
open Cert.KernelIdeal Cert.KernelIdeal.Facts₀ Cert.KernelIdeal.Facts Cert.KernelIdeal.Gen

variable (m : (ℓ : Loc nD τ sig) → Buf (Elt Ideal) ℓ) (c : Dev nD)

/-- The launch arrays hold the arguments `I`. -/
structure Holds (I : In) : Prop where
  x : Is3 (n := 1) (a := 8192) (b := 1024) (φ := .f32) (L m c main_arg0) I.x
  tg : Is3 (n := 1) (a := 8192) (b := 1024) (φ := .f32) (L m c main_arg1) I.tg
  gn : Is2 (a := 1) (b := 1024) (φ := .f32) (L m c main_arg2) fun _ k => I.gn k
  sc : Is2 (a := 1) (b := 1024) (φ := .f32) (L m c main_arg3) fun _ k => I.sc k
  sh : Is2 (a := 1) (b := 1024) (φ := .f32) (L m c main_arg4) fun _ k => I.sh k
  fw : Is3 (n := 1) (a := 3) (b := 5632) (φ := .f32) (L m c main_arg5) I.fw
  fb : Is2 (a := 1) (b := 5632) (φ := .f32) (L m c main_arg6) fun _ j => I.fb j
  gt : Is2 (a := 1) (b := 1024) (φ := .f32) (L m c main_arg7) fun _ k => I.gt k
  fg : Is1 (a := 1024) (φ := .f32) (L m c main_arg8) I.fg
  wup : Is3 (n := 1) (a := 1024) (b := 5632) (φ := .f32) (L m c main_arg9) I.wup
  wd : Is3 (n := 1) (a := 2816) (b := 1024) (φ := .f32) (L m c main_arg10) I.wd

section Casts

variable {φ : FTy} {a b : ℕ} {f : ℕ → ℕ → ℝ}

/-- A leading axis of size one dropped. -/
theorem Is3.drop {A : FVec Ideal ⟨3, ![1, a, b]⟩ φ} (h : Is3 A f) (hc) : Is2 (shapeCast ⟨2, ![a, b]⟩ A hc) f := fun y => by
  refine (shapeCast_apply A hc y (ix3 (0 : Fin 1) (y 0 : Fin a) (y 1 : Fin b)) ?_).trans (h _)
  rw [Shape.rowMajor_val_three, Shape.rowMajor_val_two]
  show (0 * a + (y 0).val) * b + (y 1).val = (y 0).val * b + (y 1).val
  rw [Nat.zero_mul, Nat.zero_add]

end Casts

theorem coords_val : ∀ t : Fin cfg0.N, tileNo (grid0.coords t) = BitVec.ofNat 32 (31 - t.val) := by decide +kernel

theorem index0 : ∀ t : Fin cfg0.N, cc0_transform_0 (grid0.coords t) = ![31 - t.val, 0] := by decide +kernel

theorem index1 : ∀ t : Fin cfg0.N, cc0_transform_1 (grid0.coords t) = ![if t.val = 31 then 0 else 32 * (31 - t.val) - 1, 0] := by decide +kernel

theorem index2 : ∀ t : Fin cfg0.N, cc0_transform_2 (grid0.coords t) = ![31 - t.val, 0] := by decide +kernel

variable {m c} {I : In} (H : Holds m c I) (t : Fin cfg0.N)
include H

theorem feed_x2 : Is2 (a := 256) (b := 1024) (φ := .f32) (iblk m c 0 t) fun p k => I.x (256 * (31 - t.val) + p) k := fun y => by
  show V m c main_v19 (((cfg0.win 0).blk t).view.emb y) = _
  rw [host_v19]
  refine ((H.x).drop _ _).trans (congrArg _ (congrArg₂ I.x ?_ ?_))
  · refine ((cfg0.win 0).rect_emb_val t y 0).trans ?_
    show cc0_transform_0 (grid0.coords t) 0 * 256 + (y 0).val = _
    rw [index0]
    exact congrArg (· + (y 0).val) (Nat.mul_comm _ 256)
  · refine ((cfg0.win 0).rect_emb_val t y 1).trans ?_
    show cc0_transform_0 (grid0.coords t) 1 * 1024 + (y 1).val = _
    rw [index0]
    exact (congrArg (· + (y 1).val) (Nat.zero_mul 1024)).trans (Nat.zero_add _)

theorem feed_tgt : Is2 (a := 256) (b := 1024) (φ := .f32) (iblk m c 2 t) fun p k => I.tg (256 * (31 - t.val) + p) k := fun y => by
  show V m c main_v20 (((cfg0.win 2).blk t).view.emb y) = _
  rw [host_v20]
  refine ((H.tg).drop _ _).trans (congrArg _ (congrArg₂ I.tg ?_ ?_))
  · refine ((cfg0.win 2).rect_emb_val t y 0).trans ?_
    show cc0_transform_2 (grid0.coords t) 0 * 256 + (y 0).val = _
    rw [index2]
    exact congrArg (· + (y 0).val) (Nat.mul_comm _ 256)
  · refine ((cfg0.win 2).rect_emb_val t y 1).trans ?_
    show cc0_transform_2 (grid0.coords t) 1 * 1024 + (y 1).val = _
    rw [index2]
    exact (congrArg (· + (y 1).val) (Nat.zero_mul 1024)).trans (Nat.zero_add _)

theorem feed_halo : Is2 (a := 8) (b := 1024) (φ := .f32) (iblk m c 1 t) fun p k => I.x (hrow (31 - t.val) p) k := fun y => by
  show V m c main_v19 (((cfg0.win 1).blk t).view.emb y) = _
  rw [host_v19]
  refine ((H.x).drop _ _).trans (congrArg _ (congrArg₂ I.x ?_ ?_))
  · refine ((cfg0.win 1).rect_emb_val t y 0).trans ?_
    show cc0_transform_1 (grid0.coords t) 0 * 8 + (y 0).val = _
    rw [index1]
    have ht : t.val < 32 := lt_of_lt_of_eq t.isLt N_0
    show (if t.val = 31 then 0 else 32 * (31 - t.val) - 1) * 8 + (y 0).val = hrow (31 - t.val) (y 0).val
    unfold hrow
    split <;> split <;> omega
  · refine ((cfg0.win 1).rect_emb_val t y 1).trans ?_
    show cc0_transform_1 (grid0.coords t) 1 * 1024 + (y 1).val = _
    rw [index1]
    exact (congrArg (· + (y 1).val) (Nat.zero_mul 1024)).trans (Nat.zero_add _)

theorem feed_g2 : Is2 (a := 1) (b := 1024) (φ := .f32) (iblk m c 3 t) fun _ k => I.gn k := fun y => by
  have e : ((cfg0.win 3).blk t).view.emb y = y :=
    funext fun a => match a with
      | 0 => Fin.ext ((cfg0.win 3).rect_emb_val_of_index_zero t 0 rfl y)
      | 1 => Fin.ext ((cfg0.win 3).rect_emb_val_of_index_zero t 1 rfl y)
  exact (congrArg (V m c main_arg2) e).trans ((congrFun (V_main_arg2 m c) y).trans (H.gn y))

theorem feed_sc2 : Is2 (a := 1) (b := 1024) (φ := .f32) (iblk m c 4 t) fun _ k => I.sc k := fun y => by
  have e : ((cfg0.win 4).blk t).view.emb y = y :=
    funext fun a => match a with
      | 0 => Fin.ext ((cfg0.win 4).rect_emb_val_of_index_zero t 0 rfl y)
      | 1 => Fin.ext ((cfg0.win 4).rect_emb_val_of_index_zero t 1 rfl y)
  exact (congrArg (V m c main_arg3) e).trans ((congrFun (V_main_arg3 m c) y).trans (H.sc y))

theorem feed_sh2 : Is2 (a := 1) (b := 1024) (φ := .f32) (iblk m c 5 t) fun _ k => I.sh k := fun y => by
  have e : ((cfg0.win 5).blk t).view.emb y = y :=
    funext fun a => match a with
      | 0 => Fin.ext ((cfg0.win 5).rect_emb_val_of_index_zero t 0 rfl y)
      | 1 => Fin.ext ((cfg0.win 5).rect_emb_val_of_index_zero t 1 rfl y)
  exact (congrArg (V m c main_arg4) e).trans ((congrFun (V_main_arg4 m c) y).trans (H.sh y))

theorem feed_fb : Is2 (a := 1) (b := 5632) (φ := .f32) (iblk m c 7 t) fun _ k => I.fb k := fun y => by
  have e : ((cfg0.win 7).blk t).view.emb y = y :=
    funext fun a => match a with
      | 0 => Fin.ext ((cfg0.win 7).rect_emb_val_of_index_zero t 0 rfl y)
      | 1 => Fin.ext ((cfg0.win 7).rect_emb_val_of_index_zero t 1 rfl y)
  exact (congrArg (V m c main_arg6) e).trans ((congrFun (V_main_arg6 m c) y).trans (H.fb y))

theorem feed_gt2 : Is2 (a := 1) (b := 1024) (φ := .f32) (iblk m c 8 t) fun _ k => I.gt k := fun y => by
  have e : ((cfg0.win 8).blk t).view.emb y = y :=
    funext fun a => match a with
      | 0 => Fin.ext ((cfg0.win 8).rect_emb_val_of_index_zero t 0 rfl y)
      | 1 => Fin.ext ((cfg0.win 8).rect_emb_val_of_index_zero t 1 rfl y)
  exact (congrArg (V m c main_arg7) e).trans ((congrFun (V_main_arg7 m c) y).trans (H.gt y))

theorem feed_fw : Is2 (a := 3) (b := 5632) (φ := .f32) (iblk m c 6 t) I.fw := fun y => by
  have e : ((cfg0.win 6).blk t).view.emb y = y :=
    funext fun a => match a with
      | 0 => Fin.ext ((cfg0.win 6).rect_emb_val_of_index_zero t 0 rfl y)
      | 1 => Fin.ext ((cfg0.win 6).rect_emb_val_of_index_zero t 1 rfl y)
  exact (congrArg (V m c main_v21) e).trans ((congrFun (host_v21 m c) y).trans (H.fw.drop _ y))

theorem feed_fg : Is2 (a := 1) (b := 1024) (φ := .f32) (iblk m c 9 t) fun _ k => I.fg k := fun y => by
  have e : ((cfg0.win 9).blk t).view.emb y = y :=
    funext fun a => match a with
      | 0 => Fin.ext ((cfg0.win 9).rect_emb_val_of_index_zero t 0 rfl y)
      | 1 => Fin.ext ((cfg0.win 9).rect_emb_val_of_index_zero t 1 rfl y)
  exact (congrArg (V m c main_v22) e).trans ((congrFun (host_v22 m c) y).trans ((broadcastInDim_apply ![1] _ _ y (ix1 (y 1 : Fin 1024)) (by intro a; match a with | ⟨0, _⟩ => rfl)).trans (H.fg _)))

end Cert.Ffn.V
-- ==== Proof.Ffn.V.Fold.lean ====
/-
  The launch's points one after the other: after every point the accumulators hold the sums over the tiles done, in
  terms of the arguments.
-/
module

public import proofs.«01_k».proof.Proof.Ffn.V.Feed

@[expose] public section

set_option maxRecDepth 16384

noncomputable section

namespace Cert.Ffn.V

open Idealize.ShloMosaic Idealize.ShloMosaic.TcCoe Idealize.SL.Sem
open Cert.KernelIdeal Cert.KernelIdeal.Facts₀ Cert.KernelIdeal.Facts Cert.KernelIdeal.Gen

variable {m : (ℓ : Loc nD τ sig) → Buf (Elt Ideal) ℓ} {c : Dev nD}

/-! ### The permutations -/

theorem bit_real (b : Prop) [Decidable b] : (((BitVec.ofBool (decide b)).toNat : ℝ) : EReal) = ((if b then 1 else 0 : ℝ) : EReal) := by
  by_cases h : b <;> simp [h]

theorem is_match (o q : IVec S256 32) (ho : ∀ i : Fin 256, o (ix1 i) = BitVec.ofNat 32 (tok i.val)) (hq : ∀ i : Fin 256, q (ix1 i) = BitVec.ofNat 32 i.val) :
    Is2 (a := 256) (b := 256) (φ := .bf16) (uitofp (F := Ideal) .bf16 (cmpi .eq
      (broadcastInDim S256x256 ![0, 1] Facts₀.bcast_S256x1_S256x256_0_1 (broadcastInDim S256x1 ![0] Facts₀.bcast_S256_S256x1_0 o))
      (broadcastInDim S256x256 ![0, 1] Facts₀.bcast_S1x256_S256x256_0_1 (broadcastInDim S1x256 ![1] Facts₀.bcast_S256_S1x256_1 q)))) perm := fun y => by
  have h0 : (y 0).val < 256 := (y 0).isLt
  have h1 : (y 1).val < 256 := (y 1).isLt
  have ht := tok_lt h0
  have hl : broadcastInDim S256x256 ![0, 1] Facts₀.bcast_S256x1_S256x256_0_1 (broadcastInDim S256x1 ![0] Facts₀.bcast_S256_S256x1_0 o) y = BitVec.ofNat 32 (tok (y 0).val) :=
    (broadcastInDim_apply ![0, 1] _ _ y (ix2 (y 0 : Fin 256) (0 : Fin 1)) (by intro a; match a with | ⟨0, _⟩ => rfl | ⟨1, _⟩ => rfl)).trans
      ((broadcastInDim_apply ![0] _ _ _ (ix1 (y 0 : Fin 256)) (by intro a; match a with | ⟨0, _⟩ => rfl)).trans (ho _))
  have hr : broadcastInDim S256x256 ![0, 1] Facts₀.bcast_S1x256_S256x256_0_1 (broadcastInDim S1x256 ![1] Facts₀.bcast_S256_S1x256_1 q) y = BitVec.ofNat 32 (y 1).val :=
    (broadcastInDim_apply ![0, 1] _ _ y (ix2 (0 : Fin 1) (y 1 : Fin 256)) (by intro a; match a with | ⟨0, _⟩ => rfl | ⟨1, _⟩ => rfl)).trans
      ((broadcastInDim_apply ![1] _ _ _ (ix1 (y 1 : Fin 256)) (by intro a; match a with | ⟨0, _⟩ => rfl)).trans (hq _))
  show (((Scalar.cmpi .eq _ _).toNat : ℝ) : EReal) = _
  rw [hl, hr]
  refine (bit_real (BitVec.ofNat 32 (tok (y 0).val) = BitVec.ofNat 32 (y 1).val)).trans (congrArg _ ?_)
  unfold perm
  refine if_congr ⟨fun h => ?_, fun h => by rw [h]⟩ rfl rfl
  have := congrArg BitVec.toNat h
  simp only [BitVec.toNat_ofNat] at this
  omega

theorem is_v17 : Is2 (a := 256) (b := 256) (φ := .bf16) (V m c main_v17) perm := by
  rw [host_v17]
  exact is_match order (iotaInDim S256 32 0) order_apply fun _ => rfl

theorem is_v18 : Is2 (a := 256) (b := 256) (φ := .bf16) (V m c main_v18) permT := fun y =>
  (congrFun (host_v18 m c) y).trans ((transpose_apply _ _ _ y (ix2 (y 1 : Fin 256) (y 0 : Fin 256)) (by intro a; match a with | ⟨0, _⟩ => rfl | ⟨1, _⟩ => rfl)).trans (is_v17 _))

section Feeds

variable {I : In} (H : Holds m c I) (t : Fin cfg0.N)

theorem feed_pm : Is2 (a := 256) (b := 256) (φ := .bf16) (iblk m c 10 t) perm := fun y => by
  have e : ((cfg0.win 10).blk t).view.emb y = y :=
    funext fun a => match a with
      | 0 => Fin.ext ((cfg0.win 10).rect_emb_val_of_index_zero t 0 rfl y)
      | 1 => Fin.ext ((cfg0.win 10).rect_emb_val_of_index_zero t 1 rfl y)
  exact (congrArg (V m c main_v17) e).trans (is_v17 y)

theorem feed_pmt : Is2 (a := 256) (b := 256) (φ := .bf16) (iblk m c 11 t) permT := fun y => by
  have e : ((cfg0.win 11).blk t).view.emb y = y :=
    funext fun a => match a with
      | 0 => Fin.ext ((cfg0.win 11).rect_emb_val_of_index_zero t 0 rfl y)
      | 1 => Fin.ext ((cfg0.win 11).rect_emb_val_of_index_zero t 1 rfl y)
  exact (congrArg (V m c main_v18) e).trans (is_v18 y)

include H

theorem feed_wd : Is2 (a := 2816) (b := 1024) (φ := .bf16) (hDown.view.read (Elt Ideal) (V m c main_v5)) I.wd := fun y =>
  (congrFun (host_v5 m c) y).trans (H.wd.drop _ y)

theorem feed_wup : Is2 (a := 1024) (b := 5632) (φ := .bf16) (chunks (hUp.view.read (Elt Ideal) (V m c main_v3))) I.wup := fun y => by
  have h1 : (y 1).val < 5632 := (y 1).isLt
  refine (congrFun (host_v3 m c) _).trans ?_
  show transpose S4x1024x1408 [1, 0, 2] (shapeCast S1024x4x1408 (shapeCast S1024x5632 (L m c main_arg9) Facts₀.shapeCasts_S1x1024x5632_S1024x5632) Facts₀.shapeCasts_S1024x5632_S1024x4x1408)
    Facts₀.transposes_S1024x4x1408_S4x1024x1408_1_0_2 _ = _
  refine (transpose_apply [1, 0, 2] _ _ _ (ix3 (y 0 : Fin 1024) (⟨(y 1).val / 1408, by omega⟩ : Fin 4) (⟨(y 1).val % 1408, Nat.mod_lt _ (by decide)⟩ : Fin 1408))
    (by intro a; match a with | ⟨0, _⟩ => rfl | ⟨1, _⟩ => rfl | ⟨2, _⟩ => rfl)).trans ?_
  refine (shapeCast_apply _ _ _ (ix2 (y 0 : Fin 1024) (y 1 : Fin 5632)) ?_).trans (H.wup.drop _ y)
  refine (Shape.rowMajor_val_two _).trans (Eq.trans ?_ (Shape.rowMajor_val_three _).symm)
  show (y 0).val * 5632 + (y 1).val = ((y 0).val * 4 + (y 1).val / 1408) * 1408 + (y 1).val % 1408
  omega

/-- At a point the buffers hold the arguments' tile. -/
theorem feeds (σ : St Ideal) : Feeds I (31 - t.val) (put m c t σ) where
  x2 := feed_x2 H t
  halo := feed_halo H t
  tgt := feed_tgt H t
  g2 := feed_g2 H t
  sc2 := feed_sc2 H t
  sh2 := feed_sh2 H t
  fw := feed_fw H t
  fb := feed_fb H t
  gt2 := feed_gt2 H t
  fg := feed_fg H t
  pm := feed_pm t
  pmt := feed_pmt t
  wup := feed_wup H
  wd := feed_wd H

end Feeds

theorem Sums.put {I : In} {n : ℕ} {σ : St Ideal} (h : Sums I n σ) (t : Fin cfg0.N) : Sums I n (put m c t σ) where
  loss := h.loss
  dfg := h.dfg
  dgt2 := h.dgt2
  dg2 := h.dg2
  dsc2 := h.dsc2
  dsh2 := h.dsh2
  dfb := h.dfb
  dfw := h.dfw
  dwd := h.dwd
  carry := h.carry

/-- Before the first point everything is zero. -/
theorem sums_zero (I : In) (σ : St Ideal) : Sums I 0 (zeroSt σ) where
  loss := (Is2.splat lit_zero).congr fun _ _ _ _ => (after_zero _).symm
  dfg := (Is2.splat lit_zero).congr fun _ _ _ _ => (after_zero _).symm
  dgt2 := (Is2.splat lit_zero).congr fun _ _ _ _ => (after_zero _).symm
  dg2 := (Is2.splat lit_zero).congr fun _ _ _ _ => by rw [after_zero, zero_mul]
  dsc2 := (Is2.splat lit_zero).congr fun _ _ _ _ => by rw [after_zero, zero_mul]
  dsh2 := (Is2.splat lit_zero).congr fun _ _ _ _ => (after_zero _).symm
  dfb := (Is2.splat lit_zero).congr fun _ _ _ _ => (after_zero _).symm
  dfw := (Is2.splat lit_zero).congr fun _ _ _ _ => (after_zero _).symm
  dwd := ((Is2.splat lit_zero).cast _).congr fun _ _ _ _ => (after_zero _).symm
  carry := ((Is2.splat lit_zero).cast _).congr fun p _ j _ => (if_neg (by show ¬ (256 * (32 - 0) + tok p < 8192); omega)).symm

section Run

variable {I : In} (H : Holds m c I)
include H

theorem step_sums (t : Fin cfg0.N) (σ : St Ideal) (h : Sums I t.val σ) : Sums I (t.val + 1) (stepSt m c t σ) := by
  have ht : t.val < 32 := lt_of_lt_of_eq t.isLt N_0
  unfold stepSt
  rw [tileSt_clean, coords_val]
  exact out_sums (n := 31 - t.val) (by omega) (feeds H t σ) rfl ht (h.put t)

theorem sums_in : ∀ n : ℕ, n ≤ 32 → Sums I n (stIn m c n)
  | 0, _ => sums_zero I junk
  | n + 1, hn => by
    have e : (pt n).val = n := Nat.mod_eq_of_lt (by omega)
    have := step_sums H (pt n) (stIn m c n) (by rw [e]; exact sums_in n (by omega))
    rw [e] at this
    exact this

/-- After a point the accumulators hold the sums over the tiles done. -/
theorem sums_out (t : Fin cfg0.N) : Sums I (t.val + 1) (stOut m c t) :=
  step_sums H t _ (sums_in H t.val (lt_of_lt_of_eq t.isLt N_0).le)

/-- The gradient at the up projection's output, tile by tile. -/
theorem du_out (t : Fin cfg0.N) : Is2 (a := 256) (b := 5632) (φ := .bf16) (stOut m c t .du) fun p j => I.du (256 * (31 - t.val) + p) j := by
  have ht : t.val < 32 := lt_of_lt_of_eq t.isLt N_0
  unfold stOut stepSt
  rw [tileSt_clean, coords_val]
  exact out_du (n := 31 - t.val) (by omega) (feeds H t _) rfl ht ((sums_in H t.val ht.le).put t)

/-- The gradient at the sublayer's input, tile by tile. -/
theorem dx2_out (t : Fin cfg0.N) : Is2 (a := 256) (b := 1024) (φ := .f32) (stOut m c t .dx2) fun p k => I.dx2 (256 * (31 - t.val) + p) k := by
  have ht : t.val < 32 := lt_of_lt_of_eq t.isLt N_0
  unfold stOut stepSt
  rw [tileSt_clean, coords_val]
  exact out_dx2 (n := 31 - t.val) (by omega) (feeds H t _) rfl ht ((sums_in H t.val ht.le).put t)

end Run

end Cert.Ffn.V
-- ==== Proof.Ffn.V.Out.lean ====
/-
  The results of the launch, in terms of the arguments.
-/
module

public import proofs.«01_k».proof.Proof.Ffn.V.Fold
public import proofs.«01_k».proof.Proof.Ffn.Data
public import Idealize.ShloMosaic.Lib.Pipeline.ValueKit.Geometry

@[expose] public section

set_option maxRecDepth 16384

noncomputable section

namespace Cert.Ffn.V

open Idealize.ShloMosaic Idealize.ShloMosaic.TcCoe Idealize.SL.Sem
open Cert.KernelIdeal Cert.KernelIdeal.Facts₀ Cert.KernelIdeal.Facts Cert.KernelIdeal.Gen

/-! ### The results -/

namespace In

variable (I : In)

/-- The gradient of the convolution's taps. -/
def dfw (r j : ℕ) : ℝ := ∑ t ∈ Finset.range 8192, I.dcv (t + (2 - r)) j * I.u t j
/-- The gradient of the convolution's bias. -/
def dfb (j : ℕ) : ℝ := ∑ t ∈ Finset.range 8192, I.dcv t j
/-- The gradient of the final norm's gain. -/
def dfg (k : ℕ) : ℝ := ∑ t ∈ Finset.range 8192, I.dy t k * I.n3 t k
/-- The gradient of the residual's gate. -/
def dgt (k : ℕ) : ℝ := ∑ t ∈ Finset.range 8192, I.dx3 t k * I.o t k
/-- The sum over the tokens that the gradients of the first norm's gain and of the scale share. -/
def dhn (k : ℕ) : ℝ := ∑ t ∈ Finset.range 8192, I.dh t k * I.n t k
/-- The gradient of the shift. -/
def dsh (k : ℕ) : ℝ := ∑ t ∈ Finset.range 8192, I.dh t k
/-- The loss. -/
def loss : ℝ := ∑ t ∈ Finset.range 8192, 1 / 2048 * ∑ k ∈ Finset.range 1024, I.diff t k * I.diff t k
/-- The gradient of the down projection's weight. -/
def dwd (j k : ℕ) : ℝ := ∑ t ∈ Finset.range 8192, I.f t j * I.go t k

end In

variable {m : (ℓ : Loc nD τ sig) → Buf (Elt Ideal) ℓ} {c : Dev nD} {I : In} (H : Holds m c I)
include H

theorem last_sums : Sums I 32 (stOut m c lastPt) := sums_out H lastPt

omit H in
theorem index_du : ∀ t : Fin cfg0.N, cc0_transform_14 (grid0.coords t) = ![31 - t.val, 0] := by decide +kernel

theorem final_du : Is2 (a := 8192) (b := 5632) (φ := .bf16) ((dats m 0 c).arrAt 12 (cfgs 0).N) I.du := by
  have e : (dats m 0 c).arrAt 12 cfg0.N = fun y : S8192x5632.Idx => ((I.du (y 0).val (y 1).val : ℝ) : EReal) := by
    refine (dats m 0 c).arrAt_eq_of_covers 12 _ (by decide +kernel) fun t _ y => ?_
    refine (congrFun (left_du m c t) y).trans ((du_out H t y).trans (congrArg _ (congrArg₂ I.du ?_ ?_)))
    · refine Eq.trans ?_ ((cfg0.win 12).rect_emb_val t y 0).symm
      show 256 * (31 - t.val) + (y 0).val = cc0_transform_14 (grid0.coords t) 0 * 256 + (y 0).val
      rw [index_du]
      exact congrArg (· + (y 0).val) (Nat.mul_comm 256 _)
    · refine Eq.trans ?_ ((cfg0.win 12).rect_emb_val t y 1).symm
      show (y 1).val = cc0_transform_14 (grid0.coords t) 1 * 5632 + (y 1).val
      rw [index_du]
      exact ((congrArg (· + (y 1).val) (Nat.zero_mul 5632)).trans (Nat.zero_add _)).symm
  exact fun y => congrFun e y

omit H in
theorem index_dx2 : ∀ t : Fin cfg0.N, cc0_transform_15 (grid0.coords t) = ![31 - t.val, 0] := by decide +kernel

theorem final_dx2 : Is2 (a := 8192) (b := 1024) (φ := .f32) ((dats m 0 c).arrAt 13 (cfgs 0).N) I.dx2 := by
  have e : (dats m 0 c).arrAt 13 cfg0.N = fun y : S8192x1024.Idx => ((I.dx2 (y 0).val (y 1).val : ℝ) : EReal) := by
    refine (dats m 0 c).arrAt_eq_of_covers 13 _ (by decide +kernel) fun t _ y => ?_
    refine (congrFun (left_dx2 m c t) y).trans ((dx2_out H t y).trans (congrArg _ (congrArg₂ I.dx2 ?_ ?_)))
    · refine Eq.trans ?_ ((cfg0.win 13).rect_emb_val t y 0).symm
      show 256 * (31 - t.val) + (y 0).val = cc0_transform_15 (grid0.coords t) 0 * 256 + (y 0).val
      rw [index_dx2]
      exact congrArg (· + (y 0).val) (Nat.mul_comm 256 _)
    · refine Eq.trans ?_ ((cfg0.win 13).rect_emb_val t y 1).symm
      show (y 1).val = cc0_transform_15 (grid0.coords t) 1 * 1024 + (y 1).val
      rw [index_dx2]
      exact ((congrArg (· + (y 1).val) (Nat.zero_mul 1024)).trans (Nat.zero_add _)).symm
  exact fun y => congrFun e y

theorem final_dfw : Is2 (a := 3) (b := 5632) (φ := .f32) ((dats m 0 c).arrAt 14 (cfgs 0).N) fun r j => I.dfw r j := by
  have e : (dats m 0 c).arrAt 14 cfg0.N = stOut m c lastPt .dfw := by
    refine (dats m 0 c).arrAt_eq_of_covers 14 _ (by decide +kernel) fun t ht y => ?_
    have ht' : t.val % 32 = 31 := (flush0_14 t).mp ht
    have hN : t.val < 32 := lt_of_lt_of_eq t.isLt N_0
    have hl : t = lastPt := Fin.ext (by show t.val = 31; omega)
    have ey : ((cfg0.win 14).blk t).view.emb y = y :=
      funext fun a => match a with
        | 0 => Fin.ext ((cfg0.win 14).rect_emb_val_of_index_zero t 0 rfl y)
        | 1 => Fin.ext ((cfg0.win 14).rect_emb_val_of_index_zero t 1 rfl y)
    refine (congrFun (left_dfw m c t) y).trans ?_
    rw [hl]
    exact (congrArg (stOut m c lastPt .dfw) (hl ▸ ey)).symm
  rw [show (cfgs 0).N = cfg0.N from rfl, e]
  exact (last_sums H).dfw.congr fun _ _ _ _ => after_all _

theorem final_dfb : Is2 (a := 1) (b := 5632) (φ := .f32) ((dats m 0 c).arrAt 15 (cfgs 0).N) fun _ j => I.dfb j := by
  have e : (dats m 0 c).arrAt 15 cfg0.N = stOut m c lastPt .dfb := by
    refine (dats m 0 c).arrAt_eq_of_covers 15 _ (by decide +kernel) fun t ht y => ?_
    have ht' : t.val % 32 = 31 := (flush0_15 t).mp ht
    have hN : t.val < 32 := lt_of_lt_of_eq t.isLt N_0
    have hl : t = lastPt := Fin.ext (by show t.val = 31; omega)
    have ey : ((cfg0.win 15).blk t).view.emb y = y :=
      funext fun a => match a with
        | 0 => Fin.ext ((cfg0.win 15).rect_emb_val_of_index_zero t 0 rfl y)
        | 1 => Fin.ext ((cfg0.win 15).rect_emb_val_of_index_zero t 1 rfl y)
    refine (congrFun (left_dfb m c t) y).trans ?_
    rw [hl]
    exact (congrArg (stOut m c lastPt .dfb) (hl ▸ ey)).symm
  rw [show (cfgs 0).N = cfg0.N from rfl, e]
  exact (last_sums H).dfb.congr fun _ _ _ _ => after_all _

theorem final_dfg : Is2 (a := 1) (b := 1024) (φ := .f32) ((dats m 0 c).arrAt 16 (cfgs 0).N) fun _ k => I.dfg k := by
  have e : (dats m 0 c).arrAt 16 cfg0.N = stOut m c lastPt .dfg := by
    refine (dats m 0 c).arrAt_eq_of_covers 16 _ (by decide +kernel) fun t ht y => ?_
    have ht' : t.val % 32 = 31 := (flush0_16 t).mp ht
    have hN : t.val < 32 := lt_of_lt_of_eq t.isLt N_0
    have hl : t = lastPt := Fin.ext (by show t.val = 31; omega)
    have ey : ((cfg0.win 16).blk t).view.emb y = y :=
      funext fun a => match a with
        | 0 => Fin.ext ((cfg0.win 16).rect_emb_val_of_index_zero t 0 rfl y)
        | 1 => Fin.ext ((cfg0.win 16).rect_emb_val_of_index_zero t 1 rfl y)
    refine (congrFun (left_dfg m c t) y).trans ?_
    rw [hl]
    exact (congrArg (stOut m c lastPt .dfg) (hl ▸ ey)).symm
  rw [show (cfgs 0).N = cfg0.N from rfl, e]
  exact (last_sums H).dfg.congr fun _ _ _ _ => after_all _

theorem final_dgt : Is2 (a := 1) (b := 1024) (φ := .f32) ((dats m 0 c).arrAt 17 (cfgs 0).N) fun _ k => I.dgt k := by
  have e : (dats m 0 c).arrAt 17 cfg0.N = stOut m c lastPt .dgt2 := by
    refine (dats m 0 c).arrAt_eq_of_covers 17 _ (by decide +kernel) fun t ht y => ?_
    have ht' : t.val % 32 = 31 := (flush0_17 t).mp ht
    have hN : t.val < 32 := lt_of_lt_of_eq t.isLt N_0
    have hl : t = lastPt := Fin.ext (by show t.val = 31; omega)
    have ey : ((cfg0.win 17).blk t).view.emb y = y :=
      funext fun a => match a with
        | 0 => Fin.ext ((cfg0.win 17).rect_emb_val_of_index_zero t 0 rfl y)
        | 1 => Fin.ext ((cfg0.win 17).rect_emb_val_of_index_zero t 1 rfl y)
    refine (congrFun (left_dgt2 m c t) y).trans ?_
    rw [hl]
    exact (congrArg (stOut m c lastPt .dgt2) (hl ▸ ey)).symm
  rw [show (cfgs 0).N = cfg0.N from rfl, e]
  exact (last_sums H).dgt2.congr fun _ _ _ _ => after_all _

theorem final_dgn : Is2 (a := 1) (b := 1024) (φ := .f32) ((dats m 0 c).arrAt 18 (cfgs 0).N) fun _ k => I.dhn k * (1 + I.sc k) := by
  have e : (dats m 0 c).arrAt 18 cfg0.N = stOut m c lastPt .dg2 := by
    refine (dats m 0 c).arrAt_eq_of_covers 18 _ (by decide +kernel) fun t ht y => ?_
    have ht' : t.val % 32 = 31 := (flush0_18 t).mp ht
    have hN : t.val < 32 := lt_of_lt_of_eq t.isLt N_0
    have hl : t = lastPt := Fin.ext (by show t.val = 31; omega)
    have ey : ((cfg0.win 18).blk t).view.emb y = y :=
      funext fun a => match a with
        | 0 => Fin.ext ((cfg0.win 18).rect_emb_val_of_index_zero t 0 rfl y)
        | 1 => Fin.ext ((cfg0.win 18).rect_emb_val_of_index_zero t 1 rfl y)
    refine (congrFun (left_dg2 m c t) y).trans ?_
    rw [hl]
    exact (congrArg (stOut m c lastPt .dg2) (hl ▸ ey)).symm
  rw [show (cfgs 0).N = cfg0.N from rfl, e]
  exact (last_sums H).dg2.congr fun _ _ _ _ => congrArg (· * _) (after_all _)

theorem final_dsc : Is2 (a := 1) (b := 1024) (φ := .f32) ((dats m 0 c).arrAt 19 (cfgs 0).N) fun _ k => I.dhn k * I.gn k := by
  have e : (dats m 0 c).arrAt 19 cfg0.N = stOut m c lastPt .dsc2 := by
    refine (dats m 0 c).arrAt_eq_of_covers 19 _ (by decide +kernel) fun t ht y => ?_
    have ht' : t.val % 32 = 31 := (flush0_19 t).mp ht
    have hN : t.val < 32 := lt_of_lt_of_eq t.isLt N_0
    have hl : t = lastPt := Fin.ext (by show t.val = 31; omega)
    have ey : ((cfg0.win 19).blk t).view.emb y = y :=
      funext fun a => match a with
        | 0 => Fin.ext ((cfg0.win 19).rect_emb_val_of_index_zero t 0 rfl y)
        | 1 => Fin.ext ((cfg0.win 19).rect_emb_val_of_index_zero t 1 rfl y)
    refine (congrFun (left_dsc2 m c t) y).trans ?_
    rw [hl]
    exact (congrArg (stOut m c lastPt .dsc2) (hl ▸ ey)).symm
  rw [show (cfgs 0).N = cfg0.N from rfl, e]
  exact (last_sums H).dsc2.congr fun _ _ _ _ => congrArg (· * _) (after_all _)

theorem final_dsh : Is2 (a := 1) (b := 1024) (φ := .f32) ((dats m 0 c).arrAt 20 (cfgs 0).N) fun _ k => I.dsh k := by
  have e : (dats m 0 c).arrAt 20 cfg0.N = stOut m c lastPt .dsh2 := by
    refine (dats m 0 c).arrAt_eq_of_covers 20 _ (by decide +kernel) fun t ht y => ?_
    have ht' : t.val % 32 = 31 := (flush0_20 t).mp ht
    have hN : t.val < 32 := lt_of_lt_of_eq t.isLt N_0
    have hl : t = lastPt := Fin.ext (by show t.val = 31; omega)
    have ey : ((cfg0.win 20).blk t).view.emb y = y :=
      funext fun a => match a with
        | 0 => Fin.ext ((cfg0.win 20).rect_emb_val_of_index_zero t 0 rfl y)
        | 1 => Fin.ext ((cfg0.win 20).rect_emb_val_of_index_zero t 1 rfl y)
    refine (congrFun (left_dsh2 m c t) y).trans ?_
    rw [hl]
    exact (congrArg (stOut m c lastPt .dsh2) (hl ▸ ey)).symm
  rw [show (cfgs 0).N = cfg0.N from rfl, e]
  exact (last_sums H).dsh2.congr fun _ _ _ _ => after_all _

theorem final_loss : Is2 (a := 1) (b := 128) (φ := .f32) ((dats m 0 c).arrAt 21 (cfgs 0).N) fun _ _ => I.loss := by
  have e : (dats m 0 c).arrAt 21 cfg0.N = stOut m c lastPt .loss := by
    refine (dats m 0 c).arrAt_eq_of_covers 21 _ (by decide +kernel) fun t ht y => ?_
    have ht' : t.val % 32 = 31 := (flush0_21 t).mp ht
    have hN : t.val < 32 := lt_of_lt_of_eq t.isLt N_0
    have hl : t = lastPt := Fin.ext (by show t.val = 31; omega)
    have ey : ((cfg0.win 21).blk t).view.emb y = y :=
      funext fun a => match a with
        | 0 => Fin.ext ((cfg0.win 21).rect_emb_val_of_index_zero t 0 rfl y)
        | 1 => Fin.ext ((cfg0.win 21).rect_emb_val_of_index_zero t 1 rfl y)
    refine (congrFun (left_loss m c t) y).trans ?_
    rw [hl]
    exact (congrArg (stOut m c lastPt .loss) (hl ▸ ey)).symm
  rw [show (cfgs 0).N = cfg0.N from rfl, e]
  exact (last_sums H).loss.congr fun _ _ _ _ => after_all _

theorem final_dwd : Is2 (a := 2816) (b := 1024) (φ := .f32) (stOut m c lastPt .dwd) I.dwd := (last_sums H).dwd.congr fun _ _ _ _ => after_all _

end Cert.Ffn.V
-- ==== Proof.Ffn.V.Pre.lean ====
/-
  The precondition: every argument is an array of real numbers.
-/
module

public import proofs.«01_k».proof.Defs
public import proofs.«01_k».proof.Proof.Ffn.V.Feed
public import Idealize.ShloMosaic.Lib.ReduceAll

@[expose] public section

set_option maxRecDepth 16384

noncomputable section

namespace Cert.Ffn.V

open Idealize.ShloMosaic Idealize.ShloMosaic.TcCoe
open Cert.KernelIdeal

/-- The side conditions of the precondition. -/
theorem pre_facts : Cert.Pre_finite.Facts where
  bcast_S_S1x8192x1024 := by decide
  reducesTo_S1x8192x1024_S_d0_1_2 := by decide
  h_S_ := by decide
  bcast_S_S1x1024 := by decide
  reducesTo_S1x1024_S_d0_1 := by decide
  bcast_S_S1x3x5632 := by decide
  reducesTo_S1x3x5632_S_d0_1_2 := by decide
  bcast_S_S1x5632 := by decide
  reducesTo_S1x5632_S_d0_1 := by decide
  bcast_S_S1024 := by decide
  reducesTo_S1024_S_d0 := by decide
  bcast_S_S1x1024x5632 := by decide
  reducesTo_S1x1024x5632_S_d0_1_2 := by decide
  bcast_S_S1x2816x1024 := by decide
  reducesTo_S1x2816x1024_S_d0_1_2 := by decide

theorem lit_top : Ideal.ofBits .f32 0x7F800000#32 = ⊤ := by simp [Ideal.ofBits, Ideal.ieee]

/-- Below the infinite in absolute value is real. -/
theorem real_of_abs {a : EReal} (h : max a (-a) < ⊤) : ((a.toReal : ℝ) : EReal) = a := by
  refine EReal.coe_toReal (fun e => ?_) (fun e => ?_)
  · rw [e] at h
    exact absurd (lt_of_le_of_lt (le_max_left _ _) h) (lt_irrefl _)
  · rw [e, EReal.neg_bot] at h
    exact absurd (lt_of_le_of_lt (le_max_right _ _) h) (lt_irrefl _)

/-- An array that passes the test holds real numbers. -/
theorem real_of_test {s : Shape} {axes : List (Fin s.rank)} (A : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (e : Host.reduce IntOp.andi (cmpf .olt (Host.absf A) (broadcastInDim s ![] hb (constant (F := Ideal) Cert.Pre_finite.S_ .f32 0x7F800000#32)))
      (constantI Cert.Pre_finite.S_ 1 1#1) hr hu j = 1#1) (i : s.Idx) : (((A i).toReal : ℝ) : EReal) = A i := by
  have h : Ideal.cmp .olt (max (A i) (-(A i))) (Ideal.ofBits .f32 0x7F800000#32) = 1#1 := Host.reduce_andi_all _ _ _ _ j e i
  rw [lit_top] at h
  refine real_of_abs ?_
  by_contra hn
  simp [Ideal.cmp, hn] at h

theorem both {j : Cert.Pre_finite.S_.Idx} {x y : IVec Cert.Pre_finite.S_ 1} (h : andi x y j = 1#1) : x j = 1#1 ∧ y j = 1#1 :=
  IntOp.andi_eq_one.mp h

section Read

variable {φ : FTy} {a b : ℕ}

/-- The real numbers of an array, by its coordinates. -/
def rd1 (A : FVec Ideal ⟨1, ![a]⟩ φ) (i : ℕ) : ℝ := if h : i < a then EReal.toReal (A (ix1 (⟨i, h⟩ : Fin a))) else 0
def rd2 (A : FVec Ideal ⟨2, ![a, b]⟩ φ) (i j : ℕ) : ℝ := if h : i < a ∧ j < b then EReal.toReal (A (ix2 (⟨i, h.1⟩ : Fin a) (⟨j, h.2⟩ : Fin b))) else 0
def rd3 (A : FVec Ideal ⟨3, ![1, a, b]⟩ φ) (i j : ℕ) : ℝ := if h : i < a ∧ j < b then EReal.toReal (A (ix3 (0 : Fin 1) (⟨i, h.1⟩ : Fin a) (⟨j, h.2⟩ : Fin b))) else 0

theorem rd1_of (A : FVec Ideal ⟨1, ![a]⟩ φ) {i : ℕ} (h : i < a) : rd1 A i = EReal.toReal (A (ix1 (⟨i, h⟩ : Fin a))) := dif_pos h
theorem rd2_of (A : FVec Ideal ⟨2, ![a, b]⟩ φ) {i j : ℕ} (h : i < a) (h' : j < b) : rd2 A i j = EReal.toReal (A (ix2 (⟨i, h⟩ : Fin a) (⟨j, h'⟩ : Fin b))) :=
  dif_pos ⟨h, h'⟩
theorem rd3_of (A : FVec Ideal ⟨3, ![1, a, b]⟩ φ) {i j : ℕ} (h : i < a) (h' : j < b) :
    rd3 A i j = EReal.toReal (A (ix3 (0 : Fin 1) (⟨i, h⟩ : Fin a) (⟨j, h'⟩ : Fin b))) := dif_pos ⟨h, h'⟩

theorem is_rd1 {A : FVec Ideal ⟨1, ![a]⟩ φ} (h : ∀ i, ((EReal.toReal (A i) : ℝ) : EReal) = A i) : Is1 A (rd1 A) := fun y => by
  have e : ix1 (⟨(y 0).val, (y 0).isLt⟩ : Fin a) = y := funext fun | 0 => rfl
  exact (h y).symm.trans (congrArg _ ((congrArg (fun z => EReal.toReal (A z)) e.symm).trans (rd1_of A (y 0).isLt).symm))

theorem is_rd2 {A : FVec Ideal ⟨2, ![a, b]⟩ φ} (h : ∀ i, ((EReal.toReal (A i) : ℝ) : EReal) = A i) : Is2 A (rd2 A) := fun y => by
  have e : ix2 (⟨(y 0).val, (y 0).isLt⟩ : Fin a) (⟨(y 1).val, (y 1).isLt⟩ : Fin b) = y := funext fun | 0 => rfl | 1 => rfl
  exact (h y).symm.trans (congrArg _ ((congrArg (fun z => EReal.toReal (A z)) e.symm).trans (rd2_of A (y 0).isLt (y 1).isLt).symm))

theorem is_row {A : FVec Ideal ⟨2, ![1, b]⟩ φ} (h : ∀ i, ((EReal.toReal (A i) : ℝ) : EReal) = A i) : Is2 A fun _ j => rd2 A 0 j :=
  (is_rd2 h).congr fun i hi j _ => by rw [show i = 0 by omega]

theorem is_rd3 {A : FVec Ideal ⟨3, ![1, a, b]⟩ φ} (h : ∀ i, ((EReal.toReal (A i) : ℝ) : EReal) = A i) : Is3 A (rd3 A) := fun y => by
  have e : ix3 (0 : Fin 1) (⟨(y 1).val, (y 1).isLt⟩ : Fin a) (⟨(y 2).val, (y 2).isLt⟩ : Fin b) = y :=
    funext fun | 0 => Subsingleton.elim (α := Fin 1) _ _ | 1 => rfl | 2 => rfl
  exact (h y).symm.trans (congrArg _ ((congrArg (fun z => EReal.toReal (A z)) e.symm).trans (rd3_of A (y 1).isLt (y 2).isLt).symm))

end Read

variable (m : (ℓ : Loc nD τ sig) → Buf (Elt Ideal) ℓ) (c : Dev nD)

/-- The arguments on a device, read. -/
def read : In where
  x := rd3 (a := 8192) (b := 1024) (φ := .f32) (L m c main_arg0)
  tg := rd3 (a := 8192) (b := 1024) (φ := .f32) (L m c main_arg1)
  gn := rd2 (a := 1) (b := 1024) (φ := .f32) (L m c main_arg2) 0
  sc := rd2 (a := 1) (b := 1024) (φ := .f32) (L m c main_arg3) 0
  sh := rd2 (a := 1) (b := 1024) (φ := .f32) (L m c main_arg4) 0
  fw := rd3 (a := 3) (b := 5632) (φ := .f32) (L m c main_arg5)
  fb := rd2 (a := 1) (b := 5632) (φ := .f32) (L m c main_arg6) 0
  gt := rd2 (a := 1) (b := 1024) (φ := .f32) (L m c main_arg7) 0
  fg := rd1 (a := 1024) (φ := .f32) (L m c main_arg8)
  wup := rd3 (a := 1024) (b := 5632) (φ := .f32) (L m c main_arg9)
  wd := rd3 (a := 2816) (b := 1024) (φ := .f32) (L m c main_arg10)

/-- The precondition says that the arguments are what is read of them. -/
theorem holds (h : Cert.Pre_KernelIdeal_finite (hPre_finite := pre_facts) m) : Holds m c (read m c) := by
  obtain ⟨h, t10⟩ := both (congrFun (h c) fun i : Fin 0 => i.elim0)
  obtain ⟨h, t9⟩ := both h
  obtain ⟨h, t8⟩ := both h
  obtain ⟨h, t7⟩ := both h
  obtain ⟨h, t6⟩ := both h
  obtain ⟨h, t5⟩ := both h
  obtain ⟨h, t4⟩ := both h
  obtain ⟨h, t3⟩ := both h
  obtain ⟨h, t2⟩ := both h
  obtain ⟨t0, t1⟩ := both h
  exact
    { x := is_rd3 (real_of_test _ _ _ _ _ t0)
      tg := is_rd3 (real_of_test _ _ _ _ _ t1)
      gn := is_row (real_of_test _ _ _ _ _ t2)
      sc := is_row (real_of_test _ _ _ _ _ t3)
      sh := is_row (real_of_test _ _ _ _ _ t4)
      fw := is_rd3 (real_of_test _ _ _ _ _ t5)
      fb := is_row (real_of_test _ _ _ _ _ t6)
      gt := is_row (real_of_test _ _ _ _ _ t7)
      fg := is_rd1 (real_of_test _ _ _ _ _ t8)
      wup := is_rd3 (real_of_test _ _ _ _ _ t9)
      wd := is_rd3 (real_of_test _ _ _ _ _ t10) }

end Cert.Ffn.V
-- ==== Proof.Ffn.V.HostOps.lean ====
/-
  The operations of the host program on arrays that hold real functions of their coordinates.
-/
module

public import proofs.«01_k».proof.Proof.Ffn.V.Calc
public import Idealize.ShloMosaic.Lib.IdealHost
public import Idealize.ShloMosaic.Lib.KernelVsHost
public import Idealize.ShloMosaic.Lib.TwoAxisContraction
public import Idealize.ShloMosaic.Lib.ValueIdx

@[expose] public section

set_option maxRecDepth 16384

noncomputable section

namespace Cert.Ffn.V

open Idealize.ShloMosaic
open Idealize.ShloMosaic.ValueIdx (contrEquiv1 contrEquiv1_symm_val contrEquiv2 contrEquiv2_symm_val0 contrEquiv2_symm_val1)

/-- The scalar `A` is the real number `c`. -/
def Is0 {φ : FTy} (A : FVec Ideal ⟨0, ![]⟩ φ) (c : ℝ) : Prop := ∀ y, A y = (c : EReal)

theorem Is0.lit {w : BitVec 32} {c : ℝ} (e : Ideal.ofBits .f32 w = (c : EReal)) : Is0 (constant (F := Ideal) ⟨0, ![]⟩ .f32 w) c := fun _ => e

section Pointwise

variable {φ : FTy} {n a b : ℕ} {f g : ℕ → ℕ → ℝ} {A B : FVec Ideal ⟨3, ![n, a, b]⟩ φ} {c d : ℝ}

theorem Is0.mul {A B : FVec Ideal ⟨0, ![]⟩ φ} (h : Is0 A c) (h' : Is0 B d) : Is0 (mulf A B) (c * d) :=
  fun y => (congrArg₂ (fun p q : EReal => p * q) (h y) (h' y)).trans (EReal.coe_mul _ _).symm

theorem Is3.add (h : Is3 A f) (h' : Is3 B g) : Is3 (addf A B) fun i j => f i j + g i j :=
  fun y => (congrArg₂ (fun p q : EReal => p + q) (h y) (h' y)).trans (EReal.coe_add _ _).symm

theorem Is3.sub (h : Is3 A f) (h' : Is3 B g) : Is3 (subf A B) fun i j => f i j - g i j :=
  fun y => (congrArg₂ (fun p q : EReal => p - q) (h y) (h' y)).trans (EReal.coe_sub _ _).symm

theorem Is3.mul (h : Is3 A f) (h' : Is3 B g) : Is3 (mulf A B) fun i j => f i j * g i j :=
  fun y => (congrArg₂ (fun p q : EReal => p * q) (h y) (h' y)).trans (EReal.coe_mul _ _).symm

theorem Is3.quot (h : Is3 A f) (h' : Is3 B g) (hg : ∀ i, i < a → ∀ j, j < b → g i j ≠ 0) : Is3 (Host.divf A B) fun i j => f i j / g i j :=
  fun y => (congrArg₂ Ideal.div (h y) (h' y)).trans (div_real _ _ (hg _ (y 1).isLt _ (y 2).isLt))

theorem Is2.quot {A B : FVec Ideal ⟨2, ![a, b]⟩ φ} (h : Is2 A f) (h' : Is2 B g) (hg : ∀ i, i < a → ∀ j, j < b → g i j ≠ 0) :
    Is2 (Host.divf A B) fun i j => f i j / g i j :=
  fun y => (congrArg₂ Ideal.div (h y) (h' y)).trans (div_real _ _ (hg _ (y 0).isLt _ (y 1).isLt))

theorem Is3.root (h : Is3 A f) (hf : ∀ i, i < a → ∀ j, j < b → 0 < f i j) : Is3 (Host.rsqrt A) fun i j => (Real.sqrt (f i j))⁻¹ :=
  fun y => (congrArg Ideal.rsqrt (h y)).trans (rsqrt_real _ (hf _ (y 1).isLt _ (y 2).isLt))

theorem Is3.neg (h : Is3 A f) : Is3 (Host.negf A) fun i j => -f i j :=
  fun y => (congrArg (fun p : EReal => -p) (h y)).trans (EReal.coe_neg _).symm

theorem Is3.exp (h : Is3 A f) : Is3 (Host.exp A) fun i j => Real.exp (f i j) :=
  fun y => (congrArg Ideal.exp (h y)).trans rfl

end Pointwise

section Spread

variable {φ : FTy} {a b : ℕ} {f : ℕ → ℕ → ℝ} {g : ℕ → ℝ} {c : ℝ}

theorem Is0.fill3 {n : ℕ} {A : FVec Ideal ⟨0, ![]⟩ φ} (h : Is0 A c) (hb) : Is3 (broadcastInDim ⟨3, ![n, a, b]⟩ ![] hb A) fun _ _ => c :=
  fun y => (ValueIdx.broadcastInDim_scalar_apply hb A y).trans (h _)

theorem Is0.fill2 {A : FVec Ideal ⟨0, ![]⟩ φ} (h : Is0 A c) (hb) : Is2 (broadcastInDim ⟨2, ![a, b]⟩ ![] hb A) fun _ _ => c :=
  fun y => (ValueIdx.broadcastInDim_scalar_apply hb A y).trans (h _)

/-- A column given to every column. -/
theorem Is3.cols {A : FVec Ideal ⟨3, ![1, a, 1]⟩ φ} (h : Is3 A f) (ha : a ≠ 1) (hb) :
    Is3 (broadcastInDim ⟨3, ![1, a, b]⟩ ![0, 1, 2] hb A) fun i _ => f i 0 := fun y =>
  (broadcastInDim_apply ![0, 1, 2] hb A y (ix3 (0 : Fin 1) (y 1 : Fin a) (0 : Fin 1)) (by
    intro x
    match x with
    | 0 => rfl
    | 1 => exact (if_neg ha).symm
    | 2 => rfl)).trans (h _)

/-- A row given to every row. -/
theorem Is3.rows {A : FVec Ideal ⟨3, ![1, 1, b]⟩ φ} (h : Is3 A f) (ha : b ≠ 1) (hb) :
    Is3 (broadcastInDim ⟨3, ![1, a, b]⟩ ![0, 1, 2] hb A) fun _ j => f 0 j := fun y =>
  (broadcastInDim_apply ![0, 1, 2] hb A y (ix3 (0 : Fin 1) (0 : Fin 1) (y 2 : Fin b)) (by
    intro x
    match x with
    | 0 => rfl
    | 1 => rfl
    | 2 => exact (if_neg ha).symm)).trans (h _)

theorem Is1.row3 {A : FVec Ideal ⟨1, ![b]⟩ φ} (h : Is1 A g) (ha : b ≠ 1) (hb) :
    Is3 (broadcastInDim ⟨3, ![1, 1, b]⟩ ![2] hb A) fun _ j => g j := fun y =>
  (broadcastInDim_apply ![2] hb A y (ix1 (y 2 : Fin b)) (by
    intro x
    match x with
    | 0 => exact (if_neg ha).symm)).trans (h _)

theorem Is2.row3 {A : FVec Ideal ⟨2, ![1, b]⟩ φ} (h : Is2 A f) (ha : b ≠ 1) (hb) :
    Is3 (broadcastInDim ⟨3, ![1, 1, b]⟩ ![0, 2] hb A) fun _ j => f 0 j := fun y =>
  (broadcastInDim_apply ![0, 2] hb A y (ix2 (0 : Fin 1) (y 2 : Fin b)) (by
    intro x
    match x with
    | 0 => rfl
    | 1 => exact (if_neg ha).symm)).trans (h _)

/-- One number a row, given to every column. -/
theorem Is2.perRow {A : FVec Ideal ⟨2, ![1, a]⟩ φ} (h : Is2 A f) (ha : a ≠ 1) (hb) :
    Is3 (broadcastInDim ⟨3, ![1, a, b]⟩ ![0, 1] hb A) fun i _ => f 0 i := fun y =>
  (broadcastInDim_apply ![0, 1] hb A y (ix2 (0 : Fin 1) (y 1 : Fin a)) (by
    intro x
    match x with
    | 0 => rfl
    | 1 => exact (if_neg ha).symm)).trans (h _)

theorem Is1.row2 {A : FVec Ideal ⟨1, ![b]⟩ φ} (h : Is1 A g) (ha : b ≠ 1) (hb) :
    Is2 (broadcastInDim ⟨2, ![1, b]⟩ ![1] hb A) fun _ j => g j := fun y =>
  (broadcastInDim_apply ![1] hb A y (ix1 (y 1 : Fin b)) (by
    intro x
    match x with
    | 0 => exact (if_neg ha).symm)).trans (h _)

theorem Is2.lead {A : FVec Ideal ⟨2, ![a, b]⟩ φ} (h : Is2 A f) (ha : a ≠ 1) (hb' : b ≠ 1) (hb) :
    Is3 (broadcastInDim ⟨3, ![1, a, b]⟩ ![1, 2] hb A) f := fun y =>
  (broadcastInDim_apply ![1, 2] hb A y (ix2 (y 1 : Fin a) (y 2 : Fin b)) (by
    intro x
    match x with
    | 0 => exact (if_neg ha).symm
    | 1 => exact (if_neg hb').symm)).trans (h _)

theorem Is2.flat {A : FVec Ideal ⟨2, ![1, b]⟩ φ} (h : Is2 A f) (hc) : Is1 (shapeCast ⟨1, ![b]⟩ A hc) fun j => f 0 j := fun y => by
  refine (shapeCast_apply A hc y (ix2 (0 : Fin 1) (y 0 : Fin b)) ?_).trans (h _)
  rw [Shape.rowMajor_val_two, Shape.rowMajor_val_one]
  show 0 * b + (y 0).val = (y 0).val
  omega

theorem Is3.flat {A : FVec Ideal ⟨3, ![1, a, b]⟩ φ} (h : Is3 A f) (hc) : Is2 (shapeCast ⟨2, ![a, b]⟩ A hc) f := fun y => by
  refine (shapeCast_apply A hc y (ix3 (0 : Fin 1) (y 0 : Fin a) (y 1 : Fin b)) ?_).trans (h _)
  rw [Shape.rowMajor_val_three, Shape.rowMajor_val_two]
  show (0 * a + (y 0).val) * b + (y 1).val = (y 0).val * b + (y 1).val
  rw [Nat.zero_mul, Nat.zero_add]

theorem Is2.asCol {A : FVec Ideal ⟨2, ![1, a]⟩ φ} (h : Is2 A f) (hc) : Is3 (shapeCast ⟨3, ![1, a, 1]⟩ A hc) fun i _ => f 0 i := fun y => by
  refine (shapeCast_apply A hc y (ix2 (0 : Fin 1) (y 1 : Fin a)) ?_).trans (h _)
  rw [Shape.rowMajor_val_two, Shape.rowMajor_val_three]
  have h0 : (y 0).val < 1 := (y 0).isLt
  have h2 : (y 2).val < 1 := (y 2).isLt
  have e0 : (y 0).val = 0 := by omega
  show 0 * a + (y 1).val = ((y 0).val * a + (y 1).val) * 1 + (y 2).val
  rw [e0]
  omega

theorem Is2.asRow {A : FVec Ideal ⟨2, ![1, b]⟩ φ} (h : Is2 A f) (hc) : Is3 (shapeCast ⟨3, ![1, 1, b]⟩ A hc) fun _ j => f 0 j := fun y => by
  refine (shapeCast_apply A hc y (ix2 (0 : Fin 1) (y 2 : Fin b)) ?_).trans (h _)
  rw [Shape.rowMajor_val_two, Shape.rowMajor_val_three]
  have h0 : (y 0).val < 1 := (y 0).isLt
  have h1 : (y 1).val < 1 := (y 1).isLt
  have e : (y 0).val * 1 + (y 1).val = 0 := by omega
  show 0 * b + (y 2).val = ((y 0).val * 1 + (y 1).val) * b + (y 2).val
  rw [e]

end Spread

section Moves3

variable {φ : FTy} {a b c d : ℕ} {f g : ℕ → ℕ → ℝ}

theorem Is3.cut {A : FVec Ideal ⟨3, ![1, a, b]⟩ φ} (h : Is3 A f) (off : Fin 3 → ℕ) (hs) :
    Is3 (extractStridedSlice (s := ⟨3, ![1, a, b]⟩) ⟨3, ![1, c, d]⟩ off A hs) fun i j => f (off 1 + i) (off 2 + j) := fun _ => h _

/-- One array below another. -/
theorem Is3.below {A : FVec Ideal ⟨3, ![1, a, b]⟩ φ} {B : FVec Ideal ⟨3, ![1, c, b]⟩ φ} (h : Is3 A f) (h' : Is3 B g) (hc) :
    Is3 (concatenate ⟨3, ![1, d, b]⟩ 1 [⟨⟨3, ![1, a, b]⟩, A⟩, ⟨⟨3, ![1, c, b]⟩, B⟩] hc) fun i j => if i < a then f i j else g (i - a) j := fun y => by
  have hs : a + (c + 0) = d := hc.2.2
  have hy : (y 1).val < d := (y 1).isLt
  by_cases hi : (y 1).val < a
  · refine (concatenate_apply_piece 1 _ hc y 0 (by show 0 < 2; omega) _ A rfl rfl 0 rfl (ix3 (y 0) ⟨(y 1).val, hi⟩ (y 2)) (fun x hx => ?_) (Nat.zero_add _)).trans ?_
    · match x with
      | 0 => rfl
      | 1 => exact absurd rfl hx
      | 2 => rfl
    · refine (h _).trans (congrArg _ ?_)
      exact (if_pos hi).symm
  · refine (concatenate_apply_piece 1 _ hc y 1 (by show 1 < 2; omega) _ B rfl rfl a rfl (ix3 (y 0) ⟨(y 1).val - a, by omega⟩ (y 2)) (fun x hx => ?_)
      (by show a + ((y 1).val - a) = (y 1).val; omega)).trans ?_
    · match x with
      | 0 => rfl
      | 1 => exact absurd rfl hx
      | 2 => rfl
    · refine (h' _).trans (congrArg _ ?_)
      exact (if_neg hi).symm

/-- One array beside another. -/
theorem Is3.beside {A : FVec Ideal ⟨3, ![1, a, b]⟩ φ} {B : FVec Ideal ⟨3, ![1, a, c]⟩ φ} (h : Is3 A f) (h' : Is3 B g) (hc) :
    Is3 (concatenate ⟨3, ![1, a, d]⟩ 2 [⟨⟨3, ![1, a, b]⟩, A⟩, ⟨⟨3, ![1, a, c]⟩, B⟩] hc) fun i j => if j < b then f i j else g i (j - b) := fun y => by
  have hs : b + (c + 0) = d := hc.2.2
  have hy : (y 2).val < d := (y 2).isLt
  by_cases hi : (y 2).val < b
  · refine (concatenate_apply_piece 2 _ hc y 0 (by show 0 < 2; omega) _ A rfl rfl 0 rfl (ix3 (y 0) (y 1) ⟨(y 2).val, hi⟩) (fun x hx => ?_) (Nat.zero_add _)).trans ?_
    · match x with
      | 0 => rfl
      | 1 => rfl
      | 2 => exact absurd rfl hx
    · refine (h _).trans (congrArg _ ?_)
      exact (if_pos hi).symm
  · refine (concatenate_apply_piece 2 _ hc y 1 (by show 1 < 2; omega) _ B rfl rfl b rfl (ix3 (y 0) (y 1) ⟨(y 2).val - b, by omega⟩) (fun x hx => ?_)
      (by show b + ((y 2).val - b) = (y 2).val; omega)).trans ?_
    · match x with
      | 0 => rfl
      | 1 => rfl
      | 2 => exact absurd rfl hx
    · refine (h' _).trans (congrArg _ ?_)
      exact (if_neg hi).symm

/-- Rows of zeros above and below. -/
theorem Is3.padRows {A : FVec Ideal ⟨3, ![1, a, b]⟩ φ} (h : Is3 A f) {Z : FVec Ideal ⟨0, ![]⟩ φ} (hz : Is0 Z 0) (p q : ℕ) (hp) (hu) :
    Is3 (pad ⟨3, ![1, c, b]⟩ (![0, p, 0] : Fin 3 → ℕ) ![0, q, 0] ![0, 0, 0] A Z hp hu) fun i j => if p ≤ i ∧ i - p < a then f (i - p) j else 0 := fun y => by
  by_cases hi : p ≤ (y 1).val ∧ (y 1).val - p < a
  · refine (pad_apply_of_inside (s := ⟨3, ![1, a, b]⟩) _ _ _ A Z hp hu y (ix3 (y 0) ⟨(y 1).val - p, hi.2⟩ (y 2)) (fun x => ?_)).trans ((h _).trans (congrArg _ (if_pos hi).symm))
    match x with
    | 0 => show (y 0).val = 0 + (y 0).val * (0 + 1); omega
    | 1 => show (y 1).val = p + ((y 1).val - p) * (0 + 1); omega
    | 2 => show (y 2).val = 0 + (y 2).val * (0 + 1); omega
  · refine (pad_apply_of_not_inside (s := ⟨3, ![1, a, b]⟩) _ _ _ A Z hp hu y 1 (fun hn => hi ?_)).trans ((hz _).trans (congrArg _ (if_neg hi).symm))
    have h1 : p ≤ (y 1).val := hn.1
    have h2 : ((y 1).val - p) / (0 + 1) < a := hn.2.2
    rw [Nat.zero_add, Nat.div_one] at h2
    exact ⟨h1, h2⟩

theorem Is2.padRows {A : FVec Ideal ⟨2, ![a, b]⟩ φ} (h : Is2 A f) {Z : FVec Ideal ⟨0, ![]⟩ φ} (hz : Is0 Z 0) (p q : ℕ) (hp) (hu) :
    Is2 (pad ⟨2, ![c, b]⟩ (![p, 0] : Fin 2 → ℕ) ![q, 0] ![0, 0] A Z hp hu) fun i j => if p ≤ i ∧ i - p < a then f (i - p) j else 0 := fun y => by
  by_cases hi : p ≤ (y 0).val ∧ (y 0).val - p < a
  · refine (pad_apply_of_inside (s := ⟨2, ![a, b]⟩) _ _ _ A Z hp hu y (ix2 ⟨(y 0).val - p, hi.2⟩ (y 1)) (fun x => ?_)).trans ((h _).trans (congrArg _ (if_pos hi).symm))
    match x with
    | 0 => show (y 0).val = p + ((y 0).val - p) * (0 + 1); omega
    | 1 => show (y 1).val = 0 + (y 1).val * (0 + 1); omega
  · refine (pad_apply_of_not_inside (s := ⟨2, ![a, b]⟩) _ _ _ A Z hp hu y 0 (fun hn => hi ?_)).trans ((hz _).trans (congrArg _ (if_neg hi).symm))
    have h1 : p ≤ (y 0).val := hn.1
    have h2 : ((y 0).val - p) / (0 + 1) < a := hn.2.2
    rw [Nat.zero_add, Nat.div_one] at h2
    exact ⟨h1, h2⟩

theorem Is2.turn {A : FVec Ideal ⟨2, ![a, b]⟩ φ} (h : Is2 A f) (ht) : Is2 (transpose ⟨2, ![b, a]⟩ [1, 0] A ht) fun i j => f j i := fun y => by
  refine (transpose_apply [1, 0] A ht y (ix2 (y 1 : Fin a) (y 0 : Fin b)) (fun x => ?_)).trans (h _)
  match x with
  | 0 => rfl
  | 1 => rfl

end Moves3

section Sums

variable {φ : FTy} {a b : ℕ} {f : ℕ → ℕ → ℝ} {Z : FVec Ideal ⟨0, ![]⟩ φ}

/-- A sum from zero along one axis. -/
theorem sum_axis {s t : Shape} {x : Fin s.rank} {A : FVec Ideal s φ} (hz : Is0 Z 0) (h' : s.ReducesTo [x] t) (hr : s.Reduces [x] t) (hu) (j : t.Idx) :
    Host.reduceAdd A Z h' hu j = ∑ k : Fin (s.size x), A (hr.lift j k) := by
  rw [ValueIdx.hostReduceAdd_apply, Ideal.hostReduceAdd_single h' hr, hz]
  exact zero_add _

/-- The sums of the rows. -/
theorem Is3.rowSums {A : FVec Ideal ⟨3, ![1, a, b]⟩ φ} (h : Is3 A f) (hz : Is0 Z 0) (h' : Shape.ReducesTo ⟨3, ![1, a, b]⟩ [2] ⟨2, ![1, a]⟩)
    (hr : Shape.Reduces ⟨3, ![1, a, b]⟩ [2] ⟨2, ![1, a]⟩) (hu) : Is2 (Host.reduceAdd A Z h' hu) fun _ i => ∑ j ∈ Finset.range b, f i j := fun y => by
  rw [sum_axis hz h' hr, ← sum_fin]
  exact Finset.sum_congr rfl fun k _ => h _

/-- The sums of the columns. -/
theorem Is3.colSums {A : FVec Ideal ⟨3, ![1, a, b]⟩ φ} (h : Is3 A f) (hz : Is0 Z 0) (h' : Shape.ReducesTo ⟨3, ![1, a, b]⟩ [1] ⟨2, ![1, b]⟩)
    (hr : Shape.Reduces ⟨3, ![1, a, b]⟩ [1] ⟨2, ![1, b]⟩) (hu) : Is2 (Host.reduceAdd A Z h' hu) fun _ j => ∑ i ∈ Finset.range a, f i j := fun y => by
  rw [sum_axis hz h' hr, ← sum_fin]
  exact Finset.sum_congr rfl fun k _ => h _

/-- A sum over two axes of size one. -/
theorem Is3.onlyRow {A : FVec Ideal ⟨3, ![1, 1, b]⟩ φ} (h : Is3 A f) (hz : Is0 Z 0) (h' : Shape.ReducesTo ⟨3, ![1, 1, b]⟩ [0, 1] ⟨1, ![b]⟩) (hu) :
    Is1 (Host.reduceAdd A Z h' hu) fun j => f 0 j := fun y => by
  rw [ValueIdx.hostReduceAdd_apply, hz]
  unfold Ideal.hostReduceAdd
  refine (zero_add _).trans (Eq.trans (Finset.sum_eq_single_of_mem (ix3 (0 : Fin 1) (0 : Fin 1) (y 0 : Fin b)) ?_ fun i hi hn => absurd ?_ hn) (h _))
  · refine (@Finset.mem_filter _ _ (_) _ _).mpr ⟨Finset.mem_univ _, funext fun x => ?_⟩
    match x with
    | 0 => rfl
  · have e := congrFun ((@Finset.mem_filter _ _ (_) _ _).mp hi).2 0
    funext x
    match x with
    | 0 => exact Subsingleton.elim (α := Fin 1) _ _
    | 1 => exact Subsingleton.elim (α := Fin 1) _ _
    | 2 => exact e

theorem Is3.onlyCol {A : FVec Ideal ⟨3, ![1, a, 1]⟩ φ} (h : Is3 A f) (hz : Is0 Z 0) (h' : Shape.ReducesTo ⟨3, ![1, a, 1]⟩ [0, 2] ⟨1, ![a]⟩) (hu) :
    Is1 (Host.reduceAdd A Z h' hu) fun i => f i 0 := fun y => by
  rw [ValueIdx.hostReduceAdd_apply, hz]
  unfold Ideal.hostReduceAdd
  refine (zero_add _).trans (Eq.trans (Finset.sum_eq_single_of_mem (ix3 (0 : Fin 1) (y 0 : Fin a) (0 : Fin 1)) ?_ fun i hi hn => absurd ?_ hn) (h _))
  · refine (@Finset.mem_filter _ _ (_) _ _).mpr ⟨Finset.mem_univ _, funext fun x => ?_⟩
    match x with
    | 0 => rfl
  · have e := congrFun ((@Finset.mem_filter _ _ (_) _ _).mp hi).2 0
    funext x
    match x with
    | 0 => exact Subsingleton.elim (α := Fin 1) _ _
    | 1 => exact e
    | 2 => exact Subsingleton.elim (α := Fin 1) _ _

/-- The sum of a row. -/
theorem Is2.total {A : FVec Ideal ⟨2, ![1, b]⟩ φ} (h : Is2 A f) (hz : Is0 Z 0) (h' : Shape.ReducesTo ⟨2, ![1, b]⟩ [0, 1] ⟨0, ![]⟩) (hu) :
    Is0 (Host.reduceAdd A Z h' hu) (∑ j ∈ Finset.range b, f 0 j) := fun y => by
  rw [ValueIdx.hostReduceAdd_apply, Ideal.hostReduceAdd_total h' (fun x => x.elim0), hz, ValueIdx.sum_idx2, Fin.sum_univ_one, ← sum_fin]
  exact (zero_add _).trans (Finset.sum_congr rfl fun k _ => h _)

end Sums

section Products3

variable {φ ψ : FTy} {M K N : ℕ} {f g : ℕ → ℕ → ℝ}

def hnn (w : DotDims.WF ⟨3, ![1, M, K]⟩ ⟨2, ![K, N]⟩ ⟨3, ![1, M, N]⟩ [2] [0] [0, 1] [1] [] []) : DotDims ⟨3, ![1, M, K]⟩ ⟨2, ![K, N]⟩ ⟨3, ![1, M, N]⟩ where
  lhsContracting := [2]
  rhsContracting := [0]
  lhsNonContracting := [0, 1]
  rhsNonContracting := [1]
  lhsBatch := []
  rhsBatch := []
  wf := w

def hnt (w : DotDims.WF ⟨3, ![1, M, K]⟩ ⟨2, ![N, K]⟩ ⟨3, ![1, M, N]⟩ [2] [1] [0, 1] [0] [] []) : DotDims ⟨3, ![1, M, K]⟩ ⟨2, ![N, K]⟩ ⟨3, ![1, M, N]⟩ where
  lhsContracting := [2]
  rhsContracting := [1]
  lhsNonContracting := [0, 1]
  rhsNonContracting := [0]
  lhsBatch := []
  rhsBatch := []
  wf := w

def htn (w : DotDims.WF ⟨3, ![1, K, M]⟩ ⟨3, ![1, K, N]⟩ ⟨2, ![M, N]⟩ [0, 1] [0, 1] [2] [2] [] []) : DotDims ⟨3, ![1, K, M]⟩ ⟨3, ![1, K, N]⟩ ⟨2, ![M, N]⟩ where
  lhsContracting := [0, 1]
  rhsContracting := [0, 1]
  lhsNonContracting := [2]
  rhsNonContracting := [2]
  lhsBatch := []
  rhsBatch := []
  wf := w

theorem Is3.dotNN {A : FVec Ideal ⟨3, ![1, M, K]⟩ .f32} {B : FVec Ideal ⟨2, ![K, N]⟩ .f32} (h : Is3 A f) (h' : Is2 B g) (w) :
    Is3 (φ := .f32) (Host.dotGeneral (hnn w) none A B) fun i j => ∑ k ∈ Finset.range K, f i k * g k j := fun y => by
  simp only [Host.dotGeneral]
  rw [Ideal.dotGeneral_apply, ← Equiv.sum_comp (contrEquiv1 (hnn w) K rfl rfl).symm, ← sum_fin_mul]
  refine Finset.sum_congr rfl fun k _ => ?_
  have hk := contrEquiv1_symm_val (hnn w) K rfl rfl k
  refine congrArg₂ (fun p q : EReal => p * q) ((h _).trans ?_) ((h' _).trans ?_)
  · exact congrArg (fun t => ((f (y 1).val t : ℝ) : EReal)) hk
  · exact congrArg (fun t => ((g t (y 2).val : ℝ) : EReal)) hk

theorem Is3.dotNT {A : FVec Ideal ⟨3, ![1, M, K]⟩ .f32} {B : FVec Ideal ⟨2, ![N, K]⟩ .f32} (h : Is3 A f) (h' : Is2 B g) (w) :
    Is3 (φ := .f32) (Host.dotGeneral (hnt w) none A B) fun i j => ∑ k ∈ Finset.range K, f i k * g j k := fun y => by
  simp only [Host.dotGeneral]
  rw [Ideal.dotGeneral_apply, ← Equiv.sum_comp (contrEquiv1 (hnt w) K rfl rfl).symm, ← sum_fin_mul]
  refine Finset.sum_congr rfl fun k _ => ?_
  have hk := contrEquiv1_symm_val (hnt w) K rfl rfl k
  refine congrArg₂ (fun p q : EReal => p * q) ((h _).trans ?_) ((h' _).trans ?_)
  · exact congrArg (fun t => ((f (y 1).val t : ℝ) : EReal)) hk
  · exact congrArg (fun t => ((g (y 2).val t : ℝ) : EReal)) hk

theorem Is3.dotTN {A : FVec Ideal ⟨3, ![1, K, M]⟩ .f32} {B : FVec Ideal ⟨3, ![1, K, N]⟩ .f32} (h : Is3 A f) (h' : Is3 B g) (w) :
    Is2 (φ := .f32) (Host.dotGeneral (htn w) none A B) fun i j => ∑ k ∈ Finset.range K, f k i * g k j := fun y => by
  simp only [Host.dotGeneral]
  rw [Ideal.dotGeneral_apply, ← Equiv.sum_comp (contrEquiv2 (htn w) 1 K rfl rfl rfl).symm, Fintype.sum_prod_type, Fin.sum_univ_one, ← sum_fin_mul]
  refine Finset.sum_congr rfl fun k _ => ?_
  have hk := contrEquiv2_symm_val1 (htn w) 1 K rfl rfl rfl ((0 : Fin 1), k)
  refine congrArg₂ (fun p q : EReal => p * q) ((h _).trans ?_) ((h' _).trans ?_)
  · exact congrArg (fun t => ((f t (y 0).val : ℝ) : EReal)) hk
  · exact congrArg (fun t => ((g t (y 1).val : ℝ) : EReal)) hk

end Products3

end Cert.Ffn.V
-- ==== Proof.Ffn.V.RefOps.lean ====
/-
  What the reference computes of its arguments, forward.
-/
module

public import proofs.«01_k».proof.Proof.Ffn.V.HostOps
public import proofs.«01_k».proof.Proof.Ffn.V.Spec
public import proofs.«01_k».proof.Proof.Gen.ReferenceIdeal.Run

@[expose] public section

set_option maxRecDepth 16384

noncomputable section

namespace Cert.Ffn.V

open Idealize.ShloMosaic
open Cert.ReferenceIdeal Cert.ReferenceIdeal.Gen Cert.ReferenceIdeal.Value

theorem zero0 : Is0 (constant (F := Ideal) S_ .f32 0x00000000#32) 0 := Is0.lit lit_zero
theorem one0 : Is0 (constant (F := Ideal) S_ .f32 0x3F800000#32) 1 := Is0.lit lit_one
theorem width0 : Is0 (constant (F := Ideal) S_ .f32 0x44800000#32) 1024 := Is0.lit lit_width

theorem sums_rows : Shape.Reduces S1x8192x1024 [2] S1x8192 := by decide
theorem sums_cols : Shape.Reduces S1x8192x1024 [1] S1x1024 := by decide
theorem sums_cols' : Shape.Reduces S1x8192x5632 [1] S1x5632 := by decide

/-- The sums of the columns of an array, as the reference takes them. -/
theorem Is3.total {φ : FTy} {a b : ℕ} {f : ℕ → ℕ → ℝ} {A : FVec Ideal ⟨3, ![1, a, b]⟩ φ} {Z : FVec Ideal ⟨0, ![]⟩ φ} (h : Is3 A f) (hz : Is0 Z 0)
    (hr : Shape.Reduces ⟨3, ![1, a, b]⟩ [1] ⟨2, ![1, b]⟩) (hb' : b ≠ 1) (h' : Shape.ReducesTo ⟨3, ![1, a, b]⟩ [1] ⟨2, ![1, b]⟩) (hu)
    (hc : Shape.ShapeCasts ⟨2, ![1, b]⟩ ⟨3, ![1, 1, b]⟩) (h'' : Shape.ReducesTo ⟨3, ![1, 1, b]⟩ [0, 1] ⟨1, ![b]⟩) (hb) :
    Is2 (broadcastInDim ⟨2, ![1, b]⟩ ![1] hb (Host.reduceAdd (shapeCast ⟨3, ![1, 1, b]⟩ (Host.reduceAdd A Z h' hu) hc) Z h'' hu)) fun _ j => ∑ i ∈ Finset.range a, f i j :=
  (((h.colSums hz h' hr hu).asRow hc).onlyRow hz h'' hu).row2 hb' hb

/-- The mean square of the rows, plus the epsilon. -/
def meanSq (x : FVec Ideal S1x8192x1024 .f32) : FVec Ideal S1x8192x1 .f32 :=
  addf (Host.divf (broadcastInDim S1x8192x1 ![0, 1] bcast_S1x8192_S1x8192x1_0_1
      (Host.reduceAdd (mulf x x) (constant S_ .f32 0x00000000#32) reducesTo_S1x8192x1024_S1x8192_d2 h_S_))
    (broadcastInDim S1x8192x1 ![] bcast_S_S1x8192x1 (constant S_ .f32 0x44800000#32))) (broadcastInDim S1x8192x1 ![] bcast_S_S1x8192x1 (constant S_ .f32 0x358637BD#32))

theorem is_meanSq {x : FVec Ideal S1x8192x1024 .f32} {f : ℕ → ℕ → ℝ} (h : Is3 x f) : Is3 (meanSq x) fun i _ => msq (f i) :=
  ((((h.mul h).rowSums zero0 _ sums_rows _).perRow (by decide) _).quot (width0.fill3 _) fun _ _ _ _ => by norm_num).add ((Is0.lit lit_eps).fill3 _)

/-- What a row's mean square gives back to the row, half of it. -/
def pull (x a : FVec Ideal S1x8192x1024 .f32) (r q : FVec Ideal S1x8192x1 .f32) : FVec Ideal S1x8192x1024 .f32 :=
  broadcastInDim S1x8192x1024 ![0, 1] bcast_S1x8192_S1x8192x1024_0_1 (broadcastInDim S1x8192 ![1] bcast_S8192_S1x8192_1
    (Host.reduceAdd (Host.divf (mulf (shapeCast _ (Host.reduceAdd (mulf x a) (constant S_ .f32 0x00000000#32) reducesTo_S1x8192x1024_S1x8192_d2 h_S_)
          shapeCasts_S1x8192_S1x8192x1)
        (mulf (broadcastInDim S1x8192x1 ![] bcast_S_S1x8192x1 (constant S_ .f32 0xBF000000#32)) (Host.divf r q)))
      (broadcastInDim S1x8192x1 ![] bcast_S_S1x8192x1 (constant S_ .f32 0x44800000#32))) (constant S_ .f32 0x00000000#32) reducesTo_S1x8192x1_S8192_d0_2 h_S_))

/-- That half. -/
def half (f a : ℕ → ℝ) : ℝ := (∑ l ∈ Finset.range 1024, f l * a l) * (-(1 / 2) * (rstd f / msq f)) / 1024

theorem is_pull {x a : FVec Ideal S1x8192x1024 .f32} {r q : FVec Ideal S1x8192x1 .f32} {f g : ℕ → ℕ → ℝ} (h : Is3 x f) (h' : Is3 a g)
    (hr : Is3 r fun i _ => rstd (f i)) (hq : Is3 q fun i _ => msq (f i)) : Is3 (pull x a r q) fun i _ => half (f i) (g i) :=
  ((((((((h.mul h').rowSums zero0 _ sums_rows _).asCol _).mul
      (((Is0.lit lit_neg_half).fill3 _).mul (hr.quot hq fun _ _ _ _ => (msq_pos _).ne'))).quot (width0.fill3 _) fun _ _ _ _ => by norm_num).onlyCol zero0
        reducesTo_S1x8192x1_S8192_d0_2 _).row2 (by decide) _).perRow (by decide) _ : _)

/-- The two halves and the direct part make up the norm's gradient. -/
theorem half_ngrad (f a : ℕ → ℝ) (k : ℕ) : a k * rstd f + f k * half f a + half f a * f k = ngrad a f k := by
  have hm := msq_pos f
  have hs : Real.sqrt (msq f) ≠ 0 := (Real.sqrt_pos.mpr hm).ne'
  have e : msq f = Real.sqrt (msq f) * Real.sqrt (msq f) := (Real.mul_self_sqrt hm.le).symm
  have er : rstd f / msq f = rstd f * rstd f * rstd f := by
    unfold rstd
    generalize Real.sqrt (msq f) = s at hs e
    rw [e]
    field_simp
  have es : ∑ l ∈ Finset.range 1024, a l * (f l * rstd f) = (∑ l ∈ Finset.range 1024, f l * a l) * rstd f := by
    rw [Finset.sum_mul]
    exact Finset.sum_congr rfl fun l _ => by ring
  unfold ngrad half
  rw [es, er]
  ring

/-- What the reference's arguments are, in terms of real numbers. -/
structure Gives (V0 : Valuation τ sig (Elt Ideal)) (I : In) : Prop where
  x : Is3 (n := 1) (a := 8192) (b := 1024) (φ := .f32) (V0 (Proc.devRef .tc main_arg0)) I.x
  tg : Is3 (n := 1) (a := 8192) (b := 1024) (φ := .f32) (V0 (Proc.devRef .tc main_arg1)) I.tg
  gn : Is2 (a := 1) (b := 1024) (φ := .f32) (V0 (Proc.devRef .tc main_arg2)) fun _ k => I.gn k
  sc : Is2 (a := 1) (b := 1024) (φ := .f32) (V0 (Proc.devRef .tc main_arg3)) fun _ k => I.sc k
  sh : Is2 (a := 1) (b := 1024) (φ := .f32) (V0 (Proc.devRef .tc main_arg4)) fun _ k => I.sh k
  fw : Is3 (n := 1) (a := 3) (b := 5632) (φ := .f32) (V0 (Proc.devRef .tc main_arg5)) I.fw
  fb : Is2 (a := 1) (b := 5632) (φ := .f32) (V0 (Proc.devRef .tc main_arg6)) fun _ j => I.fb j
  gt : Is2 (a := 1) (b := 1024) (φ := .f32) (V0 (Proc.devRef .tc main_arg7)) fun _ k => I.gt k
  fg : Is1 (a := 1024) (φ := .f32) (V0 (Proc.devRef .tc main_arg8)) I.fg
  wup : Is3 (n := 1) (a := 1024) (b := 5632) (φ := .f32) (V0 (Proc.devRef .tc main_arg9)) I.wup
  wd : Is3 (n := 1) (a := 2816) (b := 1024) (φ := .f32) (V0 (Proc.devRef .tc main_arg10)) I.wd

variable {V0 : Valuation τ sig (Elt Ideal)} {I : In} (G : Gives V0 I)
include G

theorem ref_v8 : Is3 (n := 1) (a := 8192) (b := 1) (φ := .f32) (res_main_v8 V0) fun t _ => msq (I.x t) := is_meanSq G.x

theorem ref_v9 : Is3 (n := 1) (a := 8192) (b := 1) (φ := .f32) (res_main_v9 V0) fun t _ => rstd (I.x t) := (ref_v8 G).root fun _ _ _ _ => msq_pos _

theorem ref_v14 : Is3 (n := 1) (a := 8192) (b := 1024) (φ := .f32) (res_main_v14 V0) I.n := G.x.mul ((ref_v9 G).cols (by decide) _)

theorem ref_v15 : Is3 (n := 1) (a := 1) (b := 1024) (φ := .f32) (res_main_v15 V0) fun _ k => I.gn k := (G.gn.flat _).row3 (by decide) _

theorem ref_v17 : Is3 (n := 1) (a := 8192) (b := 1024) (φ := .f32) (res_main_v17 V0) fun t k => I.n t k * I.gn k :=
  (ref_v14 G).mul ((ref_v15 G).rows (by decide) _)

theorem ref_v20 : Is3 (n := 1) (a := 1) (b := 1024) (φ := .f32) (res_main_v20 V0) fun _ k => 1 + I.sc k :=
  (one0.fill3 _).add (G.sc.row3 (by decide) _)

theorem ref_v25 : Is3 (n := 1) (a := 8192) (b := 1024) (φ := .f32) (res_main_v25 V0) I.h :=
  ((ref_v17 G).mul ((ref_v20 G).rows (by decide) _)).add ((G.sh.row3 (by decide) _).rows (by decide) _)

theorem ref_v26 : Is2 (a := 1024) (b := 5632) (φ := .f32) (res_main_v26 V0) I.wup := G.wup.flat _

theorem ref_v29 : Is2 (a := 3) (b := 5632) (φ := .f32) (res_main_v29 V0) I.fw := G.fw.flat _

theorem ref_up : Is3 (n := 1) (a := 8192) (b := 5632) (φ := .f32)
    (Host.dotGeneral (φ₁ := .f32) (φ₂ := .f32) dot_S1x8192x1024_S1024x5632_S1x8192x5632_2_0_01_1_n_n none (res_main_v25 V0) (res_main_v26 V0)) I.u := (ref_v25 G).dotNN (ref_v26 G) _

theorem ref_v32 : Is3 (n := 1) (a := 8194) (b := 5632) (φ := .f32) (res_main_v32 V0) fun t j => if t < 2 then 0 else I.u (t - 2) j + 0 :=
  (zero0.fill3 (n := 1) (a := 2) (b := 5632) _).below ((ref_up G).add (zero0.fill3 _)) _

theorem ref_v34 : Is3 (n := 1) (a := 8192) (b := 5632) (φ := .f32) (res_main_v34 V0) (I.ub 2) :=
  ((ref_v32 G).cut ![0, 0, 0] _).congr fun t _ j _ => by
    show (if 0 + t < 2 then 0 else I.u (0 + t - 2) (0 + j) + 0) = if t < 2 then 0 else I.u (t - 2) j
    simp only [Nat.zero_add, add_zero]

theorem ref_v42 : Is3 (n := 1) (a := 8192) (b := 5632) (φ := .f32) (res_main_v42 V0) (I.ub 1) :=
  ((ref_v32 G).cut ![0, 1, 0] _).congr fun t _ j _ => by
    show (if 1 + t < 2 then 0 else I.u (1 + t - 2) (0 + j) + 0) = if t < 1 then 0 else I.u (t - 1) j
    rw [Nat.zero_add, add_zero, show 1 + t - 2 = t - 1 by omega]
    exact if_congr (by omega) rfl rfl

theorem ref_v49 : Is3 (n := 1) (a := 8192) (b := 5632) (φ := .f32) (res_main_v49 V0) I.u :=
  ((ref_v32 G).cut ![0, 2, 0] _).congr fun t _ j _ => by
    show (if 2 + t < 2 then 0 else I.u (2 + t - 2) (0 + j) + 0) = I.u t j
    rw [if_neg (by omega), Nat.zero_add, add_zero, Nat.add_sub_cancel_left]

theorem ref_v37 : Is3 (n := 1) (a := 1) (b := 5632) (φ := .f32) (res_main_v37 V0) fun _ j => I.fw 0 j :=
  ((((ref_v29 G).slice (c := 1) (d := 5632) ![0, 0] _).flat _).row3 (by decide) _).congr fun _ _ j _ => congrArg (I.fw 0) (Nat.zero_add j)

theorem ref_v45 : Is3 (n := 1) (a := 1) (b := 5632) (φ := .f32) (res_main_v45 V0) fun _ j => I.fw 1 j :=
  ((((ref_v29 G).slice (c := 1) (d := 5632) ![1, 0] _).flat _).row3 (by decide) _).congr fun _ _ j _ => congrArg (I.fw 1) (Nat.zero_add j)

theorem ref_v52 : Is3 (n := 1) (a := 1) (b := 5632) (φ := .f32) (res_main_v52 V0) fun _ j => I.fw 2 j :=
  ((((ref_v29 G).slice (c := 1) (d := 5632) ![2, 0] _).flat _).row3 (by decide) _).congr fun _ _ j _ => congrArg (I.fw 2) (Nat.zero_add j)

theorem ref_v58 : Is3 (n := 1) (a := 8192) (b := 5632) (φ := .f32) (res_main_v58 V0) I.cv :=
  (((((zero0.fill3 _).add ((ref_v34 G).mul ((ref_v37 G).rows (by decide) _))).add ((ref_v42 G).mul ((ref_v45 G).rows (by decide) _))).add
    ((ref_v49 G).mul ((ref_v52 G).rows (by decide) _))).add (((G.fb.flat _).row3 (by decide) _).rows (by decide) _)).congr fun t _ j _ => by
      unfold In.cv
      ring

theorem ref_v59 : Is3 (n := 1) (a := 8192) (b := 2816) (φ := .f32) (res_main_v59 V0) fun t j => I.cv t j :=
  ((ref_v58 G).cut ![0, 0, 0] _).congr fun t _ j _ => congrArg₂ I.cv (Nat.zero_add t) (Nat.zero_add j)

theorem ref_v60 : Is3 (n := 1) (a := 8192) (b := 2816) (φ := .f32) (res_main_v60 V0) fun t j => I.cv t (2816 + j) :=
  ((ref_v58 G).cut ![0, 0, 2816] _).congr fun t _ j _ => congrArg₂ I.cv (Nat.zero_add t) rfl

theorem ref_v61 : Is3 (n := 1) (a := 1) (b := 1024) (φ := .f32) (res_main_v61 V0) fun _ k => I.gt k := G.gt.row3 (by decide) _

theorem ref_v62_2 : Is3 (n := 1) (a := 8192) (b := 2816) (φ := .f32) (res_main_v62_2 V0) fun t j => sgm (I.cv t (2816 + j)) :=
  (one0.fill3 _).quot ((one0.fill3 _).add (ref_v60 G).neg.exp) fun _ _ _ _ => exp_ne _

theorem ref_v62_0 : Is3 (n := 1) (a := 8192) (b := 2816) (φ := .f32) (res_main_v62_0 V0) fun t j => sl (I.cv t (2816 + j)) := (ref_v60 G).mul (ref_v62_2 G)

theorem ref_v63 : Is3 (n := 1) (a := 8192) (b := 2816) (φ := .f32) (res_main_v63 V0) I.f := (ref_v62_0 G).mul (ref_v59 G)

theorem ref_v64 : Is2 (a := 2816) (b := 1024) (φ := .f32) (res_main_v64 V0) I.wd := G.wd.flat _

theorem ref_v65 : Is3 (n := 1) (a := 8192) (b := 1024) (φ := .f32) (res_main_v65 V0) I.o := (ref_v63 G).dotNN (ref_v64 G) _

theorem ref_v68 : Is3 (n := 1) (a := 8192) (b := 1024) (φ := .f32) (res_main_v68 V0) I.x3 := G.x.add (((ref_v61 G).rows (by decide) _).mul (ref_v65 G))

theorem ref_v75 : Is3 (n := 1) (a := 8192) (b := 1) (φ := .f32) (res_main_v75 V0) fun t _ => msq (I.x3 t) := is_meanSq (ref_v68 G)

theorem ref_v76 : Is3 (n := 1) (a := 8192) (b := 1) (φ := .f32) (res_main_v76 V0) fun t _ => rstd (I.x3 t) := (ref_v75 G).root fun _ _ _ _ => msq_pos _

theorem ref_v81 : Is3 (n := 1) (a := 8192) (b := 1024) (φ := .f32) (res_main_v81 V0) I.n3 := (ref_v68 G).mul ((ref_v76 G).cols (by decide) _)

theorem ref_v82 : Is3 (n := 1) (a := 1) (b := 1024) (φ := .f32) (res_main_v82 V0) fun _ k => I.fg k := G.fg.row3 (by decide) _

theorem ref_v85 : Is3 (n := 1) (a := 8192) (b := 1024) (φ := .f32) (res_main_v85 V0) I.diff := ((ref_v81 G).mul ((ref_v82 G).rows (by decide) _)).sub G.tg

end Cert.Ffn.V
-- ==== Proof.Ffn.V.RefBack.lean ====
/-
  What the reference computes of its arguments, backward, and its results.
-/
module

public import proofs.«01_k».proof.Proof.Ffn.V.RefOps
public import proofs.«01_k».proof.Proof.Ffn.V.Out

@[expose] public section

set_option maxRecDepth 16384

noncomputable section

namespace Cert.Ffn.V

open Idealize.ShloMosaic
open Cert.ReferenceIdeal Cert.ReferenceIdeal.Gen Cert.ReferenceIdeal.Value

namespace In

variable (I : In)

/-- A sum against the rows moved down is the sum of the rows against the gradient moved up. -/
theorem sum_shift (s j : ℕ) : ∑ t ∈ Finset.range 8192, I.ub s t j * I.dc t j = ∑ t ∈ Finset.range 8192, I.dcv (t + s) j * I.u t j := by
  have e1 : ∑ t ∈ Finset.range (8192 + s), I.ub s t j * I.dcv t j = ∑ t ∈ Finset.range 8192, I.ub s t j * I.dc t j := by
    rw [Finset.sum_range_add]
    refine (congrArg₂ (fun p q : ℝ => p + q) (Finset.sum_congr rfl fun t ht => ?_) (Finset.sum_eq_zero fun t _ => ?_)).trans (add_zero _)
    · rw [dcv, if_pos (Finset.mem_range.mp ht)]
    · rw [dcv, if_neg (by omega), mul_zero]
  have e2 : ∑ t ∈ Finset.range (s + 8192), I.ub s t j * I.dcv t j = ∑ t ∈ Finset.range 8192, I.dcv (t + s) j * I.u t j := by
    rw [Finset.sum_range_add]
    refine (congrArg₂ (fun p q : ℝ => p + q) (Finset.sum_eq_zero fun t ht => ?_) (Finset.sum_congr rfl fun t _ => ?_)).trans (zero_add _)
    · rw [ub, if_pos (Finset.mem_range.mp ht), zero_mul]
    · rw [ub, if_neg (by omega), Nat.add_sub_cancel_left, Nat.add_comm s t, mul_comm]
  rw [← e1, ← e2, Nat.add_comm]

end In

variable {V0 : Valuation τ sig (Elt Ideal)} {I : In} (G : Gives V0 I)
include G

theorem ref_v99 : Is3 (n := 1) (a := 8192) (b := 1024) (φ := .f32) (res_main_v99 V0) I.dy :=
  ((((((Is0.lit lit_half).mul one0).fill2 (a := 1) (b := 8192) _).quot (width0.fill2 _) fun _ _ _ _ => by norm_num).perRow (by decide) _).mul
    (((Is0.lit lit_two).fill3 _).mul (ref_v85 G))).congr fun t _ k _ => by
      unfold In.dy
      ring

theorem ref_v104 : Is3 (n := 1) (a := 8192) (b := 1024) (φ := .f32) (res_main_v104 V0) fun t k => I.dy t k * I.fg k :=
  (ref_v99 G).mul ((ref_v82 G).rows (by decide) _)

theorem ref_v116 : Is3 (n := 1) (a := 8192) (b := 1024) (φ := .f32) (res_main_v116 V0) fun t _ => half (I.x3 t) fun l => I.dy t l * I.fg l :=
  is_pull (ref_v68 G) (ref_v104 G) (ref_v76 G) (ref_v75 G)

theorem ref_v120 : Is3 (n := 1) (a := 8192) (b := 1024) (φ := .f32) (res_main_v120 V0) I.dx3 :=
  ((((ref_v104 G).mul ((ref_v76 G).cols (by decide) _)).add ((ref_v68 G).mul (ref_v116 G))).add ((ref_v116 G).mul (ref_v68 G))).congr
    fun t _ k _ => half_ngrad (I.x3 t) (fun l => I.dy t l * I.fg l) k

theorem ref_v122 : Is3 (n := 1) (a := 8192) (b := 1024) (φ := .f32) (res_main_v122 V0) I.go := ((ref_v61 G).rows (by decide) _).mul (ref_v120 G)

theorem ref_v128 : Is3 (n := 1) (a := 8192) (b := 2816) (φ := .f32) (res_main_v128 V0) I.df := (ref_v122 G).dotNT (ref_v64 G) _

theorem ref_v129 : Is3 (n := 1) (a := 2816) (b := 1024) (φ := .f32) (res_main_v129 V0) I.dwd :=
  ((((ref_v122 G).dotTN (ref_v63 G) _).turn _).lead (by decide) (by decide) _).congr
    fun j _ k _ => Finset.sum_congr rfl fun t _ => mul_comm _ _

theorem ref_v131 : Is3 (n := 1) (a := 8192) (b := 2816) (φ := .f32) (res_main_v131 V0) fun t j => I.df t j * I.cv t j := (ref_v128 G).mul (ref_v59 G)

theorem ref_v135 : Is3 (n := 1) (a := 8192) (b := 5632) (φ := .f32) (res_main_v135 V0) I.dc :=
  (((ref_v62_0 G).mul (ref_v128 G)).beside (((ref_v131 G).mul (ref_v62_2 G)).add
    (((ref_v60 G).mul (ref_v131 G)).mul ((ref_v62_2 G).mul ((one0.fill3 _).sub (ref_v62_2 G))))) _).congr fun t _ j _ => by
      unfold In.dc
      by_cases hj : j < 2816
      · rw [if_pos hj, if_pos hj, mul_comm]
      · rw [if_neg hj, if_neg hj, show 2816 + (j - 2816) = j by omega]
        unfold dsl sl
        ring

theorem ref_v171 : Is3 (n := 1) (a := 8192) (b := 5632) (φ := .f32) (res_main_v171 V0) I.du :=
  (((((((ref_v135 G).mul ((ref_v52 G).rows (by decide) _)).padRows zero0 2 0 _ _).add
    (((ref_v135 G).mul ((ref_v45 G).rows (by decide) _)).padRows (c := 8194) zero0 1 1 _ _)).add
    (((ref_v135 G).mul ((ref_v37 G).rows (by decide) _)).padRows (c := 8194) zero0 0 2 _ _)).cut ![0, 2, 0] _)).congr fun t ht j _ => by
      show (if 2 ≤ 2 + t ∧ 2 + t - 2 < 8192 then I.dc (2 + t - 2) (0 + j) * I.fw 2 (0 + j) else 0)
        + (if 1 ≤ 2 + t ∧ 2 + t - 1 < 8192 then I.dc (2 + t - 1) (0 + j) * I.fw 1 (0 + j) else 0)
        + (if 0 ≤ 2 + t ∧ 2 + t - 0 < 8192 then I.dc (2 + t - 0) (0 + j) * I.fw 0 (0 + j) else 0) = _
      unfold In.du In.dcv
      rw [Nat.zero_add, show 2 + t - 2 = t by omega, show 2 + t - 1 = t + 1 by omega, show 2 + t - 0 = t + 2 by omega, if_pos ht,
        if_pos (⟨by omega, ht⟩ : 2 ≤ 2 + t ∧ t < 8192), ite_mul, ite_mul, zero_mul, zero_mul]
      exact congrArg₂ (fun p q : ℝ => p + q) (congrArg _ (if_congr (and_iff_right (by omega)) rfl rfl)) (if_congr (and_iff_right (by omega)) rfl rfl)

theorem ref_v176 : Is3 (n := 1) (a := 8192) (b := 1024) (φ := .f32) (res_main_v176 V0) I.dh := (ref_v171 G).dotNT (ref_v26 G) _

theorem ref_v186 : Is3 (n := 1) (a := 8192) (b := 1024) (φ := .f32) (res_main_v186 V0) fun t k => I.dh t k * (1 + I.sc k) :=
  (ref_v176 G).mul ((ref_v20 G).rows (by decide) _)

theorem ref_v193 : Is3 (n := 1) (a := 8192) (b := 1024) (φ := .f32) (res_main_v193 V0) fun t k => I.dh t k * (I.gn k * (1 + I.sc k)) :=
  ((ref_v186 G).mul ((ref_v15 G).rows (by decide) _)).congr fun t _ k _ => by ring

theorem ref_v206 : Is3 (n := 1) (a := 8192) (b := 1024) (φ := .f32) (res_main_v206 V0) fun t _ => half (I.x t) fun l => I.dh t l * (I.gn l * (1 + I.sc l)) :=
  is_pull G.x (ref_v193 G) (ref_v9 G) (ref_v8 G)

/-! ### The results -/

theorem ref_du (hc) (hb) : Is2 (a := 8192) (b := 5632) (φ := .bf16)
    (truncf (F := Ideal) (φ := .f32) .bf16 (shapeCast (s := S1x8192x5632) S8192x5632 (res_main_v171 V0) hc) hb) I.du :=
  ((ref_v171 G).flat _).trunc _

theorem ref_dx2 (hb hc) : Is2 (a := 8192) (b := 1024) (φ := .f32) (shapeCast (s := S1x8192x1024) S8192x1024
    (addf (F := Ideal) (addf (addf (res_main_v120 V0) (mulf (res_main_v193 V0) (broadcastInDim S1x8192x1024 ![0, 1, 2] hb (res_main_v9 V0))))
      (mulf (V0 (Proc.devRef .tc main_arg0)) (res_main_v206 V0))) (mulf (res_main_v206 V0) (V0 (Proc.devRef .tc main_arg0)))) hc) I.dx2 :=
  ((((((ref_v120 G).add ((ref_v193 G).mul ((ref_v9 G).cols (by decide) _))).add (G.x.mul (ref_v206 G))).add ((ref_v206 G).mul G.x)).flat _)).congr fun t _ k _ => by
    unfold In.dx2
    rw [← half_ngrad]
    ring

/-- The sums of the columns of an array 5632 wide, as the reference takes them. -/
def sumWide (x : FVec Ideal S1x8192x5632 .f32) : FVec Ideal S1x5632 .f32 :=
  broadcastInDim S1x5632 ![1] bcast_S5632_S1x5632_1 (Host.reduceAdd (shapeCast _ (Host.reduceAdd x (constant S_ .f32 0x00000000#32)
    reducesTo_S1x8192x5632_S1x5632_d1 h_S_) shapeCasts_S1x5632_S1x1x5632) (constant S_ .f32 0x00000000#32) reducesTo_S1x1x5632_S5632_d0_1 h_S_)

omit G in
theorem is_sumWide {x : FVec Ideal S1x8192x5632 .f32} {f : ℕ → ℕ → ℝ} (h : Is3 x f) : Is2 (sumWide x) fun _ j => ∑ t ∈ Finset.range 8192, f t j :=
  h.total zero0 sums_cols' (by decide) _ _ _ _ _

/-- The sums of the columns of an array 1024 wide, as the reference takes them. -/
def sumNarrow (x : FVec Ideal S1x8192x1024 .f32) : FVec Ideal S1x1024 .f32 :=
  broadcastInDim S1x1024 ![1] bcast_S1024_S1x1024_1 (Host.reduceAdd (shapeCast _ (Host.reduceAdd x (constant S_ .f32 0x00000000#32)
    reducesTo_S1x8192x1024_S1x1024_d1 h_S_) shapeCasts_S1x1024_S1x1x1024) (constant S_ .f32 0x00000000#32) reducesTo_S1x1x1024_S1024_d0_1 h_S_)

omit G in
theorem is_sumNarrow {x : FVec Ideal S1x8192x1024 .f32} {f : ℕ → ℕ → ℝ} (h : Is3 x f) : Is2 (sumNarrow x) fun _ k => ∑ t ∈ Finset.range 8192, f t k :=
  h.total zero0 sums_cols (by decide) _ _ _ _ _

theorem ref_dfw : Is2 (a := 3) (b := 5632) (φ := .f32) (shapeCast (s := S1x3x5632) S3x5632 (broadcastInDim S1x3x5632 ![1, 2] bcast_S3x5632_S1x3x5632_1_2
    (addf (addf (pad S3x5632 ![2, 0] ![0, 0] ![0, 0] (sumWide (mulf (res_main_v49 V0) (res_main_v135 V0))) (constant S_ .f32 0x00000000#32) pads_S1x5632_S3x5632_200_000 h_S_)
      (pad S3x5632 ![1, 0] ![1, 0] ![0, 0] (sumWide (mulf (res_main_v42 V0) (res_main_v135 V0))) (constant S_ .f32 0x00000000#32) pads_S1x5632_S3x5632_110_000 h_S_))
      (pad S3x5632 ![0, 0] ![2, 0] ![0, 0] (sumWide (mulf (res_main_v34 V0) (res_main_v135 V0))) (constant S_ .f32 0x00000000#32) pads_S1x5632_S3x5632_020_000 h_S_)))
    shapeCasts_S1x3x5632_S3x5632) I.dfw := by
  refine ((((((is_sumWide ((ref_v49 G).mul (ref_v135 G))).padRows zero0 2 0 _ _).add ((is_sumWide ((ref_v42 G).mul (ref_v135 G))).padRows (c := 3) zero0 1 1 _ _)).add
    ((is_sumWide ((ref_v34 G).mul (ref_v135 G))).padRows (c := 3) zero0 0 2 _ _)).lead (by decide) (by decide) _).flat _).congr fun r hr j _ => ?_
  have e0 : ∑ t ∈ Finset.range 8192, I.u t j * I.dc t j = ∑ t ∈ Finset.range 8192, I.dcv (t + 0) j * I.u t j := by
    refine Finset.sum_congr rfl fun t ht => ?_
    rw [Nat.add_zero, In.dcv, if_pos (Finset.mem_range.mp ht), mul_comm]
  unfold In.dfw
  interval_cases r
  · exact (by norm_num : _ = ∑ t ∈ Finset.range 8192, I.ub 2 t j * I.dc t j).trans (I.sum_shift 2 j)
  · exact (by norm_num : _ = ∑ t ∈ Finset.range 8192, I.ub 1 t j * I.dc t j).trans (I.sum_shift 1 j)
  · exact (by norm_num : _ = ∑ t ∈ Finset.range 8192, I.u t j * I.dc t j).trans e0

theorem ref_dfb : Is2 (sumWide (res_main_v135 V0)) fun _ j => I.dfb j :=
  (is_sumWide (ref_v135 G)).congr fun _ _ j _ => Finset.sum_congr rfl fun t ht => by rw [In.dcv, if_pos (Finset.mem_range.mp ht)]

theorem ref_dfg : Is2 (sumNarrow (mulf (res_main_v81 V0) (res_main_v99 V0))) fun _ k => I.dfg k :=
  (is_sumNarrow ((ref_v81 G).mul (ref_v99 G))).congr fun _ _ k _ => Finset.sum_congr rfl fun t _ => mul_comm _ _

theorem ref_dgt : Is2 (sumNarrow (mulf (res_main_v120 V0) (res_main_v65 V0))) fun _ k => I.dgt k := is_sumNarrow ((ref_v120 G).mul (ref_v65 G))

theorem ref_dgn : Is2 (sumNarrow (mulf (res_main_v14 V0) (res_main_v186 V0))) fun _ k => I.dhn k * (1 + I.sc k) :=
  (is_sumNarrow ((ref_v14 G).mul (ref_v186 G))).congr fun _ _ k _ => by
    unfold In.dhn
    rw [Finset.sum_mul]
    exact Finset.sum_congr rfl fun t _ => by ring

theorem ref_dsc : Is2 (sumNarrow (mulf (res_main_v17 V0) (res_main_v176 V0))) fun _ k => I.dhn k * I.gn k :=
  (is_sumNarrow ((ref_v17 G).mul (ref_v176 G))).congr fun _ _ k _ => by
    unfold In.dhn
    rw [Finset.sum_mul]
    exact Finset.sum_congr rfl fun t _ => by ring

theorem ref_dsh : Is2 (sumNarrow (res_main_v176 V0)) fun _ k => I.dsh k := is_sumNarrow (ref_v176 G)

theorem ref_loss : Is2 (a := 1) (b := 128) (φ := .f32) (broadcastInDim S1x128 ![] bcast_S_S1x128 (mulf (F := Ideal) (constant S_ .f32 0x3F000000#32)
    (Host.reduceAdd (Host.divf (Host.reduceAdd (mulf (res_main_v85 V0) (res_main_v85 V0)) (constant S_ .f32 0x00000000#32) reducesTo_S1x8192x1024_S1x8192_d2 h_S_)
      (broadcastInDim S1x8192 ![] bcast_S_S1x8192 (constant S_ .f32 0x44800000#32))) (constant S_ .f32 0x00000000#32) reducesTo_S1x8192_S_d0_1 h_S_)))
    fun _ _ => I.loss :=
  (((Is0.lit lit_half).mul (((((ref_v85 G).mul (ref_v85 G)).rowSums zero0 _ sums_rows _).quot (width0.fill2 _) fun _ _ _ _ => by norm_num).total zero0 _ _)).fill2 _).congr
    fun _ _ _ _ => by
      unfold In.loss
      rw [Finset.mul_sum]
      exact Finset.sum_congr rfl fun t _ => by ring

theorem ref_dwd (hc) : Is2 (a := 2816) (b := 1024) (φ := .f32) (shapeCast (s := S1x2816x1024) S2816x1024 (res_main_v129 V0) hc) I.dwd := (ref_v129 G).flat _

end Cert.Ffn.V
-- ==== Proof.Ffn.V.Same.lean ====
/-
  The kernel and the reference end with the same results.
-/
module

public import proofs.«01_k».proof.Proof.Ffn.Launch
public import proofs.«01_k».proof.Proof.Ffn.V.Out
public import proofs.«01_k».proof.Proof.Ffn.V.Pre
public import proofs.«01_k».proof.Proof.Ffn.V.RefBack

@[expose] public section

set_option maxRecDepth 16384

noncomputable section

namespace Cert.Ffn.V

open Idealize.ShloMosaic Idealize.ShloMosaic.TcCoe Idealize.SL.Sem
open Cert.KernelIdeal

variable {m : (ℓ : Loc nD τ sig) → Buf (Elt Ideal) ℓ} {m' : (ℓ : Loc Cert.ReferenceIdeal.nD Cert.ReferenceIdeal.τ Cert.ReferenceIdeal.sig) → Buf (Elt Ideal) ℓ}

/-- The two programs' arguments are the same on a device. -/
def Args (m : (ℓ : Loc nD τ sig) → Buf (Elt Ideal) ℓ) (m' : (ℓ : Loc Cert.ReferenceIdeal.nD Cert.ReferenceIdeal.τ Cert.ReferenceIdeal.sig) → Buf (Elt Ideal) ℓ)
    (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)
  ∧ m' ((c.tc : Thread Cert.ReferenceIdeal.nD Cert.ReferenceIdeal.τ).loc Cert.ReferenceIdeal.main_arg10) = m ((c.tc : Thread nD τ).loc main_arg10)

/-- The reference's arguments are the kernel's. -/
theorem gives_of {c : Dev nD} {I : In} (H : Holds m c I) (e : Args m m' c) : Gives (StableHlo.launchContents m' c) I := by
  obtain ⟨e0, e1, e2, e3, e4, e5, e6, e7, e8, e9, e10⟩ := e
  exact
    { x := fun y => (congrFun e0 y).trans (H.x y)
      tg := fun y => (congrFun e1 y).trans (H.tg y)
      gn := fun y => (congrFun e2 y).trans (H.gn y)
      sc := fun y => (congrFun e3 y).trans (H.sc y)
      sh := fun y => (congrFun e4 y).trans (H.sh y)
      fw := fun y => (congrFun e5 y).trans (H.fw y)
      fb := fun y => (congrFun e6 y).trans (H.fb y)
      gt := fun y => (congrFun e7 y).trans (H.gt y)
      fg := fun y => (congrFun e8 y).trans (H.fg y)
      wup := fun y => (congrFun e9 y).trans (H.wup y)
      wd := fun y => (congrFun e10 y).trans (H.wd y) }

set_option maxHeartbeats 4000000 in
/-- The value claim. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hP hE
  refine ⟨fun c => (dats m 0 c).arrAt 12 (cfgs 0).N, fun c => (dats m 0 c).arrAt 13 (cfgs 0).N, fun c => (dats m 0 c).arrAt 14 (cfgs 0).N,
    fun c => (dats m 0 c).arrAt 15 (cfgs 0).N, fun c => (dats m 0 c).arrAt 16 (cfgs 0).N, fun c => (dats m 0 c).arrAt 17 (cfgs 0).N,
    fun c => (dats m 0 c).arrAt 18 (cfgs 0).N, fun c => (dats m 0 c).arrAt 19 (cfgs 0).N, fun c => (dats m 0 c).arrAt 20 (cfgs 0).N,
    fun c => (dats m 0 c).arrAt 21 (cfgs 0).N, fun c => written m c main_v23_10, fun c => written m c main_v23_11, ?_, ?_⟩
  · refine (θ_run defs _ _).mono (fun r h c => ?_) (run_main m g)
    exact ⟨(h.1.1 c).1 12, (h.1.1 c).1 13, (h.1.1 c).1 14, (h.1.1 c).1 15, (h.1.1 c).1 16, (h.1.1 c).1 17, (h.1.1 c).1 18, (h.1.1 c).1 19, (h.1.1 c).1 20,
      (h.1.1 c).1 21, h.1.2 c main_v23_10 (by decide), h.1.2 c main_v23_11 (by decide), args_kept m h.1 c⟩
  · refine (θ_run Cert.ReferenceIdeal.defs _ _).mono (fun r h c => ?_) (Cert.ReferenceIdeal.Value.run (F := Ideal) m' g')
    have H := holds m c hP
    have G := gives_of H (hE c)
    obtain ⟨r0, r1, r2, r3, r4, r5, r6, r7, r8, r9, r10, r11, ra⟩ := h c
    have w10 : written m c main_v23_10 = stOut m c lastPt .dwd :=
      (Function.update_of_ne (by decide) _ _).trans (Function.update_self _ _ _)
    have w11 : written m c main_v23_11 = (truncf (φ := .f32) .bf16 (stOut m c lastPt .dwd : FVec Ideal ⟨2, ![2816, 1024]⟩ .f32) Facts₀.bitsLt_bf16_f32 : FVec Ideal ⟨2, ![2816, 1024]⟩ .bf16) :=
      Function.update_self (main_v23_11 : Ref sig .tc) _ _
    exact ⟨r0.trans ((ref_du G _ _).eq (final_du H)), r1.trans ((ref_dx2 G _ _).eq (final_dx2 H)), r2.trans ((ref_dfw G).eq (final_dfw H)),
      r3.trans ((ref_dfb G).eq (final_dfb H)), r4.trans ((ref_dfg G).eq (final_dfg H)), r5.trans ((ref_dgt G).eq (final_dgt H)),
      r6.trans ((ref_dgn G).eq (final_dgn H)), r7.trans ((ref_dsc G).eq (final_dsc H)), r8.trans ((ref_dsh G).eq (final_dsh H)),
      r9.trans ((ref_loss G).eq (final_loss H)), (r10.trans ((ref_dwd G _).eq (final_dwd H))).trans w10.symm,
      (r11.trans (((ref_dwd G _).trunc _).eq ((final_dwd H).trunc _))).trans w11.symm, ra⟩

end Cert.Ffn.V
-- ==== Proof.Mix.Keeps.lean ====
/-
  Programs that leave an assertion as they found it.

  A frame asks of a body that it runs on and that the buffers it owns are owned at the end, at whatever contents.  `Keeps P p`
  says that of a program `p` and an assertion `P`; loads and stores of the buffers `P` holds keep it, and so do programs put
  together from such.
-/
module

public import Idealize.ShloMosaic.Lib.Memref
public import Idealize.ShloMosaic.Lib.Tactic
public import Idealize.ShloMosaic.Rules.Step

@[expose] public section

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Val : EltTy → Type} {α β : Type}
variable {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix Val Name U Lvl

variable (defs : Defs nD τ sig Val Λ) (𝒱 : Variants) (c : Dev nD) (P : sProp (MT nD τ sig Ix Val Name U Lvl))

/-- From `P` the program runs on, and ends with `P` whatever it returns. -/
def Keeps (p : Prog (TpuEff nD τ sig Val Λ .tc) α) : Prop :=
  ∀ K : α → sProp 𝕄, iprop(P ∗ (∀ a, P -∗ K a)) ⊢ wp frame (wpE defs 𝒱 (c : Thread nD τ) none) Set.univ p K

/-- `P` holds the buffer of `M` whole, at some contents. -/
def Holds {S : Shape} {e : EltTy} (M : Memref sig .tc .vmem S e) : Prop :=
  P ⊢ (iprop((∃ d, owns (c : Thread nD τ) M fullShare d) ∗ ((∃ d, owns (c : Thread nD τ) M fullShare d) -∗ P)) : sProp 𝕄)

variable {defs 𝒱 c P}

theorem keeps_pure (a : α) : Keeps defs 𝒱 c P (pure a : Prog (TpuEff nD τ sig Val Λ .tc) α) := fun K => by
  refine BIBase.Entails.trans ?_ (le_wp_ret _ _ _ a K)
  iintro ⟨H, Hk⟩
  iapply Hk
  iexact H

theorem keeps_bind {p : Prog (TpuEff nD τ sig Val Λ .tc) α} {f : α → Prog (TpuEff nD τ sig Val Λ .tc) β}
    (hp : Keeps defs 𝒱 c P p) (hf : ∀ a, Keeps defs 𝒱 c P (f a)) : Keeps defs 𝒱 c P (p >>= f) := fun K => by
  rw [wp_bind]
  iintro ⟨H, Hk⟩
  iapply (hp _)
  isplitl [H]; · iexact H
  iintro %a H
  iapply (hf a K)
  isplitl [H]; · iexact H
  iexact Hk

theorem keeps_load {S : Shape} {e : EltTy} {M : Memref sig .tc .vmem S e} (hM : Holds c P M) (r : LoadRect S) (h : M.view.LoadsAt r) :
    Keeps defs 𝒱 c P (Prog.lift (.load M r h)) := fun K => by
  unfold Holds at hM
  iintro ⟨H, Hk⟩
  ihave H := hM $$ H
  icases H with ⟨⟨%d, HM⟩, HP⟩
  unfold owns
  icases HM with ⟨%f, %hf, HM⟩
  iapply (wp_load 𝒱 (c : Thread nD τ) none Set.univ (m := M) (S := M.view.set) (View.setOn_subset_set _ _)) $$ HM
  iintro HM
  iapply (le_wp_ret _ _ _ _ K)
  iapply Hk
  iapply HP
  iexists d, f
  isplitr
  · ipureintro; exact hf
  iexact HM

theorem keeps_store {S : Shape} {e : EltTy} {M : Memref sig .tc .vmem S e} (hM : Holds c P M) (r : Rect S)
    (w : r.shape.Idx → Val e) (h) (h') :
    Keeps defs 𝒱 c P (Prog.lift (.store M r w Finset.univ h h')) := fun K => by
  unfold Holds at hM
  iintro ⟨H, Hk⟩
  ihave H := hM $$ H
  icases H with ⟨⟨%d, HM⟩, HP⟩
  unfold owns
  icases HM with ⟨%f, %hf, HM⟩
  iapply (wp_store 𝒱 (c : Thread nD τ) none Set.univ (m := M) (r := r) (S := M.view.set)
    ((View.setOn_subset_set _ _).trans (View.set_slice_subset _ _))) $$ HM
  iintro HM
  iapply (le_wp_ret _ _ _ _ K)
  iapply Hk
  iapply HP
  iexists _, _
  isplitr; swap
  · iexact HM
  ipureintro; rfl

theorem keeps_dite {q : Prop} [Decidable q] {p : q → Prog (TpuEff nD τ sig Val Λ .tc) α} {p' : ¬ q → Prog (TpuEff nD τ sig Val Λ .tc) α}
    (hp : ∀ h, Keeps defs 𝒱 c P (p h)) (hp' : ∀ h, Keeps defs 𝒱 c P (p' h)) : Keeps defs 𝒱 c P (if h : q then p h else p' h) := by
  by_cases h : q
  · rw [dif_pos h]; exact hp h
  · rw [dif_neg h]; exact hp' h

/-- Assertions side by side. -/
def beside : List (sProp 𝕄) → sProp 𝕄
  | [] => iprop(emp)
  | [A] => A
  | A :: B :: l => iprop(A ∗ beside (B :: l))

/-- One of them can be taken out and put back. -/
theorem beside_take {A : sProp 𝕄} : ∀ {l : List (sProp 𝕄)}, A ∈ l → beside l ⊢ iprop(A ∗ (A -∗ beside l))
  | [], h => absurd h (List.not_mem_nil)
  | [B], h => by
    obtain rfl := List.mem_singleton.mp h
    show A ⊢ iprop(A ∗ (A -∗ A))
    iintro H
    isplitl [H]; · iexact H
    iintro H; iexact H
  | B :: C :: l, h => by
    show iprop(B ∗ beside (C :: l)) ⊢ iprop(A ∗ (A -∗ (B ∗ beside (C :: l))))
    rcases List.mem_cons.mp h with rfl | h
    · iintro ⟨H, HR⟩
      isplitl [H]; · iexact H
      iintro H
      isplitl [H]; · iexact H
      iexact HR
    · have ih := beside_take h
      iintro ⟨H, HR⟩
      ihave HR := ih $$ HR
      icases HR with ⟨HA, HR⟩
      isplitl [HA]; · iexact HA
      iintro HA
      isplitl [H]; · iexact H
      iapply HR
      iexact HA

end Cert.Mix

end
-- ==== Proof.Mix.Parts.lean ====
/-
  The mixer's backward body keeps what holds its buffers, given that its copies do.
-/
module

public import proofs.«01_k».proof.Proof.Mix.Keeps
public import proofs.«01_k».proof.Proof.Gen.KernelMixIdeal.Skeleton
public import proofs.«01_k».proof.Proof.Gen.KernelMixIdeal.Launch
public import Idealize.ShloMosaic.Lib.Pipeline.Frame

@[expose] public section

set_option maxRecDepth 65536

noncomputable section

namespace Cert.Mix

open Cert.KernelMixIdeal Cert.KernelMixIdeal.Gen
open Idealize.ShloMosaic Idealize.ShloMosaic.TcCoe
open Idealize.SL Idealize.SL.RA Idealize.SL.BI Idealize.SL.Sem

variable {F : FTy → Type} [FloatOps F] {α : Type}

local notation "𝕄" => MT nD τ sig Unit (Elt F) ℕ (Pipeline.UD sig nD τ) ℕ

/-- A counter of the kernel's six, alone. -/
abbrev cell (q : DmaSems sig S6) (j : Fin 1 → ℕ) (inb : ∀ a, j a + S1.size a ≤ S6.size a) : DmaSems sig S_ :=
  (q.slice (Rect.unit (s := S6) j S1.size inb)).squeeze S_ squeezes_S1_S_

/-- The first point's copies of the two weights into VMEM, then `k`. -/
abbrev copyIn (arg21 : Memref sig .tc .hbm S4x1024x512 .bf16) (harg21 : arg21.IsWhole) (arg22 : Memref sig .tc .hbm S1024x1024 .bf16) (harg22 : arg22.IsWhole)
    (arg41 : Memref sig .tc .vmem S4x1024x512 .bf16) (harg41 : arg41.IsWhole) (arg42 : Memref sig .tc .vmem S1024x1024 .bf16) (harg42 : arg42.IsWhole)
    (q : DmaSems sig S6) (k : Prog (TpuEff nD τ sig (Elt F) Λ₀ .tc) α) : Prog (TpuEff nD τ sig (Elt F) Λ₀ .tc) α := do
  Prog.lift (.enqueueDma arg21 (.here arg41) (.dma (cell q ![0] inb_S6_S1_0).sem) harg21.wordExact harg41.wordExact ⟨Or.inl rfl, trivial⟩)
  Prog.lift (.enqueueDma arg22 (.here arg42) (.dma (cell q ![1] inb_S6_S1_1).sem) harg22.wordExact harg42.wordExact ⟨Or.inl rfl, trivial⟩)
  Prog.lift (.waitDma2 (cell q ![0] inb_S6_S1_0).sem arg21 arg41 harg21.wordExact harg41.wordExact)
  Prog.lift (.waitDma2 (cell q ![1] inb_S6_S1_1).sem arg22 arg42 harg22.wordExact harg42.wordExact)
  k

/-- The last point's copies of the two gradients, in both formats, out of VMEM, then `k`. -/
abbrev copyOut (arg37 : Memref sig .tc .hbm S4x1024x512 .f32) (harg37 : arg37.IsWhole) (arg38 : Memref sig .tc .hbm S1024x1024 .f32) (harg38 : arg38.IsWhole)
    (arg39 : Memref sig .tc .hbm S4x1024x512 .bf16) (harg39 : arg39.IsWhole) (arg40 : Memref sig .tc .hbm S1024x1024 .bf16) (harg40 : arg40.IsWhole)
    (arg41 : Memref sig .tc .vmem S4x1024x512 .bf16) (harg41 : arg41.IsWhole) (arg42 : Memref sig .tc .vmem S1024x1024 .bf16) (harg42 : arg42.IsWhole)
    (arg43 : Memref sig .tc .vmem S4x1024x512 .f32) (harg43 : arg43.IsWhole) (arg44 : Memref sig .tc .vmem S1024x1024 .f32) (harg44 : arg44.IsWhole)
    (q : DmaSems sig S6) (k : Prog (TpuEff nD τ sig (Elt F) Λ₀ .tc) α) : Prog (TpuEff nD τ sig (Elt F) Λ₀ .tc) α := do
  Prog.lift (.enqueueDma arg43 (.here arg37) (.dma (cell q ![2] inb_S6_S1_2).sem) harg43.wordExact harg37.wordExact ⟨Or.inl rfl, trivial⟩)
  Prog.lift (.enqueueDma arg41 (.here arg39) (.dma (cell q ![3] inb_S6_S1_3).sem) harg41.wordExact harg39.wordExact ⟨Or.inl rfl, trivial⟩)
  Prog.lift (.enqueueDma arg44 (.here arg38) (.dma (cell q ![4] inb_S6_S1_4).sem) harg44.wordExact harg38.wordExact ⟨Or.inl rfl, trivial⟩)
  Prog.lift (.enqueueDma arg42 (.here arg40) (.dma (cell q ![5] inb_S6_S1_5).sem) harg42.wordExact harg40.wordExact ⟨Or.inl rfl, trivial⟩)
  Prog.lift (.waitDma2 (cell q ![2] inb_S6_S1_2).sem arg43 arg37 harg43.wordExact harg37.wordExact)
  Prog.lift (.waitDma2 (cell q ![3] inb_S6_S1_3).sem arg41 arg39 harg41.wordExact harg39.wordExact)
  Prog.lift (.waitDma2 (cell q ![4] inb_S6_S1_4).sem arg44 arg38 harg44.wordExact harg38.wordExact)
  Prog.lift (.waitDma2 (cell q ![5] inb_S6_S1_5).sem arg42 arg40 harg42.wordExact harg40.wordExact)
  k

set_option maxHeartbeats 8000000 in
/-- The body, its parts in turn: each is loads and stores of the buffers held, and the two runs of copies. -/
theorem keeps_body (c : Dev nD) (P : sProp 𝕄) (i : grid0.Coords)
    (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x1024 .f32) (harg16 : arg16.IsWhole) (arg17 : Memref sig .tc .vmem S31x512 .f32) (harg17 : arg17.IsWhole) (arg18 : Memref sig .tc .vmem S4x256x128 .bf16) (harg18 : arg18.IsWhole) (arg19 : Memref sig .tc .vmem S4x256x128 .bf16) (harg19 : arg19.IsWhole) (arg20 : Memref sig .tc .vmem S128x128 .f32) (harg20 : arg20.IsWhole) (arg21 : Memref sig .tc .hbm S4x1024x512 .bf16) (harg21 : arg21.IsWhole) (arg22 : Memref sig .tc .hbm S1024x1024 .bf16) (harg22 : arg22.IsWhole) (arg23 : Memref sig .tc .vmem S256x1024 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S31x512 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S1x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x1024 .f32) (harg34 : arg34.IsWhole) (arg35 : Memref sig .tc .vmem S8x128x128 .f32) (harg35 : arg35.IsWhole) (arg36 : Memref sig .tc .vmem S8x128 .f32) (harg36 : arg36.IsWhole) (arg37 : Memref sig .tc .hbm S4x1024x512 .f32) (harg37 : arg37.IsWhole) (arg38 : Memref sig .tc .hbm S1024x1024 .f32) (harg38 : arg38.IsWhole) (arg39 : Memref sig .tc .hbm S4x1024x512 .bf16) (harg39 : arg39.IsWhole) (arg40 : Memref sig .tc .hbm S1024x1024 .bf16) (harg40 : arg40.IsWhole) (arg41 : Memref sig .tc .vmem S4x1024x512 .bf16) (harg41 : arg41.IsWhole) (arg42 : Memref sig .tc .vmem S1024x1024 .bf16) (harg42 : arg42.IsWhole) (arg43 : Memref sig .tc .vmem S4x1024x512 .f32) (harg43 : arg43.IsWhole) (arg44 : Memref sig .tc .vmem S1024x1024 .f32) (harg44 : arg44.IsWhole) (arg45 : Memref sig .tc .vmem S32x512 .f32) (harg45 : arg45.IsWhole) (arg46 : Memref sig .tc .vmem S8x288x512 .f32) (harg46 : arg46.IsWhole) (arg47 : Memref sig .tc .vmem S128x512 .f32) (harg47 : arg47.IsWhole) (arg48 : DmaSems sig S6)
    (b1 : Holds c P arg1) (b2 : Holds c P arg2) (b3 : Holds c P arg3) (b4 : Holds c P arg4) (b5 : Holds c P arg5) (b6 : Holds c P arg6) (b7 : Holds c P arg7) (b8 : Holds c P arg8) (b9 : Holds c P arg9) (b10 : Holds c P arg10) (b11 : Holds c P arg11) (b12 : Holds c P arg12) (b13 : Holds c P arg13) (b14 : Holds c P arg14) (b15 : Holds c P arg15) (b16 : Holds c P arg16) (b17 : Holds c P arg17) (b18 : Holds c P arg18) (b19 : Holds c P arg19) (b20 : Holds c P arg20) (b23 : Holds c P arg23) (b24 : Holds c P arg24) (b25 : Holds c P arg25) (b26 : Holds c P arg26) (b27 : Holds c P arg27) (b28 : Holds c P arg28) (b29 : Holds c P arg29) (b30 : Holds c P arg30) (b31 : Holds c P arg31) (b32 : Holds c P arg32) (b33 : Holds c P arg33) (b34 : Holds c P arg34) (b35 : Holds c P arg35) (b36 : Holds c P arg36) (b41 : Holds c P arg41) (b42 : Holds c P arg42) (b43 : Holds c P arg43) (b44 : Holds c P arg44) (b45 : Holds c P arg45) (b46 : Holds c P arg46) (b47 : Holds c P arg47)
    (hin : ∀ {β : Type} {k : Prog (TpuEff nD τ sig (Elt F) Λ₀ .tc) β}, Keeps (defs₀ (F := F)) Variants.none c P k →
      Keeps (defs₀ (F := F)) Variants.none c P (copyIn arg21 harg21 arg22 harg22 arg41 harg41 arg42 harg42 arg48 k))
    (hout : ∀ {β : Type} {k : Prog (TpuEff nD τ sig (Elt F) Λ₀ .tc) β}, Keeps (defs₀ (F := F)) Variants.none c P k →
      Keeps (defs₀ (F := F)) Variants.none c P (copyOut arg37 harg37 arg38 harg38 arg39 harg39 arg40 harg40 arg41 harg41 arg42 harg42 arg43 harg43 arg44 harg44 arg48 k)) :
    Keeps (defs₀ (F := F)) Variants.none c P (cc0_bwd_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48) := by
  with_reducible rw [cc0_bwd_mixer_eq_skeleton]
  unfold cc0_bwd_mixer_skel
  dsimp only
  repeat' first
    | with_reducible exact keeps_pure _
    | with_reducible exact keeps_load (by assumption) _ _
    | with_reducible exact keeps_store (by assumption) _ _ _ _
    | (with_reducible refine keeps_dite (fun _ => ?_) (fun _ => ?_))
    | with_reducible refine hin ?_
    | with_reducible refine hout ?_
    | (with_reducible refine keeps_bind ?_ fun _ => ?_)
    | (with_reducible rw [k0_part1_eq_skeleton]; unfold k0_part1_skel; dsimp only)
    | (with_reducible rw [k0_part2_eq_skeleton]; unfold k0_part2_skel; dsimp only)
    | (with_reducible rw [k0_part3_eq_skeleton]; unfold k0_part3_skel; dsimp only)
    | (with_reducible rw [k0_part4_eq_skeleton]; unfold k0_part4_skel; dsimp only)
    | (with_reducible rw [k0_part5_eq_skeleton]; unfold k0_part5_skel; dsimp only)
    | (with_reducible rw [k0_part6_eq_skeleton]; unfold k0_part6_skel; dsimp only)
    | (with_reducible rw [k0_part7_eq_skeleton]; unfold k0_part7_skel; dsimp only)
    | (with_reducible rw [k0_part8_eq_skeleton]; unfold k0_part8_skel; dsimp only)
    | (with_reducible rw [k0_part9_eq_skeleton]; unfold k0_part9_skel; dsimp only)
    | (with_reducible rw [k0_part10_eq_skeleton]; unfold k0_part10_skel; dsimp only)
    | (with_reducible rw [k0_part11_eq_skeleton]; unfold k0_part11_skel; dsimp only)
    | (with_reducible rw [k0_part12_eq_skeleton]; unfold k0_part12_skel; dsimp only)
    | (with_reducible rw [k0_part13_eq_skeleton]; unfold k0_part13_skel; dsimp only)
    | (with_reducible rw [k0_part14_eq_skeleton]; unfold k0_part14_skel; dsimp only)
    | (with_reducible rw [k0_part15_eq_skeleton]; unfold k0_part15_skel; dsimp only)
    | (with_reducible rw [k0_part16_eq_skeleton]; unfold k0_part16_skel; dsimp only)
    | (with_reducible rw [k0_part17_eq_skeleton]; unfold k0_part17_skel; dsimp only)
    | (with_reducible rw [k0_part18_eq_skeleton]; unfold k0_part18_skel; dsimp only)
    | (with_reducible rw [k0_part19_eq_skeleton]; unfold k0_part19_skel; dsimp only)
    | (with_reducible rw [k0_part20_eq_skeleton]; unfold k0_part20_skel; dsimp only)
    | (with_reducible rw [k0_part21_eq_skeleton]; unfold k0_part21_skel; dsimp only)
    | (with_reducible rw [k0_part22_eq_skeleton]; unfold k0_part22_skel; dsimp only)
    | (with_reducible rw [k0_part23_eq_skeleton]; unfold k0_part23_skel; dsimp only)
    | (with_reducible rw [k0_part24_eq_skeleton]; unfold k0_part24_skel; dsimp only)
    | (with_reducible rw [k0_part25_eq_skeleton]; unfold k0_part25_skel; dsimp only)
    | (with_reducible rw [k0_part26_eq_skeleton]; unfold k0_part26_skel; dsimp only)
    | (with_reducible rw [k0_part27_eq_skeleton]; unfold k0_part27_skel; dsimp only)
    | (with_reducible rw [k0_part28_eq_skeleton]; unfold k0_part28_skel; dsimp only)
    | (with_reducible rw [k0_part29_eq_skeleton]; unfold k0_part29_skel; dsimp only)
    | (with_reducible rw [k0_part30_eq_skeleton]; unfold k0_part30_skel; dsimp only)
    | (with_reducible rw [k0_part31_eq_skeleton]; unfold k0_part31_skel; dsimp only)
    | (with_reducible rw [k0_part32_eq_skeleton]; unfold k0_part32_skel; dsimp only)
    | (with_reducible rw [k0_part33_eq_skeleton]; unfold k0_part33_skel; dsimp only)
    | (with_reducible rw [k0_part34_eq_skeleton]; unfold k0_part34_skel; dsimp only)
    | (with_reducible rw [k0_part35_eq_skeleton]; unfold k0_part35_skel; dsimp only)
    | (with_reducible rw [k0_part36_eq_skeleton]; unfold k0_part36_skel; dsimp only)
    | (with_reducible rw [k0_part37_eq_skeleton]; unfold k0_part37_skel; dsimp only)
    | (with_reducible rw [k0_part38_eq_skeleton]; unfold k0_part38_skel; dsimp only)
    | (with_reducible rw [k0_part39_eq_skeleton]; unfold k0_part39_skel; dsimp only)

end Cert.Mix

end
-- ==== Proof.Mix.Frame.lean ====
/-
  The mixer's backward call: its copies, its body at a point, the launch of its grid, its frame.
-/
module

public import proofs.«01_k».proof.Proof.Mix.Parts
public import proofs.«01_k».proof.Proof.Gen.KernelMixIdeal.Frame.Runs
public import Idealize.ShloMosaic.Lib.Pipeline.Frame
public import Idealize.ShloMosaic.Lib.Transfers

@[expose] public section

set_option maxRecDepth 16384

noncomputable section

namespace Cert.Mix

open Cert.KernelMixIdeal Cert.KernelMixIdeal.Facts₀ Cert.KernelMixIdeal.Facts Cert.KernelMixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### What the body holds -/

/-- The scratch buffers, at whatever contents, -/
def scratch (c : Dev nD) : List (sProp 𝕄) :=
  [iprop(∃ d, owns (c : Thread nD τ) scM0_0 fullShare d), iprop(∃ d, owns (c : Thread nD τ) scM0_1 fullShare d), iprop(∃ d, owns (c : Thread nD τ) scM0_2 fullShare d), iprop(∃ d, owns (c : Thread nD τ) scM0_3 fullShare d), iprop(∃ d, owns (c : Thread nD τ) scM0_4 fullShare d), iprop(∃ d, owns (c : Thread nD τ) scM0_5 fullShare d), iprop(∃ d, owns (c : Thread nD τ) scM0_6 fullShare d)]

/-- the windows' buffers at a point, -/
def windows (c : Dev nD) (t : Fin cfg0.N) : List (sProp 𝕄) :=
  [iprop(∃ d, owns (c : Thread nD τ) (ms0_0 t) fullShare d), iprop(∃ d, owns (c : Thread nD τ) (ms0_1 t) fullShare d), iprop(∃ d, owns (c : Thread nD τ) (ms0_2 t) fullShare d), iprop(∃ d, owns (c : Thread nD τ) (ms0_3 t) fullShare d), iprop(∃ d, owns (c : Thread nD τ) (ms0_4 t) fullShare d), iprop(∃ d, owns (c : Thread nD τ) (ms0_5 t) fullShare d), iprop(∃ d, owns (c : Thread nD τ) (ms0_6 t) fullShare d), iprop(∃ d, owns (c : Thread nD τ) (ms0_7 t) fullShare d), iprop(∃ d, owns (c : Thread nD τ) (ms0_8 t) fullShare d), iprop(∃ d, owns (c : Thread nD τ) (ms0_9 t) fullShare d), iprop(∃ d, owns (c : Thread nD τ) (ms0_10 t) fullShare d), iprop(∃ d, owns (c : Thread nD τ) (ms0_11 t) fullShare d), iprop(∃ d, owns (c : Thread nD τ) (ms0_12 t) fullShare d), iprop(∃ d, owns (c : Thread nD τ) (ms0_13 t) fullShare d), iprop(∃ d, owns (c : Thread nD τ) (ms0_14 t) fullShare d), iprop(∃ d, owns (c : Thread nD τ) (ms0_15 t) fullShare d), iprop(∃ d, owns (c : Thread nD τ) (ms0_16 t) fullShare d), iprop(∃ d, owns (c : Thread nD τ) (ms0_17 t) fullShare d), iprop(∃ d, owns (c : Thread nD τ) (ms0_18 t) fullShare d), iprop(∃ d, owns (c : Thread nD τ) (ms0_19 t) fullShare d), iprop(∃ d, owns (c : Thread nD τ) (ms0_20 t) fullShare d), iprop(∃ d, owns (c : Thread nD τ) (ms0_21 t) fullShare d), iprop(∃ d, owns (c : Thread nD τ) (ms0_22 t) fullShare d), iprop(∃ d, owns (c : Thread nD τ) (ms0_23 t) fullShare d), iprop(∃ d, owns (c : Thread nD τ) (ms0_24 t) fullShare d), iprop(∃ d, owns (c : Thread nD τ) (ms0_25 t) fullShare d), iprop(∃ d, owns (c : Thread nD τ) (ms0_26 t) fullShare d), iprop(∃ d, owns (c : Thread nD τ) (ms0_27 t) fullShare d), iprop(∃ d, owns (c : Thread nD τ) (ms0_28 t) fullShare d), iprop(∃ d, owns (c : Thread nD τ) (ms0_29 t) fullShare d), iprop(∃ d, owns (c : Thread nD τ) (ms0_30 t) fullShare d), iprop(∃ d, owns (c : Thread nD τ) (ms0_31 t) fullShare d), iprop(∃ d, owns (c : Thread nD τ) (ms0_32 t) fullShare d), iprop(∃ d, owns (c : Thread nD τ) (ms0_33 t) fullShare d)]

/-- the kernel's own transfer counters at zero, -/
abbrev cells (c : Dev nD) : sProp 𝕄 :=
  iprop(semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0)

/-- the two weights in HBM as launched and the four gradients there at whatever contents: -/
abbrev hbm (c : Dev nD) : sProp 𝕄 :=
  iprop(iprop(hbPt0 c hbM0_0 (V m c main_v215) ∗ hbPt0 c hbM0_1 (V m c main_v226))
    ∗ iprop((∃ f, hbPt0 c hbM0_2 f) ∗ (∃ f, hbPt0 c hbM0_3 f) ∗ (∃ f, hbPt0 c hbM0_4 f) ∗ (∃ f, hbPt0 c hbM0_5 f)))

/-- between the points all but the windows, -/
def inv (c : Dev nD) : sProp 𝕄 := iprop(beside (scratch c) ∗ (∃ r, prngReg c r) ∗ cells c ∗ hbm m c)

/-- and at a point all of it. -/
def held (c : Dev nD) (t : Fin cfg0.N) : sProp 𝕄 :=
  iprop(inv m c ∗ (∃ W, owes (c : Thread nD τ) 0 W) ∗ beside (windows c t))

variable {m}

theorem holds_window {c : Dev nD} {t : Fin cfg0.N} {S : Shape} {e : EltTy} {M : Memref sig .tc .vmem S e}
    (h : iprop(∃ d, owns (c : Thread nD τ) M fullShare d) ∈ windows (F := F) c t) : Holds c (held m c t) M := by
  unfold Holds held
  have hb := beside_take h
  iintro ⟨HI, HW, HB⟩
  ihave HB := hb $$ HB
  icases HB with ⟨HM, HB⟩
  isplitl [HM]; · iexact HM
  iintro HM
  isplitl [HI]; · iexact HI
  isplitl [HW]; · iexact HW
  iapply HB
  iexact HM

theorem holds_scratch {c : Dev nD} {t : Fin cfg0.N} {S : Shape} {e : EltTy} {M : Memref sig .tc .vmem S e}
    (h : iprop(∃ d, owns (c : Thread nD τ) M fullShare d) ∈ scratch (F := F) c) : Holds c (held m c t) M := by
  unfold Holds held inv
  have hb := beside_take h
  iintro ⟨⟨HB, HI⟩, HW⟩
  ihave HB := hb $$ HB
  icases HB with ⟨HM, HB⟩
  isplitl [HM]; · iexact HM
  iintro HM
  isplitr [HW]
  · isplitr [HI]
    · iapply HB
      iexact HM
    · iexact HI
  iexact HW

/-! ### The copies -/

/-- The scratch buffers listed. -/
theorem scratch_eq (c : Dev nD) : (beside (scratch c) : sProp 𝕄)
    = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)
        ∗ (∃ d, owns (c : Thread nD τ) scM0_4 fullShare d) ∗ (∃ d, owns (c : Thread nD τ) scM0_5 fullShare d) ∗ (∃ d, owns (c : Thread nD τ) scM0_6 fullShare d)) := rfl

theorem keeps_in (c : Dev nD) (t : Fin cfg0.N) {α : Type} {k : Prog (TpuEff nD τ sig (Elt F) Λ₀ .tc) α}
    (hk : Keeps (defs₀ (F := F)) Variants.none c (held m c t) k) :
    Keeps (defs₀ (F := F)) Variants.none c (held m c t)
      (copyIn hbM0_0 (Memref.isWhole_whole _) hbM0_1 (Memref.isWhole_whole _) scM0_0 (Memref.isWhole_whole _) scM0_1 (Memref.isWhole_whole _) cc0_scratch7 k) := fun K => by
  have hk := hk K
  unfold held inv at hk ⊢
  rw [scratch_eq] at hk ⊢
  unfold owns at hk ⊢
  iintro ⟨⟨⟨⟨⟨%d0, %f0, -, H0⟩, ⟨%d1, %f1, -, H1⟩, HS⟩, Hg, ⟨S0, S1, HQ⟩, ⟨⟨B0, B1⟩, HB⟩⟩, ⟨%W, HW⟩, HX⟩, Hk⟩
  sl_exec
  iapply hk
  isplitr [Hk]; swap
  · iexact Hk
  isplitr [HW HX]
  · isplitl [H0 H1 HS]
    · isplitl [H0]
      · iexists _, _; isplitr; swap; · iexact H0
        ipureintro; rfl
      isplitl [H1]
      · iexists _, _; isplitr; swap; · iexact H1
        ipureintro; rfl
      iexact HS
    isplitl [Hg]; · iexact Hg
    isplitl [S0 S1 HQ]
    · isplitl [S0]; · iexact S0
      isplitl [S1]; · iexact S1
      iexact HQ
    isplitl [B0 B1]
    · isplitl [B0]; · iexact B0
      iexact B1
    iexact HB
  isplitl [HW]
  · iexists _; iexact HW
  iexact HX

theorem keeps_out (c : Dev nD) (t : Fin cfg0.N) {α : Type} {k : Prog (TpuEff nD τ sig (Elt F) Λ₀ .tc) α}
    (hk : Keeps (defs₀ (F := F)) Variants.none c (held m c t) k) :
    Keeps (defs₀ (F := F)) Variants.none c (held m c t)
      (copyOut hbM0_2 (Memref.isWhole_whole _) hbM0_3 (Memref.isWhole_whole _) hbM0_4 (Memref.isWhole_whole _) hbM0_5 (Memref.isWhole_whole _)
        scM0_0 (Memref.isWhole_whole _) scM0_1 (Memref.isWhole_whole _) scM0_2 (Memref.isWhole_whole _) scM0_3 (Memref.isWhole_whole _) cc0_scratch7 k) := fun K => by
  have hk := hk K
  unfold held inv at hk ⊢
  rw [scratch_eq] at hk ⊢
  unfold owns at hk ⊢
  iintro ⟨⟨⟨⟨⟨%d0, %f0, -, H0⟩, ⟨%d1, %f1, -, H1⟩, ⟨%d2, %f2, -, H2⟩, ⟨%d3, %f3, -, H3⟩, HS⟩, Hg, ⟨S0, S1, S2, S3, S4, S5⟩, ⟨HB, ⟨%g2, B2⟩, ⟨%g3, B3⟩, ⟨%g4, B4⟩, ⟨%g5, B5⟩⟩⟩, ⟨%W, HW⟩, HX⟩, Hk⟩
  sl_exec
  iapply hk
  isplitr [Hk]; swap
  · iexact Hk
  isplitr [HW HX]
  · isplitl [H0 H1 H2 H3 HS]
    · isplitl [H0]
      · iexists _, _; isplitr; swap; · iexact H0
        ipureintro; rfl
      isplitl [H1]
      · iexists _, _; isplitr; swap; · iexact H1
        ipureintro; rfl
      isplitl [H2]
      · iexists _, _; isplitr; swap; · iexact H2
        ipureintro; rfl
      isplitl [H3]
      · iexists _, _; isplitr; swap; · iexact H3
        ipureintro; rfl
      iexact HS
    isplitl [Hg]; · iexact Hg
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [HB]; · iexact HB
    isplitl [B2]; · iexists _; iexact B2
    isplitl [B3]; · iexists _; iexact B3
    isplitl [B4]; · iexists _; iexact B4
    iexists _; iexact B5
  isplitl [HW]
  · iexists _; iexact HW
  iexact HX

/-- The body at a point. -/
theorem keeps_point (c : Dev nD) (t : Fin cfg0.N) : Keeps (defs₀ (F := F)) Variants.none c (held m c t) (bodyAt0 t) :=
  keeps_body c (held m c t) (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) hbM0_0 (Memref.isWhole_whole _) hbM0_1 (Memref.isWhole_whole _) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) hbM0_2 (Memref.isWhole_whole _) hbM0_3 (Memref.isWhole_whole _) hbM0_4 (Memref.isWhole_whole _) hbM0_5 (Memref.isWhole_whole _) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) cc0_scratch7
    (holds_window (List.mem_of_getElem? (i := 0) rfl)) (holds_window (List.mem_of_getElem? (i := 1) rfl)) (holds_window (List.mem_of_getElem? (i := 2) rfl)) (holds_window (List.mem_of_getElem? (i := 3) rfl)) (holds_window (List.mem_of_getElem? (i := 4) rfl)) (holds_window (List.mem_of_getElem? (i := 5) rfl)) (holds_window (List.mem_of_getElem? (i := 6) rfl)) (holds_window (List.mem_of_getElem? (i := 7) rfl)) (holds_window (List.mem_of_getElem? (i := 8) rfl)) (holds_window (List.mem_of_getElem? (i := 9) rfl)) (holds_window (List.mem_of_getElem? (i := 10) rfl)) (holds_window (List.mem_of_getElem? (i := 11) rfl)) (holds_window (List.mem_of_getElem? (i := 12) rfl)) (holds_window (List.mem_of_getElem? (i := 13) rfl)) (holds_window (List.mem_of_getElem? (i := 14) rfl)) (holds_window (List.mem_of_getElem? (i := 15) rfl)) (holds_window (List.mem_of_getElem? (i := 16) rfl)) (holds_window (List.mem_of_getElem? (i := 17) rfl)) (holds_window (List.mem_of_getElem? (i := 18) rfl)) (holds_window (List.mem_of_getElem? (i := 19) rfl)) (holds_window (List.mem_of_getElem? (i := 20) rfl)) (holds_window (List.mem_of_getElem? (i := 21) rfl)) (holds_window (List.mem_of_getElem? (i := 22) rfl)) (holds_window (List.mem_of_getElem? (i := 23) rfl)) (holds_window (List.mem_of_getElem? (i := 24) rfl)) (holds_window (List.mem_of_getElem? (i := 25) rfl)) (holds_window (List.mem_of_getElem? (i := 26) rfl)) (holds_window (List.mem_of_getElem? (i := 27) rfl)) (holds_window (List.mem_of_getElem? (i := 28) rfl)) (holds_window (List.mem_of_getElem? (i := 29) rfl)) (holds_window (List.mem_of_getElem? (i := 30) rfl)) (holds_window (List.mem_of_getElem? (i := 31) rfl)) (holds_window (List.mem_of_getElem? (i := 32) rfl)) (holds_window (List.mem_of_getElem? (i := 33) rfl)) (holds_scratch (List.mem_of_getElem? (i := 0) rfl)) (holds_scratch (List.mem_of_getElem? (i := 1) rfl)) (holds_scratch (List.mem_of_getElem? (i := 2) rfl)) (holds_scratch (List.mem_of_getElem? (i := 3) rfl)) (holds_scratch (List.mem_of_getElem? (i := 4) rfl)) (holds_scratch (List.mem_of_getElem? (i := 5) rfl)) (holds_scratch (List.mem_of_getElem? (i := 6) rfl))
    (keeps_in c t) (keeps_out c t)

variable (m)

/-! ### The launch -/

/-- The call's data: every array as the host leaves it, nothing said of a window's contents. -/
def dats [∀ e, Nonempty (Elt F e)] (_ : Fin 1) (c : Dev nD) : Dat τ (Elt F) Unit ℕ (Pipeline.UD sig nD τ) ℕ cfg0 c where
  A w := V m c (Pipeline.arrRef spec0 w)
  after w t := Pipeline.Dat.unnamed (cfg := cfg0) w t
  Φ _ := inv m c
  q _ := fullShare
  owed _ := 0

/-- No window's contents are followed. -/
abbrev unfollowed : Fin cfg0.W → Bool := fun _ => true

theorem A_eq [∀ e, Nonempty (Elt F e)] (c : Dev nD) (w : Fin cfg0.W) : (dats m 0 c).A w = V m c (Pipeline.arrRef spec0 w) := rfl

theorem defs₀_row (t : Fin cfg0.N) : defs₀ (F := F) .tc cfg0.body (cfg0.bodyArgs t (cfg0.slots t)) = bodyAt0 t := by
  unfold defs₀; rw [Defs.onTc_tc]

theorem sound_body [∀ e, Nonempty (Elt F e)] (c : Dev nD) (t : Fin cfg0.N) :
    iprop(inv m c ∗ (dats m 0 c).owesAt () t.castSucc ∗ beside (windows c t))
      ⊢ wp frame (wpE (defs₀ (F := F)) Variants.none c none) Set.univ (bodyAt0 t) (fun _ => iprop(inv m c ∗ (dats m 0 c).owesAt () t.succ ∗ beside (windows c t))) := by
  unfold Dat.owesAt Pipeline.owesWithin
  rw [show (dats m 0 c).owed t.castSucc = 0 from rfl, show (dats m 0 c).owed t.succ = 0 from rfl]
  iintro ⟨HI, ⟨%W, -, HW⟩, HB⟩
  iapply (keeps_point (m := m) c t _)
  unfold held
  isplitl [HI HW HB]
  · isplitl [HI]; · iexact HI
    isplitl [HW]; · iexists W; iexact HW
    iexact HB
  iintro %a ⟨HI, ⟨%W', HW⟩, HB⟩
  isplitl [HI]; · iexact HI
  isplitl [HW]
  · iexists W'
    isplitr
    · ipureintro; exact fun _ _ => Or.inl trivial
    iexact HW
  iexact HB

theorem body_obligation [∀ e, Nonempty (Elt F e)] (c : Dev nD) :
    BodyObligation (dats (F := F) m 0 c) (defs₀ (F := F)) Variants.none () Set.univ unfollowed := fun t => by
  rw [bigSep_W0, defs₀_row]
  exact triple_restated (sound_body m c t) rfl .rfl fun _ => .rfl

/-- The invariant is what the launch hands the call and takes back. -/
theorem inv_eq (c : Dev nD) : (Pipeline.ΦDR osem0 spec0 H0 R0 (V m) c : sProp 𝕄) = inv m c := by
  have hw : (Pipeline.owned R0 c : sProp 𝕄) = iprop((∃ f, hbPt0 c hbM0_2 f) ∗ (∃ f, hbPt0 c hbM0_3 f) ∗ (∃ f, hbPt0 c hbM0_4 f) ∗ (∃ f, hbPt0 c hbM0_5 f)) := by
    unfold Pipeline.owned
    rw [BI.bigSep_eq_bigSepL_of_eq [main_v227_14, main_v227_15, main_v227_16, main_v227_17] (by decide) (by decide)]
    rfl
  unfold inv
  rw [Pipeline.ΦDR_eq, scopedRest0_eq, ownSems00_eq, hbmPts0_eq, hw, scratch_eq]
  simp only [scM0_0, scM0_1, scM0_2, scM0_3, scM0_4, scM0_5, scM0_6, owns_whole]
  rfl

set_option backward.isDefEq.respectTransparency.types false in
/-- The run: the arrays read and every buffer of no window's as they were, the counters back at zero. -/
theorem run_main [∀ e, Nonempty (Elt F e)] : θ_run defs (onTc (τ := τ) (main (F := F))) (s₀ m ρ)
    (fun r => Pipeline.RDat.FramePostR (cfgs 0) (fun c => (dats m 0 c).toRForget unfollowed) R0 (V m) r ∧ r.2.sem = fun _ => 0) :=
  Pipeline.θ_run_frame_dmaR_forget (Q' := _) cfgs (dats m) (0 : Fin 1) launch0 osem0 defs₀ Variants.none unfollowed ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun c => (inv_eq m c).le) (hout := fun c => (inv_eq m c).ge) (hQ' := fun _ h => h)

end Cert.Mix

end
-- ==== Proof.Mix.Kept.lean ====
/-
  The mixer's backward call: its arguments are as they were, and its frame.
-/
module

public import proofs.«01_k».proof.Proof.Mix.Frame

@[expose] public section

set_option maxRecDepth 16384

noncomputable section

namespace Cert.Mix

open Cert.KernelMixIdeal Cert.KernelMixIdeal.Facts₀ Cert.KernelMixIdeal.Facts Cert.KernelMixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the post says of the arrays and the buffers after the run. -/
abbrev After [∀ e, Nonempty (Elt F e)] (r : PUnit × MemSt nD τ sig (Elt F)) : Prop :=
  Pipeline.RDat.FramePostR (cfgs 0) (fun c => (dats m 0 c).toRForget unfollowed) R0 (V m) r

/-- An array a window only reads is as the region found it, -/
theorem array_kept [∀ e, Nonempty (Elt F e)] {r : PUnit × MemSt nD τ sig (Elt F)} (h : After m r) (c : Dev nD) (w : Fin cfg0.W)
    (hw : (cfg0.win w).isOut = false) :
    r.2.mem ((c.tc : Thread nD τ).loc (Pipeline.arrRef spec0 w)) = V m c (Pipeline.arrRef spec0 w) :=
  (Pipeline.RDat.FramePostR.arr_in h c w hw).trans (A_eq m c w)

/-- and so is a buffer of no window that the body does not copy to. -/
theorem rest_kept [∀ e, Nonempty (Elt F e)] {r : PUnit × MemSt nD τ sig (Elt F)} (h : After m r) (c : Dev nD) (b : Ref sig .tc)
    (hs : b.isScoped = false) (ha : ∀ w, Pipeline.arrRef spec0 w ≠ b) (hb : b ∉ R0) :
    r.2.mem ((c.tc : Thread nD τ).loc b) = V m c b :=
  (h c).2 b (Finset.mem_sdiff.mpr ⟨Pipeline.mem_restRefs_of b hs ha, hb⟩)

/-- The post leaves the arguments as they were. -/
theorem args_kept [∀ e, Nonempty (Elt F e)] {r : PUnit × MemSt nD τ sig (Elt F)}
    (h : After m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(rest_kept m h c main_arg0 rfl (by decide) (by decide)).trans (V_main_arg0 m c),
   (rest_kept m h c main_arg1 rfl (by decide) (by decide)).trans (V_main_arg1 m c),
   (array_kept m h c 7 rfl).trans (V_main_arg2 m c),
   (array_kept m h c 8 rfl).trans (V_main_arg3 m c),
   (array_kept m h c 9 rfl).trans (V_main_arg4 m c),
   (array_kept m h c 10 rfl).trans (V_main_arg5 m c),
   (rest_kept m h c main_arg6 rfl (by decide) (by decide)).trans (V_main_arg6 m c),
   (rest_kept m h c main_arg7 rfl (by decide) (by decide)).trans (V_main_arg7 m c),
   (rest_kept m h c main_arg8 rfl (by decide) (by decide)).trans (V_main_arg8 m c),
   (array_kept m h c 11 rfl).trans (V_main_arg9 m c),
   (array_kept m h c 12 rfl).trans (V_main_arg10 m c),
   (array_kept m h c 13 rfl).trans (V_main_arg11 m c),
   (array_kept m h c 14 rfl).trans (V_main_arg12 m c),
   (rest_kept m h c main_arg13 rfl (by decide) (by decide)).trans (V_main_arg13 m c),
   (rest_kept m h c main_arg14 rfl (by decide) (by decide)).trans (V_main_arg14 m c),
   (array_kept m h c 15 rfl).trans (V_main_arg15 m c),
   (rest_kept m h c main_arg16 rfl (by decide) (by decide)).trans (V_main_arg16 m c)⟩

/-- The frame: the run ends, its arguments as they were, the counters at zero. -/
theorem frame_main [∀ e, Nonempty (Elt F e)] : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨args_kept m h.1, h.2⟩) (run_main m ρ)

end Cert.Mix

end
-- ==== Proof.Mix.Machine.lean ====
/-
  The frames of the mixer's backward call.  The kernel's two printed programs are one program, so the one run
  over any float values serves both.
-/
module

public import proofs.«01_k».proof.Defs
public import proofs.«01_k».proof.Proof.Gen.KernelMix
public import proofs.«01_k».proof.Proof.Mix.Kept
public import proofs.«01_k».proof.Proof.Gen.ReferenceMixIdeal
public import proofs.«01_k».proof.Proof.Gen.ReferenceMixIdeal.Run

@[expose] public section

noncomputable section

namespace Cert.Mix

open Idealize.ShloMosaic Idealize.SL.Sem

open Cert.KernelMixIdeal

variable {F : FTy → Type} [FloatOps F]

variable (F) in
/-- The frame's statement, over any float values. -/
def FrameAt : Prop := ∀ (m : (ℓ : Loc nD τ sig) → Buf (Elt F) ℓ) (ρ : Dev nD → PrngReg), True →
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0)

set_option maxRecDepth 16384 in
theorem frame_same : Cert.quiescent_KernelMix = FrameAt Bits := by
  sl_kernel_rfl

/-- The kernel's frame over the machine's floats: the one run, read there. -/
theorem frame_kernel : Cert.quiescent_KernelMix :=
  frame_same.mpr fun m ρ _ => frame_main (F := Bits) m ρ

/-- The kernel's frame over the extended reals. -/
theorem frame_ideal : Cert.quiescent_KernelMixIdeal := fun m ρ _ => frame_main (F := Ideal) m ρ

/-- The reference's frame: its run leaves the arguments alone, and its program has no semaphore. -/
theorem frame_reference : Cert.quiescent_ReferenceMixIdeal := fun m ρ _ =>
  (θ_run Cert.ReferenceMixIdeal.defs _ _).mono
    (fun r h => ⟨fun c => (h c).2.2.2, sem_eq_zero_of_no_sems (by decide) r.2⟩)
    (Cert.ReferenceMixIdeal.Value.run (F := Ideal) m ρ)

end Cert.Mix

end
-- ==== Proof.Up.Step.lean ====
/-
  The gradient of the up projection's weight: what one point of the grid does to its accumulator.

  The accumulator is kept as four blocks of columns. At a point the rows' normed and modulated activations, transposed,
  times each block of the columns of the rows' gradient is added to the block.
-/
module

public import proofs.«01_k».proof.Proof.Gen.KernelUpIdeal.Frame
public import proofs.«01_k».proof.Proof.Gen.KernelUpIdeal.Skeleton
public import proofs.«01_k».proof.Proof.Ffn.Code
public import Idealize.ShloMosaic.Lib.Pipeline.Value

@[expose] public section

set_option maxRecDepth 16384

noncomputable section

namespace Cert.Up

open Idealize.ShloMosaic Idealize.ShloMosaic.TcCoe
open Cert.KernelUpIdeal Cert.KernelUpIdeal.Facts₀ Cert.KernelUpIdeal.Facts
open Cert.KernelUpIdeal.Gen (k0_pay5 k0_pay6 k0_pay7 k0_pay8 k0_pay9 k0_pay10 k0_pay11)
open Cert.Ffn (Code patch window patch_of_mem patch_of_not_mem)

variable {F : FTy → Type} [FloatOps F]

/-! ### Blocks of an array -/

section Blocks

variable {β : Type}

theorem patch_all {s : Shape} (X : s.Idx → β) (off : Fin s.rank → ℕ) (ho : ∀ a, off a = 0) (w : s.Idx → β) : patch X off s.size w = w :=
  funext fun y => patch_of_mem X off s.size w y y fun a => by rw [ho a, Nat.zero_add]

theorem window_all {s : Shape} (X : s.Idx → β) (off : Fin s.rank → ℕ) (ho : ∀ a, off a = 0) (inb) : window X off s.size inb = X :=
  funext fun y => congrArg X (funext fun a => Fin.ext (by show off a + (y a).val = (y a).val; rw [ho a, Nat.zero_add]))

/-- Block `k` of the four. -/
def block (X : S4x1024x1408.Idx → β) (k : Fin 4) : S1x1024x1408.Idx → β := fun j => X (fun | 0 => k | 1 => j 1 | 2 => j 2)

/-- Block `k` of the columns. -/
def cols (D : S512x5632.Idx → β) (k : Fin 4) : S512x1408.Idx → β :=
  fun j => D (fun | 0 => j 0 | 1 => ⟨1408 * k.val + (j 1).val, by have : (j 1).val < 1408 := (j 1).isLt; show _ < 5632; omega⟩)

/-- The four blocks in one array. -/
def stack (f : Fin 4 → S1x1024x1408.Idx → β) : S4x1024x1408.Idx → β := fun y => f (y 0) (fun | 0 => (0 : Fin 1) | 1 => y 1 | 2 => y 2)

/-- The first `n` blocks of `B`, the others of `A`. -/
def upto (n : ℕ) (A B : S4x1024x1408.Idx → β) : S4x1024x1408.Idx → β := fun y => if (y 0).val < n then B y else A y

theorem upto_zero (A B : S4x1024x1408.Idx → β) : upto 0 A B = A := funext fun y => if_neg (Nat.not_lt_zero _)

theorem upto_all (A B : S4x1024x1408.Idx → β) : upto 4 A B = B := funext fun y => if_pos (y 0).isLt

theorem patch_upto (k : Fin 4) (o : ℕ) (ho : o = k.val) (A B : S4x1024x1408.Idx → β) (w : S1x1024x1408.Idx → β) (hw : w = block B k) :
    patch (s := S4x1024x1408) (upto k.val A B) ![o, 0, 0] S1x1024x1408.size w = upto (k.val + 1) A B := by
  subst hw
  subst ho
  funext y
  by_cases h : (y 0).val = k.val
  · rw [patch_of_mem (s := S4x1024x1408) _ _ S1x1024x1408.size _ y (fun | 0 => (0 : Fin 1) | 1 => y 1 | 2 => y 2) fun a => by
      match a with
      | 0 => exact h
      | 1 => exact (Nat.zero_add _).symm
      | 2 => exact (Nat.zero_add _).symm]
    unfold upto block
    rw [if_pos (show (y 0).val < k.val + 1 by omega)]
    refine congrArg B (funext fun a => ?_)
    match a with
    | 0 => exact Fin.ext h.symm
    | 1 => rfl
    | 2 => rfl
  · rw [patch_of_not_mem (s := S4x1024x1408) _ _ S1x1024x1408.size _ y 0 (by show (y 0).val < k.val ∨ k.val + 1 ≤ (y 0).val; omega)]
    unfold upto
    by_cases h' : (y 0).val < k.val
    · rw [if_pos h', if_pos (show (y 0).val < k.val + 1 by omega)]
    · rw [if_neg h', if_neg (show ¬ (y 0).val < k.val + 1 by omega)]

theorem window_upto (k : Fin 4) (o : ℕ) (ho : o = k.val) (A B : S4x1024x1408.Idx → β) (inb) :
    window (s := S4x1024x1408) (upto k.val A B) ![o, 0, 0] S1x1024x1408.size inb = block A k := by
  subst ho
  funext j
  have hj : (j 0).val < 1 := (j 0).isLt
  refine (if_neg (by show ¬ k.val + (j 0).val < k.val; omega)).trans (congrArg A (funext fun a => Fin.ext ?_))
  match a with
  | 0 => show k.val + (j 0).val = k.val; omega
  | 1 => exact Nat.zero_add _
  | 2 => exact Nat.zero_add _

theorem window_cols (k : Fin 4) (o : ℕ) (ho : o = 1408 * k.val) (D : S512x5632.Idx → β) (inb) :
    window (s := S512x5632) D ![0, o] S512x1408.size inb = cols D k := by
  subst ho
  refine funext fun j => congrArg D (funext fun a => Fin.ext ?_)
  match a with
  | 0 => exact Nat.zero_add _
  | 1 => rfl

theorem block_stack (f : Fin 4 → S1x1024x1408.Idx → β) (k : Fin 4) : block (stack f) k = f k := by
  refine funext fun j => congrArg (f k) (funext fun a => ?_)
  match a with
  | 0 => exact Subsingleton.elim (α := Fin 1) _ _
  | 1 => rfl
  | 2 => rfl

/-- One block after another. -/
theorem patch_blocks (A : S4x1024x1408.Idx → β) (f : Fin 4 → (S1x1024x1408.Idx → β) → S1x1024x1408.Idx → β)
    (P0 P1 P2 P3 : S4x1024x1408.Idx → β) (i0 i1 i2 i3)
    (h0 : P0 = patch (s := S4x1024x1408) A ![0, 0, 0] S1x1024x1408.size (f 0 (window (s := S4x1024x1408) A ![0, 0, 0] S1x1024x1408.size i0)))
    (h1 : P1 = patch (s := S4x1024x1408) P0 ![1, 0, 0] S1x1024x1408.size (f 1 (window (s := S4x1024x1408) P0 ![1, 0, 0] S1x1024x1408.size i1)))
    (h2 : P2 = patch (s := S4x1024x1408) P1 ![2, 0, 0] S1x1024x1408.size (f 2 (window (s := S4x1024x1408) P1 ![2, 0, 0] S1x1024x1408.size i2)))
    (h3 : P3 = patch (s := S4x1024x1408) P2 ![3, 0, 0] S1x1024x1408.size (f 3 (window (s := S4x1024x1408) P2 ![3, 0, 0] S1x1024x1408.size i3))) :
    P3 = stack fun k => f k (block A k) := by
  have next : ∀ (k : Fin 4) (o : ℕ) (ho : o = k.val) (P : S4x1024x1408.Idx → β) (inb), P = upto k.val A (stack fun k => f k (block A k)) →
      patch (s := S4x1024x1408) P ![o, 0, 0] S1x1024x1408.size (f k (window (s := S4x1024x1408) P ![o, 0, 0] S1x1024x1408.size inb))
        = upto (k.val + 1) A (stack fun k => f k (block A k)) := by
    intro k o ho P inb hP
    rw [hP, window_upto k o ho]
    exact patch_upto k o ho A _ _ (block_stack (fun k => f k (block A k)) k).symm
  have e0 := h0.trans (next 0 0 rfl A i0 (upto_zero _ _).symm)
  have e1 := h1.trans (next 1 1 rfl P0 i1 e0)
  have e2 := h2.trans (next 2 2 rfl P1 i2 e1)
  exact (h3.trans (next 3 3 rfl P2 i3 e2)).trans (upto_all _ _)

end Blocks

/-! ### The step -/

/-- The accumulator after a point, from the rows' activations, the rows' gradient and the accumulator before. -/
def stepAcc (h : FVec F S512x1024 .bf16) (D : S512x5632.Idx → Elt F .bf16) (A : S4x1024x1408.Idx → Elt F .f32) : S4x1024x1408.Idx → Elt F .f32 :=
  stack fun k => k0_pay9 h (block A k) (cols D k)

/-- The buffers the step is on: the windows and the accumulator. -/
inductive Bf : Type
  | du | x2 | g2 | sc2 | sh2 | acc
  deriving DecidableEq

/-- The buffers in order. -/
def bufs : List Bf := [.du, .x2, .g2, .sc2, .sh2, .acc]

theorem bufs_nodup : bufs.Nodup := by decide

theorem mem_bufs (b : Bf) : b ∈ bufs := by cases b <;> decide

instance : Fintype Bf := ⟨⟨bufs, bufs_nodup⟩, mem_bufs⟩

/-- The shape of each buffer. -/
@[reducible] def shp : Bf → Shape
  | .du => S512x5632 | .x2 => S512x1024 | .g2 => S1x1024 | .sc2 => S1x1024 | .sh2 => S1x1024 | .acc => S4x1024x1408

/-- The element type of each buffer. -/
@[reducible] def elt : Bf → EltTy
  | .du => .bf16
  | _ => .f32

variable (F) in
/-- Programs over these buffers. -/
abbrev K (α : Type) : Type := Code (Elt F) shp elt α

variable (F) in
/-- Their contents. -/
abbrev St : Type := Code.State (Elt F) shp elt

/-- One load of these buffers. -/
abbrev ld (b : Bf) (off size : Fin (shp b).rank → ℕ) (inb : ∀ a, off a + size a ≤ (shp b).size a)
    (h : 0 < (Rect.unit (s := shp b) off size inb).shape.numel) : K F (((a : Fin (shp b).rank) → Fin (size a)) → Elt F (elt b)) :=
  Code.load b off size inb h

/-- One store into them. -/
abbrev st (b : Bf) (off size : Fin (shp b).rank → ℕ) (inb : ∀ a, off a + size a ≤ (shp b).size a)
    (h : 0 < (Rect.unit (s := shp b) off size inb).shape.numel)
    (hx : (elt b).bits = 32 ∨ (Rect.unit (s := shp b) off size inb).PackedRows (elt b).packing)
    (w : ((a : Fin (shp b).rank) → Fin (size a)) → Elt F (elt b)) : K F PUnit :=
  Code.store b off size inb h hx w

/-- The first point clears the accumulator. -/
def zeros : K F PUnit := do
  let _ ← ld .acc ![0, 0, 0] S4x1024x1408.size inb_S4x1024x1408_S4x1024x1408_0_0_0 h_S4x1024x1408
  st .acc ![0, 0, 0] S4x1024x1408.size inb_S4x1024x1408_S4x1024x1408_0_0_0 h_S4x1024x1408 (.inl rfl) (k0_pay5 (F := F))

/-- Every point adds to its four blocks. -/
def step : K F PUnit := do
  let x ← ld .x2 ![0, 0] S512x1024.size inb_S512x1024_S512x1024_0_0 h_S512x1024
  let g ← ld .g2 ![0, 0] S1x1024.size inb_S1x1024_S1x1024_0_0 h_S1x1024
  let s ← ld .sc2 ![0, 0] S1x1024.size inb_S1x1024_S1x1024_0_0 h_S1x1024
  let b ← ld .sh2 ![0, 0] S1x1024.size inb_S1x1024_S1x1024_0_0 h_S1x1024
  let a0 ← ld .acc ![0, 0, 0] S1x1024x1408.size inb_S4x1024x1408_S1x1024x1408_0_0_0 h_S1x1024x1408
  let d0 ← ld .du ![0, 0] S512x1408.size inb_S512x5632_S512x1408_0_0 h_S512x1408
  let _ ← ld .acc ![0, 0, 0] S1x1024x1408.size inb_S4x1024x1408_S1x1024x1408_0_0_0 h_S1x1024x1408
  st .acc ![0, 0, 0] S1x1024x1408.size inb_S4x1024x1408_S1x1024x1408_0_0_0 h_S1x1024x1408 (.inl rfl) (k0_pay8 (k0_pay7 x g s b a0 d0))
  let a1 ← ld .acc ![1, 0, 0] S1x1024x1408.size inb_S4x1024x1408_S1x1024x1408_1_0_0 h_S1x1024x1408
  let d1 ← ld .du ![0, 1408] S512x1408.size inb_S512x5632_S512x1408_0_1408 h_S512x1408
  let _ ← ld .acc ![1, 0, 0] S1x1024x1408.size inb_S4x1024x1408_S1x1024x1408_1_0_0 h_S1x1024x1408
  st .acc ![1, 0, 0] S1x1024x1408.size inb_S4x1024x1408_S1x1024x1408_1_0_0 h_S1x1024x1408 (.inl rfl) (k0_pay9 (k0_pay6 x g s b) a1 d1)
  let a2 ← ld .acc ![2, 0, 0] S1x1024x1408.size inb_S4x1024x1408_S1x1024x1408_2_0_0 h_S1x1024x1408
  let d2 ← ld .du ![0, 2816] S512x1408.size inb_S512x5632_S512x1408_0_2816 h_S512x1408
  let _ ← ld .acc ![2, 0, 0] S1x1024x1408.size inb_S4x1024x1408_S1x1024x1408_2_0_0 h_S1x1024x1408
  st .acc ![2, 0, 0] S1x1024x1408.size inb_S4x1024x1408_S1x1024x1408_2_0_0 h_S1x1024x1408 (.inl rfl) (k0_pay10 (k0_pay6 x g s b) a2 d2)
  let a3 ← ld .acc ![3, 0, 0] S1x1024x1408.size inb_S4x1024x1408_S1x1024x1408_3_0_0 h_S1x1024x1408
  let d3 ← ld .du ![0, 4224] S512x1408.size inb_S512x5632_S512x1408_0_4224 h_S512x1408
  let _ ← ld .acc ![3, 0, 0] S1x1024x1408.size inb_S4x1024x1408_S1x1024x1408_3_0_0 h_S1x1024x1408
  st .acc ![3, 0, 0] S1x1024x1408.size inb_S4x1024x1408_S1x1024x1408_3_0_0 h_S1x1024x1408 (.inl rfl) (k0_pay11 (k0_pay6 x g s b) a3 d3)

theorem zeros_run (σ : St F) : (zeros.run σ).2 = Function.update σ .acc (k0_pay5 (F := F)) := by
  show Function.update σ .acc (patch (σ .acc) ![0, 0, 0] S4x1024x1408.size (k0_pay5 (F := F))) = _
  rw [patch_all (s := S4x1024x1408) _ ![0, 0, 0] (by decide)]

theorem step_run (σ : St F) : (step.run σ).2 = Function.update σ .acc (stepAcc (k0_pay6 (σ .x2) (σ .g2) (σ .sc2) (σ .sh2)) (σ .du) (σ .acc)) := by
  have hx := window_all (s := S512x1024) (σ .x2) ![0, 0] (by decide) inb_S512x1024_S512x1024_0_0
  have hg := window_all (s := S1x1024) (σ .g2) ![0, 0] (by decide) inb_S1x1024_S1x1024_0_0
  have hs := window_all (s := S1x1024) (σ .sc2) ![0, 0] (by decide) inb_S1x1024_S1x1024_0_0
  have hb := window_all (s := S1x1024) (σ .sh2) ![0, 0] (by decide) inb_S1x1024_S1x1024_0_0
  have hd0 := window_cols 0 0 rfl (σ .du) inb_S512x5632_S512x1408_0_0
  have hd1 := window_cols 1 1408 rfl (σ .du) inb_S512x5632_S512x1408_0_1408
  have hd2 := window_cols 2 2816 rfl (σ .du) inb_S512x5632_S512x1408_0_2816
  have hd3 := window_cols 3 4224 rfl (σ .du) inb_S512x5632_S512x1408_0_4224
  simp only [step, Code.run_bind, Code.run, Function.update_self, Function.update_idem, ne_eq, reduceCtorEq, not_false_eq_true, Function.update_of_ne]
  rw [hx, hg, hs, hb, hd0, hd1, hd2, hd3]
  exact congrArg (Function.update σ .acc) (patch_blocks (σ .acc) (fun k a => k0_pay9 (k0_pay6 (σ .x2) (σ .g2) (σ .sc2) (σ .sh2)) a (cols (σ .du) k)) _ _ _ _
    inb_S4x1024x1408_S1x1024x1408_0_0_0 inb_S4x1024x1408_S1x1024x1408_1_0_0 inb_S4x1024x1408_S1x1024x1408_2_0_0 inb_S4x1024x1408_S1x1024x1408_3_0_0 rfl rfl rfl rfl)

end Cert.Up

end
-- ==== Proof.Up.Body.lean ====
/-
  The gradient of the up projection's weight: the printed kernel body is the first point's zeros, the step, and the last
  point's copies of the accumulator, in both formats, out of VMEM; and what those copies leave.
-/
module

public import proofs.«01_k».proof.Proof.Up.Step
public import Idealize.ShloMosaic.Lib.Pipeline.Frame
public import Idealize.ShloMosaic.Lib.Transfers
public import Idealize.ShloMosaic.Lib.Tactic

@[expose] public section

set_option maxRecDepth 65536

noncomputable section

namespace Cert.Up

open Cert.KernelUpIdeal Cert.KernelUpIdeal.Facts₀ Cert.KernelUpIdeal.Facts
open Cert.KernelUpIdeal.Gen (k0_pay1 k0_pay5 k0_pay6)
open Cert.Ffn (Code patch window patch_of_mem patch_of_not_mem read_store ownsAll)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Whether a point is the first, -/
def isFirst (i : grid0.Coords) : BitVec 1 := Scalar.cmpi .ne (Scalar.extui (Scalar.cmpi .eq (BitVec.ofNat 32 (i 0).val) 0#32) : BitVec 32) 0#32

/-- whether it is the last. -/
def isLast (i : grid0.Coords) : BitVec 1 := Scalar.cmpi .ne (Scalar.extui (Scalar.cmpi .eq (BitVec.ofNat 32 (i 0).val) 15#32) : BitVec 32) 0#32

/-- The kernel's VMEM arguments, buffer by buffer. -/
def memOf (arg1 : Memref sig .tc .vmem S512x5632 .bf16) (arg2 : Memref sig .tc .vmem S512x1024 .f32) (arg3 arg4 arg5 : Memref sig .tc .vmem S1x1024 .f32)
    (arg9 : Memref sig .tc .vmem S4x1024x1408 .f32) : (b : Bf) → Memref sig .tc .vmem (shp b) (elt b)
  | .du => arg1 | .x2 => arg2 | .g2 => arg3 | .sc2 => arg4 | .sh2 => arg5 | .acc => arg9

theorem wholeOf {arg1 : Memref sig .tc .vmem S512x5632 .bf16} {arg2 : Memref sig .tc .vmem S512x1024 .f32} {arg3 arg4 arg5 : Memref sig .tc .vmem S1x1024 .f32}
    {arg9 : Memref sig .tc .vmem S4x1024x1408 .f32} (harg1 : arg1.IsWhole) (harg2 : arg2.IsWhole) (harg3 : arg3.IsWhole) (harg4 : arg4.IsWhole) (harg5 : arg5.IsWhole)
    (harg9 : arg9.IsWhole) : ∀ b, (memOf arg1 arg2 arg3 arg4 arg5 arg9 b).IsWhole
  | .du => harg1 | .x2 => harg2 | .g2 => harg3 | .sc2 => harg4 | .sh2 => harg5 | .acc => harg9

section Parts

variable (i : grid0.Coords) (arg1 : Memref sig .tc .vmem S512x5632 .bf16) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .hbm S4x1024x1408 .f32) (harg6 : arg6.IsWhole) (arg7 : Memref sig .tc .hbm S4x1024x1408 .bf16) (harg7 : arg7.IsWhole) (arg8 : Memref sig .tc .vmem S4x1024x1408 .bf16) (harg8 : arg8.IsWhole) (arg9 : Memref sig .tc .vmem S4x1024x1408 .f32) (harg9 : arg9.IsWhole) (arg10 : DmaSems sig S2)

/-- The last point's copies, with their waits. -/
def drain : Prog (TpuEff nD τ sig (Elt F) Λ₀ .tc) PUnit := do
  k0_part1 i arg1 harg1 arg2 harg2 arg3 harg3 arg4 harg4 arg5 harg5 arg6 harg6 arg7 harg7 arg8 harg8 arg9 harg9 arg10
  Prog.lift (.waitDma2 ((arg10.slice (Rect.unit (s := S2) ![0] S1.size inb_S2_S1_0)).squeeze S_ squeezes_S1_S_).sem arg9 arg6 harg9.wordExact harg6.wordExact)
  Prog.lift (.waitDma2 ((arg10.slice (Rect.unit (s := S2) ![1] S1.size inb_S2_S1_1)).squeeze S_ squeezes_S1_S_).sem arg8 arg7 harg8.wordExact harg7.wordExact)
  pure ⟨⟩

/-- The kernel body is these parts. -/
theorem cc0_bwd_up_eq :
    (cc0_bwd_up i arg1 harg1 arg2 harg2 arg3 harg3 arg4 harg4 arg5 harg5 arg6 harg6 arg7 harg7 arg8 harg8 arg9 harg9 arg10 : Prog (TpuEff nD τ sig (Elt F) Λ₀ .tc) PUnit)
      = ((if isFirst i = 1#1 then zeros.prog (memOf arg1 arg2 arg3 arg4 arg5 arg9) (wholeOf harg1 harg2 harg3 harg4 harg5 harg9) else pure ⟨⟩) >>= fun _ =>
          step.prog (memOf arg1 arg2 arg3 arg4 arg5 arg9) (wholeOf harg1 harg2 harg3 harg4 harg5 harg9) >>= fun _ =>
          (if isLast i = 1#1 then drain i arg1 harg1 arg2 harg2 arg3 harg3 arg4 harg4 arg5 harg5 arg6 harg6 arg7 harg7 arg8 harg8 arg9 harg9 arg10 >>= fun _ => pure ⟨⟩ else pure ⟨⟩)) := by
  by_cases h : isFirst i = 1#1
  · have h' := h
    unfold isFirst at h'
    rw [if_pos h]
    unfold cc0_bwd_up k0_part2 k0_part3
    simp only [dif_pos h']
    sl_kernel_rfl
  · have h' := h
    unfold isFirst at h'
    rw [if_neg h]
    unfold cc0_bwd_up k0_part2 k0_part3
    simp only [dif_neg h']
    sl_kernel_rfl

end Parts

/-! ### The last point's copies -/

/-- The two results in HBM, and their buffers in VMEM. -/
abbrev hOut : Memref sig .tc .hbm S4x1024x1408 .f32 := Memref.whole main_v3_0
abbrev hOut16 : Memref sig .tc .hbm S4x1024x1408 .bf16 := Memref.whole main_v3_1
abbrev vStage : Memref sig .tc .vmem S4x1024x1408 .bf16 := Memref.whole cc0_scratch0
abbrev vAcc : Memref sig .tc .vmem S4x1024x1408 .f32 := Memref.whole cc0_scratch1

/-- A memref's buffer on core `c` held whole. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The kernel's own transfer counters at zero. -/
abbrev cells (c : Dev nD) : sProp 𝕄 :=
  iprop(semVal ((c : Thread nD τ), SemLoc.dma 7) 0 ∗ semVal ((c : Thread nD τ), SemLoc.dma 8) 0)

/-- The accumulator in the short format, block by block. -/
def narrow (X : S4x1024x1408.Idx → Elt F .f32) : S4x1024x1408.Idx → Elt F .bf16 := stack fun k => k0_pay1 (block X k)

/-- What a load of a block reads. -/
theorem read_block (f : vAcc.view.ty.Contents (Elt F)) (k : Fin 4) (off : Fin 3 → ℕ) (ho : off = ![k.val, 0, 0]) (inb) :
    (fun j => vAcc.view.read (Elt F) f ((Rect.unit (s := S4x1024x1408) off S1x1024x1408.size inb).emb j)) = block (vAcc.view.read (Elt F) f) k := by
  subst ho
  refine funext fun j => congrArg (vAcc.view.read (Elt F) f) (funext fun a => Fin.ext ?_)
  have hj : (j 0).val < 1 := (j 0).isLt
  match a with
  | 0 => show k.val + 1 * (j 0).val = k.val; omega
  | 1 => show 0 + 1 * (j 1).val = (j 1).val; omega
  | 2 => show 0 + 1 * (j 2).val = (j 2).val; omega

/-- The four stores' contents. -/
theorem read_blocks (f3 : vAcc.view.ty.Contents (Elt F)) (f4 : vStage.view.ty.Contents (Elt F)) (w0 w1 w2 w3 : S1x1024x1408.Idx → Elt F .bf16)
    (h0 : w0 = k0_pay1 (block (vAcc.view.read (Elt F) f3) 0)) (h1 : w1 = k0_pay1 (block (vAcc.view.read (Elt F) f3) 1))
    (h2 : w2 = k0_pay1 (block (vAcc.view.read (Elt F) f3) 2)) (h3 : w3 = k0_pay1 (block (vAcc.view.read (Elt F) f3) 3)) :
    vStage.view.read (Elt F) (vStage.view.writes (Elt F) f4
      [⟨Rect.unit (s := S4x1024x1408) ![3, 0, 0] S1x1024x1408.size inb_S4x1024x1408_S1x1024x1408_3_0_0, w3⟩, ⟨Rect.unit (s := S4x1024x1408) ![2, 0, 0] S1x1024x1408.size inb_S4x1024x1408_S1x1024x1408_2_0_0, w2⟩,
       ⟨Rect.unit (s := S4x1024x1408) ![1, 0, 0] S1x1024x1408.size inb_S4x1024x1408_S1x1024x1408_1_0_0, w1⟩, ⟨Rect.unit (s := S4x1024x1408) ![0, 0, 0] S1x1024x1408.size inb_S4x1024x1408_S1x1024x1408_0_0_0, w0⟩])
      = narrow (vAcc.view.read (Elt F) f3) := by
  have hb : ∀ k, k0_pay1 (block (vAcc.view.read (Elt F) f3) k) = block (narrow (vAcc.view.read (Elt F) f3)) k := fun k =>
    (block_stack (fun k => k0_pay1 (block (vAcc.view.read (Elt F) f3) k)) k).symm
  have next : ∀ (k : Fin 4) (o : ℕ) (ho : o = k.val) (inb) (g : vStage.view.ty.Contents (Elt F)) (w : S1x1024x1408.Idx → Elt F .bf16),
      w = k0_pay1 (block (vAcc.view.read (Elt F) f3) k) → vStage.view.read (Elt F) g = upto k.val (vStage.view.read (Elt F) f4) (narrow (vAcc.view.read (Elt F) f3)) →
      vStage.view.read (Elt F) ((vStage.view.slice (Rect.unit (s := S4x1024x1408) ![o, 0, 0] S1x1024x1408.size inb)).write (Elt F) g w Finset.univ)
        = upto (k.val + 1) (vStage.view.read (Elt F) f4) (narrow (vAcc.view.read (Elt F) f3)) := by
    intro k o ho inb g w hw hg
    refine (read_store vStage.view ![o, 0, 0] S1x1024x1408.size inb g w).trans ?_
    rw [hg]
    exact patch_upto k o ho _ _ _ (hw.trans (hb k))
  exact (next 3 3 rfl inb_S4x1024x1408_S1x1024x1408_3_0_0 _ w3 h3 (next 2 2 rfl inb_S4x1024x1408_S1x1024x1408_2_0_0 _ w2 h2
    (next 1 1 rfl inb_S4x1024x1408_S1x1024x1408_1_0_0 _ w1 h1 (next 0 0 rfl inb_S4x1024x1408_S1x1024x1408_0_0_0 _ w0 h0 (upto_zero _ _).symm)))).trans (upto_all _ _)

set_option sl_exec.lendShare "H3" in
theorem drainRun (c : Dev nD) (i : grid0.Coords) (arg1 : Memref sig .tc .vmem S512x5632 .bf16) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole)
    (X : S4x1024x1408.Idx → Elt F .f32) (W : Waits sig Unit) (K : PUnit → sProp 𝕄) :
    iprop((∃ f, hbPt c hOut f) ∗ (∃ f, hbPt c hOut16 f) ∗ owns (c : Thread nD τ) vAcc fullShare X ∗ (∃ d, owns (c : Thread nD τ) vStage fullShare d) ∗ cells c ∗ owes (c : Thread nD τ) 0 W
        ∗ (iprop((∃ f, ⌜hOut.view.read (Elt F) f = X⌝ ∗ hbPt c hOut f) ∗ (∃ f, ⌜hOut16.view.read (Elt F) f = narrow X⌝ ∗ hbPt c hOut16 f)
            ∗ owns (c : Thread nD τ) vAcc fullShare X ∗ (∃ d, owns (c : Thread nD τ) vStage fullShare d) ∗ cells c ∗ ∃ W', owes (c : Thread nD τ) 0 W') -∗ K ⟨⟩))
      ⊢ wp frame (wpE (defs₀ (F := F)) Variants.none c none) Set.univ
          (drain i arg1 harg1 arg2 harg2 arg3 harg3 arg4 harg4 arg5 harg5 hOut (Memref.isWhole_whole _) hOut16 (Memref.isWhole_whole _) vStage (Memref.isWhole_whole _) vAcc (Memref.isWhole_whole _) cc0_scratch2) K := by
  unfold drain k0_part1 owns
  iintro ⟨⟨%g1, H1⟩, ⟨%g2, H2⟩, ⟨%f3, %h3, H3⟩, ⟨%d4, %f4, -, H4⟩, ⟨S0, S1⟩, HW, Hk⟩
  sl_exec
  sl_step
  iapply Hk
  isplitl [H1]
  · iexists _; isplitr; swap; · iexact H1
    ipureintro
    rw [View.read_write_univ]
    exact h3
  isplitl [H2]
  · iexists _; isplitr; swap; · iexact H2
    ipureintro
    rw [View.read_write_univ]
    subst h3
    unfold drainRun.sl.dma12
    exact read_blocks f3 f4 (drainRun.sl.v73 c f3) (drainRun.sl.v79 c f3) (drainRun.sl.v85 c f3) (drainRun.sl.v91 c f3)
      (congrArg k0_pay1 (read_block f3 0 _ rfl _)) (congrArg k0_pay1 (read_block f3 1 _ rfl _)) (congrArg k0_pay1 (read_block f3 2 _ rfl _)) (congrArg k0_pay1 (read_block f3 3 _ rfl _))
  isplitl [H3]
  · iexists _; isplitr; swap; · iexact H3
    ipureintro; exact h3
  isplitl [H4]
  · iexists _, _; isplitr; swap; · iexact H4
    ipureintro; rfl
  isplitl [S0 S1]
  · isplitl [S0]; · iexact S0
    iexact S1
  iexists _; iexact HW

end Cert.Up

end
-- ==== Proof.Up.Launch.lean ====
/-
  The gradient of the up projection's weight: the accumulator between the points of the grid, the body at every point,
  the launch and its frame.
-/
module

public import proofs.«01_k».proof.Proof.Up.Body
public import Idealize.ShloMosaic.Lib.Pipeline.FrameValue

@[expose] public section

set_option maxRecDepth 16384

noncomputable section

namespace Cert.Up

open Cert.KernelUpIdeal Cert.KernelUpIdeal.Facts₀ Cert.KernelUpIdeal.Facts Cert.KernelUpIdeal.Gen
open Cert.Ffn (Code ownsAll wp_prog)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The accumulator along the grid -/

theorem first_iff (t : Fin cfg0.N) : isFirst (grid0.coords t) = 1#1 ↔ t.val = 0 :=
  (by decide +kernel : ∀ t : Fin grid0.N, isFirst (grid0.coords t) = 1#1 ↔ t.val = 0) t

theorem last_iff (t : Fin cfg0.N) : isLast (grid0.coords t) = 1#1 ↔ t.val = 15 :=
  (by decide +kernel : ∀ t : Fin grid0.N, isLast (grid0.coords t) = 1#1 ↔ t.val = 15) t

/-- The point of a number. -/
def pt (t : ℕ) : Fin cfg0.N := ⟨t % 16, lt_of_lt_of_eq (Nat.mod_lt t (by decide)) N_0.symm⟩

theorem pt_val (t : Fin cfg0.N) : pt t.val = t := Fin.ext (Nat.mod_eq_of_lt (lt_of_lt_of_eq t.isLt N_0))

/-- The accumulator after a point, from the one before. -/
def accNext (c : Dev nD) (t : Fin cfg0.N) (A : S4x1024x1408.Idx → Elt F .f32) : S4x1024x1408.Idx → Elt F .f32 :=
  stepAcc (k0_pay6 (iblk m c 1 t) (iblk m c 2 t) (iblk m c 3 t) (iblk m c 4 t)) (iblk m c 0 t) A

/-- The accumulator after the first points. -/
def accAt (c : Dev nD) : ℕ → S4x1024x1408.Idx → Elt F .f32
  | 0 => k0_pay5
  | n + 1 => accNext m c (pt n) (accAt c n)

theorem accAt_succ (c : Dev nD) (t : Fin cfg0.N) : accNext m c t (accAt m c t.val) = accAt m c (t.val + 1) := by
  show _ = accNext m c (pt t.val) (accAt m c t.val)
  rw [pt_val]

/-! ### The kernel's own counters and the arrays it writes itself -/

abbrev osem0 : Fin 2 → SemLoc sig := fun j => (![SemLoc.dma 7, SemLoc.dma 8] : Fin 2 → SemLoc sig) j

theorem ownSemFacts0 : Pipeline.OwnSemFacts spec0 osem0 := by decide

theorem ownSems_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1] (by decide) (by decide)]; rfl

def readRefs : Finset (Ref sig .tc) := ∅

/-- The gradient in both formats. -/
def writtenRefs : Finset (Ref sig .tc) := {main_v3_0, main_v3_1}

theorem readRefs_sub : readRefs ⊆ Pipeline.restRefs sig spec0 := by decide

theorem writtenRefs_sub : writtenRefs ⊆ Pipeline.restRefs sig spec0 \ readRefs := by decide

/-- The written arrays after the run. -/
def written (c : Dev nD) : (b : Ref sig .tc) → Buf (Elt F) ((c : Thread nD τ).loc b) :=
  Function.update (Function.update (V m c) main_v3_0 (accAt m c 16)) main_v3_1 (narrow (accAt m c 16))

theorem written_wide (c : Dev nD) : written m c main_v3_0 = accAt m c 16 :=
  (Function.update_of_ne (by decide : main_v3_0 ≠ main_v3_1) _ _).trans (Function.update_self _ _ _)

theorem written_short (c : Dev nD) : written m c main_v3_1 = narrow (accAt m c 16) := Function.update_self (main_v3_1 : Ref sig .tc) _ _

theorem routed_V (c : Dev nD) : (Pipeline.routed writtenRefs c (V m c) : sProp 𝕄) = iprop(hbPt c hOut (V m c main_v3_0) ∗ hbPt c hOut16 (V m c main_v3_1)) := by
  unfold Pipeline.routed
  rw [BI.bigSep_eq_bigSepL_of_eq [main_v3_0, main_v3_1] (by decide) (by decide)]; rfl

theorem routed_written (c : Dev nD) :
    (Pipeline.routed writtenRefs c (written m c) : sProp 𝕄) = iprop(hbPt c hOut (accAt m c 16) ∗ hbPt c hOut16 (narrow (accAt m c 16))) := by
  unfold Pipeline.routed
  rw [BI.bigSep_eq_bigSepL_of_eq [main_v3_0, main_v3_1] (by decide) (by decide)]
  simp only [bigSepL_cons_cons, bigSepL_singleton]
  rw [written_wide, written_short]
  rfl

/-! ### The proof data -/

/-- What the accumulator holds before a point, and the other memory of the kernel's own. -/
def inv (c : Dev nD) (t : Fin (cfg0.N + 1)) : sProp 𝕄 :=
  iprop((∃ d, owns (c : Thread nD τ) vStage fullShare d) ∗ (∃ A, ⌜0 < t.val → t.val < 16 → A = accAt m c t.val⌝ ∗ owns (c : Thread nD τ) vAcc fullShare A)
    ∗ (∃ r, prngReg c r) ∗ cells c ∗ Pipeline.routed writtenRefs c (if t.val = 16 then written m c else V m c))

/-- Every window is read and left as fetched. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨n + 5, h⟩ => absurd h (by show ¬ n + 5 < 5; omega)
  Φ := inv m c
  q _ := fullShare
  owed _ := 0

theorem A_eq (c : Dev nD) (w : Fin cfg0.W) : (dats m 0 c).A w = V m c (Pipeline.arrRef spec0 w) := by
  dsimp only [dats]

theorem after_du (c : Dev nD) (t : Fin cfg0.N) : (dats m 0 c).after 0 t = iblk m c 0 t := by dsimp only [dats]
theorem before_du (c : Dev nD) (t : Fin cfg0.N) (d) : (dats m 0 c).before 0 t d = iblk m c 0 t :=
  ((dats m 0 c).before_in_eq_fetched 0 rfl (fun _ => rfl) (fun _ _ _ => rfl) (fun t => by rw [after_du]; unfold Dat.blockOf iblk; rw [A_eq]; try rfl) t d).trans
    (by unfold Dat.fetched Dat.blockOf iblk; rw [A_eq]; try rfl)
theorem after_x2 (c : Dev nD) (t : Fin cfg0.N) : (dats m 0 c).after 1 t = iblk m c 1 t := by dsimp only [dats]
theorem before_x2 (c : Dev nD) (t : Fin cfg0.N) (d) : (dats m 0 c).before 1 t d = iblk m c 1 t :=
  ((dats m 0 c).before_in_eq_fetched 1 rfl (fun _ => rfl) (fun _ _ _ => rfl) (fun t => by rw [after_x2]; unfold Dat.blockOf iblk; rw [A_eq]; try rfl) t d).trans
    (by unfold Dat.fetched Dat.blockOf iblk; rw [A_eq]; try rfl)
theorem after_g2 (c : Dev nD) (t : Fin cfg0.N) : (dats m 0 c).after 2 t = iblk m c 2 t := by dsimp only [dats]
theorem before_g2 (c : Dev nD) (t : Fin cfg0.N) (d) : (dats m 0 c).before 2 t d = iblk m c 2 t :=
  ((dats m 0 c).before_in_eq_fetched 2 rfl (fun _ => rfl) (fun _ _ _ => rfl) (fun t => by rw [after_g2]; unfold Dat.blockOf iblk; rw [A_eq]; try rfl) t d).trans
    (by unfold Dat.fetched Dat.blockOf iblk; rw [A_eq]; try rfl)
theorem after_sc2 (c : Dev nD) (t : Fin cfg0.N) : (dats m 0 c).after 3 t = iblk m c 3 t := by dsimp only [dats]
theorem before_sc2 (c : Dev nD) (t : Fin cfg0.N) (d) : (dats m 0 c).before 3 t d = iblk m c 3 t :=
  ((dats m 0 c).before_in_eq_fetched 3 rfl (fun _ => rfl) (fun _ _ _ => rfl) (fun t => by rw [after_sc2]; unfold Dat.blockOf iblk; rw [A_eq]; try rfl) t d).trans
    (by unfold Dat.fetched Dat.blockOf iblk; rw [A_eq]; try rfl)
theorem after_sh2 (c : Dev nD) (t : Fin cfg0.N) : (dats m 0 c).after 4 t = iblk m c 4 t := by dsimp only [dats]
theorem before_sh2 (c : Dev nD) (t : Fin cfg0.N) (d) : (dats m 0 c).before 4 t d = iblk m c 4 t :=
  ((dats m 0 c).before_in_eq_fetched 4 rfl (fun _ => rfl) (fun _ _ _ => rfl) (fun t => by rw [after_sh2]; unfold Dat.blockOf iblk; rw [A_eq]; try rfl) t d).trans
    (by unfold Dat.fetched Dat.blockOf iblk; rw [A_eq]; try rfl)

/-! ### The body -/

/-- The buffers a point of the grid is run on. -/
abbrev memAt (t : Fin cfg0.N) : (b : Bf) → Memref sig .tc .vmem (shp b) (elt b) :=
  memOf (win0_0.stage (cfg0.slots t 0)) (win0_1.stage (cfg0.slots t 1)) (win0_2.stage (cfg0.slots t 2)) (win0_3.stage (cfg0.slots t 3)) (win0_4.stage (cfg0.slots t 4)) vAcc

theorem wholeAt (t : Fin cfg0.N) : ∀ b, (memAt t b).IsWhole :=
  wholeOf (Facts₀.hstage0_0 ((cfg0.slots t 0).cast Facts₀.nbuf0_0)) (Facts₀.hstage0_1 ((cfg0.slots t 1).cast Facts₀.nbuf0_1)) (Facts₀.hstage0_2 ((cfg0.slots t 2).cast Facts₀.nbuf0_2))
    (Facts₀.hstage0_3 ((cfg0.slots t 3).cast Facts₀.nbuf0_3)) (Facts₀.hstage0_4 ((cfg0.slots t 4).cast Facts₀.nbuf0_4)) (Memref.isWhole_whole _)

/-- The last point's copies at a point. -/
abbrev drainAt (t : Fin cfg0.N) : Prog (TpuEff nD τ sig (Elt F) Λ₀ .tc) PUnit :=
  drain (grid0.coords t) (win0_0.stage (cfg0.slots t 0)) (Facts₀.hstage0_0 ((cfg0.slots t 0).cast Facts₀.nbuf0_0)) (win0_1.stage (cfg0.slots t 1)) (Facts₀.hstage0_1 ((cfg0.slots t 1).cast Facts₀.nbuf0_1))
    (win0_2.stage (cfg0.slots t 2)) (Facts₀.hstage0_2 ((cfg0.slots t 2).cast Facts₀.nbuf0_2)) (win0_3.stage (cfg0.slots t 3)) (Facts₀.hstage0_3 ((cfg0.slots t 3).cast Facts₀.nbuf0_3))
    (win0_4.stage (cfg0.slots t 4)) (Facts₀.hstage0_4 ((cfg0.slots t 4).cast Facts₀.nbuf0_4)) hOut (Memref.isWhole_whole _) hOut16 (Memref.isWhole_whole _) vStage (Memref.isWhole_whole _)
    vAcc (Memref.isWhole_whole _) cc0_scratch2

theorem body_eq (t : Fin cfg0.N) :
    (bodyAt0 t : Prog (TpuEff nD τ sig (Elt F) Λ₀ .tc) PUnit)
      = ((if isFirst (grid0.coords t) = 1#1 then zeros.prog (memAt t) (wholeAt t) else pure ⟨⟩) >>= fun _ => step.prog (memAt t) (wholeAt t) >>= fun _ =>
          (if isLast (grid0.coords t) = 1#1 then drainAt t >>= fun _ => pure ⟨⟩ else pure ⟨⟩)) := by
  unfold bodyAt0
  rw [cc0_bwd_up_eq]

/-- The buffers' contents at a point, the accumulator's apart. -/
def stAt (c : Dev nD) (t : Fin cfg0.N) (A : S4x1024x1408.Idx → Elt F .f32) : St F
  | .du => iblk m c 0 t
  | .x2 => iblk m c 1 t
  | .g2 => iblk m c 2 t
  | .sc2 => iblk m c 3 t
  | .sh2 => iblk m c 4 t
  | .acc => A

theorem stAt_acc (c : Dev nD) (t : Fin cfg0.N) (A B : S4x1024x1408.Idx → Elt F .f32) : Function.update (stAt m c t A) .acc B = stAt m c t B :=
  funext fun b => by cases b <;> rfl

theorem zeroRun (c : Dev nD) (t : Fin cfg0.N) (A : S4x1024x1408.Idx → Elt F .f32) (K : PUnit → sProp 𝕄) :
    iprop(ownsAll c (memAt t) (stAt m c t A) ∗ (ownsAll c (memAt t) (stAt m c t k0_pay5) -∗ K ⟨⟩))
      ⊢ wp frame (wpE (defs₀ (F := F)) Variants.none c none) Set.univ ((zeros (F := F)).prog (memAt t) (wholeAt t)) K := by
  have h := wp_prog (defs := defs₀ (F := F)) Variants.none c none Set.univ (memAt t) (wholeAt t) zeros (stAt m c t A) K
  rw [show (zeros.run (stAt m c t A)).1 = PUnit.unit from Subsingleton.elim _ _, zeros_run, stAt_acc] at h
  exact h

theorem stepRun (c : Dev nD) (t : Fin cfg0.N) (A : S4x1024x1408.Idx → Elt F .f32) (K : PUnit → sProp 𝕄) :
    iprop(ownsAll c (memAt t) (stAt m c t A) ∗ (ownsAll c (memAt t) (stAt m c t (accNext m c t A)) -∗ K ⟨⟩))
      ⊢ wp frame (wpE (defs₀ (F := F)) Variants.none c none) Set.univ ((step (F := F)).prog (memAt t) (wholeAt t)) K := by
  have h := wp_prog (defs := defs₀ (F := F)) Variants.none c none Set.univ (memAt t) (wholeAt t) step (stAt m c t A) K
  rw [show (step.run (stAt m c t A)).1 = PUnit.unit from Subsingleton.elim _ _, step_run, stAt_acc] at h
  exact h

theorem ownsAll_eq (c : Dev nD) (t : Fin cfg0.N) (A : S4x1024x1408.Idx → Elt F .f32) :
    (ownsAll c (memAt t) (stAt m c t A) : sProp 𝕄) = iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) vAcc fullShare A) := by
  unfold ownsAll
  rw [BI.bigSep_eq_bigSepL_of_eq bufs (Finset.ext fun b => ⟨fun _ => List.mem_toFinset.mpr (mem_bufs b), fun _ => Finset.mem_univ b⟩) bufs_nodup]
  rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

theorem open_pre (c : Dev nD) (t : Fin cfg0.N) :
    bodyPre m c t ⊢ iprop((∃ A, ⌜0 < t.val → A = accAt m c t.val⌝ ∗ ownsAll c (memAt t) (stAt m c t A)) ∗ (∃ W, owes (c : Thread nD τ) 0 W)
        ∗ (∃ d, owns (c : Thread nD τ) vStage fullShare d) ∗ (∃ r, prngReg c r) ∗ cells c ∗ hbPt c hOut (V m c main_v3_0) ∗ hbPt c hOut16 (V m c main_v3_1)) := by
  have hlt : t.val < 16 := lt_of_lt_of_eq t.isLt N_0
  unfold bodyPre
  rw [show (dats m 0 c).Φ t.castSucc = inv m c t.castSucc from rfl]
  unfold inv
  rw [if_neg (by show t.val ≠ 16; omega), routed_V]
  unfold Dat.owesAt Pipeline.owesWithin
  rw [show (dats m 0 c).owed t.castSucc = 0 from rfl]
  simp only [before_du, before_x2, before_g2, before_sc2, before_sh2]
  iintro ⟨⟨Hs, ⟨%A, %hA, HA⟩, Hg, Hq, Hr1, Hr2⟩, ⟨%W, -, HW⟩, ⟨%d0, H0⟩, ⟨%d1, H1⟩, ⟨%d2, H2⟩, ⟨%d3, H3⟩, ⟨%d4, H4⟩⟩
  isplitl [H0 H1 H2 H3 H4 HA]
  · iexists A
    isplitr; · ipureintro; exact fun h => hA h hlt
    rw [ownsAll_eq]
    isplitl [H0]; · iexact H0
    isplitl [H1]; · iexact H1
    isplitl [H2]; · iexact H2
    isplitl [H3]; · iexact H3
    isplitl [H4]; · iexact H4
    iexact HA
  isplitl [HW]; · iexists W; iexact HW
  isplitl [Hs]; · iexact Hs
  isplitl [Hg]; · iexact Hg
  isplitl [Hq]; · iexact Hq
  isplitl [Hr1]; · iexact Hr1
  iexact Hr2

/-- The windows and the accumulator back. -/
theorem close_post (c : Dev nD) (t : Fin cfg0.N) :
    iprop((owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t)) ∗ owns (c : Thread nD τ) vAcc fullShare (accAt m c (t.val + 1)) ∗ (∃ W, owes (c : Thread nD τ) 0 W)
        ∗ (∃ d, owns (c : Thread nD τ) vStage fullShare d) ∗ (∃ r, prngReg c r) ∗ cells c ∗ Pipeline.routed writtenRefs c (if t.val + 1 = 16 then written m c else V m c)) ⊢ bodyPost m c t := by
  unfold bodyPost
  rw [after_du, after_x2, after_g2, after_sc2, after_sh2]
  rw [show (dats m 0 c).Φ t.succ = inv m c t.succ from rfl]
  unfold inv
  rw [show t.succ.val = t.val + 1 from rfl]
  unfold Dat.owesAt Pipeline.owesWithin
  rw [show (dats m 0 c).owed t.succ = 0 from rfl]
  iintro ⟨HA, HX, ⟨%W, HW⟩, Hs, Hg, Hq, Hr⟩
  isplitl [HX Hs Hg Hq Hr]
  · isplitl [Hs]; · iexact Hs
    isplitl [HX]
    · iexists _
      isplitr; swap; · iexact HX
      ipureintro; exact fun _ _ => rfl
    isplitl [Hg]; · iexact Hg
    isplitl [Hq]; · iexact Hq
    iexact Hr
  isplitl [HW]
  · iexists W; isplitr; · ipureintro; exact fun _ _ => Or.inl trivial
    iexact HW
  iexact HA

/-- The step and the last point's copies. -/
theorem restRun (c : Dev nD) (t : Fin cfg0.N) (W : Waits sig Unit) :
    iprop(ownsAll c (memAt t) (stAt m c t (accAt m c t.val)) ∗ owes (c : Thread nD τ) 0 W ∗ (∃ d, owns (c : Thread nD τ) vStage fullShare d) ∗ (∃ r, prngReg c r) ∗ cells c
        ∗ hbPt c hOut (V m c main_v3_0) ∗ hbPt c hOut16 (V m c main_v3_1))
      ⊢ wp frame (wpE (defs₀ (F := F)) Variants.none c none) Set.univ
          (step.prog (memAt t) (wholeAt t) >>= fun _ => (if isLast (grid0.coords t) = 1#1 then drainAt t >>= fun _ => pure PUnit.unit else pure PUnit.unit)) (fun _ => bodyPost m c t) := by
  have hlt : t.val < 16 := lt_of_lt_of_eq t.isLt N_0
  rw [wp_bind]
  iintro ⟨HA, HW, Hs, Hg, Hq, Hr1, Hr2⟩
  iapply (stepRun m c t (accAt m c t.val) _)
  isplitl [HA]; · iexact HA
  rw [accAt_succ, ownsAll_eq]
  iintro ⟨H0, H1, H2, H3, H4, HX⟩
  by_cases hl : t.val = 15
  · rw [if_pos ((last_iff t).mpr hl), wp_bind]
    iapply (drainRun c (grid0.coords t) _ _ _ _ _ _ _ _ _ _ (accAt m c (t.val + 1)) W _)
    isplitl [Hr1]; · iexists _; iexact Hr1
    isplitl [Hr2]; · iexists _; iexact Hr2
    isplitl [HX]; · iexact HX
    isplitl [Hs]; · iexact Hs
    isplitl [Hq]; · iexact Hq
    isplitl [HW]; · iexact HW
    iintro ⟨⟨%f1, %h1, Hr1⟩, ⟨%f2, %h2, Hr2⟩, HX, Hs, Hq, HW⟩
    have e1 : f1 = accAt m c (t.val + 1) := h1
    have e2 : f2 = narrow (accAt m c (t.val + 1)) := h2
    rw [e1, e2]
    iapply (le_wp_ret _ _ _ _ (fun _ => bodyPost m c t))
    iapply (close_post m c t)
    isplitl [H0 H1 H2 H3 H4]
    · isplitl [H0]; · iexact H0
      isplitl [H1]; · iexact H1
      isplitl [H2]; · iexact H2
      isplitl [H3]; · iexact H3
      iexact H4
    isplitl [HX]; · iexact HX
    isplitl [HW]; · iexact HW
    isplitl [Hs]; · iexact Hs
    isplitl [Hg]; · iexact Hg
    isplitl [Hq]; · iexact Hq
    rw [if_pos (show t.val + 1 = 16 by omega), routed_written, show t.val + 1 = 16 by omega]
    isplitl [Hr1]; · iexact Hr1
    iexact Hr2
  · rw [if_neg (fun h => hl ((last_iff t).mp h))]
    iapply (le_wp_ret _ _ _ _ (fun _ => bodyPost m c t))
    iapply (close_post m c t)
    isplitl [H0 H1 H2 H3 H4]
    · isplitl [H0]; · iexact H0
      isplitl [H1]; · iexact H1
      isplitl [H2]; · iexact H2
      isplitl [H3]; · iexact H3
      iexact H4
    isplitl [HX]; · iexact HX
    isplitl [HW]; · iexists W; iexact HW
    isplitl [Hs]; · iexact Hs
    isplitl [Hg]; · iexact Hg
    isplitl [Hq]; · iexact Hq
    rw [if_neg (show ¬ t.val + 1 = 16 by omega), routed_V]
    isplitl [Hr1]; · iexact Hr1
    iexact Hr2

theorem sound_body (c : Dev nD) (t : Fin cfg0.N) :
    bodyPre m c t ⊢ wp frame (wpE (defs₀ (F := F)) Variants.none c none) Set.univ (bodyAt0 t) (fun _ => bodyPost m c t) := by
  refine (open_pre m c t).trans ?_
  rw [body_eq, wp_bind]
  iintro ⟨⟨%A, %hA, HA⟩, ⟨%W, HW⟩, Hs, Hg, Hq, Hr1, Hr2⟩
  by_cases hf : t.val = 0
  · rw [if_pos ((first_iff t).mpr hf)]
    iapply (zeroRun m c t A _)
    isplitl [HA]; · iexact HA
    iintro HA
    iapply (restRun m c t W)
    isplitl [HA]; · rw [hf]; iexact HA
    isplitl [HW]; · iexact HW
    isplitl [Hs]; · iexact Hs
    isplitl [Hg]; · iexact Hg
    isplitl [Hq]; · iexact Hq
    isplitl [Hr1]; · iexact Hr1
    iexact Hr2
  · rw [if_neg (fun h => hf ((first_iff t).mp h))]
    iapply (le_wp_ret _ _ _ _ _)
    iapply (restRun m c t W)
    rw [hA (Nat.pos_of_ne_zero hf)]
    isplitl [HA]; · iexact HA
    isplitl [HW]; · iexact HW
    isplitl [Hs]; · iexact Hs
    isplitl [Hg]; · iexact Hg
    isplitl [Hq]; · iexact Hq
    isplitl [Hr1]; · iexact Hr1
    iexact Hr2

theorem defs₀_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem readRefs_eq (c : Dev nD) : (bigSep readRefs fun b => ((c.tc : Thread nD τ).loc b) ↦{fullShare} V m c b : sProp 𝕄) = iprop(emp) := by
  rw [BI.bigSep_eq_bigSepL_of_eq [] (by decide) (by decide)]; rfl

/-- The invariant before the first point. -/
theorem inv_in (c : Dev nD) : Pipeline.ΦDRG osem0 spec0 readRefs writtenRefs (V m) (V m) c ⊢ (dats m 0 c).Φ 0 := by
  rw [show (dats m 0 c).Φ 0 = inv m c 0 from rfl, Pipeline.ΦDRG_eq, scopedRest0_eq, ownSems_eq, readRefs_eq]
  unfold inv
  rw [if_neg (by decide)]
  simp only [owns_whole]
  iintro ⟨⟨⟨%f0, H0⟩, ⟨%f1, H1⟩⟩, Hg, Hq, Hh, Hr⟩
  isplitl [H0]; · iexists _; iexact H0
  isplitl [H1]
  · iexists f1
    isplitr; · ipureintro; exact fun h => absurd h (by decide)
    iexact H1
  isplitl [Hg]; · iexact Hg
  isplitl [Hq]; · iexact Hq
  iexact Hr

/-- The invariant after the last. -/
theorem inv_out (c : Dev nD) : (dats m 0 c).Φ (Fin.last cfg0.N) ⊢ Pipeline.ΦDRG osem0 spec0 readRefs writtenRefs (V m) (written m) c := by
  rw [show (dats m 0 c).Φ (Fin.last cfg0.N) = inv m c (Fin.last cfg0.N) from rfl, Pipeline.ΦDRG_eq, scopedRest0_eq, ownSems_eq, readRefs_eq]
  unfold inv
  rw [if_pos (by show cfg0.N = 16; exact N_0)]
  simp only [owns_whole]
  iintro ⟨⟨%f0, H0⟩, ⟨%f1, -, H1⟩, Hg, Hq, Hr⟩
  isplitl [H0 H1]
  · isplitl [H0]; · iexists _; iexact H0
    iexists _; iexact H1
  isplitl [Hg]; · iexact Hg
  isplitl [Hq]; · iexact Hq
  isplitr [Hr]; · iempintro
  iexact Hr

set_option backward.isDefEq.respectTransparency.types false in
/-- The run: the gradient as accumulated, in both formats, the counters back at zero. -/
theorem run_main [∀ e, Nonempty (Elt F e)] : θ_run defs (onTc (τ := τ) (main (F := F))) (s₀ m ρ)
    (fun r => Pipeline.FramePostRG cfgs (dats m) 0 writtenRefs (V m) (written m) r ∧ r.2.sem = fun _ => 0) :=
  Pipeline.θ_run_frame_dmaRG (Q' := _) cfgs (dats m) (0 : Fin 1) launch0 osem0 defs₀ Variants.none ownSemFacts0 readRefs writtenRefs readRefs_sub writtenRefs_sub m ρ main
    (hbody := fun c => (body_obligation m c).loose) (hshare := fun c => (dats m 0 c).share_full fun _ => rfl)
    (howed := fun _ _ => rfl) (V := V m) (hmain := hmainD m Variants.none) (hA := A_eq m) (G := written m)
    (hin := inv_in m) (hout := inv_out m)

/-- The post leaves the arguments as they were. -/
theorem args_kept {r : PUnit × MemSt nD τ sig (Elt F)} (h' : Pipeline.FramePostRG cfgs (dats m) 0 writtenRefs (V m) (written m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have h := h'.1
  ⟨((h c).2 main_arg0 (Finset.mem_sdiff.mpr ⟨Pipeline.mem_restRefs_of main_arg0 (by decide) (by decide), by decide⟩)).trans (V_main_arg0 m c),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).2 main_arg4 (Finset.mem_sdiff.mpr ⟨Pipeline.mem_restRefs_of main_arg4 (by decide) (by decide), by decide⟩)).trans (V_main_arg4 m c)⟩

/-- The frame: the run ends, its arguments as they were, the counters at zero. -/
theorem frame_main [∀ e, Nonempty (Elt F e)] : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h.1, h.2⟩) (run_main m ρ)

end Cert.Up

end
-- ==== Proof.Up.Machine.lean ====
/-
  The frames of the up projection's weight gradient.  The kernel's two printed programs are one program, so the one run
  over any float values serves both.
-/
module

public import proofs.«01_k».proof.Defs
public import proofs.«01_k».proof.Proof.Gen.KernelUp
public import proofs.«01_k».proof.Proof.Up.Launch
public import proofs.«01_k».proof.Proof.Gen.ReferenceUpIdeal
public import proofs.«01_k».proof.Proof.Gen.ReferenceUpIdeal.Run

@[expose] public section

noncomputable section

namespace Cert.Up

open Idealize.ShloMosaic Idealize.SL.Sem

open Cert.KernelUpIdeal

variable {F : FTy → Type} [FloatOps F]

variable (F) in
/-- The frame's statement, over any float values. -/
def FrameAt : Prop := ∀ (m : (ℓ : Loc nD τ sig) → Buf (Elt F) ℓ) (ρ : Dev nD → PrngReg), True →
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

set_option maxRecDepth 16384 in
theorem frame_same : Cert.quiescent_KernelUp = FrameAt Bits := by
  sl_kernel_rfl

/-- The kernel's frame over the machine's floats: the one run, read there. -/
theorem frame_kernel : Cert.quiescent_KernelUp :=
  frame_same.mpr fun m ρ _ => frame_main (F := Bits) m ρ

/-- The kernel's frame over the extended reals. -/
theorem frame_ideal : Cert.quiescent_KernelUpIdeal := fun m ρ _ => frame_main (F := Ideal) m ρ

/-- The reference's frame: its run leaves the arguments alone, and its program has no semaphore. -/
theorem frame_reference : Cert.quiescent_ReferenceUpIdeal := fun m ρ _ =>
  (θ_run Cert.ReferenceUpIdeal.defs _ _).mono
    (fun r h => ⟨fun c => (h c).2.2, sem_eq_zero_of_no_sems (by decide) r.2⟩)
    (Cert.ReferenceUpIdeal.Value.run (F := Ideal) m ρ)

end Cert.Up

end
-- ==== Proof.Up.Arrays.lean ====
/-
  Arrays of extended reals by their coordinates: the operations the up projection's weight gradient and its reference
  are made of, each read at an entry. No entry need be a real number.
-/
module

public import proofs.«01_k».proof.Proof.Ffn.V.HostOps

@[expose] public section

set_option maxRecDepth 16384

noncomputable section

namespace Cert.Up.V

open Idealize.ShloMosaic
open Idealize.ShloMosaic.ValueIdx (contrEquiv1 contrEquiv1_symm_val contrEquiv2 contrEquiv2_symm_val1)
open Cert.Ffn.V (dtn htn sum_axis Is0)
open scoped BigOperators

/-- The one-axis array `A` holds the function `f`. -/
def At1 {a : ℕ} {φ : FTy} (A : FVec Ideal ⟨1, ![a]⟩ φ) (f : ℕ → EReal) : Prop := ∀ y, A y = f (y 0).val

/-- The array `A` holds the function `f` of the row and the column. -/
def At2 {a b : ℕ} {φ : FTy} (A : FVec Ideal ⟨2, ![a, b]⟩ φ) (f : ℕ → ℕ → EReal) : Prop := ∀ y, A y = f (y 0).val (y 1).val

/-- The array `A` holds the function `f` of its last two coordinates. -/
def At3 {a b : ℕ} {φ : FTy} (A : FVec Ideal ⟨3, ![1, a, b]⟩ φ) (f : ℕ → ℕ → EReal) : Prop := ∀ y, A y = f (y 1).val (y 2).val

/-- The array `A` holds the function `f` of its three coordinates. -/
def Cube {n a b : ℕ} {φ : FTy} (A : FVec Ideal ⟨3, ![n, a, b]⟩ φ) (f : ℕ → ℕ → ℕ → EReal) : Prop := ∀ y, A y = f (y 0).val (y 1).val (y 2).val

/-- Two arrays holding the same function are equal. -/
theorem Cube.eq {n a b : ℕ} {φ : FTy} {A B : FVec Ideal ⟨3, ![n, a, b]⟩ φ} {f : ℕ → ℕ → ℕ → EReal} (h : Cube A f) (h' : Cube B f) : A = B :=
  funext fun y => (h y).trans (h' y).symm

theorem sum_range {n : ℕ} (f : ℕ → EReal) : ∑ k : Fin n, f k.val = ∑ k ∈ Finset.range n, f k := Fin.sum_univ_eq_sum_range f n

section Read

variable {φ : FTy} {a b : ℕ}

/-- The entries of an array, by its coordinates. -/
def get2 (A : FVec Ideal ⟨2, ![a, b]⟩ φ) (i j : ℕ) : EReal := if h : i < a ∧ j < b then A (ix2 (⟨i, h.1⟩ : Fin a) (⟨j, h.2⟩ : Fin b)) else 0
def get3 (A : FVec Ideal ⟨3, ![1, a, b]⟩ φ) (i j : ℕ) : EReal :=
  if h : i < a ∧ j < b then A (ix3 (0 : Fin 1) (⟨i, h.1⟩ : Fin a) (⟨j, h.2⟩ : Fin b)) else 0

theorem at_row (A : FVec Ideal ⟨2, ![1, b]⟩ φ) : At2 A fun _ j => get2 A 0 j := fun y => by
  have e : ix2 (0 : Fin 1) (⟨(y 1).val, (y 1).isLt⟩ : Fin b) = y := funext fun | 0 => Subsingleton.elim (α := Fin 1) _ _ | 1 => rfl
  have r : get2 A 0 (y 1).val = A (ix2 (0 : Fin 1) (⟨(y 1).val, (y 1).isLt⟩ : Fin b)) := dif_pos ⟨Nat.one_pos, (y 1).isLt⟩
  exact (congrArg A e.symm).trans r.symm

theorem at_get3 (A : FVec Ideal ⟨3, ![1, a, b]⟩ φ) : At3 A (get3 A) := fun y => by
  have e : ix3 (0 : Fin 1) (⟨(y 1).val, (y 1).isLt⟩ : Fin a) (⟨(y 2).val, (y 2).isLt⟩ : Fin b) = y :=
    funext fun | 0 => Subsingleton.elim (α := Fin 1) _ _ | 1 => rfl | 2 => rfl
  have r : get3 A (y 1).val (y 2).val = A (ix3 (0 : Fin 1) (⟨(y 1).val, (y 1).isLt⟩ : Fin a) (⟨(y 2).val, (y 2).isLt⟩ : Fin b)) :=
    dif_pos ⟨(y 1).isLt, (y 2).isLt⟩
  exact (congrArg A e.symm).trans r.symm

end Read

section Tile

variable {φ ψ : FTy} {a b : ℕ} {A B : FVec Ideal ⟨2, ![a, b]⟩ φ} {f g : ℕ → ℕ → EReal}

theorem At2.add (h : At2 A f) (h' : At2 B g) : At2 (addf A B) fun i j => f i j + g i j := fun y => congrArg₂ (fun p q : EReal => p + q) (h y) (h' y)
theorem At2.mul (h : At2 A f) (h' : At2 B g) : At2 (mulf A B) fun i j => f i j * g i j := fun y => congrArg₂ (fun p q : EReal => p * q) (h y) (h' y)
theorem At2.div (h : At2 A f) (h' : At2 B g) : At2 (divf A B) fun i j => Ideal.div (f i j) (g i j) := fun y => congrArg₂ Ideal.div (h y) (h' y)
theorem At2.root (h : At2 A f) : At2 (rsqrt A) fun i j => Ideal.rsqrt (f i j) := fun y => congrArg Ideal.rsqrt (h y)
theorem At2.trunc (h : At2 A f) (hb : ψ.bits < φ.bits) : At2 (truncf ψ A hb) f := h
theorem At2.splat (w : BitVec 32) : At2 (broadcast ⟨2, ![a, b]⟩ (Scalar.ofBits (F := Ideal) .f32 w)) fun _ _ => Ideal.ofBits .f32 w := fun _ => rfl
theorem At2.cast (h : At2 A f) (hc) : At2 (shapeCast ⟨2, ![a, b]⟩ A hc) f := by
  rw [shapeCast_self]
  exact h

/-- A column broadcast over the columns. -/
theorem At2.col {A : FVec Ideal ⟨2, ![a, 1]⟩ φ} (h : At2 A f) (ha : a ≠ 1) (hb) : At2 (broadcastTo ⟨2, ![a, b]⟩ A hb) fun i _ => f i 0 := fun y => by
  refine (broadcastTo_apply A hb y (ix2 (y 0) 0) fun x => ?_).trans (h _)
  match x with
  | 0 => exact (if_neg ha).symm
  | 1 => rfl

/-- A row broadcast over the rows. -/
theorem At2.row {A : FVec Ideal ⟨2, ![1, b]⟩ φ} (h : At2 A f) (hb' : b ≠ 1) (hb) : At2 (broadcastTo ⟨2, ![a, b]⟩ A hb) fun _ j => f 0 j := fun y => by
  refine (broadcastTo_apply A hb y (ix2 0 (y 1)) fun x => ?_).trans (h _)
  match x with
  | 0 => rfl
  | 1 => exact (if_neg hb').symm

/-- The sums of the rows as a column. -/
theorem At2.rowSum (h : At2 A f) (w) (hr) (hφ) (hw) (hc) :
    At2 (shapeCast ⟨2, ![a, 1]⟩ (multiReduction .add [1] ⟨1, ![a]⟩ A w hr hφ hw) hc) fun i _ => ∑ j ∈ Finset.range b, f i j := fun y => by
  refine (shapeCast_apply _ hc y (ix1 (y 0)) ?_).trans ?_
  · rw [Shape.rowMajor_val_one, Shape.rowMajor_val_two]
    have : (y 1).val < 1 := (y 1).isLt
    show (y 0).val = (y 0).val * 1 + (y 1).val
    omega
  · rw [Ideal.multiReduction_add_single]
    exact (Finset.sum_congr rfl fun k _ => h _).trans (sum_range (f (y 0).val))

/-- A leading axis of size one dropped, and one put before. -/
theorem At3.drop {A : FVec Ideal ⟨3, ![1, a, b]⟩ φ} (h : At3 A f) (hc) : At2 (shapeCast ⟨2, ![a, b]⟩ A hc) f := fun y => by
  refine (shapeCast_apply A hc y (ix3 (0 : Fin 1) (y 0 : Fin a) (y 1 : Fin b)) ?_).trans (h _)
  rw [Shape.rowMajor_val_three, Shape.rowMajor_val_two]
  show (0 * a + (y 0).val) * b + (y 1).val = (y 0).val * b + (y 1).val
  rw [Nat.zero_mul, Nat.zero_add]

theorem At2.front (h : At2 A f) (hc) : At3 (shapeCast ⟨3, ![1, a, b]⟩ A hc) f := fun y => by
  refine (shapeCast_apply A hc y (ix2 (y 1 : Fin a) (y 2 : Fin b)) ?_).trans (h _)
  rw [Shape.rowMajor_val_three, Shape.rowMajor_val_two]
  have h0 : (y 0).val < 1 := (y 0).isLt
  show (y 1).val * b + (y 2).val = ((y 0).val * a + (y 1).val) * b + (y 2).val
  rw [show (y 0).val = 0 by omega, Nat.zero_mul, Nat.zero_add]

theorem At2.mmTN {K M N : ℕ} {A : FVec Ideal ⟨2, ![K, M]⟩ φ} {B : FVec Ideal ⟨2, ![K, N]⟩ ψ} (h : At2 A f) (h' : At2 B g) (w) :
    At2 (matmul (dtn w) none A B (constant ⟨2, ![M, N]⟩ .f32 0x00000000#32)) fun i j => ∑ k ∈ Finset.range K, f k i * g k j := fun y => by
  simp only [matmul]
  rw [Ideal.matmul_constant_zero_apply, ← Equiv.sum_comp (contrEquiv1 (dtn w) K rfl rfl).symm, ← sum_range]
  refine Finset.sum_congr rfl fun k _ => ?_
  have hk := contrEquiv1_symm_val (dtn w) K rfl rfl k
  refine congrArg₂ (fun p q : EReal => p * q) ((h _).trans ?_) ((h' _).trans ?_)
  · exact congrArg (fun t => f t (y 0).val) hk
  · exact congrArg (fun t => g t (y 1).val) hk

end Tile

section HostArrays

variable {φ ψ : FTy} {a b : ℕ} {A B : FVec Ideal ⟨3, ![1, a, b]⟩ φ} {f g : ℕ → ℕ → EReal} {Z : FVec Ideal ⟨0, ![]⟩ φ}

theorem At3.add (h : At3 A f) (h' : At3 B g) : At3 (addf A B) fun i j => f i j + g i j := fun y => congrArg₂ (fun p q : EReal => p + q) (h y) (h' y)
theorem At3.mul (h : At3 A f) (h' : At3 B g) : At3 (mulf A B) fun i j => f i j * g i j := fun y => congrArg₂ (fun p q : EReal => p * q) (h y) (h' y)
theorem At3.quot (h : At3 A f) (h' : At3 B g) : At3 (Host.divf A B) fun i j => Ideal.div (f i j) (g i j) := fun y => congrArg₂ Ideal.div (h y) (h' y)
theorem At3.root (h : At3 A f) : At3 (Host.rsqrt A) fun i j => Ideal.rsqrt (f i j) := fun y => congrArg Ideal.rsqrt (h y)

theorem At3.fill (w : BitVec 32) (hb) : At3 (broadcastInDim ⟨3, ![1, a, b]⟩ ![] hb (constant (F := Ideal) ⟨0, ![]⟩ .f32 w)) fun _ _ => Ideal.ofBits .f32 w :=
  fun y => ValueIdx.broadcastInDim_scalar_apply hb _ y

/-- A column given to every column. -/
theorem At3.cols {A : FVec Ideal ⟨3, ![1, a, 1]⟩ φ} (h : At3 A f) (ha : a ≠ 1) (hb) :
    At3 (broadcastInDim ⟨3, ![1, a, b]⟩ ![0, 1, 2] hb A) fun i _ => f i 0 := fun y =>
  (broadcastInDim_apply ![0, 1, 2] hb A y (ix3 (0 : Fin 1) (y 1 : Fin a) (0 : Fin 1)) (by
    intro x
    match x with
    | 0 => rfl
    | 1 => exact (if_neg ha).symm
    | 2 => rfl)).trans (h _)

/-- A row given to every row. -/
theorem At3.rows {A : FVec Ideal ⟨3, ![1, 1, b]⟩ φ} (h : At3 A f) (ha : b ≠ 1) (hb) :
    At3 (broadcastInDim ⟨3, ![1, a, b]⟩ ![0, 1, 2] hb A) fun _ j => f 0 j := fun y =>
  (broadcastInDim_apply ![0, 1, 2] hb A y (ix3 (0 : Fin 1) (0 : Fin 1) (y 2 : Fin b)) (by
    intro x
    match x with
    | 0 => rfl
    | 1 => rfl
    | 2 => exact (if_neg ha).symm)).trans (h _)

theorem At1.row3 {A : FVec Ideal ⟨1, ![b]⟩ φ} {g : ℕ → EReal} (h : At1 A g) (ha : b ≠ 1) (hb) :
    At3 (broadcastInDim ⟨3, ![1, 1, b]⟩ ![2] hb A) fun _ j => g j := fun y =>
  (broadcastInDim_apply ![2] hb A y (ix1 (y 2 : Fin b)) (by
    intro x
    match x with
    | 0 => exact (if_neg ha).symm)).trans (h _)

theorem At2.row3 {A : FVec Ideal ⟨2, ![1, b]⟩ φ} (h : At2 A f) (ha : b ≠ 1) (hb) :
    At3 (broadcastInDim ⟨3, ![1, 1, b]⟩ ![0, 2] hb A) fun _ j => f 0 j := fun y =>
  (broadcastInDim_apply ![0, 2] hb A y (ix2 (0 : Fin 1) (y 2 : Fin b)) (by
    intro x
    match x with
    | 0 => rfl
    | 1 => exact (if_neg ha).symm)).trans (h _)

/-- One number a row, given to every column. -/
theorem At2.perRow {A : FVec Ideal ⟨2, ![1, a]⟩ φ} (h : At2 A f) (ha : a ≠ 1) (hb) :
    At3 (broadcastInDim ⟨3, ![1, a, b]⟩ ![0, 1] hb A) fun i _ => f 0 i := fun y =>
  (broadcastInDim_apply ![0, 1] hb A y (ix2 (0 : Fin 1) (y 1 : Fin a)) (by
    intro x
    match x with
    | 0 => rfl
    | 1 => exact (if_neg ha).symm)).trans (h _)

theorem At2.lead {A : FVec Ideal ⟨2, ![a, b]⟩ φ} (h : At2 A f) (ha : a ≠ 1) (hb' : b ≠ 1) (hb) :
    At3 (broadcastInDim ⟨3, ![1, a, b]⟩ ![1, 2] hb A) f := fun y =>
  (broadcastInDim_apply ![1, 2] hb A y (ix2 (y 1 : Fin a) (y 2 : Fin b)) (by
    intro x
    match x with
    | 0 => exact (if_neg ha).symm
    | 1 => exact (if_neg hb').symm)).trans (h _)

theorem At2.flat {A : FVec Ideal ⟨2, ![1, b]⟩ φ} (h : At2 A f) (hc) : At1 (shapeCast ⟨1, ![b]⟩ A hc) fun j => f 0 j := fun y => by
  refine (shapeCast_apply A hc y (ix2 (0 : Fin 1) (y 0 : Fin b)) ?_).trans (h _)
  rw [Shape.rowMajor_val_two, Shape.rowMajor_val_one]
  show 0 * b + (y 0).val = (y 0).val
  omega

theorem At2.turn {A : FVec Ideal ⟨2, ![a, b]⟩ φ} (h : At2 A f) (ht) : At2 (transpose ⟨2, ![b, a]⟩ [1, 0] A ht) fun i j => f j i := fun y => by
  refine (transpose_apply [1, 0] A ht y (ix2 (y 1 : Fin a) (y 0 : Fin b)) (fun x => ?_)).trans (h _)
  match x with
  | 0 => rfl
  | 1 => rfl

/-- The columns in equal parts, the parts put first. -/
theorem At2.parts {n c : ℕ} {A : FVec Ideal ⟨2, ![a, c]⟩ φ} (h : At2 A f) (e : c = n * b) (hc) (ht) :
    Cube (transpose ⟨3, ![n, a, b]⟩ [1, 0, 2] (shapeCast ⟨3, ![a, n, b]⟩ A hc) ht) fun q i j => f i (b * q + j) := fun y => by
  have hq : (y 0).val < n := (y 0).isLt
  have hj : (y 2).val < b := (y 2).isLt
  have hlt : b * (y 0).val + (y 2).val < c := by
    have : b * ((y 0).val + 1) ≤ b * n := Nat.mul_le_mul_left b hq
    rw [e, Nat.mul_comm n b]
    rw [Nat.mul_add] at this
    omega
  refine (transpose_apply [1, 0, 2] _ ht y (ix3 (y 1 : Fin a) (y 0 : Fin n) (y 2 : Fin b)) (fun x => ?_)).trans ?_
  · match x with
    | 0 => rfl
    | 1 => rfl
    | 2 => rfl
  · refine (shapeCast_apply A hc _ (ix2 (y 1 : Fin a) (⟨b * (y 0).val + (y 2).val, hlt⟩ : Fin c)) ?_).trans (h _)
    rw [Shape.rowMajor_val_three, Shape.rowMajor_val_two]
    show (y 1).val * c + (b * (y 0).val + (y 2).val) = ((y 1).val * n + (y 0).val) * b + (y 2).val
    rw [e]
    ring

/-- The sums of the rows. -/
theorem At3.rowSums (h : At3 A f) (hz : Is0 Z 0) (h' : Shape.ReducesTo ⟨3, ![1, a, b]⟩ [2] ⟨2, ![1, a]⟩)
    (hr : Shape.Reduces ⟨3, ![1, a, b]⟩ [2] ⟨2, ![1, a]⟩) (hu) : At2 (Host.reduceAdd A Z h' hu) fun _ i => ∑ j ∈ Finset.range b, f i j := fun y => by
  rw [sum_axis hz h' hr]
  exact (Finset.sum_congr rfl fun k _ => h _).trans (sum_range (f (y 1).val))

theorem At3.dotTN {K M N : ℕ} {A : FVec Ideal ⟨3, ![1, K, M]⟩ .f32} {B : FVec Ideal ⟨3, ![1, K, N]⟩ .f32} (h : At3 A f) (h' : At3 B g) (w) :
    At2 (φ := .f32) (Host.dotGeneral (htn w) none A B) fun i j => ∑ k ∈ Finset.range K, f k i * g k j := fun y => by
  simp only [Host.dotGeneral]
  rw [Ideal.dotGeneral_apply, ← Equiv.sum_comp (contrEquiv2 (htn w) 1 K rfl rfl rfl).symm, Fintype.sum_prod_type, Fin.sum_univ_one, ← sum_range]
  refine Finset.sum_congr rfl fun k _ => ?_
  have hk := contrEquiv2_symm_val1 (htn w) 1 K rfl rfl rfl ((0 : Fin 1), k)
  refine congrArg₂ (fun p q : EReal => p * q) ((h _).trans ?_) ((h' _).trans ?_)
  · exact congrArg (fun t => f t (y 0).val) hk
  · exact congrArg (fun t => g t (y 1).val) hk

end HostArrays

end Cert.Up.V
-- ==== Proof.Up.Value.lean ====
/-
  The gradient of the up projection's weight: the kernel's two results and the reference's, as the sum over the tokens
  of the normalised row's entry times the incoming gradient's, over the extended reals and for all arguments.
-/
module

public import proofs.«01_k».proof.Defs
public import proofs.«01_k».proof.Proof.Up.Launch
public import proofs.«01_k».proof.Proof.Up.Arrays
public import proofs.«01_k».proof.Proof.Gen.ReferenceUpIdeal
public import proofs.«01_k».proof.Proof.Gen.ReferenceUpIdeal.Run

@[expose] public section

set_option maxRecDepth 16384

noncomputable section

namespace Cert.Up.V

open Idealize.ShloMosaic Idealize.ShloMosaic.TcCoe Idealize.ShloMosaic.Tactic Idealize.SL.Sem
open Cert.KernelUpIdeal Cert.KernelUpIdeal.Facts₀ Cert.KernelUpIdeal.Facts Cert.KernelUpIdeal.Gen
open Cert.Ffn.V (dtn htn Is0 lit_zero)

/-- The arguments of a device by their coordinates: the token rows, the norm's scale, the modulation's scale and shift,
    the incoming gradient. -/
structure Given where
  x : ℕ → ℕ → EReal
  gain : ℕ → EReal
  scale : ℕ → EReal
  shift : ℕ → EReal
  dy : ℕ → ℕ → EReal

namespace Given

variable (I : Given)

/-- The mean square of a row, plus the epsilon. -/
def meanSq (r : ℕ) : EReal := Ideal.div (∑ j ∈ Finset.range 1024, I.x r j * I.x r j) (Ideal.ofBits .f32 0x44800000#32) + Ideal.ofBits .f32 0x358637BD#32

/-- The normalised and modulated row. -/
def act (r k : ℕ) : EReal :=
  I.x r k * Ideal.rsqrt (I.meanSq r) * I.gain k * (Ideal.ofBits .f32 0x3F800000#32 + I.scale k) + I.shift k

/-- The gradient's entry over the first `n` tokens. -/
def grad (n q i j : ℕ) : EReal := ∑ r ∈ Finset.range n, I.act r i * I.dy r (1408 * q + j)

theorem grad_add (n p q i j : ℕ) :
    I.grad (n + p) q i j = I.grad n q i j + ∑ r ∈ Finset.range p, I.act (n + r) i * I.dy (n + r) (1408 * q + j) := Finset.sum_range_add _ _ _

end Given

/-! ### The kernel's tiles -/

theorem at_pay6 {x : Vec Ideal S512x1024 .f32} {g s b : Vec Ideal S1x1024 .f32} {I : Given} {o : ℕ}
    (hx : At2 (a := 512) (b := 1024) (φ := .f32) x fun p k => I.x (o + p) k) (hg : At2 (a := 1) (b := 1024) (φ := .f32) g fun _ k => I.gain k)
    (hs : At2 (a := 1) (b := 1024) (φ := .f32) s fun _ k => I.scale k) (hb : At2 (a := 1) (b := 1024) (φ := .f32) b fun _ k => I.shift k) :
    At2 (a := 512) (b := 1024) (φ := .bf16) (k0_pay6 x g s b) fun p k => I.act (o + p) k :=
  have h4 := hx.cast Facts₀.shapeCasts_S512x1024_S512x1024
  (((h4.mul (((((h4.mul h4).rowSum _ _ _ _ Facts₀.shapeCasts_S512_S512x1).div (At2.splat 0x44800000#32)).add (At2.splat 0x358637BD#32)).root.col (by decide) _)).mul
    (hg.row (by decide) _)).mul (((At2.splat 0x3F800000#32).add hs).row (by decide) _)).add (hb.row (by decide) _)

theorem cube_stepAcc {h : FVec Ideal S512x1024 .bf16} {D : S512x5632.Idx → Elt Ideal .bf16} {A : S4x1024x1408.Idx → Elt Ideal .f32} {f : ℕ → ℕ → ℕ → EReal}
    {u v : ℕ → ℕ → EReal} (hA : Cube (n := 4) (a := 1024) (b := 1408) (φ := .f32) A f) (hh : At2 (a := 512) (b := 1024) (φ := .bf16) h u)
    (hD : At2 (a := 512) (b := 5632) (φ := .bf16) D v) :
    Cube (n := 4) (a := 1024) (b := 1408) (φ := .f32) (stepAcc h D A) fun q i j => f q i j + ∑ p ∈ Finset.range 512, u p i * v p (1408 * q + j) := fun y => by
  have ha : At3 (a := 1024) (b := 1408) (φ := .f32) (block A (y 0)) (f (y 0).val) := fun _ => hA _
  have hd : At2 (a := 512) (b := 1408) (φ := .bf16) (cols D (y 0)) fun p j => v p (1408 * (y 0).val + j) := fun _ => hD _
  exact ((ha.drop Facts₀.shapeCasts_S1x1024x1408_S1024x1408).add (hh.mmTN (hd.cast Facts₀.shapeCasts_S512x1408_S512x1408)
    Facts₀.dot_S512x1024_S512x1408_S1024x1408_0_0_1_1_n_n_wf)).front Facts₀.shapeCasts_S1024x1408_S1x1024x1408 (fun | 0 => (0 : Fin 1) | 1 => y 1 | 2 => y 2)

theorem cube_narrow {A : S4x1024x1408.Idx → Elt Ideal .f32} {f : ℕ → ℕ → ℕ → EReal} (hA : Cube (n := 4) (a := 1024) (b := 1408) (φ := .f32) A f) :
    Cube (n := 4) (a := 1024) (b := 1408) (φ := .bf16) (narrow A) f := fun y => by
  have ha : At3 (a := 1024) (b := 1408) (φ := .f32) (block A (y 0)) (f (y 0).val) := fun _ => hA _
  exact ((ha.drop Facts₀.shapeCasts_S1x1024x1408_S1024x1408).trunc Facts₀.bitsLt_bf16_f32).front Facts₀.shapeCasts_S1024x1408_S1x1024x1408
    (fun | 0 => (0 : Fin 1) | 1 => y 1 | 2 => y 2)

theorem cube_zero : Cube (n := 4) (a := 1024) (b := 1408) (φ := .f32) (k0_pay5 (F := Ideal)) fun _ _ _ => 0 := fun _ => lit_zero

/-! ### What the tiles read -/

variable (m : (ℓ : Loc nD τ sig) → Buf (Elt Ideal) ℓ) (c : Dev nD)

/-- The arguments on a device. -/
def given : Given where
  x := get3 (a := 8192) (b := 1024) (φ := .f32) (m ((c : Thread nD τ).loc main_arg0))
  gain := get2 (a := 1) (b := 1024) (φ := .f32) (m ((c : Thread nD τ).loc main_arg1)) 0
  scale := get2 (a := 1) (b := 1024) (φ := .f32) (m ((c : Thread nD τ).loc main_arg2)) 0
  shift := get2 (a := 1) (b := 1024) (φ := .f32) (m ((c : Thread nD τ).loc main_arg3)) 0
  dy := get3 (a := 8192) (b := 5632) (φ := .f32) (m ((c : Thread nD τ).loc main_arg4))

theorem host_v1 : V m c main_v1 = truncf (F := Ideal) (φ := .f32) .bf16 (shapeCast S8192x5632 (m ((c : Thread nD τ).loc main_arg4))
    Facts₀.shapeCasts_S1x8192x5632_S8192x5632) Facts₀.bitsLt_bf16_f32 := by
  show StableHlo.after _ _ (Proc.devRef .tc main_v1) = _
  after_results
  rfl

theorem host_v2 : V m c main_v2 = shapeCast S8192x1024 (m ((c : Thread nD τ).loc main_arg0)) Facts₀.shapeCasts_S1x8192x1024_S8192x1024 := by
  show StableHlo.after _ _ (Proc.devRef .tc main_v2) = _
  after_results
  rfl

theorem index0 : ∀ t : Fin cfg0.N, cc0_transform_0 (grid0.coords t) = ![t.val, 0] := by decide +kernel
theorem index1 : ∀ t : Fin cfg0.N, cc0_transform_1 (grid0.coords t) = ![t.val, 0] := by decide +kernel

section Feed

variable (t : Fin cfg0.N)

theorem feed_dy : At2 (a := 512) (b := 5632) (φ := .bf16) (iblk m c 0 t) fun p k => (given m c).dy (512 * t.val + p) k := fun y => by
  show V m c main_v1 (((cfg0.win 0).blk t).view.emb y) = _
  rw [host_v1]
  refine (((at_get3 (a := 8192) (b := 5632) (φ := .f32) (m ((c : Thread nD τ).loc main_arg4))).drop _ : At2 _ _) _).trans (congrArg₂ (given m c).dy ?_ ?_)
  · refine ((cfg0.win 0).rect_emb_val t y 0).trans ?_
    show cc0_transform_0 (grid0.coords t) 0 * 512 + (y 0).val = _
    rw [index0]
    exact congrArg (· + (y 0).val) (Nat.mul_comm _ 512)
  · refine ((cfg0.win 0).rect_emb_val t y 1).trans ?_
    show cc0_transform_0 (grid0.coords t) 1 * 5632 + (y 1).val = _
    rw [index0]
    exact (congrArg (· + (y 1).val) (Nat.zero_mul 5632)).trans (Nat.zero_add _)

theorem feed_x : At2 (a := 512) (b := 1024) (φ := .f32) (iblk m c 1 t) fun p k => (given m c).x (512 * t.val + p) k := fun y => by
  show V m c main_v2 (((cfg0.win 1).blk t).view.emb y) = _
  rw [host_v2]
  refine (((at_get3 (a := 8192) (b := 1024) (φ := .f32) (m ((c : Thread nD τ).loc main_arg0))).drop _ : At2 _ _) _).trans (congrArg₂ (given m c).x ?_ ?_)
  · refine ((cfg0.win 1).rect_emb_val t y 0).trans ?_
    show cc0_transform_1 (grid0.coords t) 0 * 512 + (y 0).val = _
    rw [index1]
    exact congrArg (· + (y 0).val) (Nat.mul_comm _ 512)
  · refine ((cfg0.win 1).rect_emb_val t y 1).trans ?_
    show cc0_transform_1 (grid0.coords t) 1 * 1024 + (y 1).val = _
    rw [index1]
    exact (congrArg (· + (y 1).val) (Nat.zero_mul 1024)).trans (Nat.zero_add _)

theorem feed_gain : At2 (a := 1) (b := 1024) (φ := .f32) (iblk m c 2 t) fun _ k => (given m c).gain k := fun y => by
  have e : ((cfg0.win 2).blk t).view.emb y = y :=
    funext fun a => match a with
      | 0 => Fin.ext ((cfg0.win 2).rect_emb_val_of_index_zero t 0 rfl y)
      | 1 => Fin.ext ((cfg0.win 2).rect_emb_val_of_index_zero t 1 rfl y)
  exact (congrArg (V m c main_arg1) e).trans ((congrFun (V_main_arg1 m c) y).trans (at_row (b := 1024) (φ := .f32) (m ((c : Thread nD τ).loc main_arg1)) y))

theorem feed_scale : At2 (a := 1) (b := 1024) (φ := .f32) (iblk m c 3 t) fun _ k => (given m c).scale k := fun y => by
  have e : ((cfg0.win 3).blk t).view.emb y = y :=
    funext fun a => match a with
      | 0 => Fin.ext ((cfg0.win 3).rect_emb_val_of_index_zero t 0 rfl y)
      | 1 => Fin.ext ((cfg0.win 3).rect_emb_val_of_index_zero t 1 rfl y)
  exact (congrArg (V m c main_arg2) e).trans ((congrFun (V_main_arg2 m c) y).trans (at_row (b := 1024) (φ := .f32) (m ((c : Thread nD τ).loc main_arg2)) y))

theorem feed_shift : At2 (a := 1) (b := 1024) (φ := .f32) (iblk m c 4 t) fun _ k => (given m c).shift k := fun y => by
  have e : ((cfg0.win 4).blk t).view.emb y = y :=
    funext fun a => match a with
      | 0 => Fin.ext ((cfg0.win 4).rect_emb_val_of_index_zero t 0 rfl y)
      | 1 => Fin.ext ((cfg0.win 4).rect_emb_val_of_index_zero t 1 rfl y)
  exact (congrArg (V m c main_arg3) e).trans ((congrFun (V_main_arg3 m c) y).trans (at_row (b := 1024) (φ := .f32) (m ((c : Thread nD τ).loc main_arg3)) y))

end Feed

/-! ### The kernel's results -/

/-- The accumulator holds the sum over the tokens of the points run. -/
theorem cube_accAt (n : ℕ) (hn : n ≤ 16) : Cube (n := 4) (a := 1024) (b := 1408) (φ := .f32) (accAt m c n) ((given m c).grad (512 * n)) := by
  induction n with
  | zero => exact cube_zero
  | succ n ih =>
    have e : (pt n).val = n := Nat.mod_eq_of_lt hn
    have hd := feed_dy m c (pt n)
    have hx := feed_x m c (pt n)
    rw [e] at hd hx
    have h := cube_stepAcc (ih (Nat.le_of_succ_le hn)) (at_pay6 hx (feed_gain m c (pt n)) (feed_scale m c (pt n)) (feed_shift m c (pt n))) hd
    exact fun y => (h y).trans ((given m c).grad_add (512 * n) 512 _ _ _).symm

/-! ### The reference's -/

theorem sums_rows : Shape.Reduces Cert.ReferenceUpIdeal.S1x8192x1024 [2] Cert.ReferenceUpIdeal.S1x8192 := by decide

theorem Cube.congr {n a b : ℕ} {φ : FTy} {A : FVec Ideal ⟨3, ![n, a, b]⟩ φ} {f g : ℕ → ℕ → ℕ → EReal} (h : Cube A f) (e : ∀ q i j, f q i j = g q i j) : Cube A g :=
  fun y => (h y).trans (e _ _ _)

set_option maxHeartbeats 4000000 in
/-- The value claim. -/
theorem algebraic : Cert.algebraic_KernelUpIdeal_ReferenceUpIdeal (hKernelUpIdeal := Cert.KernelUpIdeal.Gen.facts)
    (hReferenceUpIdeal := Cert.ReferenceUpIdeal.Gen.facts) := by
  intro m g m' g' hP hE
  refine ⟨fun c => written m c main_v3_0, fun c => written m c main_v3_1, ?_, ?_⟩
  · refine (θ_run defs _ _).mono (fun r h c => ?_) (run_main m g)
    exact ⟨h.1.2 c main_v3_0 (by decide), h.1.2 c main_v3_1 (by decide), args_kept m h.1 c⟩
  · refine (θ_run Cert.ReferenceUpIdeal.defs _ _).mono (fun r h c => ?_) (Cert.ReferenceUpIdeal.Value.run (F := Ideal) m' g')
    obtain ⟨e0, e1, e2, e3, e4⟩ := hE c
    obtain ⟨r0, r1, ra⟩ := h c
    have hx : At3 (a := 8192) (b := 1024) (φ := .f32) (m' ((c.tc : Thread Cert.ReferenceUpIdeal.nD Cert.ReferenceUpIdeal.τ).loc Cert.ReferenceUpIdeal.main_arg0))
        (given m c).x := fun y => (congrFun e0 y).trans (at_get3 (a := 8192) (b := 1024) (φ := .f32) _ y)
    have hg : At2 (a := 1) (b := 1024) (φ := .f32) (m' ((c.tc : Thread Cert.ReferenceUpIdeal.nD Cert.ReferenceUpIdeal.τ).loc Cert.ReferenceUpIdeal.main_arg1))
        fun _ k => (given m c).gain k := fun y => (congrFun e1 y).trans (at_row (b := 1024) (φ := .f32) _ y)
    have hs : At2 (a := 1) (b := 1024) (φ := .f32) (m' ((c.tc : Thread Cert.ReferenceUpIdeal.nD Cert.ReferenceUpIdeal.τ).loc Cert.ReferenceUpIdeal.main_arg2))
        fun _ k => (given m c).scale k := fun y => (congrFun e2 y).trans (at_row (b := 1024) (φ := .f32) _ y)
    have hb : At2 (a := 1) (b := 1024) (φ := .f32) (m' ((c.tc : Thread Cert.ReferenceUpIdeal.nD Cert.ReferenceUpIdeal.τ).loc Cert.ReferenceUpIdeal.main_arg3))
        fun _ k => (given m c).shift k := fun y => (congrFun e3 y).trans (at_row (b := 1024) (φ := .f32) _ y)
    have hd : At3 (a := 8192) (b := 5632) (φ := .f32) (m' ((c.tc : Thread Cert.ReferenceUpIdeal.nD Cert.ReferenceUpIdeal.τ).loc Cert.ReferenceUpIdeal.main_arg4))
        (given m c).dy := fun y => (congrFun e4 y).trans (at_get3 (a := 8192) (b := 5632) (φ := .f32) _ y)
    have z0 : Is0 (constant (F := Ideal) Cert.ReferenceUpIdeal.S_ .f32 0x00000000#32) 0 := Is0.lit lit_zero
    have hm := ((((hx.mul hx).rowSums z0 Cert.ReferenceUpIdeal.Facts₀.reducesTo_S1x8192x1024_S1x8192_d2 sums_rows Cert.ReferenceUpIdeal.Facts₀.h_S_).perRow (b := 1) (by decide)
      Cert.ReferenceUpIdeal.Facts₀.bcast_S1x8192_S1x8192x1_0_1).quot (At3.fill 0x44800000#32 Cert.ReferenceUpIdeal.Facts₀.bcast_S_S1x8192x1)).add
        (At3.fill 0x358637BD#32 Cert.ReferenceUpIdeal.Facts₀.bcast_S_S1x8192x1)
    have hh := (((hx.mul (hm.root.cols (b := 1024) (by decide) Cert.ReferenceUpIdeal.Facts₀.bcast_S1x8192x1_S1x8192x1024_0_1_2)).mul
      (((hg.flat Cert.ReferenceUpIdeal.Facts₀.shapeCasts_S1x1024_S1024).row3 (by decide) Cert.ReferenceUpIdeal.Facts₀.bcast_S1024_S1x1x1024_2).rows (a := 8192) (by decide)
        Cert.ReferenceUpIdeal.Facts₀.bcast_S1x1x1024_S1x8192x1024_0_1_2)).mul
      (((At3.fill 0x3F800000#32 Cert.ReferenceUpIdeal.Facts₀.bcast_S_S1x1x1024).add (hs.row3 (by decide) Cert.ReferenceUpIdeal.Facts₀.bcast_S1x1024_S1x1x1024_0_2)).rows
        (a := 8192) (by decide) Cert.ReferenceUpIdeal.Facts₀.bcast_S1x1x1024_S1x8192x1024_0_1_2)).add
      ((hb.row3 (by decide) Cert.ReferenceUpIdeal.Facts₀.bcast_S1x1024_S1x1x1024_0_2).rows (a := 8192) (by decide)
        Cert.ReferenceUpIdeal.Facts₀.bcast_S1x1x1024_S1x8192x1024_0_1_2)
    have hw := (((((hd.dotTN hh Cert.ReferenceUpIdeal.Facts₀.dot_S1x8192x5632_S1x8192x1024_S5632x1024_01_01_2_2_n_n_wf).turn
      Cert.ReferenceUpIdeal.Facts₀.transposes_S5632x1024_S1024x5632_1_0).lead (by decide) (by decide) Cert.ReferenceUpIdeal.Facts₀.bcast_S1024x5632_S1x1024x5632_1_2).drop
        Cert.ReferenceUpIdeal.Facts₀.shapeCasts_S1x1024x5632_S1024x5632).parts (n := 4) (b := 1408) rfl Cert.ReferenceUpIdeal.Facts₀.shapeCasts_S1024x5632_S1024x4x1408
        Cert.ReferenceUpIdeal.Facts₀.transposes_S1024x4x1408_S4x1024x1408_1_0_2).congr (g := (given m c).grad 8192) fun q i j =>
          Finset.sum_congr rfl fun r _ => mul_comm _ _
    have ha := cube_accAt m c 16 le_rfl
    exact ⟨(r0.trans (Cube.eq hw ha)).trans (written_wide m c).symm, (r1.trans (Cube.eq (φ := .bf16) (show Cube _ _ from hw) (cube_narrow ha))).trans (written_short m c).symm, ra⟩

end Cert.Up.V
-- ==== Proof.lean ====
/-
  The certificate of the fused feed-forward call, of the mixer's backward call and of the up projection's weight gradient.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelMix
public import proofs.«01_k».proof.Proof.Gen.KernelMixIdeal
public import proofs.«01_k».proof.Proof.Gen.ReferenceMixIdeal
public import proofs.«01_k».proof.Proof.Gen.KernelUp
public import proofs.«01_k».proof.Proof.Gen.KernelUpIdeal
public import proofs.«01_k».proof.Proof.Gen.ReferenceUpIdeal
public import proofs.«01_k».proof.Proof.Ffn.Machine
public import proofs.«01_k».proof.Proof.Ffn.V.Same
public import proofs.«01_k».proof.Proof.Mix.Machine
public import proofs.«01_k».proof.Proof.Up.Machine
public import proofs.«01_k».proof.Proof.Up.Value

@[expose] public section

noncomputable section

namespace Cert.Proof

open Idealize.ShloMosaic Idealize.SL.Sem

/-- The kernel's frame over the extended reals. -/
theorem frame_ideal : Cert.quiescent_KernelIdeal := fun m ρ _ => Cert.Ffn.frame_main (F := Ideal) m ρ

/-- The reference's frame: its run leaves the arguments alone, and its program has no semaphore. -/
theorem frame_reference : Cert.quiescent_ReferenceIdeal := fun m ρ _ =>
  (θ_run Cert.ReferenceIdeal.defs _ _).mono
    (fun r h => ⟨fun c => (h c).2.2.2.2.2.2.2.2.2.2.2.2, sem_eq_zero_of_no_sems (by decide) r.2⟩)
    (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts, Cert.KernelMix.Gen.facts, Cert.KernelMixIdeal.Gen.facts,
    Cert.ReferenceMixIdeal.Gen.facts, Cert.KernelUp.Gen.facts, Cert.KernelUpIdeal.Gen.facts, Cert.ReferenceUpIdeal.Gen.facts, Cert.Ffn.V.pre_facts,
    Cert.Ffn.frame_kernel, frame_ideal, fun m ρ _ => frame_ideal m ρ trivial, frame_reference, fun m ρ _ => frame_reference m ρ trivial,
    Cert.Mix.frame_kernel, Cert.Mix.frame_ideal, Cert.Mix.frame_reference, Cert.Up.frame_kernel, Cert.Up.frame_ideal, Cert.Up.frame_reference,
    trivial, Cert.Ffn.V.algebraic, trivial, trivial, Cert.Up.V.algebraic⟩

end Cert.Proof

end
